-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S1024x32 : Shape := ⟨2, ![1024, 32]⟩
abbrev S1024 : Shape := ⟨1, ![1024]⟩
abbrev S2048x1024x32 : Shape := ⟨3, ![2048, 1024, 32]⟩
abbrev S32x32 : Shape := ⟨2, ![32, 32]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x32 .f32) (main_arg1 : IVec S1024 32) (main_arg2 : FVec F S2048x1024x32 .f32) (main_arg3 : FVec F S2048x1024x32 .f32) (main_arg4 : FVec F S32x32 .f32) (main_arg5 : FVec F S32x32 .f32) (main_arg6 : FVec F S32x32 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 2048#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S1024x32 : Shape := ⟨2, ![1024, 32]⟩
abbrev S1024 : Shape := ⟨1, ![1024]⟩
abbrev S2048x1024x32 : Shape := ⟨3, ![2048, 1024, 32]⟩
abbrev S32x32 : Shape := ⟨2, ![32, 32]⟩
abbrev S2048x32x1024 : Shape := ⟨3, ![2048, 32, 1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x1024 : Shape := ⟨2, ![1, 1024]⟩
abbrev S2049 : Shape := ⟨1, ![2049]⟩
abbrev S2049x1 : Shape := ⟨2, ![2049, 1]⟩
abbrev S2049x1024 : Shape := ⟨2, ![2049, 1024]⟩
abbrev S2048 : Shape := ⟨1, ![2048]⟩
abbrev S64x32x1024 : Shape := ⟨3, ![64, 32, 1024]⟩
abbrev S1x32x1024 : Shape := ⟨3, ![1, 32, 1024]⟩
abbrev S32x1024 : Shape := ⟨2, ![32, 1024]⟩
abbrev S1x32 : Shape := ⟨2, ![1, 32]⟩
abbrev S32x1 : Shape := ⟨2, ![32, 1]⟩

abbrev nBuf : Space → Nat
  | .hbm => 47
  | .vmem => 11
  | .smem => 3
  | _ => 0

abbrev bufTy : (tb : Table) → Fin (tcTables nBuf tb) → BufTy
  | .hbm, ⟨0, _⟩ => ⟨S1024x32, .f32⟩
  | .hbm, ⟨1, _⟩ => ⟨S1024, .i32⟩
  | .hbm, ⟨2, _⟩ => ⟨S2048x1024x32, .f32⟩
  | .hbm, ⟨3, _⟩ => ⟨S2048x1024x32, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S2048x32x1024, .f32⟩
  | .hbm, ⟨8, _⟩ => ⟨S2048x32x1024, .f32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1, .i32⟩
  | .hbm, ⟨20, _⟩ => ⟨S_, .i32⟩
  | .hbm, ⟨21, _⟩ => ⟨S1024x1, .i32⟩
  | .hbm, ⟨22, _⟩ => ⟨S1024x1, .i1⟩
  | .hbm, ⟨23, _⟩ => ⟨S1x1, .i32⟩
  | .hbm, ⟨24, _⟩ => ⟨S1024x1, .i32⟩
  | .hbm, ⟨25, _⟩ => ⟨S1024x1, .i1⟩
  | .hbm, ⟨26, _⟩ => ⟨S1024x1, .i1⟩
  | .hbm, ⟨27, _⟩ => ⟨S_, .i1⟩
  | .hbm, ⟨28, _⟩ => ⟨S1024, .i1⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1x1024, .i32⟩
  | .hbm, ⟨34, _⟩ => ⟨S2049, .i32⟩
  | .hbm, ⟨35, _⟩ => ⟨S2049x1, .i32⟩
  | .hbm, ⟨36, _⟩ => ⟨S2049x1024, .i32⟩
  | .hbm, ⟨37, _⟩ => ⟨S2049x1024, .i32⟩
  | .hbm, ⟨38, _⟩ => ⟨S2049x1024, .i1⟩
  | .hbm, ⟨39, _⟩ => ⟨S2049x1024, .i32⟩
  | .hbm, ⟨40, _⟩ => ⟨S_, .i32⟩
  | .hbm, ⟨41, _⟩ => ⟨S2049, .i32⟩
  | .hbm, ⟨42, _⟩ => ⟨S2048, .i32⟩
  | .hbm, ⟨43, _⟩ => ⟨S32x32, .f32⟩
  | .hbm, ⟨44, _⟩ => ⟨S32x32, .f32⟩
  | .hbm, ⟨45, _⟩ => ⟨S2048x32x1024, .f32⟩
  | .hbm, ⟨46, _⟩ => ⟨S2048x1024x32, .f32⟩
  | .local _ .vmem, ⟨0, _⟩ => ⟨S1024x32, .f32⟩
  | .local _ .vmem, ⟨1, _⟩ => ⟨S32x32, .f32⟩
  | .local _ .vmem, ⟨2, _⟩ => ⟨S32x32, .f32⟩
  | .local _ .vmem, ⟨3, _⟩ => ⟨S32x32, .f32⟩
  | .local _ .vmem, ⟨4, _⟩ => ⟨S64x32x1024, .f32⟩
  | .local _ .vmem, ⟨5, _⟩ => ⟨S64x32x1024, .f32⟩
  | .local _ .vmem, ⟨6, _⟩ => ⟨S64x32x1024, .f32⟩
  | .local _ .vmem, ⟨7, _⟩ => ⟨S64x32x1024, .f32⟩
  | .local _ .vmem, ⟨8, _⟩ => ⟨S64x32x1024, .f32⟩
  | .local _ .vmem, ⟨9, _⟩ => ⟨S64x32x1024, .f32⟩
  | .local _ .vmem, ⟨10, _⟩ => ⟨S1024x32, .f32⟩
  | .local _ .smem, ⟨0, _⟩ => ⟨S2048, .i32⟩
  | .local _ .smem, ⟨1, _⟩ => ⟨S2048, .i32⟩
  | .local _ .smem, ⟨2, _⟩ => ⟨S1024, .i32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1_0 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_c_4 : Ref sig .tc := ⟨.hbm, 30, rfl⟩
abbrev main_call1_v14 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c : Ref sig .tc := ⟨.hbm, 40, rfl⟩
abbrev main_v11 : Ref sig .tc := ⟨.hbm, 41, rfl⟩
abbrev main_v13 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v12 : Ref sig .tc := ⟨.smem, 0, rfl⟩
abbrev main_v14 : Ref sig .tc := ⟨.smem, 1, rfl⟩
abbrev main_v2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨3, ![main_v12.idx, main_v14.idx, main_v2.idx], fun | 0 => main_v12.names | 1 => main_v14.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v3 : BitVec 32 := Scalar.muli arg0 c64_i32
  let c0_i32_1 : BitVec 32 := 0#32
  let v4 : BitVec 32 := Scalar.addi v3 c0_i32_1
  let v5 : Index := Scalar.indexCast v4
  ![v5.toNat]
@[reducible] def k0_t1_loop (v6 : BitVec 32) (v8 : BitVec 32) : Scf.Loop 32 :=
  let v1485 : BitVec 32 := Scalar.addi v8 v6
  let v1487 : BitVec 32 := Scalar.subi v1485 v8
  let c1_i32_650 : BitVec 32 := 1#32
  let v1489 : BitVec 32 := Scalar.divsi v1487 c1_i32_650
  let v1490 : BitVec 32 := Scalar.muli v1489 c1_i32_650
  let v1491 : BitVec 32 := Scalar.addi v8 v1490
  let c1_i32_651 : BitVec 32 := 1#32
  ⟨v8, v1491, c1_i32_651⟩
def k0_cond2 (v6 : BitVec 32) : BitVec 1 :=
  let c0_i32_4 : BitVec 32 := 0#32
  let v11 : BitVec 1 := Scalar.cmpi .sgt v6 c0_i32_4
  let v12 : BitVec 32 := Scalar.extui v11
  let c0_i32_5 : BitVec 32 := 0#32
  let v13 : BitVec 1 := Scalar.cmpi .ne v12 c0_i32_5
  v13

def k0_off2 (v6 : BitVec 32) (v8 : BitVec 32) (k0_t1 : Fin (k0_t1_loop v6 v8).trips) : Fin 1 → Nat :=
  let c1_i32_651 : BitVec 32 := 1#32
  let arg12 : BitVec 32 := Scf.iv v8 c1_i32_651 k0_t1
  let v1495 : Index := Scalar.indexCast arg12
  ![v1495.toNat]
def k0_off3 (v1496 : BitVec 32) : Fin 2 → Nat :=
  let v1497 : Index := Scalar.indexCast v1496
  let c0_653 : Index := 0#32
  ![v1497.toNat, 0]

def k0_chk2 (v6 : BitVec 32) (v1496 : BitVec 32) : Prop :=
  (∀ (k0_h2 : k0_cond2 v6 = 1#1), ∀ a, (k0_off3 v1496) a + S1x32.size a ≤ S1024x32.size a)
theorem k0_off3_inb : ∀ (v6 : BitVec 32) (v1496 : BitVec 32) (k0_hw2 : k0_chk2 v6 v1496), ∀ (k0_h2 : k0_cond2 v6 = 1#1), ∀ a, (k0_off3 v1496) a + S1x32.size a ≤ S1024x32.size a := fun v6 v1496 k0_hw2 k0_h2 => k0_hw2 k0_h2

@[reducible] def k0_t2_loop (v6 : BitVec 32) (v8 : BitVec 32) : Scf.Loop 32 :=
  let v1485 : BitVec 32 := Scalar.addi v8 v6
  let v1487 : BitVec 32 := Scalar.subi v1485 v8
  let c1_i32_650 : BitVec 32 := 1#32
  let v1489 : BitVec 32 := Scalar.divsi v1487 c1_i32_650
  let v1490 : BitVec 32 := Scalar.muli v1489 c1_i32_650
  let v1491 : BitVec 32 := Scalar.addi v8 v1490
  let v1488 : BitVec 32 := Scalar.addi v8 v1487
  let c1_i32_652 : BitVec 32 := 1#32
  ⟨v1491, v1488, c1_i32_652⟩
def k0_off4 (v6 : BitVec 32) (v8 : BitVec 32) (k0_t2 : Fin (k0_t2_loop v6 v8).trips) : Fin 1 → Nat :=
  let v1485 : BitVec 32 := Scalar.addi v8 v6
  let v1487 : BitVec 32 := Scalar.subi v1485 v8
  let c1_i32_650 : BitVec 32 := 1#32
  let v1489 : BitVec 32 := Scalar.divsi v1487 c1_i32_650
  let v1490 : BitVec 32 := Scalar.muli v1489 c1_i32_650
  let v1491 : BitVec 32 := Scalar.addi v8 v1490
  let c1_i32_652 : BitVec 32 := 1#32
  let arg12 : BitVec 32 := Scf.iv v1491 c1_i32_652 k0_t2
  let v1495 : Index := Scalar.indexCast arg12
  ![v1495.toNat]

def k0_chk1 (v6 : BitVec 32) (v8 : BitVec 32) : Prop :=
  (∀ (k0_h2 : k0_cond2 v6 = 1#1), (k0_t1_loop v6 v8).OK) ∧
  (∀ k0_t1 : Fin (k0_t1_loop v6 v8).trips, ∀ (k0_h2 : k0_cond2 v6 = 1#1), ∀ a, (k0_off2 v6 v8 k0_t1) a + S1.size a ≤ S1024.size a) ∧
  (∀ (k0_h2 : k0_cond2 v6 = 1#1), (k0_t2_loop v6 v8).OK) ∧
  (∀ k0_t2 : Fin (k0_t2_loop v6 v8).trips, ∀ (k0_h2 : k0_cond2 v6 = 1#1), ∀ a, (k0_off4 v6 v8 k0_t2) a + S1.size a ≤ S1024.size a)
theorem k0_t1_ok : ∀ (v6 : BitVec 32) (v8 : BitVec 32) (k0_hw1 : k0_chk1 v6 v8), ∀ (k0_h2 : k0_cond2 v6 = 1#1), (k0_t1_loop v6 v8).OK := fun v6 v8 k0_hw1 k0_h2 => k0_hw1.1 k0_h2
theorem k0_off2_inb : ∀ (v6 : BitVec 32) (v8 : BitVec 32) (k0_hw1 : k0_chk1 v6 v8) (k0_t1 : Fin (k0_t1_loop v6 v8).trips), ∀ (k0_h2 : k0_cond2 v6 = 1#1), ∀ a, (k0_off2 v6 v8 k0_t1) a + S1.size a ≤ S1024.size a := fun v6 v8 k0_hw1 k0_t1 k0_h2 => k0_hw1.2.1 k0_t1 k0_h2
theorem k0_t2_ok : ∀ (v6 : BitVec 32) (v8 : BitVec 32) (k0_hw1 : k0_chk1 v6 v8), ∀ (k0_h2 : k0_cond2 v6 = 1#1), (k0_t2_loop v6 v8).OK := fun v6 v8 k0_hw1 k0_h2 => k0_hw1.2.2.1 k0_h2
theorem k0_off4_inb : ∀ (v6 : BitVec 32) (v8 : BitVec 32) (k0_hw1 : k0_chk1 v6 v8) (k0_t2 : Fin (k0_t2_loop v6 v8).trips), ∀ (k0_h2 : k0_cond2 v6 = 1#1), ∀ a, (k0_off4 v6 v8 k0_t2) a + S1.size a ≤ S1024.size a := fun v6 v8 k0_hw1 k0_t2 k0_h2 => k0_hw1.2.2.2 k0_t2 k0_h2

def k0_off5 (v1496 : BitVec 32) : Fin 2 → Nat :=
  let v1497 : Index := Scalar.indexCast v1496
  let c0_653 : Index := 0#32
  ![v1497.toNat, 0]

def k0_chk3 (v6 : BitVec 32) (v1496 : BitVec 32) : Prop :=
  (∀ (k0_h2 : k0_cond2 v6 = 1#1), ∀ a, (k0_off5 v1496) a + S1x32.size a ≤ S1024x32.size a)
theorem k0_off5_inb : ∀ (v6 : BitVec 32) (v1496 : BitVec 32) (k0_hw3 : k0_chk3 v6 v1496), ∀ (k0_h2 : k0_cond2 v6 = 1#1), ∀ a, (k0_off5 v1496) a + S1x32.size a ≤ S1024x32.size a := fun v6 v1496 k0_hw3 k0_h2 => k0_hw3 k0_h2

def k0_off6 (i : grid0.Coords) : Fin 1 → Nat :=
  let arg0 : BitVec 32 := BitVec.ofNat 32 (i 0).val
  let c64_i32_10 : BitVec 32 := 64#32
  let v26 : BitVec 32 := Scalar.muli arg0 c64_i32_10
  let c1_i32 : BitVec 32 := 1#32
  let v27 : BitVec 32 := Scalar.addi v26 c1_i32
  let v28 : Index := Scalar.indexCast v27
  ![v28.toNat]
@[reducible] def k0_t3_loop (v29 : BitVec 32) (v31 : BitVec 32) : Scf.Loop 32 :=
  let v1485 : BitVec 32 := Scalar.addi v31 v29
  let v1487 : BitVec 32 := Scalar.subi v1485 v31
  let c1_i32_650 : BitVec 32 := 1#32
  let v1489 : BitVec 32 := Scalar.divsi v1487 c1_i32_650
  let v1490 : BitVec 32 := Scalar.muli v1489 c1_i32_650
  let v1491 : BitVec 32 := Scalar.addi v31 v1490
  let c1_i32_651 : BitVec 32 := 1#32
  ⟨v31, v1491, c1_i32_651⟩
def k0_cond3 (v29 : BitVec 32) : BitVec 1 :=
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .ne v35 c0_i32_14
  v36

def k0_off7 (v29 : BitVec 32) (v31 : BitVec 32) (k0_t3 : Fin (k0_t3_loop v29 v31).trips) : Fin 1 → Nat :=
  let c1_i32_651 : BitVec 32 := 1#32
  let arg12 : BitVec 32 := Scf.iv v31 c1_i32_651 k0_t3
  let v1495 : Index := Scalar.indexCast arg12
  ![v1495.toNat]
def k0_off8 (v1496 : BitVec 32) : Fin 2 → Nat :=
  let v1497 : Index := Scalar.indexCast v1496
  let c0_653 : Index := 0#32
  ![v1497.toNat, 0]

def k0_chk5 (v29 : BitVec 32) (v1496 : BitVec 32) : Prop :=
  (∀ (k0_h3 : k0_cond3 v29 = 1#1), ∀ a, (k0_off8 v1496) a + S1x32.size a ≤ S1024x32.size a)
theorem k0_off8_inb : ∀ (v29 : BitVec 32) (v1496 : BitVec 32) (k0_hw5 : k0_chk5 v29 v1496), ∀ (k0_h3 : k0_cond3 v29 = 1#1), ∀ a, (k0_off8 v1496) a + S1x32.size a ≤ S1024x32.size a := fun v29 v1496 k0_hw5 k0_h3 => k0_hw5 k0_h3

@[reducible] def k0_t4_loop (v29 : BitVec 32) (v31 : BitVec 32) : Scf.Loop 32 :=
  let v1485 : BitVec 32 := Scalar.addi v31 v29
  let v1487 : BitVec 32 := Scalar.subi v1485 v31
  let c1_i32_650 : BitVec 32 := 1#32
  let v1489 : BitVec 32 := Scalar.divsi v1487 c1_i32_650
  let v1490 : BitVec 32 := Scalar.muli v1489 c1_i32_650
  let v1491 : BitVec 32 := Scalar.addi v31 v1490
  let v1488 : BitVec 32 := Scalar.addi v31 v1487
  let c1_i32_652 : BitVec 32 := 1#32
  ⟨v1491, v1488, c1_i32_652⟩
def k0_off9 (v29 : BitVec 32) (v31 : BitVec 32) (k0_t4 : Fin (k0_t4_loop v29 v31).trips) : Fin 1 → Nat :=
  let v1485 : BitVec 32 := Scalar.addi v31 v29
  let v1487 : BitVec 32 := Scalar.subi v1485 v31
  let c1_i32_650 : BitVec 32 := 1#32
  let v1489 : BitVec 32 := Scalar.divsi v1487 c1_i32_650
  let v1490 : BitVec 32 := Scalar.muli v1489 c1_i32_650
  let v1491 : BitVec 32 := Scalar.addi v31 v1490
  let c1_i32_652 : BitVec 32 := 1#32
  let arg12 : BitVec 32 := Scf.iv v1491 c1_i32_652 k0_t4
  let v1495 : Index := Scalar.indexCast arg12
  ![v1495.toNat]

def k0_chk4 (v29 : BitVec 32) (v31 : BitVec 32) : Prop :=
  (∀ (k0_h3 : k0_cond3 v29 = 1#1), (k0_t3_loop v29 v31).OK) ∧
  (∀ k0_t3 : Fin (k0_t3_loop v29 v31).trips, ∀ (k0_h3 : k0_cond3 v29 = 1#1), ∀ a, (k0_off7 v29 v31 k0_t3) a + S1.size a ≤ S1024.size a) ∧
  (∀ (k0_h3 : k0_cond3 v29 = 1#1), (k0_t4_loop v29 v31).OK) ∧
  (∀ k0_t4 : Fin (k0_t4_loop v29 v31).trips, ∀ (k0_h3 : k0_cond3 v29 = 1#1), ∀ a, (k0_off9 v29 v31 k0_t4) a + S1.size a ≤ S1024.size a)
theorem k0_t3_ok : ∀ (v29 : BitVec 32) (v31 : BitVec 32) (k0_hw4 : k0_chk4 v29 v31), ∀ (k0_h3 : k0_cond3 v29 = 1#1), (k0_t3_loop v29 v31).OK := fun v29 v31 k0_hw4 k0_h3 => k0_hw4.1 k0_h3
theorem k0_off7_inb : ∀ (v29 : BitVec 32) (v31 : BitVec 32) (k0_hw4 : k0_chk4 v29 v31) (k0_t3 : Fin (k0_t3_loop v29 v31).trips), ∀ (k0_h3 : k0_cond3 v29 = 1#1), ∀ a, (k0_off7 v29 v31 k0_t3) a + S1.size a ≤ S1024.size a := fun v29 v31 k0_hw4 k0_t3 k0_h3 => k0_hw4.2.1 k0_t3 k0_h3
theorem k0_t4_ok : ∀ (v29 : BitVec 32) (v31 : BitVec 32) (k0_hw4 : k0_chk4 v29 v31), ∀ (k0_h3 : k0_cond3 v29 = 1#1), (k0_t4_loop v29 v31).OK := fun v29 v31 k0_hw4 k0_h3 => k0_hw4.2.2.1 k0_h3
theorem k0_off9_inb : ∀ (v29 : BitVec 32) (v31 : BitVec 32) (k0_hw4 : k0_chk4 v29 v31) (k0_t4 : Fin (k0_t4_loop v29 v31).trips), ∀ (k0_h3 : k0_cond3 v29 = 1#1), ∀ a, (k0_off9 v29 v31 k0_t4) a + S1.size a ≤ S1024.size a := fun v29 v31 k0_hw4 k0_t4 k0_h3 => k0_hw4.2.2.2 k0_t4 k0_h3

def k0_off10 (v1496 : BitVec 32) : Fin 2 → Nat :=
  let v1497 : Index := Scalar.indexCast v1496
  let c0_653 : Index := 0#32
  ![v1497.toNat, 0]

def k0_chk6 (v29 : BitVec 32) (v1496 : BitVec 32) : Prop :=
  (∀ (k0_h3 : k0_cond3 v29 = 1#1), ∀ a, (k0_off10 v1496) a + S1x32.size a ≤ S1024x32.size a)
theorem k0_off10_inb : ∀ (v29 : BitVec 32) (v1496 : BitVec 32) (k0_hw6 : k0_chk6 v29 v1496), ∀ (k0_h3 : k0_cond3 v29 = 1#1), ∀ a, (k0_off10 v1496) a + S1x32.size a ≤ S1024x32.size a := fun v29 v1496 k0_hw6 k0_h3 => k0_hw6 k0_h3

def k0_off11 (i : grid0.Coords) : Fin 1 → Nat :=
  let arg0 : BitVec 32 := BitVec.ofNat 32 (i 0).val
  let c64_i32_20 : BitVec 32 := 64#32
  let v49 : BitVec 32 := Scalar.muli arg0 c64_i32_20
  let c2_i32 : BitVec 32 := 2#32
  let v50 : BitVec 32 := Scalar.addi v49 c2_i32
  let v51 : Index := Scalar.indexCast v50
  ![v51.toNat]
@[reducible] def k0_t5_loop (v52 : BitVec 32) (v54 : BitVec 32) : Scf.Loop 32 :=
  let v1485 : BitVec 32 := Scalar.addi v54 v52
  let v1487 : BitVec 32 := Scalar.subi v1485 v54
  let c1_i32_650 : BitVec 32 := 1#32
  let v1489 : BitVec 32 := Scalar.divsi v1487 c1_i32_650
  let v1490 : BitVec 32 := Scalar.muli v1489 c1_i32_650
  let v1491 : BitVec 32 := Scalar.addi v54 v1490
  let c1_i32_651 : BitVec 32 := 1#32
  ⟨v54, v1491, c1_i32_651⟩
def k0_cond4 (v52 : BitVec 32) : BitVec 1 :=
  let c0_i32_23 : BitVec 32 := 0#32
  let v57 : BitVec 1 := Scalar.cmpi .sgt v52 c0_i32_23
  let v58 : BitVec 32 := Scalar.extui v57
  let c0_i32_24 : BitVec 32 := 0#32
  let v59 : BitVec 1 := Scalar.cmpi .ne v58 c0_i32_24
  v59

def k0_off12 (v52 : BitVec 32) (v54 : BitVec 32) (k0_t5 : Fin (k0_t5_loop v52 v54).trips) : Fin 1 → Nat :=
  let c1_i32_651 : BitVec 32 := 1#32
  let arg12 : BitVec 32 := Scf.iv v54 c1_i32_651 k0_t5
  let v1495 : Index := Scalar.indexCast arg12
  ![v1495.toNat]
def k0_off13 (v1496 : BitVec 32) : Fin 2 → Nat :=
  let v1497 : Index := Scalar.indexCast v1496
  let c0_653 : Index := 0#32
  ![v1497.toNat, 0]

def k0_chk8 (v52 : BitVec 32) (v1496 : BitVec 32) : Prop :=
  (∀ (k0_h4 : k0_cond4 v52 = 1#1), ∀ a, (k0_off13 v1496) a + S1x32.size a ≤ S1024x32.size a)
theorem k0_off13_inb : ∀ (v52 : BitVec 32) (v1496 : BitVec 32) (k0_hw8 : k0_chk8 v52 v1496), ∀ (k0_h4 : k0_cond4 v52 = 1#1), ∀ a, (k0_off13 v1496) a + S1x32.size a ≤ S1024x32.size a := fun v52 v1496 k0_hw8 k0_h4 => k0_hw8 k0_h4

@[reducible] def k0_t6_loop (v52 : BitVec 32) (v54 : BitVec 32) : Scf.Loop 32 :=
  let v1485 : BitVec 32 := Scalar.addi v54 v52
  let v1487 : BitVec 32 := Scalar.subi v1485 v54
  let c1_i32_650 : BitVec 32 := 1#32
  let v1489 : BitVec 32 := Scalar.divsi v1487 c1_i32_650
  let v1490 : BitVec 32 := Scalar.muli v1489 c1_i32_650
  let v1491 : BitVec 32 := Scalar.addi v54 v1490
  let v1488 : BitVec 32 := Scalar.addi v54 v1487
  let c1_i32_652 : BitVec 32 := 1#32
  ⟨v1491, v1488, c1_i32_652⟩
def k0_off14 (v52 : BitVec 32) (v54 : BitVec 32) (k0_t6 : Fin (k0_t6_loop v52 v54).trips) : Fin 1 → Nat :=
  let v1485 : BitVec 32 := Scalar.addi v54 v52
  let v1487 : BitVec 32 := Scalar.subi v1485 v54
  let c1_i32_650 : BitVec 32 := 1#32
  let v1489 : BitVec 32 := Scalar.divsi v1487 c1_i32_650
  let v1490 : BitVec 32 := Scalar.muli v1489 c1_i32_650
  let v1491 : BitVec 32 := Scalar.addi v54 v1490
  let c1_i32_652 : BitVec 32 := 1#32
  let arg12 : BitVec 32 := Scf.iv v1491 c1_i32_652 k0_t6
  let v1495 : Index := Scalar.indexCast arg12
  ![v1495.toNat]

def k0_chk7 (v52 : BitVec 32) (v54 : BitVec 32) : Prop :=
  (∀ (k0_h4 : k0_cond4 v52 = 1#1), (k0_t5_loop v52 v54).OK) ∧
  (∀ k0_t5 : Fin (k0_t5_loop v52 v54).trips, ∀ (k0_h4 : k0_cond4 v52 = 1#1), ∀ a, (k0_off12 v52 v54 k0_t5) a + S1.size a ≤ S1024.size a) ∧
  (∀ (k0_h4 : k0_cond4 v52 = 1#1), (k0_t6_loop v52 v54).OK) ∧
  (∀ k0_t6 : Fin (k0_t6_loop v52 v54).trips, ∀ (k0_h4 : k0_cond4 v52 = 1#1), ∀ a, (k0_off14 v52 v54 k0_t6) a + S1.size a ≤ S1024.size a)
theorem k0_t5_ok : ∀ (v52 : BitVec 32) (v54 : BitVec 32) (k0_hw7 : k0_chk7 v52 v54), ∀ (k0_h4 : k0_cond4 v52 = 1#1), (k0_t5_loop v52 v54).OK := fun v52 v54 k0_hw7 k0_h4 => k0_hw7.1 k0_h4
theorem k0_off12_inb : ∀ (v52 : BitVec 32) (v54 : BitVec 32) (k0_hw7 : k0_chk7 v52 v54) (k0_t5 : Fin (k0_t5_loop v52 v54).trips), ∀ (k0_h4 : k0_cond4 v52 = 1#1), ∀ a, (k0_off12 v52 v54 k0_t5) a + S1.size a ≤ S1024.size a := fun v52 v54 k0_hw7 k0_t5 k0_h4 => k0_hw7.2.1 k0_t5 k0_h4
theorem k0_t6_ok : ∀ (v52 : BitVec 32) (v54 : BitVec 32) (k0_hw7 : k0_chk7 v52 v54), ∀ (k0_h4 : k0_cond4 v52 = 1#1), (k0_t6_loop v52 v54).OK := fun v52 v54 k0_hw7 k0_h4 => k0_hw7.2.2.1 k0_h4
theorem k0_off14_inb : ∀ (v52 : BitVec 32) (v54 : BitVec 32) (k0_hw7 : k0_chk7 v52 v54) (k0_t6 : Fin (k0_t6_loop v52 v54).trips), ∀ (k0_h4 : k0_cond4 v52 = 1#1), ∀ a, (k0_off14 v52 v54 k0_t6) a + S1.size a ≤ S1024.size a := fun v52 v54 k0_hw7 k0_t6 k0_h4 => k0_hw7.2.2.2 k0_t6 k0_h4

def k0_off15 (v1496 : BitVec 32) : Fin 2 → Nat :=
  let v1497 : Index := Scalar.indexCast v1496
  let c0_653 : Index := 0#32
  ![v1497.toNat, 0]

def k0_chk9 (v52 : BitVec 32) (v1496 : BitVec 32) : Prop :=
  (∀ (k0_h4 : k0_cond4 v52 = 1#1), ∀ a, (k0_off15 v1496) a + S1x32.size a ≤ S1024x32.size a)
theorem k0_off15_inb : ∀ (v52 : BitVec 32) (v1496 : BitVec 32) (k0_hw9 : k0_chk9 v52 v1496), ∀ (k0_h4 : k0_cond4 v52 = 1#1), ∀ a, (k0_off15 v1496) a + S1x32.size a ≤ S1024x32.size a := fun v52 v1496 k0_hw9 k0_h4 => k0_hw9 k0_h4

def k0_off16 (i : grid0.Coords) : Fin 1 → Nat :=
  let arg0 : BitVec 32 := BitVec.ofNat 32 (i 0).val
  let c64_i32_30 : BitVec 32 := 64#32
  let v72 : BitVec 32 := Scalar.muli arg0 c64_i32_30
  let c3_i32 : BitVec 32 := 3#32
  let v73 : BitVec 32 := Scalar.addi v72 c3_i32
  let v74 : Index := Scalar.indexCast v73
  ![v74.toNat]
@[reducible] def k0_t7_loop (v75 : BitVec 32) (v77 : BitVec 32) : Scf.Loop 32 :=
  let v1485 : BitVec 32 := Scalar.addi v77 v75
  let v1487 : BitVec 32 := Scalar.subi v1485 v77
  let c1_i32_650 : BitVec 32 := 1#32
  let v1489 : BitVec 32 := Scalar.divsi v1487 c1_i32_650
  let v1490 : BitVec 32 := Scalar.muli v1489 c1_i32_650
  let v1491 : BitVec 32 := Scalar.addi v77 v1490
  let c1_i32_651 : BitVec 32 := 1#32
  ⟨v77, v1491, c1_i32_651⟩
def k0_cond5 (v75 : BitVec 32) : BitVec 1 :=
  let c0_i32_33 : BitVec 32 := 0#32
  let v80 : BitVec 1 := Scalar.cmpi .sgt v75 c0_i32_33
  let v81 : BitVec 32 := Scalar.extui v80
  let c0_i32_34 : BitVec 32 := 0#32
  let v82 : BitVec 1 := Scalar.cmpi .ne v81 c0_i32_34
  v82

def k0_off17 (v75 : BitVec 32) (v77 : BitVec 32) (k0_t7 : Fin (k0_t7_loop v75 v77).trips) : Fin 1 → Nat :=
  let c1_i32_651 : BitVec 32 := 1#32
  let arg12 : BitVec 32 := Scf.iv v77 c1_i32_651 k0_t7
  let v1495 : Index := Scalar.indexCast arg12
  ![v1495.toNat]
def k0_off18 (v1496 : BitVec 32) : Fin 2 → Nat :=
  let v1497 : Index := Scalar.indexCast v1496
  let c0_653 : Index := 0#32
  ![v1497.toNat, 0]

def k0_chk11 (v75 : BitVec 32) (v1496 : BitVec 32) : Prop :=
  (∀ (k0_h5 : k0_cond5 v75 = 1#1), ∀ a, (k0_off18 v1496) a + S1x32.size a ≤ S1024x32.size a)
theorem k0_off18_inb : ∀ (v75 : BitVec 32) (v1496 : BitVec 32) (k0_hw11 : k0_chk11 v75 v1496), ∀ (k0_h5 : k0_cond5 v75 = 1#1), ∀ a, (k0_off18 v1496) a + S1x32.size a ≤ S1024x32.size a := fun v75 v1496 k0_hw11 k0_h5 => k0_hw11 k0_h5

@[reducible] def k0_t8_loop (v75 : BitVec 32) (v77 : BitVec 32) : Scf.Loop 32 :=
  let v1485 : BitVec 32 := Scalar.addi v77 v75
  let v1487 : BitVec 32 := Scalar.subi v1485 v77
  let c1_i32_650 : BitVec 32 := 1#32
  let v1489 : BitVec 32 := Scalar.divsi v1487 c1_i32_650
  let v1490 : BitVec 32 := Scalar.muli v1489 c1_i32_650
  let v1491 : BitVec 32 := Scalar.addi v77 v1490
  let v1488 : BitVec 32 := Scalar.addi v77 v1487
  let c1_i32_652 : BitVec 32 := 1#32
  ⟨v1491, v1488, c1_i32_652⟩
def k0_off19 (v75 : BitVec 32) (v77 : BitVec 32) (k0_t8 : Fin (k0_t8_loop v75 v77).trips) : Fin 1 → Nat :=
  let v1485 : BitVec 32 := Scalar.addi v77 v75
  let v1487 : BitVec 32 := Scalar.subi v1485 v77
  let c1_i32_650 : BitVec 32 := 1#32
  let v1489 : BitVec 32 := Scalar.divsi v1487 c1_i32_650
  let v1490 : BitVec 32 := Scalar.muli v1489 c1_i32_650
  let v1491 : BitVec 32 := Scalar.addi v77 v1490
  let c1_i32_652 : BitVec 32 := 1#32
  let arg12 : BitVec 32 := Scf.iv v1491 c1_i32_652 k0_t8
  let v1495 : Index := Scalar.indexCast arg12
  ![v1495.toNat]

def k0_chk10 (v75 : BitVec 32) (v77 : BitVec 32) : Prop :=
  (∀ (k0_h5 : k0_cond5 v75 = 1#1), (k0_t7_loop v75 v77).OK) ∧
  (∀ k0_t7 : Fin (k0_t7_loop v75 v77).trips, ∀ (k0_h5 : k0_cond5 v75 = 1#1), ∀ a, (k0_off17 v75 v77 k0_t7) a + S1.size a ≤ S1024.size a) ∧
  (∀ (k0_h5 : k0_cond5 v75 = 1#1), (k0_t8_loop v75 v77).OK) ∧
  (∀ k0_t8 : Fin (k0_t8_loop v75 v77).trips, ∀ (k0_h5 : k0_cond5 v75 = 1#1), ∀ a, (k0_off19 v75 v77 k0_t8) a + S1.size a ≤ S1024.size a)
theorem k0_t7_ok : ∀ (v75 : BitVec 32) (v77 : BitVec 32) (k0_hw10 : k0_chk10 v75 v77), ∀ (k0_h5 : k0_cond5 v75 = 1#1), (k0_t7_loop v75 v77).OK := fun v75 v77 k0_hw10 k0_h5 => k0_hw10.1 k0_h5
theorem k0_off17_inb : ∀ (v75 : BitVec 32) (v77 : BitVec 32) (k0_hw10 : k0_chk10 v75 v77) (k0_t7 : Fin (k0_t7_loop v75 v77).trips), ∀ (k0_h5 : k0_cond5 v75 = 1#1), ∀ a, (k0_off17 v75 v77 k0_t7) a + S1.size a ≤ S1024.size a := fun v75 v77 k0_hw10 k0_t7 k0_h5 => k0_hw10.2.1 k0_t7 k0_h5
theorem k0_t8_ok : ∀ (v75 : BitVec 32) (v77 : BitVec 32) (k0_hw10 : k0_chk10 v75 v77), ∀ (k0_h5 : k0_cond5 v75 = 1#1), (k0_t8_loop v75 v77).OK := fun v75 v77 k0_hw10 k0_h5 => k0_hw10.2.2.1 k0_h5
theorem k0_off19_inb : ∀ (v75 : BitVec 32) (v77 : BitVec 32) (k0_hw10 : k0_chk10 v75 v77) (k0_t8 : Fin (k0_t8_loop v75 v77).trips), ∀ (k0_h5 : k0_cond5 v75 = 1#1), ∀ a, (k0_off19 v75 v77 k0_t8) a + S1.size a ≤ S1024.size a := fun v75 v77 k0_hw10 k0_t8 k0_h5 => k0_hw10.2.2.2 k0_t8 k0_h5

def k0_off20 (v1496 : BitVec 32) : Fin 2 → Nat :=
  let v1497 : Index := Scalar.indexCast v1496
  let c0_653 : Index := 0#32
  ![v1497.toNat, 0]

def k0_chk12 (v75 : BitVec 32) (v1496 : BitVec 32) : Prop :=
  (∀ (k0_h5 : k0_cond5 v75 = 1#1), ∀ a, (k0_off20 v1496) a + S1x32.size a ≤ S1024x32.size a)
theorem k0_off20_inb : ∀ (v75 : BitVec 32) (v1496 : BitVec 32) (k0_hw12 : k0_chk12 v75 v1496), ∀ (k0_h5 : k0_cond5 v75 = 1#1), ∀ a, (k0_off20 v1496) a + S1x32.size a ≤ S1024x32.size a := fun v75 v1496 k0_hw12 k0_h5 => k0_hw12 k0_h5

def k0_off21 (i : grid0.Coords) : Fin 1 → Nat :=
  let arg0 : BitVec 32 := BitVec.ofNat 32 (i 0).val
  let c64_i32_40 : BitVec 32 := 64#32
  let v95 : BitVec 32 := Scalar.muli arg0 c64_i32_40
  let c4_i32 : BitVec 32 := 4#32
  let v96 : BitVec 32 := Scalar.addi v95 c4_i32
  let v97 : Index := Scalar.indexCast v96
  ![v97.toNat]
@[reducible] def k0_t9_loop (v98 : BitVec 32) (v100 : BitVec 32) : Scf.Loop 32 :=
  let v1485 : BitVec 32 := Scalar.addi v100 v98
  let v1487 : BitVec 32 := Scalar.subi v1485 v100
  let c1_i32_650 : BitVec 32 := 1#32
  let v1489 : BitVec 32 := Scalar.divsi v1487 c1_i32_650
  let v1490 : BitVec 32 := Scalar.muli v1489 c1_i32_650
  let v1491 : BitVec 32 := Scalar.addi v100 v1490
  let c1_i32_651 : BitVec 32 := 1#32
  ⟨v100, v1491, c1_i32_651⟩
def k0_cond6 (v98 : BitVec 32) : BitVec 1 :=
  let c0_i32_43 : BitVec 32 := 0#32
  let v103 : BitVec 1 := Scalar.cmpi .sgt v98 c0_i32_43
  let v104 : BitVec 32 := Scalar.extui v103
  let c0_i32_44 : BitVec 32 := 0#32
  let v105 : BitVec 1 := Scalar.cmpi .ne v104 c0_i32_44
  v105

def k0_off22 (v98 : BitVec 32) (v100 : BitVec 32) (k0_t9 : Fin (k0_t9_loop v98 v100).trips) : Fin 1 → Nat :=
  let c1_i32_651 : BitVec 32 := 1#32
  let arg12 : BitVec 32 := Scf.iv v100 c1_i32_651 k0_t9
  let v1495 : Index := Scalar.indexCast arg12
  ![v1495.toNat]
def k0_off23 (v1496 : BitVec 32) : Fin 2 → Nat :=
  let v1497 : Index := Scalar.indexCast v1496
  let c0_653 : Index := 0#32
  ![v1497.toNat, 0]

def k0_chk14 (v98 : BitVec 32) (v1496 : BitVec 32) : Prop :=
  (∀ (k0_h6 : k0_cond6 v98 = 1#1), ∀ a, (k0_off23 v1496) a + S1x32.size a ≤ S1024x32.size a)
theorem k0_off23_inb : ∀ (v98 : BitVec 32) (v1496 : BitVec 32) (k0_hw14 : k0_chk14 v98 v1496), ∀ (k0_h6 : k0_cond6 v98 = 1#1), ∀ a, (k0_off23 v1496) a + S1x32.size a ≤ S1024x32.size a := fun v98 v1496 k0_hw14 k0_h6 => k0_hw14 k0_h6

@[reducible] def k0_t10_loop (v98 : BitVec 32) (v100 : BitVec 32) : Scf.Loop 32 :=
  let v1485 : BitVec 32 := Scalar.addi v100 v98
  let v1487 : BitVec 32 := Scalar.subi v1485 v100
  let c1_i32_650 : BitVec 32 := 1#32
  let v1489 : BitVec 32 := Scalar.divsi v1487 c1_i32_650
  let v1490 : BitVec 32 := Scalar.muli v1489 c1_i32_650
  let v1491 : BitVec 32 := Scalar.addi v100 v1490
  let v1488 : BitVec 32 := Scalar.addi v100 v1487
  let c1_i32_652 : BitVec 32 := 1#32
  ⟨v1491, v1488, c1_i32_652⟩
def k0_off24 (v98 : BitVec 32) (v100 : BitVec 32) (k0_t10 : Fin (k0_t10_loop v98 v100).trips) : Fin 1 → Nat :=
  let v1485 : BitVec 32 := Scalar.addi v100 v98
  let v1487 : BitVec 32 := Scalar.subi v1485 v100
  let c1_i32_650 : BitVec 32 := 1#32
  let v1489 : BitVec 32 := Scalar.divsi v1487 c1_i32_650
  let v1490 : BitVec 32 := Scalar.muli v1489 c1_i32_650
  let v1491 : BitVec 32 := Scalar.addi v100 v1490
  let c1_i32_652 : BitVec 32 := 1#32
  let arg12 : BitVec 32 := Scf.iv v1491 c1_i32_652 k0_t10
  let v1495 : Index := Scalar.indexCast arg12
  ![v1495.toNat]

def k0_chk13 (v98 : BitVec 32) (v100 : BitVec 32) : Prop :=
  (∀ (k0_h6 : k0_cond6 v98 = 1#1), (k0_t9_loop v98 v100).OK) ∧
  (∀ k0_t9 : Fin (k0_t9_loop v98 v100).trips, ∀ (k0_h6 : k0_cond6 v98 = 1#1), ∀ a, (k0_off22 v98 v100 k0_t9) a + S1.size a ≤ S1024.size a) ∧
  (∀ (k0_h6 : k0_cond6 v98 = 1#1), (k0_t10_loop v98 v100).OK) ∧
  (∀ k0_t10 : Fin (k0_t10_loop v98 v100).trips, ∀ (k0_h6 : k0_cond6 v98 = 1#1), ∀ a, (k0_off24 v98 v100 k0_t10) a + S1.size a ≤ S1024.size a)
theorem k0_t9_ok : ∀ (v98 : BitVec 32) (v100 : BitVec 32) (k0_hw13 : k0_chk13 v98 v100), ∀ (k0_h6 : k0_cond6 v98 = 1#1), (k0_t9_loop v98 v100).OK := fun v98 v100 k0_hw13 k0_h6 => k0_hw13.1 k0_h6
theorem k0_off22_inb : ∀ (v98 : BitVec 32) (v100 : BitVec 32) (k0_hw13 : k0_chk13 v98 v100) (k0_t9 : Fin (k0_t9_loop v98 v100).trips), ∀ (k0_h6 : k0_cond6 v98 = 1#1), ∀ a, (k0_off22 v98 v100 k0_t9) a + S1.size a ≤ S1024.size a := fun v98 v100 k0_hw13 k0_t9 k0_h6 => k0_hw13.2.1 k0_t9 k0_h6
theorem k0_t10_ok : ∀ (v98 : BitVec 32) (v100 : BitVec 32) (k0_hw13 : k0_chk13 v98 v100), ∀ (k0_h6 : k0_cond6 v98 = 1#1), (k0_t10_loop v98 v100).OK := fun v98 v100 k0_hw13 k0_h6 => k0_hw13.2.2.1 k0_h6
theorem k0_off24_inb : ∀ (v98 : BitVec 32) (v100 : BitVec 32) (k0_hw13 : k0_chk13 v98 v100) (k0_t10 : Fin (k0_t10_loop v98 v100).trips), ∀ (k0_h6 : k0_cond6 v98 = 1#1), ∀ a, (k0_off24 v98 v100 k0_t10) a + S1.size a ≤ S1024.size a := fun v98 v100 k0_hw13 k0_t10 k0_h6 => k0_hw13.2.2.2 k0_t10 k0_h6

def k0_off25 (v1496 : BitVec 32) : Fin 2 → Nat :=
  let v1497 : Index := Scalar.indexCast v1496
  let c0_653 : Index := 0#32
  ![v1497.toNat, 0]

def k0_chk15 (v98 : BitVec 32) (v1496 : BitVec 32) : Prop :=
  (∀ (k0_h6 : k0_cond6 v98 = 1#1), ∀ a, (k0_off25 v1496) a + S1x32.size a ≤ S1024x32.size a)
theorem k0_off25_inb : ∀ (v98 : BitVec 32) (v1496 : BitVec 32) (k0_hw15 : k0_chk15 v98 v1496), ∀ (k0_h6 : k0_cond6 v98 = 1#1), ∀ a, (k0_off25 v1496) a + S1x32.size a ≤ S1024x32.size a := fun v98 v1496 k0_hw15 k0_h6 => k0_hw15 k0_h6

def k0_off26 (i : grid0.Coords) : Fin 1 → Nat :=
  let arg0 : BitVec 32 := BitVec.ofNat 32 (i 0).val
  let c64_i32_50 : BitVec 32 := 64#32
  let v118 : BitVec 32 := Scalar.muli arg0 c64_i32_50
  let c5_i32 : BitVec 32 := 5#32
  let v119 : BitVec 32 := Scalar.addi v118 c5_i32
  let v120 : Index := Scalar.indexCast v119
  ![v120.toNat]
@[reducible] def k0_t11_loop (v121 : BitVec 32) (v123 : BitVec 32) : Scf.Loop 32 :=
  let v1485 : BitVec 32 := Scalar.addi v123 v121
  let v1487 : BitVec 32 := Scalar.subi v1485 v123
  let c1_i32_650 : BitVec 32 := 1#32
  let v1489 : BitVec 32 := Scalar.divsi v1487 c1_i32_650
  let v1490 : BitVec 32 := Scalar.muli v1489 c1_i32_650
  let v1491 : BitVec 32 := Scalar.addi v123 v1490
  let c1_i32_651 : BitVec 32 := 1#32
  ⟨v123, v1491, c1_i32_651⟩
def k0_cond7 (v121 : BitVec 32) : BitVec 1 :=
  let c0_i32_53 : BitVec 32 := 0#32
  let v126 : BitVec 1 := Scalar.cmpi .sgt v121 c0_i32_53
  let v127 : BitVec 32 := Scalar.extui v126
  let c0_i32_54 : BitVec 32 := 0#32
  let v128 : BitVec 1 := Scalar.cmpi .ne v127 c0_i32_54
  v128

def k0_off27 (v121 : BitVec 32) (v123 : BitVec 32) (k0_t11 : Fin (k0_t11_loop v121 v123).trips) : Fin 1 → Nat :=
  let c1_i32_651 : BitVec 32 := 1#32
  let arg12 : BitVec 32 := Scf.iv v123 c1_i32_651 k0_t11
  let v1495 : Index := Scalar.indexCast arg12
  ![v1495.toNat]
def k0_off28 (v1496 : BitVec 32) : Fin 2 → Nat :=
  let v1497 : Index := Scalar.indexCast v1496
  let c0_653 : Index := 0#32
  ![v1497.toNat, 0]

def k0_chk17 (v121 : BitVec 32) (v1496 : BitVec 32) : Prop :=
  (∀ (k0_h7 : k0_cond7 v121 = 1#1), ∀ a, (k0_off28 v1496) a + S1x32.size a ≤ S1024x32.size a)
theorem k0_off28_inb : ∀ (v121 : BitVec 32) (v1496 : BitVec 32) (k0_hw17 : k0_chk17 v121 v1496), ∀ (k0_h7 : k0_cond7 v121 = 1#1), ∀ a, (k0_off28 v1496) a + S1x32.size a ≤ S1024x32.size a := fun v121 v1496 k0_hw17 k0_h7 => k0_hw17 k0_h7

@[reducible] def k0_t12_loop (v121 : BitVec 32) (v123 : BitVec 32) : Scf.Loop 32 :=
  let v1485 : BitVec 32 := Scalar.addi v123 v121
  let v1487 : BitVec 32 := Scalar.subi v1485 v123
  let c1_i32_650 : BitVec 32 := 1#32
  let v1489 : BitVec 32 := Scalar.divsi v1487 c1_i32_650
  let v1490 : BitVec 32 := Scalar.muli v1489 c1_i32_650
  let v1491 : BitVec 32 := Scalar.addi v123 v1490
  let v1488 : BitVec 32 := Scalar.addi v123 v1487
  let c1_i32_652 : BitVec 32 := 1#32
  ⟨v1491, v1488, c1_i32_652⟩
def k0_off29 (v121 : BitVec 32) (v123 : BitVec 32) (k0_t12 : Fin (k0_t12_loop v121 v123).trips) : Fin 1 → Nat :=
  let v1485 : BitVec 32 := Scalar.addi v123 v121
  let v1487 : BitVec 32 := Scalar.subi v1485 v123
  let c1_i32_650 : BitVec 32 := 1#32
  let v1489 : BitVec 32 := Scalar.divsi v1487 c1_i32_650
  let v1490 : BitVec 32 := Scalar.muli v1489 c1_i32_650
  let v1491 : BitVec 32 := Scalar.addi v123 v1490
  let c1_i32_652 : BitVec 32 := 1#32
  let arg12 : BitVec 32 := Scf.iv v1491 c1_i32_652 k0_t12
  let v1495 : Index := Scalar.indexCast arg12
  ![v1495.toNat]

def k0_chk16 (v121 : BitVec 32) (v123 : BitVec 32) : Prop :=
  (∀ (k0_h7 : k0_cond7 v121 = 1#1), (k0_t11_loop v121 v123).OK) ∧
  (∀ k0_t11 : Fin (k0_t11_loop v121 v123).trips, ∀ (k0_h7 : k0_cond7 v121 = 1#1), ∀ a, (k0_off27 v121 v123 k0_t11) a + S1.size a ≤ S1024.size a) ∧
  (∀ (k0_h7 : k0_cond7 v121 = 1#1), (k0_t12_loop v121 v123).OK) ∧
  (∀ k0_t12 : Fin (k0_t12_loop v121 v123).trips, ∀ (k0_h7 : k0_cond7 v121 = 1#1), ∀ a, (k0_off29 v121 v123 k0_t12) a + S1.size a ≤ S1024.size a)
theorem k0_t11_ok : ∀ (v121 : BitVec 32) (v123 : BitVec 32) (k0_hw16 : k0_chk16 v121 v123), ∀ (k0_h7 : k0_cond7 v121 = 1#1), (k0_t11_loop v121 v123).OK := fun v121 v123 k0_hw16 k0_h7 => k0_hw16.1 k0_h7
theorem k0_off27_inb : ∀ (v121 : BitVec 32) (v123 : BitVec 32) (k0_hw16 : k0_chk16 v121 v123) (k0_t11 : Fin (k0_t11_loop v121 v123).trips), ∀ (k0_h7 : k0_cond7 v121 = 1#1), ∀ a, (k0_off27 v121 v123 k0_t11) a + S1.size a ≤ S1024.size a := fun v121 v123 k0_hw16 k0_t11 k0_h7 => k0_hw16.2.1 k0_t11 k0_h7
theorem k0_t12_ok : ∀ (v121 : BitVec 32) (v123 : BitVec 32) (k0_hw16 : k0_chk16 v121 v123), ∀ (k0_h7 : k0_cond7 v121 = 1#1), (k0_t12_loop v121 v123).OK := fun v121 v123 k0_hw16 k0_h7 => k0_hw16.2.2.1 k0_h7
theorem k0_off29_inb : ∀ (v121 : BitVec 32) (v123 : BitVec 32) (k0_hw16 : k0_chk16 v121 v123) (k0_t12 : Fin (k0_t12_loop v121 v123).trips), ∀ (k0_h7 : k0_cond7 v121 = 1#1), ∀ a, (k0_off29 v121 v123 k0_t12) a + S1.size a ≤ S1024.size a := fun v121 v123 k0_hw16 k0_t12 k0_h7 => k0_hw16.2.2.2 k0_t12 k0_h7

def k0_off30 (v1496 : BitVec 32) : Fin 2 → Nat :=
  let v1497 : Index := Scalar.indexCast v1496
  let c0_653 : Index := 0#32
  ![v1497.toNat, 0]

def k0_chk18 (v121 : BitVec 32) (v1496 : BitVec 32) : Prop :=
  (∀ (k0_h7 : k0_cond7 v121 = 1#1), ∀ a, (k0_off30 v1496) a + S1x32.size a ≤ S1024x32.size a)
theorem k0_off30_inb : ∀ (v121 : BitVec 32) (v1496 : BitVec 32) (k0_hw18 : k0_chk18 v121 v1496), ∀ (k0_h7 : k0_cond7 v121 = 1#1), ∀ a, (k0_off30 v1496) a + S1x32.size a ≤ S1024x32.size a := fun v121 v1496 k0_hw18 k0_h7 => k0_hw18 k0_h7

def k0_off31 (i : grid0.Coords) : Fin 1 → Nat :=
  let arg0 : BitVec 32 := BitVec.ofNat 32 (i 0).val
  let c64_i32_60 : BitVec 32 := 64#32
  let v141 : BitVec 32 := Scalar.muli arg0 c64_i32_60
  let c6_i32 : BitVec 32 := 6#32
  let v142 : BitVec 32 := Scalar.addi v141 c6_i32
  let v143 : Index := Scalar.indexCast v142
  ![v143.toNat]
@[reducible] def k0_t13_loop (v144 : BitVec 32) (v146 : BitVec 32) : Scf.Loop 32 :=
  let v1485 : BitVec 32 := Scalar.addi v146 v144
  let v1487 : BitVec 32 := Scalar.subi v1485 v146
  let c1_i32_650 : BitVec 32 := 1#32
  let v1489 : BitVec 32 := Scalar.divsi v1487 c1_i32_650
  let v1490 : BitVec 32 := Scalar.muli v1489 c1_i32_650
  let v1491 : BitVec 32 := Scalar.addi v146 v1490
  let c1_i32_651 : BitVec 32 := 1#32
  ⟨v146, v1491, c1_i32_651⟩
def k0_cond8 (v144 : BitVec 32) : BitVec 1 :=
  let c0_i32_63 : BitVec 32 := 0#32
  let v149 : BitVec 1 := Scalar.cmpi .sgt v144 c0_i32_63
  let v150 : BitVec 32 := Scalar.extui v149
  let c0_i32_64 : BitVec 32 := 0#32
  let v151 : BitVec 1 := Scalar.cmpi .ne v150 c0_i32_64
  v151

def k0_off32 (v144 : BitVec 32) (v146 : BitVec 32) (k0_t13 : Fin (k0_t13_loop v144 v146).trips) : Fin 1 → Nat :=
  let c1_i32_651 : BitVec 32 := 1#32
  let arg12 : BitVec 32 := Scf.iv v146 c1_i32_651 k0_t13
  let v1495 : Index := Scalar.indexCast arg12
  ![v1495.toNat]
def k0_off33 (v1496 : BitVec 32) : Fin 2 → Nat :=
  let v1497 : Index := Scalar.indexCast v1496
  let c0_653 : Index := 0#32
  ![v1497.toNat, 0]

def k0_chk20 (v144 : BitVec 32) (v1496 : BitVec 32) : Prop :=
  (∀ (k0_h8 : k0_cond8 v144 = 1#1), ∀ a, (k0_off33 v1496) a + S1x32.size a ≤ S1024x32.size a)
theorem k0_off33_inb : ∀ (v144 : BitVec 32) (v1496 : BitVec 32) (k0_hw20 : k0_chk20 v144 v1496), ∀ (k0_h8 : k0_cond8 v144 = 1#1), ∀ a, (k0_off33 v1496) a + S1x32.size a ≤ S1024x32.size a := fun v144 v1496 k0_hw20 k0_h8 => k0_hw20 k0_h8

@[reducible] def k0_t14_loop (v144 : BitVec 32) (v146 : BitVec 32) : Scf.Loop 32 :=
  let v1485 : BitVec 32 := Scalar.addi v146 v144
  let v1487 : BitVec 32 := Scalar.subi v1485 v146
  let c1_i32_650 : BitVec 32 := 1#32
  let v1489 : BitVec 32 := Scalar.divsi v1487 c1_i32_650
  let v1490 : BitVec 32 := Scalar.muli v1489 c1_i32_650
  let v1491 : BitVec 32 := Scalar.addi v146 v1490
  let v1488 : BitVec 32 := Scalar.addi v146 v1487
  let c1_i32_652 : BitVec 32 := 1#32
  ⟨v1491, v1488, c1_i32_652⟩
def k0_off34 (v144 : BitVec 32) (v146 : BitVec 32) (k0_t14 : Fin (k0_t14_loop v144 v146).trips) : Fin 1 → Nat :=
  let v1485 : BitVec 32 := Scalar.addi v146 v144
  let v1487 : BitVec 32 := Scalar.subi v1485 v146
  let c1_i32_650 : BitVec 32 := 1#32
  let v1489 : BitVec 32 := Scalar.divsi v1487 c1_i32_650
  let v1490 : BitVec 32 := Scalar.muli v1489 c1_i32_650
  let v1491 : BitVec 32 := Scalar.addi v146 v1490
  let c1_i32_652 : BitVec 32 := 1#32
  let arg12 : BitVec 32 := Scf.iv v1491 c1_i32_652 k0_t14
  let v1495 : Index := Scalar.indexCast arg12
  ![v1495.toNat]

def k0_chk19 (v144 : BitVec 32) (v146 : BitVec 32) : Prop :=
  (∀ (k0_h8 : k0_cond8 v144 = 1#1), (k0_t13_loop v144 v146).OK) ∧
  (∀ k0_t13 : Fin (k0_t13_loop v144 v146).trips, ∀ (k0_h8 : k0_cond8 v144 = 1#1), ∀ a, (k0_off32 v144 v146 k0_t13) a + S1.size a ≤ S1024.size a) ∧
  (∀ (k0_h8 : k0_cond8 v144 = 1#1), (k0_t14_loop v144 v146).OK) ∧
  (∀ k0_t14 : Fin (k0_t14_loop v144 v146).trips, ∀ (k0_h8 : k0_cond8 v144 = 1#1), ∀ a, (k0_off34 v144 v146 k0_t14) a + S1.size a ≤ S1024.size a)
theorem k0_t13_ok : ∀ (v144 : BitVec 32) (v146 : BitVec 32) (k0_hw19 : k0_chk19 v144 v146), ∀ (k0_h8 : k0_cond8 v144 = 1#1), (k0_t13_loop v144 v146).OK := fun v144 v146 k0_hw19 k0_h8 => k0_hw19.1 k0_h8
theorem k0_off32_inb : ∀ (v144 : BitVec 32) (v146 : BitVec 32) (k0_hw19 : k0_chk19 v144 v146) (k0_t13 : Fin (k0_t13_loop v144 v146).trips), ∀ (k0_h8 : k0_cond8 v144 = 1#1), ∀ a, (k0_off32 v144 v146 k0_t13) a + S1.size a ≤ S1024.size a := fun v144 v146 k0_hw19 k0_t13 k0_h8 => k0_hw19.2.1 k0_t13 k0_h8
theorem k0_t14_ok : ∀ (v144 : BitVec 32) (v146 : BitVec 32) (k0_hw19 : k0_chk19 v144 v146), ∀ (k0_h8 : k0_cond8 v144 = 1#1), (k0_t14_loop v144 v146).OK := fun v144 v146 k0_hw19 k0_h8 => k0_hw19.2.2.1 k0_h8
theorem k0_off34_inb : ∀ (v144 : BitVec 32) (v146 : BitVec 32) (k0_hw19 : k0_chk19 v144 v146) (k0_t14 : Fin (k0_t14_loop v144 v146).trips), ∀ (k0_h8 : k0_cond8 v144 = 1#1), ∀ a, (k0_off34 v144 v146 k0_t14) a + S1.size a ≤ S1024.size a := fun v144 v146 k0_hw19 k0_t14 k0_h8 => k0_hw19.2.2.2 k0_t14 k0_h8

def k0_off35 (v1496 : BitVec 32) : Fin 2 → Nat :=
  let v1497 : Index := Scalar.indexCast v1496
  let c0_653 : Index := 0#32
  ![v1497.toNat, 0]

def k0_chk21 (v144 : BitVec 32) (v1496 : BitVec 32) : Prop :=
  (∀ (k0_h8 : k0_cond8 v144 = 1#1), ∀ a, (k0_off35 v1496) a + S1x32.size a ≤ S1024x32.size a)
theorem k0_off35_inb : ∀ (v144 : BitVec 32) (v1496 : BitVec 32) (k0_hw21 : k0_chk21 v144 v1496), ∀ (k0_h8 : k0_cond8 v144 = 1#1), ∀ a, (k0_off35 v1496) a + S1x32.size a ≤ S1024x32.size a := fun v144 v1496 k0_hw21 k0_h8 => k0_hw21 k0_h8

def k0_off36 (i : grid0.Coords) : Fin 1 → Nat :=
  let arg0 : BitVec 32 := BitVec.ofNat 32 (i 0).val
  let c64_i32_70 : BitVec 32 := 64#32
  let v164 : BitVec 32 := Scalar.muli arg0 c64_i32_70
  let c7_i32 : BitVec 32 := 7#32
  let v165 : BitVec 32 := Scalar.addi v164 c7_i32
  let v166 : Index := Scalar.indexCast v165
  ![v166.toNat]
@[reducible] def k0_t15_loop (v167 : BitVec 32) (v169 : BitVec 32) : Scf.Loop 32 :=
  let v1485 : BitVec 32 := Scalar.addi v169 v167
  let v1487 : BitVec 32 := Scalar.subi v1485 v169
  let c1_i32_650 : BitVec 32 := 1#32
  let v1489 : BitVec 32 := Scalar.divsi v1487 c1_i32_650
  let v1490 : BitVec 32 := Scalar.muli v1489 c1_i32_650
  let v1491 : BitVec 32 := Scalar.addi v169 v1490
  let c1_i32_651 : BitVec 32 := 1#32
  ⟨v169, v1491, c1_i32_651⟩
def k0_cond9 (v167 : BitVec 32) : BitVec 1 :=
  let c0_i32_73 : BitVec 32 := 0#32
  let v172 : BitVec 1 := Scalar.cmpi .sgt v167 c0_i32_73
  let v173 : BitVec 32 := Scalar.extui v172
  let c0_i32_74 : BitVec 32 := 0#32
  let v174 : BitVec 1 := Scalar.cmpi .ne v173 c0_i32_74
  v174

def k0_off37 (v167 : BitVec 32) (v169 : BitVec 32) (k0_t15 : Fin (k0_t15_loop v167 v169).trips) : Fin 1 → Nat :=
  let c1_i32_651 : BitVec 32 := 1#32
  let arg12 : BitVec 32 := Scf.iv v169 c1_i32_651 k0_t15
  let v1495 : Index := Scalar.indexCast arg12
  ![v1495.toNat]
def k0_off38 (v1496 : BitVec 32) : Fin 2 → Nat :=
  let v1497 : Index := Scalar.indexCast v1496
  let c0_653 : Index := 0#32
  ![v1497.toNat, 0]

def k0_chk23 (v167 : BitVec 32) (v1496 : BitVec 32) : Prop :=
  (∀ (k0_h9 : k0_cond9 v167 = 1#1), ∀ a, (k0_off38 v1496) a + S1x32.size a ≤ S1024x32.size a)
theorem k0_off38_inb : ∀ (v167 : BitVec 32) (v1496 : BitVec 32) (k0_hw23 : k0_chk23 v167 v1496), ∀ (k0_h9 : k0_cond9 v167 = 1#1), ∀ a, (k0_off38 v1496) a + S1x32.size a ≤ S1024x32.size a := fun v167 v1496 k0_hw23 k0_h9 => k0_hw23 k0_h9

@[reducible] def k0_t16_loop (v167 : BitVec 32) (v169 : BitVec 32) : Scf.Loop 32 :=
  let v1485 : BitVec 32 := Scalar.addi v169 v167
  let v1487 : BitVec 32 := Scalar.subi v1485 v169
  let c1_i32_650 : BitVec 32 := 1#32
  let v1489 : BitVec 32 := Scalar.divsi v1487 c1_i32_650
  let v1490 : BitVec 32 := Scalar.muli v1489 c1_i32_650
  let v1491 : BitVec 32 := Scalar.addi v169 v1490
  let v1488 : BitVec 32 := Scalar.addi v169 v1487
  let c1_i32_652 : BitVec 32 := 1#32
  ⟨v1491, v1488, c1_i32_652⟩
def k0_off39 (v167 : BitVec 32) (v169 : BitVec 32) (k0_t16 : Fin (k0_t16_loop v167 v169).trips) : Fin 1 → Nat :=
  let v1485 : BitVec 32 := Scalar.addi v169 v167
  let v1487 : BitVec 32 := Scalar.subi v1485 v169
  let c1_i32_650 : BitVec 32 := 1#32
  let v1489 : BitVec 32 := Scalar.divsi v1487 c1_i32_650
  let v1490 : BitVec 32 := Scalar.muli v1489 c1_i32_650
  let v1491 : BitVec 32 := Scalar.addi v169 v1490
  let c1_i32_652 : BitVec 32 := 1#32
  let arg12 : BitVec 32 := Scf.iv v1491 c1_i32_652 k0_t16
  let v1495 : Index := Scalar.indexCast arg12
  ![v1495.toNat]

def k0_chk22 (v167 : BitVec 32) (v169 : BitVec 32) : Prop :=
  (∀ (k0_h9 : k0_cond9 v167 = 1#1), (k0_t15_loop v167 v169).OK) ∧
  (∀ k0_t15 : Fin (k0_t15_loop v167 v169).trips, ∀ (k0_h9 : k0_cond9 v167 = 1#1), ∀ a, (k0_off37 v167 v169 k0_t15) a + S1.size a ≤ S1024.size a) ∧
  (∀ (k0_h9 : k0_cond9 v167 = 1#1), (k0_t16_loop v167 v169).OK) ∧
  (∀ k0_t16 : Fin (k0_t16_loop v167 v169).trips, ∀ (k0_h9 : k0_cond9 v167 = 1#1), ∀ a, (k0_off39 v167 v169 k0_t16) a + S1.size a ≤ S1024.size a)
theorem k0_t15_ok : ∀ (v167 : BitVec 32) (v169 : BitVec 32) (k0_hw22 : k0_chk22 v167 v169), ∀ (k0_h9 : k0_cond9 v167 = 1#1), (k0_t15_loop v167 v169).OK := fun v167 v169 k0_hw22 k0_h9 => k0_hw22.1 k0_h9
theorem k0_off37_inb : ∀ (v167 : BitVec 32) (v169 : BitVec 32) (k0_hw22 : k0_chk22 v167 v169) (k0_t15 : Fin (k0_t15_loop v167 v169).trips), ∀ (k0_h9 : k0_cond9 v167 = 1#1), ∀ a, (k0_off37 v167 v169 k0_t15) a + S1.size a ≤ S1024.size a := fun v167 v169 k0_hw22 k0_t15 k0_h9 => k0_hw22.2.1 k0_t15 k0_h9
theorem k0_t16_ok : ∀ (v167 : BitVec 32) (v169 : BitVec 32) (k0_hw22 : k0_chk22 v167 v169), ∀ (k0_h9 : k0_cond9 v167 = 1#1), (k0_t16_loop v167 v169).OK := fun v167 v169 k0_hw22 k0_h9 => k0_hw22.2.2.1 k0_h9
theorem k0_off39_inb : ∀ (v167 : BitVec 32) (v169 : BitVec 32) (k0_hw22 : k0_chk22 v167 v169) (k0_t16 : Fin (k0_t16_loop v167 v169).trips), ∀ (k0_h9 : k0_cond9 v167 = 1#1), ∀ a, (k0_off39 v167 v169 k0_t16) a + S1.size a ≤ S1024.size a := fun v167 v169 k0_hw22 k0_t16 k0_h9 => k0_hw22.2.2.2 k0_t16 k0_h9

def k0_off40 (v1496 : BitVec 32) : Fin 2 → Nat :=
  let v1497 : Index := Scalar.indexCast v1496
  let c0_653 : Index := 0#32
  ![v1497.toNat, 0]

def k0_chk24 (v167 : BitVec 32) (v1496 : BitVec 32) : Prop :=
  (∀ (k0_h9 : k0_cond9 v167 = 1#1), ∀ a, (k0_off40 v1496) a + S1x32.size a ≤ S1024x32.size a)
theorem k0_off40_inb : ∀ (v167 : BitVec 32) (v1496 : BitVec 32) (k0_hw24 : k0_chk24 v167 v1496), ∀ (k0_h9 : k0_cond9 v167 = 1#1), ∀ a, (k0_off40 v1496) a + S1x32.size a ≤ S1024x32.size a := fun v167 v1496 k0_hw24 k0_h9 => k0_hw24 k0_h9

def k0_off41 (i : grid0.Coords) : Fin 1 → Nat :=
  let arg0 : BitVec 32 := BitVec.ofNat 32 (i 0).val
  let c64_i32_80 : BitVec 32 := 64#32
  let v187 : BitVec 32 := Scalar.muli arg0 c64_i32_80
  let c8_i32 : BitVec 32 := 8#32
  let v188 : BitVec 32 := Scalar.addi v187 c8_i32
  let v189 : Index := Scalar.indexCast v188
  ![v189.toNat]
@[reducible] def k0_t17_loop (v190 : BitVec 32) (v192 : BitVec 32) : Scf.Loop 32 :=
  let v1485 : BitVec 32 := Scalar.addi v192 v190
  let v1487 : BitVec 32 := Scalar.subi v1485 v192
  let c1_i32_650 : BitVec 32 := 1#32
  let v1489 : BitVec 32 := Scalar.divsi v1487 c1_i32_650
  let v1490 : BitVec 32 := Scalar.muli v1489 c1_i32_650
  let v1491 : BitVec 32 := Scalar.addi v192 v1490
  let c1_i32_651 : BitVec 32 := 1#32
  ⟨v192, v1491, c1_i32_651⟩
def k0_cond10 (v190 : BitVec 32) : BitVec 1 :=
  let c0_i32_83 : BitVec 32 := 0#32
  let v195 : BitVec 1 := Scalar.cmpi .sgt v190 c0_i32_83
  let v196 : BitVec 32 := Scalar.extui v195
  let c0_i32_84 : BitVec 32 := 0#32
  let v197 : BitVec 1 := Scalar.cmpi .ne v196 c0_i32_84
  v197

def k0_off42 (v190 : BitVec 32) (v192 : BitVec 32) (k0_t17 : Fin (k0_t17_loop v190 v192).trips) : Fin 1 → Nat :=
  let c1_i32_651 : BitVec 32 := 1#32
  let arg12 : BitVec 32 := Scf.iv v192 c1_i32_651 k0_t17
  let v1495 : Index := Scalar.indexCast arg12
  ![v1495.toNat]
def k0_off43 (v1496 : BitVec 32) : Fin 2 → Nat :=
  let v1497 : Index := Scalar.indexCast v1496
  let c0_653 : Index := 0#32
  ![v1497.toNat, 0]

def k0_chk26 (v190 : BitVec 32) (v1496 : BitVec 32) : Prop :=
  (∀ (k0_h10 : k0_cond10 v190 = 1#1), ∀ a, (k0_off43 v1496) a + S1x32.size a ≤ S1024x32.size a)
theorem k0_off43_inb : ∀ (v190 : BitVec 32) (v1496 : BitVec 32) (k0_hw26 : k0_chk26 v190 v1496), ∀ (k0_h10 : k0_cond10 v190 = 1#1), ∀ a, (k0_off43 v1496) a + S1x32.size a ≤ S1024x32.size a := fun v190 v1496 k0_hw26 k0_h10 => k0_hw26 k0_h10

@[reducible] def k0_t18_loop (v190 : BitVec 32) (v192 : BitVec 32) : Scf.Loop 32 :=
  let v1485 : BitVec 32 := Scalar.addi v192 v190
  let v1487 : BitVec 32 := Scalar.subi v1485 v192
  let c1_i32_650 : BitVec 32 := 1#32
  let v1489 : BitVec 32 := Scalar.divsi v1487 c1_i32_650
  let v1490 : BitVec 32 := Scalar.muli v1489 c1_i32_650
  let v1491 : BitVec 32 := Scalar.addi v192 v1490
  let v1488 : BitVec 32 := Scalar.addi v192 v1487
  let c1_i32_652 : BitVec 32 := 1#32
  ⟨v1491, v1488, c1_i32_652⟩
def k0_off44 (v190 : BitVec 32) (v192 : BitVec 32) (k0_t18 : Fin (k0_t18_loop v190 v192).trips) : Fin 1 → Nat :=
  let v1485 : BitVec 32 := Scalar.addi v192 v190
  let v1487 : BitVec 32 := Scalar.subi v1485 v192
  let c1_i32_650 : BitVec 32 := 1#32
  let v1489 : BitVec 32 := Scalar.divsi v1487 c1_i32_650
  let v1490 : BitVec 32 := Scalar.muli v1489 c1_i32_650
  let v1491 : BitVec 32 := Scalar.addi v192 v1490
  let c1_i32_652 : BitVec 32 := 1#32
  let arg12 : BitVec 32 := Scf.iv v1491 c1_i32_652 k0_t18
  let v1495 : Index := Scalar.indexCast arg12
  ![v1495.toNat]

def k0_chk25 (v190 : BitVec 32) (v192 : BitVec 32) : Prop :=
  (∀ (k0_h10 : k0_cond10 v190 = 1#1), (k0_t17_loop v190 v192).OK) ∧
  (∀ k0_t17 : Fin (k0_t17_loop v190 v192).trips, ∀ (k0_h10 : k0_cond10 v190 = 1#1), ∀ a, (k0_off42 v190 v192 k0_t17) a + S1.size a ≤ S1024.size a) ∧
  (∀ (k0_h10 : k0_cond10 v190 = 1#1), (k0_t18_loop v190 v192).OK) ∧
  (∀ k0_t18 : Fin (k0_t18_loop v190 v192).trips, ∀ (k0_h10 : k0_cond10 v190 = 1#1), ∀ a, (k0_off44 v190 v192 k0_t18) a + S1.size a ≤ S1024.size a)
theorem k0_t17_ok : ∀ (v190 : BitVec 32) (v192 : BitVec 32) (k0_hw25 : k0_chk25 v190 v192), ∀ (k0_h10 : k0_cond10 v190 = 1#1), (k0_t17_loop v190 v192).OK := fun v190 v192 k0_hw25 k0_h10 => k0_hw25.1 k0_h10
theorem k0_off42_inb : ∀ (v190 : BitVec 32) (v192 : BitVec 32) (k0_hw25 : k0_chk25 v190 v192) (k0_t17 : Fin (k0_t17_loop v190 v192).trips), ∀ (k0_h10 : k0_cond10 v190 = 1#1), ∀ a, (k0_off42 v190 v192 k0_t17) a + S1.size a ≤ S1024.size a := fun v190 v192 k0_hw25 k0_t17 k0_h10 => k0_hw25.2.1 k0_t17 k0_h10
theorem k0_t18_ok : ∀ (v190 : BitVec 32) (v192 : BitVec 32) (k0_hw25 : k0_chk25 v190 v192), ∀ (k0_h10 : k0_cond10 v190 = 1#1), (k0_t18_loop v190 v192).OK := fun v190 v192 k0_hw25 k0_h10 => k0_hw25.2.2.1 k0_h10
theorem k0_off44_inb : ∀ (v190 : BitVec 32) (v192 : BitVec 32) (k0_hw25 : k0_chk25 v190 v192) (k0_t18 : Fin (k0_t18_loop v190 v192).trips), ∀ (k0_h10 : k0_cond10 v190 = 1#1), ∀ a, (k0_off44 v190 v192 k0_t18) a + S1.size a ≤ S1024.size a := fun v190 v192 k0_hw25 k0_t18 k0_h10 => k0_hw25.2.2.2 k0_t18 k0_h10

def k0_off45 (v1496 : BitVec 32) : Fin 2 → Nat :=
  let v1497 : Index := Scalar.indexCast v1496
  let c0_653 : Index := 0#32
  ![v1497.toNat, 0]

def k0_chk27 (v190 : BitVec 32) (v1496 : BitVec 32) : Prop :=
  (∀ (k0_h10 : k0_cond10 v190 = 1#1), ∀ a, (k0_off45 v1496) a + S1x32.size a ≤ S1024x32.size a)
theorem k0_off45_inb : ∀ (v190 : BitVec 32) (v1496 : BitVec 32) (k0_hw27 : k0_chk27 v190 v1496), ∀ (k0_h10 : k0_cond10 v190 = 1#1), ∀ a, (k0_off45 v1496) a + S1x32.size a ≤ S1024x32.size a := fun v190 v1496 k0_hw27 k0_h10 => k0_hw27 k0_h10

def k0_off46 (i : grid0.Coords) : Fin 1 → Nat :=
  let arg0 : BitVec 32 := BitVec.ofNat 32 (i 0).val
  let c64_i32_90 : BitVec 32 := 64#32
  let v210 : BitVec 32 := Scalar.muli arg0 c64_i32_90
  let c9_i32 : BitVec 32 := 9#32
  let v211 : BitVec 32 := Scalar.addi v210 c9_i32
  let v212 : Index := Scalar.indexCast v211
  ![v212.toNat]
@[reducible] def k0_t19_loop (v213 : BitVec 32) (v215 : BitVec 32) : Scf.Loop 32 :=
  let v1485 : BitVec 32 := Scalar.addi v215 v213
  let v1487 : BitVec 32 := Scalar.subi v1485 v215
  let c1_i32_650 : BitVec 32 := 1#32
  let v1489 : BitVec 32 := Scalar.divsi v1487 c1_i32_650
  let v1490 : BitVec 32 := Scalar.muli v1489 c1_i32_650
  let v1491 : BitVec 32 := Scalar.addi v215 v1490
  let c1_i32_651 : BitVec 32 := 1#32
  ⟨v215, v1491, c1_i32_651⟩
def k0_cond11 (v213 : BitVec 32) : BitVec 1 :=
  let c0_i32_93 : BitVec 32 := 0#32
  let v218 : BitVec 1 := Scalar.cmpi .sgt v213 c0_i32_93
  let v219 : BitVec 32 := Scalar.extui v218
  let c0_i32_94 : BitVec 32 := 0#32
  let v220 : BitVec 1 := Scalar.cmpi .ne v219 c0_i32_94
  v220

def k0_off47 (v213 : BitVec 32) (v215 : BitVec 32) (k0_t19 : Fin (k0_t19_loop v213 v215).trips) : Fin 1 → Nat :=
  let c1_i32_651 : BitVec 32 := 1#32
  let arg12 : BitVec 32 := Scf.iv v215 c1_i32_651 k0_t19
  let v1495 : Index := Scalar.indexCast arg12
  ![v1495.toNat]
def k0_off48 (v1496 : BitVec 32) : Fin 2 → Nat :=
  let v1497 : Index := Scalar.indexCast v1496
  let c0_653 : Index := 0#32
  ![v1497.toNat, 0]

def k0_chk29 (v213 : BitVec 32) (v1496 : BitVec 32) : Prop :=
  (∀ (k0_h11 : k0_cond11 v213 = 1#1), ∀ a, (k0_off48 v1496) a + S1x32.size a ≤ S1024x32.size a)
theorem k0_off48_inb : ∀ (v213 : BitVec 32) (v1496 : BitVec 32) (k0_hw29 : k0_chk29 v213 v1496), ∀ (k0_h11 : k0_cond11 v213 = 1#1), ∀ a, (k0_off48 v1496) a + S1x32.size a ≤ S1024x32.size a := fun v213 v1496 k0_hw29 k0_h11 => k0_hw29 k0_h11

@[reducible] def k0_t20_loop (v213 : BitVec 32) (v215 : BitVec 32) : Scf.Loop 32 :=
  let v1485 : BitVec 32 := Scalar.addi v215 v213
  let v1487 : BitVec 32 := Scalar.subi v1485 v215
  let c1_i32_650 : BitVec 32 := 1#32
  let v1489 : BitVec 32 := Scalar.divsi v1487 c1_i32_650
  let v1490 : BitVec 32 := Scalar.muli v1489 c1_i32_650
  let v1491 : BitVec 32 := Scalar.addi v215 v1490
  let v1488 : BitVec 32 := Scalar.addi v215 v1487
  let c1_i32_652 : BitVec 32 := 1#32
  ⟨v1491, v1488, c1_i32_652⟩
def k0_off49 (v213 : BitVec 32) (v215 : BitVec 32) (k0_t20 : Fin (k0_t20_loop v213 v215).trips) : Fin 1 → Nat :=
  let v1485 : BitVec 32 := Scalar.addi v215 v213
  let v1487 : BitVec 32 := Scalar.subi v1485 v215
  let c1_i32_650 : BitVec 32 := 1#32
  let v1489 : BitVec 32 := Scalar.divsi v1487 c1_i32_650
  let v1490 : BitVec 32 := Scalar.muli v1489 c1_i32_650
  let v1491 : BitVec 32 := Scalar.addi v215 v1490
  let c1_i32_652 : BitVec 32 := 1#32
  let arg12 : BitVec 32 := Scf.iv v1491 c1_i32_652 k0_t20
  let v1495 : Index := Scalar.indexCast arg12
  ![v1495.toNat]

def k0_chk28 (v213 : BitVec 32) (v215 : BitVec 32) : Prop :=
  (∀ (k0_h11 : k0_cond11 v213 = 1#1), (k0_t19_loop v213 v215).OK) ∧
  (∀ k0_t19 : Fin (k0_t19_loop v213 v215).trips, ∀ (k0_h11 : k0_cond11 v213 = 1#1), ∀ a, (k0_off47 v213 v215 k0_t19) a + S1.size a ≤ S1024.size a) ∧
  (∀ (k0_h11 : k0_cond11 v213 = 1#1), (k0_t20_loop v213 v215).OK) ∧
  (∀ k0_t20 : Fin (k0_t20_loop v213 v215).trips, ∀ (k0_h11 : k0_cond11 v213 = 1#1), ∀ a, (k0_off49 v213 v215 k0_t20) a + S1.size a ≤ S1024.size a)
theorem k0_t19_ok : ∀ (v213 : BitVec 32) (v215 : BitVec 32) (k0_hw28 : k0_chk28 v213 v215), ∀ (k0_h11 : k0_cond11 v213 = 1#1), (k0_t19_loop v213 v215).OK := fun v213 v215 k0_hw28 k0_h11 => k0_hw28.1 k0_h11
theorem k0_off47_inb : ∀ (v213 : BitVec 32) (v215 : BitVec 32) (k0_hw28 : k0_chk28 v213 v215) (k0_t19 : Fin (k0_t19_loop v213 v215).trips), ∀ (k0_h11 : k0_cond11 v213 = 1#1), ∀ a, (k0_off47 v213 v215 k0_t19) a + S1.size a ≤ S1024.size a := fun v213 v215 k0_hw28 k0_t19 k0_h11 => k0_hw28.2.1 k0_t19 k0_h11
theorem k0_t20_ok : ∀ (v213 : BitVec 32) (v215 : BitVec 32) (k0_hw28 : k0_chk28 v213 v215), ∀ (k0_h11 : k0_cond11 v213 = 1#1), (k0_t20_loop v213 v215).OK := fun v213 v215 k0_hw28 k0_h11 => k0_hw28.2.2.1 k0_h11
theorem k0_off49_inb : ∀ (v213 : BitVec 32) (v215 : BitVec 32) (k0_hw28 : k0_chk28 v213 v215) (k0_t20 : Fin (k0_t20_loop v213 v215).trips), ∀ (k0_h11 : k0_cond11 v213 = 1#1), ∀ a, (k0_off49 v213 v215 k0_t20) a + S1.size a ≤ S1024.size a := fun v213 v215 k0_hw28 k0_t20 k0_h11 => k0_hw28.2.2.2 k0_t20 k0_h11

def k0_off50 (v1496 : BitVec 32) : Fin 2 → Nat :=
  let v1497 : Index := Scalar.indexCast v1496
  let c0_653 : Index := 0#32
  ![v1497.toNat, 0]

def k0_chk30 (v213 : BitVec 32) (v1496 : BitVec 32) : Prop :=
  (∀ (k0_h11 : k0_cond11 v213 = 1#1), ∀ a, (k0_off50 v1496) a + S1x32.size a ≤ S1024x32.size a)
theorem k0_off50_inb : ∀ (v213 : BitVec 32) (v1496 : BitVec 32) (k0_hw30 : k0_chk30 v213 v1496), ∀ (k0_h11 : k0_cond11 v213 = 1#1), ∀ a, (k0_off50 v1496) a + S1x32.size a ≤ S1024x32.size a := fun v213 v1496 k0_hw30 k0_h11 => k0_hw30 k0_h11

def k0_off51 (i : grid0.Coords) : Fin 1 → Nat :=
  let arg0 : BitVec 32 := BitVec.ofNat 32 (i 0).val
  let c64_i32_100 : BitVec 32 := 64#32
  let v233 : BitVec 32 := Scalar.muli arg0 c64_i32_100
  let c10_i32 : BitVec 32 := 10#32
  let v234 : BitVec 32 := Scalar.addi v233 c10_i32
  let v235 : Index := Scalar.indexCast v234
  ![v235.toNat]
@[reducible] def k0_t21_loop (v236 : BitVec 32) (v238 : BitVec 32) : Scf.Loop 32 :=
  let v1485 : BitVec 32 := Scalar.addi v238 v236
  let v1487 : BitVec 32 := Scalar.subi v1485 v238
  let c1_i32_650 : BitVec 32 := 1#32
  let v1489 : BitVec 32 := Scalar.divsi v1487 c1_i32_650
  let v1490 : BitVec 32 := Scalar.muli v1489 c1_i32_650
  let v1491 : BitVec 32 := Scalar.addi v238 v1490
  let c1_i32_651 : BitVec 32 := 1#32
  ⟨v238, v1491, c1_i32_651⟩
def k0_cond12 (v236 : BitVec 32) : BitVec 1 :=
  let c0_i32_103 : BitVec 32 := 0#32
  let v241 : BitVec 1 := Scalar.cmpi .sgt v236 c0_i32_103
  let v242 : BitVec 32 := Scalar.extui v241
  let c0_i32_104 : BitVec 32 := 0#32
  let v243 : BitVec 1 := Scalar.cmpi .ne v242 c0_i32_104
  v243

def k0_off52 (v236 : BitVec 32) (v238 : BitVec 32) (k0_t21 : Fin (k0_t21_loop v236 v238).trips) : Fin 1 → Nat :=
  let c1_i32_651 : BitVec 32 := 1#32
  let arg12 : BitVec 32 := Scf.iv v238 c1_i32_651 k0_t21
  let v1495 : Index := Scalar.indexCast arg12
  ![v1495.toNat]
def k0_off53 (v1496 : BitVec 32) : Fin 2 → Nat :=
  let v1497 : Index := Scalar.indexCast v1496
  let c0_653 : Index := 0#32
  ![v1497.toNat, 0]

def k0_chk32 (v236 : BitVec 32) (v1496 : BitVec 32) : Prop :=
  (∀ (k0_h12 : k0_cond12 v236 = 1#1), ∀ a, (k0_off53 v1496) a + S1x32.size a ≤ S1024x32.size a)
theorem k0_off53_inb : ∀ (v236 : BitVec 32) (v1496 : BitVec 32) (k0_hw32 : k0_chk32 v236 v1496), ∀ (k0_h12 : k0_cond12 v236 = 1#1), ∀ a, (k0_off53 v1496) a + S1x32.size a ≤ S1024x32.size a := fun v236 v1496 k0_hw32 k0_h12 => k0_hw32 k0_h12

@[reducible] def k0_t22_loop (v236 : BitVec 32) (v238 : BitVec 32) : Scf.Loop 32 :=
  let v1485 : BitVec 32 := Scalar.addi v238 v236
  let v1487 : BitVec 32 := Scalar.subi v1485 v238
  let c1_i32_650 : BitVec 32 := 1#32
  let v1489 : BitVec 32 := Scalar.divsi v1487 c1_i32_650
  let v1490 : BitVec 32 := Scalar.muli v1489 c1_i32_650
  let v1491 : BitVec 32 := Scalar.addi v238 v1490
  let v1488 : BitVec 32 := Scalar.addi v238 v1487
  let c1_i32_652 : BitVec 32 := 1#32
  ⟨v1491, v1488, c1_i32_652⟩
def k0_off54 (v236 : BitVec 32) (v238 : BitVec 32) (k0_t22 : Fin (k0_t22_loop v236 v238).trips) : Fin 1 → Nat :=
  let v1485 : BitVec 32 := Scalar.addi v238 v236
  let v1487 : BitVec 32 := Scalar.subi v1485 v238
  let c1_i32_650 : BitVec 32 := 1#32
  let v1489 : BitVec 32 := Scalar.divsi v1487 c1_i32_650
  let v1490 : BitVec 32 := Scalar.muli v1489 c1_i32_650
  let v1491 : BitVec 32 := Scalar.addi v238 v1490
  let c1_i32_652 : BitVec 32 := 1#32
  let arg12 : BitVec 32 := Scf.iv v1491 c1_i32_652 k0_t22
  let v1495 : Index := Scalar.indexCast arg12
  ![v1495.toNat]

def k0_chk31 (v236 : BitVec 32) (v238 : BitVec 32) : Prop :=
  (∀ (k0_h12 : k0_cond12 v236 = 1#1), (k0_t21_loop v236 v238).OK) ∧
  (∀ k0_t21 : Fin (k0_t21_loop v236 v238).trips, ∀ (k0_h12 : k0_cond12 v236 = 1#1), ∀ a, (k0_off52 v236 v238 k0_t21) a + S1.size a ≤ S1024.size a) ∧
  (∀ (k0_h12 : k0_cond12 v236 = 1#1), (k0_t22_loop v236 v238).OK) ∧
  (∀ k0_t22 : Fin (k0_t22_loop v236 v238).trips, ∀ (k0_h12 : k0_cond12 v236 = 1#1), ∀ a, (k0_off54 v236 v238 k0_t22) a + S1.size a ≤ S1024.size a)
theorem k0_t21_ok : ∀ (v236 : BitVec 32) (v238 : BitVec 32) (k0_hw31 : k0_chk31 v236 v238), ∀ (k0_h12 : k0_cond12 v236 = 1#1), (k0_t21_loop v236 v238).OK := fun v236 v238 k0_hw31 k0_h12 => k0_hw31.1 k0_h12
theorem k0_off52_inb : ∀ (v236 : BitVec 32) (v238 : BitVec 32) (k0_hw31 : k0_chk31 v236 v238) (k0_t21 : Fin (k0_t21_loop v236 v238).trips), ∀ (k0_h12 : k0_cond12 v236 = 1#1), ∀ a, (k0_off52 v236 v238 k0_t21) a + S1.size a ≤ S1024.size a := fun v236 v238 k0_hw31 k0_t21 k0_h12 => k0_hw31.2.1 k0_t21 k0_h12
theorem k0_t22_ok : ∀ (v236 : BitVec 32) (v238 : BitVec 32) (k0_hw31 : k0_chk31 v236 v238), ∀ (k0_h12 : k0_cond12 v236 = 1#1), (k0_t22_loop v236 v238).OK := fun v236 v238 k0_hw31 k0_h12 => k0_hw31.2.2.1 k0_h12
theorem k0_off54_inb : ∀ (v236 : BitVec 32) (v238 : BitVec 32) (k0_hw31 : k0_chk31 v236 v238) (k0_t22 : Fin (k0_t22_loop v236 v238).trips), ∀ (k0_h12 : k0_cond12 v236 = 1#1), ∀ a, (k0_off54 v236 v238 k0_t22) a + S1.size a ≤ S1024.size a := fun v236 v238 k0_hw31 k0_t22 k0_h12 => k0_hw31.2.2.2 k0_t22 k0_h12

def k0_off55 (v1496 : BitVec 32) : Fin 2 → Nat :=
  let v1497 : Index := Scalar.indexCast v1496
  let c0_653 : Index := 0#32
  ![v1497.toNat, 0]

def k0_chk33 (v236 : BitVec 32) (v1496 : BitVec 32) : Prop :=
  (∀ (k0_h12 : k0_cond12 v236 = 1#1), ∀ a, (k0_off55 v1496) a + S1x32.size a ≤ S1024x32.size a)
theorem k0_off55_inb : ∀ (v236 : BitVec 32) (v1496 : BitVec 32) (k0_hw33 : k0_chk33 v236 v1496), ∀ (k0_h12 : k0_cond12 v236 = 1#1), ∀ a, (k0_off55 v1496) a + S1x32.size a ≤ S1024x32.size a := fun v236 v1496 k0_hw33 k0_h12 => k0_hw33 k0_h12

def k0_off56 (i : grid0.Coords) : Fin 1 → Nat :=
  let arg0 : BitVec 32 := BitVec.ofNat 32 (i 0).val
  let c64_i32_110 : BitVec 32 := 64#32
  let v256 : BitVec 32 := Scalar.muli arg0 c64_i32_110
  let c11_i32 : BitVec 32 := 11#32
  let v257 : BitVec 32 := Scalar.addi v256 c11_i32
  let v258 : Index := Scalar.indexCast v257
  ![v258.toNat]
@[reducible] def k0_t23_loop (v259 : BitVec 32) (v261 : BitVec 32) : Scf.Loop 32 :=
  let v1485 : BitVec 32 := Scalar.addi v261 v259
  let v1487 : BitVec 32 := Scalar.subi v1485 v261
  let c1_i32_650 : BitVec 32 := 1#32
  let v1489 : BitVec 32 := Scalar.divsi v1487 c1_i32_650
  let v1490 : BitVec 32 := Scalar.muli v1489 c1_i32_650
  let v1491 : BitVec 32 := Scalar.addi v261 v1490
  let c1_i32_651 : BitVec 32 := 1#32
  ⟨v261, v1491, c1_i32_651⟩
def k0_cond13 (v259 : BitVec 32) : BitVec 1 :=
  let c0_i32_113 : BitVec 32 := 0#32
  let v264 : BitVec 1 := Scalar.cmpi .sgt v259 c0_i32_113
  let v265 : BitVec 32 := Scalar.extui v264
  let c0_i32_114 : BitVec 32 := 0#32
  let v266 : BitVec 1 := Scalar.cmpi .ne v265 c0_i32_114
  v266

def k0_off57 (v259 : BitVec 32) (v261 : BitVec 32) (k0_t23 : Fin (k0_t23_loop v259 v261).trips) : Fin 1 → Nat :=
  let c1_i32_651 : BitVec 32 := 1#32
  let arg12 : BitVec 32 := Scf.iv v261 c1_i32_651 k0_t23
  let v1495 : Index := Scalar.indexCast arg12
  ![v1495.toNat]
def k0_off58 (v1496 : BitVec 32) : Fin 2 → Nat :=
  let v1497 : Index := Scalar.indexCast v1496
  let c0_653 : Index := 0#32
  ![v1497.toNat, 0]

def k0_chk35 (v259 : BitVec 32) (v1496 : BitVec 32) : Prop :=
  (∀ (k0_h13 : k0_cond13 v259 = 1#1), ∀ a, (k0_off58 v1496) a + S1x32.size a ≤ S1024x32.size a)
theorem k0_off58_inb : ∀ (v259 : BitVec 32) (v1496 : BitVec 32) (k0_hw35 : k0_chk35 v259 v1496), ∀ (k0_h13 : k0_cond13 v259 = 1#1), ∀ a, (k0_off58 v1496) a + S1x32.size a ≤ S1024x32.size a := fun v259 v1496 k0_hw35 k0_h13 => k0_hw35 k0_h13

@[reducible] def k0_t24_loop (v259 : BitVec 32) (v261 : BitVec 32) : Scf.Loop 32 :=
  let v1485 : BitVec 32 := Scalar.addi v261 v259
  let v1487 : BitVec 32 := Scalar.subi v1485 v261
  let c1_i32_650 : BitVec 32 := 1#32
  let v1489 : BitVec 32 := Scalar.divsi v1487 c1_i32_650
  let v1490 : BitVec 32 := Scalar.muli v1489 c1_i32_650
  let v1491 : BitVec 32 := Scalar.addi v261 v1490
  let v1488 : BitVec 32 := Scalar.addi v261 v1487
  let c1_i32_652 : BitVec 32 := 1#32
  ⟨v1491, v1488, c1_i32_652⟩
def k0_off59 (v259 : BitVec 32) (v261 : BitVec 32) (k0_t24 : Fin (k0_t24_loop v259 v261).trips) : Fin 1 → Nat :=
  let v1485 : BitVec 32 := Scalar.addi v261 v259
  let v1487 : BitVec 32 := Scalar.subi v1485 v261
  let c1_i32_650 : BitVec 32 := 1#32
  let v1489 : BitVec 32 := Scalar.divsi v1487 c1_i32_650
  let v1490 : BitVec 32 := Scalar.muli v1489 c1_i32_650
  let v1491 : BitVec 32 := Scalar.addi v261 v1490
  let c1_i32_652 : BitVec 32 := 1#32
  let arg12 : BitVec 32 := Scf.iv v1491 c1_i32_652 k0_t24
  let v1495 : Index := Scalar.indexCast arg12
  ![v1495.toNat]

def k0_chk34 (v259 : BitVec 32) (v261 : BitVec 32) : Prop :=
  (∀ (k0_h13 : k0_cond13 v259 = 1#1), (k0_t23_loop v259 v261).OK) ∧
  (∀ k0_t23 : Fin (k0_t23_loop v259 v261).trips, ∀ (k0_h13 : k0_cond13 v259 = 1#1), ∀ a, (k0_off57 v259 v261 k0_t23) a + S1.size a ≤ S1024.size a) ∧
  (∀ (k0_h13 : k0_cond13 v259 = 1#1), (k0_t24_loop v259 v261).OK) ∧
  (∀ k0_t24 : Fin (k0_t24_loop v259 v261).trips, ∀ (k0_h13 : k0_cond13 v259 = 1#1), ∀ a, (k0_off59 v259 v261 k0_t24) a + S1.size a ≤ S1024.size a)
theorem k0_t23_ok : ∀ (v259 : BitVec 32) (v261 : BitVec 32) (k0_hw34 : k0_chk34 v259 v261), ∀ (k0_h13 : k0_cond13 v259 = 1#1), (k0_t23_loop v259 v261).OK := fun v259 v261 k0_hw34 k0_h13 => k0_hw34.1 k0_h13
theorem k0_off57_inb : ∀ (v259 : BitVec 32) (v261 : BitVec 32) (k0_hw34 : k0_chk34 v259 v261) (k0_t23 : Fin (k0_t23_loop v259 v261).trips), ∀ (k0_h13 : k0_cond13 v259 = 1#1), ∀ a, (k0_off57 v259 v261 k0_t23) a + S1.size a ≤ S1024.size a := fun v259 v261 k0_hw34 k0_t23 k0_h13 => k0_hw34.2.1 k0_t23 k0_h13
theorem k0_t24_ok : ∀ (v259 : BitVec 32) (v261 : BitVec 32) (k0_hw34 : k0_chk34 v259 v261), ∀ (k0_h13 : k0_cond13 v259 = 1#1), (k0_t24_loop v259 v261).OK := fun v259 v261 k0_hw34 k0_h13 => k0_hw34.2.2.1 k0_h13
theorem k0_off59_inb : ∀ (v259 : BitVec 32) (v261 : BitVec 32) (k0_hw34 : k0_chk34 v259 v261) (k0_t24 : Fin (k0_t24_loop v259 v261).trips), ∀ (k0_h13 : k0_cond13 v259 = 1#1), ∀ a, (k0_off59 v259 v261 k0_t24) a + S1.size a ≤ S1024.size a := fun v259 v261 k0_hw34 k0_t24 k0_h13 => k0_hw34.2.2.2 k0_t24 k0_h13

def k0_off60 (v1496 : BitVec 32) : Fin 2 → Nat :=
  let v1497 : Index := Scalar.indexCast v1496
  let c0_653 : Index := 0#32
  ![v1497.toNat, 0]

def k0_chk36 (v259 : BitVec 32) (v1496 : BitVec 32) : Prop :=
  (∀ (k0_h13 : k0_cond13 v259 = 1#1), ∀ a, (k0_off60 v1496) a + S1x32.size a ≤ S1024x32.size a)
theorem k0_off60_inb : ∀ (v259 : BitVec 32) (v1496 : BitVec 32) (k0_hw36 : k0_chk36 v259 v1496), ∀ (k0_h13 : k0_cond13 v259 = 1#1), ∀ a, (k0_off60 v1496) a + S1x32.size a ≤ S1024x32.size a := fun v259 v1496 k0_hw36 k0_h13 => k0_hw36 k0_h13

def k0_off61 (i : grid0.Coords) : Fin 1 → Nat :=
  let arg0 : BitVec 32 := BitVec.ofNat 32 (i 0).val
  let c64_i32_120 : BitVec 32 := 64#32
  let v279 : BitVec 32 := Scalar.muli arg0 c64_i32_120
  let c12_i32 : BitVec 32 := 12#32
  let v280 : BitVec 32 := Scalar.addi v279 c12_i32
  let v281 : Index := Scalar.indexCast v280
  ![v281.toNat]
@[reducible] def k0_t25_loop (v282 : BitVec 32) (v284 : BitVec 32) : Scf.Loop 32 :=
  let v1485 : BitVec 32 := Scalar.addi v284 v282
  let v1487 : BitVec 32 := Scalar.subi v1485 v284
  let c1_i32_650 : BitVec 32 := 1#32
  let v1489 : BitVec 32 := Scalar.divsi v1487 c1_i32_650
  let v1490 : BitVec 32 := Scalar.muli v1489 c1_i32_650
  let v1491 : BitVec 32 := Scalar.addi v284 v1490
  let c1_i32_651 : BitVec 32 := 1#32
  ⟨v284, v1491, c1_i32_651⟩
def k0_cond14 (v282 : BitVec 32) : BitVec 1 :=
  let c0_i32_123 : BitVec 32 := 0#32
  let v287 : BitVec 1 := Scalar.cmpi .sgt v282 c0_i32_123
  let v288 : BitVec 32 := Scalar.extui v287
  let c0_i32_124 : BitVec 32 := 0#32
  let v289 : BitVec 1 := Scalar.cmpi .ne v288 c0_i32_124
  v289

def k0_off62 (v282 : BitVec 32) (v284 : BitVec 32) (k0_t25 : Fin (k0_t25_loop v282 v284).trips) : Fin 1 → Nat :=
  let c1_i32_651 : BitVec 32 := 1#32
  let arg12 : BitVec 32 := Scf.iv v284 c1_i32_651 k0_t25
  let v1495 : Index := Scalar.indexCast arg12
  ![v1495.toNat]
def k0_off63 (v1496 : BitVec 32) : Fin 2 → Nat :=
  let v1497 : Index := Scalar.indexCast v1496
  let c0_653 : Index := 0#32
  ![v1497.toNat, 0]

def k0_chk38 (v282 : BitVec 32) (v1496 : BitVec 32) : Prop :=
  (∀ (k0_h14 : k0_cond14 v282 = 1#1), ∀ a, (k0_off63 v1496) a + S1x32.size a ≤ S1024x32.size a)
theorem k0_off63_inb : ∀ (v282 : BitVec 32) (v1496 : BitVec 32) (k0_hw38 : k0_chk38 v282 v1496), ∀ (k0_h14 : k0_cond14 v282 = 1#1), ∀ a, (k0_off63 v1496) a + S1x32.size a ≤ S1024x32.size a := fun v282 v1496 k0_hw38 k0_h14 => k0_hw38 k0_h14

@[reducible] def k0_t26_loop (v282 : BitVec 32) (v284 : BitVec 32) : Scf.Loop 32 :=
  let v1485 : BitVec 32 := Scalar.addi v284 v282
  let v1487 : BitVec 32 := Scalar.subi v1485 v284
  let c1_i32_650 : BitVec 32 := 1#32
  let v1489 : BitVec 32 := Scalar.divsi v1487 c1_i32_650
  let v1490 : BitVec 32 := Scalar.muli v1489 c1_i32_650
  let v1491 : BitVec 32 := Scalar.addi v284 v1490
  let v1488 : BitVec 32 := Scalar.addi v284 v1487
  let c1_i32_652 : BitVec 32 := 1#32
  ⟨v1491, v1488, c1_i32_652⟩
def k0_off64 (v282 : BitVec 32) (v284 : BitVec 32) (k0_t26 : Fin (k0_t26_loop v282 v284).trips) : Fin 1 → Nat :=
  let v1485 : BitVec 32 := Scalar.addi v284 v282
  let v1487 : BitVec 32 := Scalar.subi v1485 v284
  let c1_i32_650 : BitVec 32 := 1#32
  let v1489 : BitVec 32 := Scalar.divsi v1487 c1_i32_650
  let v1490 : BitVec 32 := Scalar.muli v1489 c1_i32_650
  let v1491 : BitVec 32 := Scalar.addi v284 v1490
  let c1_i32_652 : BitVec 32 := 1#32
  let arg12 : BitVec 32 := Scf.iv v1491 c1_i32_652 k0_t26
  let v1495 : Index := Scalar.indexCast arg12
  ![v1495.toNat]

def k0_chk37 (v282 : BitVec 32) (v284 : BitVec 32) : Prop :=
  (∀ (k0_h14 : k0_cond14 v282 = 1#1), (k0_t25_loop v282 v284).OK) ∧
  (∀ k0_t25 : Fin (k0_t25_loop v282 v284).trips, ∀ (k0_h14 : k0_cond14 v282 = 1#1), ∀ a, (k0_off62 v282 v284 k0_t25) a + S1.size a ≤ S1024.size a) ∧
  (∀ (k0_h14 : k0_cond14 v282 = 1#1), (k0_t26_loop v282 v284).OK) ∧
  (∀ k0_t26 : Fin (k0_t26_loop v282 v284).trips, ∀ (k0_h14 : k0_cond14 v282 = 1#1), ∀ a, (k0_off64 v282 v284 k0_t26) a + S1.size a ≤ S1024.size a)
theorem k0_t25_ok : ∀ (v282 : BitVec 32) (v284 : BitVec 32) (k0_hw37 : k0_chk37 v282 v284), ∀ (k0_h14 : k0_cond14 v282 = 1#1), (k0_t25_loop v282 v284).OK := fun v282 v284 k0_hw37 k0_h14 => k0_hw37.1 k0_h14
theorem k0_off62_inb : ∀ (v282 : BitVec 32) (v284 : BitVec 32) (k0_hw37 : k0_chk37 v282 v284) (k0_t25 : Fin (k0_t25_loop v282 v284).trips), ∀ (k0_h14 : k0_cond14 v282 = 1#1), ∀ a, (k0_off62 v282 v284 k0_t25) a + S1.size a ≤ S1024.size a := fun v282 v284 k0_hw37 k0_t25 k0_h14 => k0_hw37.2.1 k0_t25 k0_h14
theorem k0_t26_ok : ∀ (v282 : BitVec 32) (v284 : BitVec 32) (k0_hw37 : k0_chk37 v282 v284), ∀ (k0_h14 : k0_cond14 v282 = 1#1), (k0_t26_loop v282 v284).OK := fun v282 v284 k0_hw37 k0_h14 => k0_hw37.2.2.1 k0_h14
theorem k0_off64_inb : ∀ (v282 : BitVec 32) (v284 : BitVec 32) (k0_hw37 : k0_chk37 v282 v284) (k0_t26 : Fin (k0_t26_loop v282 v284).trips), ∀ (k0_h14 : k0_cond14 v282 = 1#1), ∀ a, (k0_off64 v282 v284 k0_t26) a + S1.size a ≤ S1024.size a := fun v282 v284 k0_hw37 k0_t26 k0_h14 => k0_hw37.2.2.2 k0_t26 k0_h14

def k0_off65 (v1496 : BitVec 32) : Fin 2 → Nat :=
  let v1497 : Index := Scalar.indexCast v1496
  let c0_653 : Index := 0#32
  ![v1497.toNat, 0]

def k0_chk39 (v282 : BitVec 32) (v1496 : BitVec 32) : Prop :=
  (∀ (k0_h14 : k0_cond14 v282 = 1#1), ∀ a, (k0_off65 v1496) a + S1x32.size a ≤ S1024x32.size a)
theorem k0_off65_inb : ∀ (v282 : BitVec 32) (v1496 : BitVec 32) (k0_hw39 : k0_chk39 v282 v1496), ∀ (k0_h14 : k0_cond14 v282 = 1#1), ∀ a, (k0_off65 v1496) a + S1x32.size a ≤ S1024x32.size a := fun v282 v1496 k0_hw39 k0_h14 => k0_hw39 k0_h14

def k0_off66 (i : grid0.Coords) : Fin 1 → Nat :=
  let arg0 : BitVec 32 := BitVec.ofNat 32 (i 0).val
  let c64_i32_130 : BitVec 32 := 64#32
  let v302 : BitVec 32 := Scalar.muli arg0 c64_i32_130
  let c13_i32 : BitVec 32 := 13#32
  let v303 : BitVec 32 := Scalar.addi v302 c13_i32
  let v304 : Index := Scalar.indexCast v303
  ![v304.toNat]
@[reducible] def k0_t27_loop (v305 : BitVec 32) (v307 : BitVec 32) : Scf.Loop 32 :=
  let v1485 : BitVec 32 := Scalar.addi v307 v305
  let v1487 : BitVec 32 := Scalar.subi v1485 v307
  let c1_i32_650 : BitVec 32 := 1#32
  let v1489 : BitVec 32 := Scalar.divsi v1487 c1_i32_650
  let v1490 : BitVec 32 := Scalar.muli v1489 c1_i32_650
  let v1491 : BitVec 32 := Scalar.addi v307 v1490
  let c1_i32_651 : BitVec 32 := 1#32
  ⟨v307, v1491, c1_i32_651⟩
def k0_cond15 (v305 : BitVec 32) : BitVec 1 :=
  let c0_i32_133 : BitVec 32 := 0#32
  let v310 : BitVec 1 := Scalar.cmpi .sgt v305 c0_i32_133
  let v311 : BitVec 32 := Scalar.extui v310
  let c0_i32_134 : BitVec 32 := 0#32
  let v312 : BitVec 1 := Scalar.cmpi .ne v311 c0_i32_134
  v312

def k0_off67 (v305 : BitVec 32) (v307 : BitVec 32) (k0_t27 : Fin (k0_t27_loop v305 v307).trips) : Fin 1 → Nat :=
  let c1_i32_651 : BitVec 32 := 1#32
  let arg12 : BitVec 32 := Scf.iv v307 c1_i32_651 k0_t27
  let v1495 : Index := Scalar.indexCast arg12
  ![v1495.toNat]
def k0_off68 (v1496 : BitVec 32) : Fin 2 → Nat :=
  let v1497 : Index := Scalar.indexCast v1496
  let c0_653 : Index := 0#32
  ![v1497.toNat, 0]

def k0_chk41 (v305 : BitVec 32) (v1496 : BitVec 32) : Prop :=
  (∀ (k0_h15 : k0_cond15 v305 = 1#1), ∀ a, (k0_off68 v1496) a + S1x32.size a ≤ S1024x32.size a)
theorem k0_off68_inb : ∀ (v305 : BitVec 32) (v1496 : BitVec 32) (k0_hw41 : k0_chk41 v305 v1496), ∀ (k0_h15 : k0_cond15 v305 = 1#1), ∀ a, (k0_off68 v1496) a + S1x32.size a ≤ S1024x32.size a := fun v305 v1496 k0_hw41 k0_h15 => k0_hw41 k0_h15

@[reducible] def k0_t28_loop (v305 : BitVec 32) (v307 : BitVec 32) : Scf.Loop 32 :=
  let v1485 : BitVec 32 := Scalar.addi v307 v305
  let v1487 : BitVec 32 := Scalar.subi v1485 v307
  let c1_i32_650 : BitVec 32 := 1#32
  let v1489 : BitVec 32 := Scalar.divsi v1487 c1_i32_650
  let v1490 : BitVec 32 := Scalar.muli v1489 c1_i32_650
  let v1491 : BitVec 32 := Scalar.addi v307 v1490
  let v1488 : BitVec 32 := Scalar.addi v307 v1487
  let c1_i32_652 : BitVec 32 := 1#32
  ⟨v1491, v1488, c1_i32_652⟩
def k0_off69 (v305 : BitVec 32) (v307 : BitVec 32) (k0_t28 : Fin (k0_t28_loop v305 v307).trips) : Fin 1 → Nat :=
  let v1485 : BitVec 32 := Scalar.addi v307 v305
  let v1487 : BitVec 32 := Scalar.subi v1485 v307
  let c1_i32_650 : BitVec 32 := 1#32
  let v1489 : BitVec 32 := Scalar.divsi v1487 c1_i32_650
  let v1490 : BitVec 32 := Scalar.muli v1489 c1_i32_650
  let v1491 : BitVec 32 := Scalar.addi v307 v1490
  let c1_i32_652 : BitVec 32 := 1#32
  let arg12 : BitVec 32 := Scf.iv v1491 c1_i32_652 k0_t28
  let v1495 : Index := Scalar.indexCast arg12
  ![v1495.toNat]

def k0_chk40 (v305 : BitVec 32) (v307 : BitVec 32) : Prop :=
  (∀ (k0_h15 : k0_cond15 v305 = 1#1), (k0_t27_loop v305 v307).OK) ∧
  (∀ k0_t27 : Fin (k0_t27_loop v305 v307).trips, ∀ (k0_h15 : k0_cond15 v305 = 1#1), ∀ a, (k0_off67 v305 v307 k0_t27) a + S1.size a ≤ S1024.size a) ∧
  (∀ (k0_h15 : k0_cond15 v305 = 1#1), (k0_t28_loop v305 v307).OK) ∧
  (∀ k0_t28 : Fin (k0_t28_loop v305 v307).trips, ∀ (k0_h15 : k0_cond15 v305 = 1#1), ∀ a, (k0_off69 v305 v307 k0_t28) a + S1.size a ≤ S1024.size a)
theorem k0_t27_ok : ∀ (v305 : BitVec 32) (v307 : BitVec 32) (k0_hw40 : k0_chk40 v305 v307), ∀ (k0_h15 : k0_cond15 v305 = 1#1), (k0_t27_loop v305 v307).OK := fun v305 v307 k0_hw40 k0_h15 => k0_hw40.1 k0_h15
theorem k0_off67_inb : ∀ (v305 : BitVec 32) (v307 : BitVec 32) (k0_hw40 : k0_chk40 v305 v307) (k0_t27 : Fin (k0_t27_loop v305 v307).trips), ∀ (k0_h15 : k0_cond15 v305 = 1#1), ∀ a, (k0_off67 v305 v307 k0_t27) a + S1.size a ≤ S1024.size a := fun v305 v307 k0_hw40 k0_t27 k0_h15 => k0_hw40.2.1 k0_t27 k0_h15
theorem k0_t28_ok : ∀ (v305 : BitVec 32) (v307 : BitVec 32) (k0_hw40 : k0_chk40 v305 v307), ∀ (k0_h15 : k0_cond15 v305 = 1#1), (k0_t28_loop v305 v307).OK := fun v305 v307 k0_hw40 k0_h15 => k0_hw40.2.2.1 k0_h15
theorem k0_off69_inb : ∀ (v305 : BitVec 32) (v307 : BitVec 32) (k0_hw40 : k0_chk40 v305 v307) (k0_t28 : Fin (k0_t28_loop v305 v307).trips), ∀ (k0_h15 : k0_cond15 v305 = 1#1), ∀ a, (k0_off69 v305 v307 k0_t28) a + S1.size a ≤ S1024.size a := fun v305 v307 k0_hw40 k0_t28 k0_h15 => k0_hw40.2.2.2 k0_t28 k0_h15

def k0_off70 (v1496 : BitVec 32) : Fin 2 → Nat :=
  let v1497 : Index := Scalar.indexCast v1496
  let c0_653 : Index := 0#32
  ![v1497.toNat, 0]

def k0_chk42 (v305 : BitVec 32) (v1496 : BitVec 32) : Prop :=
  (∀ (k0_h15 : k0_cond15 v305 = 1#1), ∀ a, (k0_off70 v1496) a + S1x32.size a ≤ S1024x32.size a)
theorem k0_off70_inb : ∀ (v305 : BitVec 32) (v1496 : BitVec 32) (k0_hw42 : k0_chk42 v305 v1496), ∀ (k0_h15 : k0_cond15 v305 = 1#1), ∀ a, (k0_off70 v1496) a + S1x32.size a ≤ S1024x32.size a := fun v305 v1496 k0_hw42 k0_h15 => k0_hw42 k0_h15

def k0_off71 (i : grid0.Coords) : Fin 1 → Nat :=
  let arg0 : BitVec 32 := BitVec.ofNat 32 (i 0).val
  let c64_i32_140 : BitVec 32 := 64#32
  let v325 : BitVec 32 := Scalar.muli arg0 c64_i32_140
  let c14_i32 : BitVec 32 := 14#32
  let v326 : BitVec 32 := Scalar.addi v325 c14_i32
  let v327 : Index := Scalar.indexCast v326
  ![v327.toNat]
@[reducible] def k0_t29_loop (v328 : BitVec 32) (v330 : BitVec 32) : Scf.Loop 32 :=
  let v1485 : BitVec 32 := Scalar.addi v330 v328
  let v1487 : BitVec 32 := Scalar.subi v1485 v330
  let c1_i32_650 : BitVec 32 := 1#32
  let v1489 : BitVec 32 := Scalar.divsi v1487 c1_i32_650
  let v1490 : BitVec 32 := Scalar.muli v1489 c1_i32_650
  let v1491 : BitVec 32 := Scalar.addi v330 v1490
  let c1_i32_651 : BitVec 32 := 1#32
  ⟨v330, v1491, c1_i32_651⟩
def k0_cond16 (v328 : BitVec 32) : BitVec 1 :=
  let c0_i32_143 : BitVec 32 := 0#32
  let v333 : BitVec 1 := Scalar.cmpi .sgt v328 c0_i32_143
  let v334 : BitVec 32 := Scalar.extui v333
  let c0_i32_144 : BitVec 32 := 0#32
  let v335 : BitVec 1 := Scalar.cmpi .ne v334 c0_i32_144
  v335

def k0_off72 (v328 : BitVec 32) (v330 : BitVec 32) (k0_t29 : Fin (k0_t29_loop v328 v330).trips) : Fin 1 → Nat :=
  let c1_i32_651 : BitVec 32 := 1#32
  let arg12 : BitVec 32 := Scf.iv v330 c1_i32_651 k0_t29
  let v1495 : Index := Scalar.indexCast arg12
  ![v1495.toNat]
def k0_off73 (v1496 : BitVec 32) : Fin 2 → Nat :=
  let v1497 : Index := Scalar.indexCast v1496
  let c0_653 : Index := 0#32
  ![v1497.toNat, 0]

def k0_chk44 (v328 : BitVec 32) (v1496 : BitVec 32) : Prop :=
  (∀ (k0_h16 : k0_cond16 v328 = 1#1), ∀ a, (k0_off73 v1496) a + S1x32.size a ≤ S1024x32.size a)
theorem k0_off73_inb : ∀ (v328 : BitVec 32) (v1496 : BitVec 32) (k0_hw44 : k0_chk44 v328 v1496), ∀ (k0_h16 : k0_cond16 v328 = 1#1), ∀ a, (k0_off73 v1496) a + S1x32.size a ≤ S1024x32.size a := fun v328 v1496 k0_hw44 k0_h16 => k0_hw44 k0_h16

@[reducible] def k0_t30_loop (v328 : BitVec 32) (v330 : BitVec 32) : Scf.Loop 32 :=
  let v1485 : BitVec 32 := Scalar.addi v330 v328
  let v1487 : BitVec 32 := Scalar.subi v1485 v330
  let c1_i32_650 : BitVec 32 := 1#32
  let v1489 : BitVec 32 := Scalar.divsi v1487 c1_i32_650
  let v1490 : BitVec 32 := Scalar.muli v1489 c1_i32_650
  let v1491 : BitVec 32 := Scalar.addi v330 v1490
  let v1488 : BitVec 32 := Scalar.addi v330 v1487
  let c1_i32_652 : BitVec 32 := 1#32
  ⟨v1491, v1488, c1_i32_652⟩
def k0_off74 (v328 : BitVec 32) (v330 : BitVec 32) (k0_t30 : Fin (k0_t30_loop v328 v330).trips) : Fin 1 → Nat :=
  let v1485 : BitVec 32 := Scalar.addi v330 v328
  let v1487 : BitVec 32 := Scalar.subi v1485 v330
  let c1_i32_650 : BitVec 32 := 1#32
  let v1489 : BitVec 32 := Scalar.divsi v1487 c1_i32_650
  let v1490 : BitVec 32 := Scalar.muli v1489 c1_i32_650
  let v1491 : BitVec 32 := Scalar.addi v330 v1490
  let c1_i32_652 : BitVec 32 := 1#32
  let arg12 : BitVec 32 := Scf.iv v1491 c1_i32_652 k0_t30
  let v1495 : Index := Scalar.indexCast arg12
  ![v1495.toNat]

def k0_chk43 (v328 : BitVec 32) (v330 : BitVec 32) : Prop :=
  (∀ (k0_h16 : k0_cond16 v328 = 1#1), (k0_t29_loop v328 v330).OK) ∧
  (∀ k0_t29 : Fin (k0_t29_loop v328 v330).trips, ∀ (k0_h16 : k0_cond16 v328 = 1#1), ∀ a, (k0_off72 v328 v330 k0_t29) a + S1.size a ≤ S1024.size a) ∧
  (∀ (k0_h16 : k0_cond16 v328 = 1#1), (k0_t30_loop v328 v330).OK) ∧
  (∀ k0_t30 : Fin (k0_t30_loop v328 v330).trips, ∀ (k0_h16 : k0_cond16 v328 = 1#1), ∀ a, (k0_off74 v328 v330 k0_t30) a + S1.size a ≤ S1024.size a)
theorem k0_t29_ok : ∀ (v328 : BitVec 32) (v330 : BitVec 32) (k0_hw43 : k0_chk43 v328 v330), ∀ (k0_h16 : k0_cond16 v328 = 1#1), (k0_t29_loop v328 v330).OK := fun v328 v330 k0_hw43 k0_h16 => k0_hw43.1 k0_h16
theorem k0_off72_inb : ∀ (v328 : BitVec 32) (v330 : BitVec 32) (k0_hw43 : k0_chk43 v328 v330) (k0_t29 : Fin (k0_t29_loop v328 v330).trips), ∀ (k0_h16 : k0_cond16 v328 = 1#1), ∀ a, (k0_off72 v328 v330 k0_t29) a + S1.size a ≤ S1024.size a := fun v328 v330 k0_hw43 k0_t29 k0_h16 => k0_hw43.2.1 k0_t29 k0_h16
theorem k0_t30_ok : ∀ (v328 : BitVec 32) (v330 : BitVec 32) (k0_hw43 : k0_chk43 v328 v330), ∀ (k0_h16 : k0_cond16 v328 = 1#1), (k0_t30_loop v328 v330).OK := fun v328 v330 k0_hw43 k0_h16 => k0_hw43.2.2.1 k0_h16
theorem k0_off74_inb : ∀ (v328 : BitVec 32) (v330 : BitVec 32) (k0_hw43 : k0_chk43 v328 v330) (k0_t30 : Fin (k0_t30_loop v328 v330).trips), ∀ (k0_h16 : k0_cond16 v328 = 1#1), ∀ a, (k0_off74 v328 v330 k0_t30) a + S1.size a ≤ S1024.size a := fun v328 v330 k0_hw43 k0_t30 k0_h16 => k0_hw43.2.2.2 k0_t30 k0_h16

def k0_off75 (v1496 : BitVec 32) : Fin 2 → Nat :=
  let v1497 : Index := Scalar.indexCast v1496
  let c0_653 : Index := 0#32
  ![v1497.toNat, 0]

def k0_chk45 (v328 : BitVec 32) (v1496 : BitVec 32) : Prop :=
  (∀ (k0_h16 : k0_cond16 v328 = 1#1), ∀ a, (k0_off75 v1496) a + S1x32.size a ≤ S1024x32.size a)
theorem k0_off75_inb : ∀ (v328 : BitVec 32) (v1496 : BitVec 32) (k0_hw45 : k0_chk45 v328 v1496), ∀ (k0_h16 : k0_cond16 v328 = 1#1), ∀ a, (k0_off75 v1496) a + S1x32.size a ≤ S1024x32.size a := fun v328 v1496 k0_hw45 k0_h16 => k0_hw45 k0_h16

def k0_off76 (i : grid0.Coords) : Fin 1 → Nat :=
  let arg0 : BitVec 32 := BitVec.ofNat 32 (i 0).val
  let c64_i32_150 : BitVec 32 := 64#32
  let v348 : BitVec 32 := Scalar.muli arg0 c64_i32_150
  let c15_i32 : BitVec 32 := 15#32
  let v349 : BitVec 32 := Scalar.addi v348 c15_i32
  let v350 : Index := Scalar.indexCast v349
  ![v350.toNat]
@[reducible] def k0_t31_loop (v351 : BitVec 32) (v353 : BitVec 32) : Scf.Loop 32 :=
  let v1485 : BitVec 32 := Scalar.addi v353 v351
  let v1487 : BitVec 32 := Scalar.subi v1485 v353
  let c1_i32_650 : BitVec 32 := 1#32
  let v1489 : BitVec 32 := Scalar.divsi v1487 c1_i32_650
  let v1490 : BitVec 32 := Scalar.muli v1489 c1_i32_650
  let v1491 : BitVec 32 := Scalar.addi v353 v1490
  let c1_i32_651 : BitVec 32 := 1#32
  ⟨v353, v1491, c1_i32_651⟩
def k0_cond17 (v351 : BitVec 32) : BitVec 1 :=
  let c0_i32_153 : BitVec 32 := 0#32
  let v356 : BitVec 1 := Scalar.cmpi .sgt v351 c0_i32_153
  let v357 : BitVec 32 := Scalar.extui v356
  let c0_i32_154 : BitVec 32 := 0#32
  let v358 : BitVec 1 := Scalar.cmpi .ne v357 c0_i32_154
  v358

def k0_off77 (v351 : BitVec 32) (v353 : BitVec 32) (k0_t31 : Fin (k0_t31_loop v351 v353).trips) : Fin 1 → Nat :=
  let c1_i32_651 : BitVec 32 := 1#32
  let arg12 : BitVec 32 := Scf.iv v353 c1_i32_651 k0_t31
  let v1495 : Index := Scalar.indexCast arg12
  ![v1495.toNat]
def k0_off78 (v1496 : BitVec 32) : Fin 2 → Nat :=
  let v1497 : Index := Scalar.indexCast v1496
  let c0_653 : Index := 0#32
  ![v1497.toNat, 0]

def k0_chk47 (v351 : BitVec 32) (v1496 : BitVec 32) : Prop :=
  (∀ (k0_h17 : k0_cond17 v351 = 1#1), ∀ a, (k0_off78 v1496) a + S1x32.size a ≤ S1024x32.size a)
theorem k0_off78_inb : ∀ (v351 : BitVec 32) (v1496 : BitVec 32) (k0_hw47 : k0_chk47 v351 v1496), ∀ (k0_h17 : k0_cond17 v351 = 1#1), ∀ a, (k0_off78 v1496) a + S1x32.size a ≤ S1024x32.size a := fun v351 v1496 k0_hw47 k0_h17 => k0_hw47 k0_h17

@[reducible] def k0_t32_loop (v351 : BitVec 32) (v353 : BitVec 32) : Scf.Loop 32 :=
  let v1485 : BitVec 32 := Scalar.addi v353 v351
  let v1487 : BitVec 32 := Scalar.subi v1485 v353
  let c1_i32_650 : BitVec 32 := 1#32
  let v1489 : BitVec 32 := Scalar.divsi v1487 c1_i32_650
  let v1490 : BitVec 32 := Scalar.muli v1489 c1_i32_650
  let v1491 : BitVec 32 := Scalar.addi v353 v1490
  let v1488 : BitVec 32 := Scalar.addi v353 v1487
  let c1_i32_652 : BitVec 32 := 1#32
  ⟨v1491, v1488, c1_i32_652⟩
def k0_off79 (v351 : BitVec 32) (v353 : BitVec 32) (k0_t32 : Fin (k0_t32_loop v351 v353).trips) : Fin 1 → Nat :=
  let v1485 : BitVec 32 := Scalar.addi v353 v351
  let v1487 : BitVec 32 := Scalar.subi v1485 v353
  let c1_i32_650 : BitVec 32 := 1#32
  let v1489 : BitVec 32 := Scalar.divsi v1487 c1_i32_650
  let v1490 : BitVec 32 := Scalar.muli v1489 c1_i32_650
  let v1491 : BitVec 32 := Scalar.addi v353 v1490
  let c1_i32_652 : BitVec 32 := 1#32
  let arg12 : BitVec 32 := Scf.iv v1491 c1_i32_652 k0_t32
  let v1495 : Index := Scalar.indexCast arg12
  ![v1495.toNat]

def k0_chk46 (v351 : BitVec 32) (v353 : BitVec 32) : Prop :=
  (∀ (k0_h17 : k0_cond17 v351 = 1#1), (k0_t31_loop v351 v353).OK) ∧
  (∀ k0_t31 : Fin (k0_t31_loop v351 v353).trips, ∀ (k0_h17 : k0_cond17 v351 = 1#1), ∀ a, (k0_off77 v351 v353 k0_t31) a + S1.size a ≤ S1024.size a) ∧
  (∀ (k0_h17 : k0_cond17 v351 = 1#1), (k0_t32_loop v351 v353).OK) ∧
  (∀ k0_t32 : Fin (k0_t32_loop v351 v353).trips, ∀ (k0_h17 : k0_cond17 v351 = 1#1), ∀ a, (k0_off79 v351 v353 k0_t32) a + S1.size a ≤ S1024.size a)
theorem k0_t31_ok : ∀ (v351 : BitVec 32) (v353 : BitVec 32) (k0_hw46 : k0_chk46 v351 v353), ∀ (k0_h17 : k0_cond17 v351 = 1#1), (k0_t31_loop v351 v353).OK := fun v351 v353 k0_hw46 k0_h17 => k0_hw46.1 k0_h17
theorem k0_off77_inb : ∀ (v351 : BitVec 32) (v353 : BitVec 32) (k0_hw46 : k0_chk46 v351 v353) (k0_t31 : Fin (k0_t31_loop v351 v353).trips), ∀ (k0_h17 : k0_cond17 v351 = 1#1), ∀ a, (k0_off77 v351 v353 k0_t31) a + S1.size a ≤ S1024.size a := fun v351 v353 k0_hw46 k0_t31 k0_h17 => k0_hw46.2.1 k0_t31 k0_h17
theorem k0_t32_ok : ∀ (v351 : BitVec 32) (v353 : BitVec 32) (k0_hw46 : k0_chk46 v351 v353), ∀ (k0_h17 : k0_cond17 v351 = 1#1), (k0_t32_loop v351 v353).OK := fun v351 v353 k0_hw46 k0_h17 => k0_hw46.2.2.1 k0_h17
theorem k0_off79_inb : ∀ (v351 : BitVec 32) (v353 : BitVec 32) (k0_hw46 : k0_chk46 v351 v353) (k0_t32 : Fin (k0_t32_loop v351 v353).trips), ∀ (k0_h17 : k0_cond17 v351 = 1#1), ∀ a, (k0_off79 v351 v353 k0_t32) a + S1.size a ≤ S1024.size a := fun v351 v353 k0_hw46 k0_t32 k0_h17 => k0_hw46.2.2.2 k0_t32 k0_h17

def k0_off80 (v1496 : BitVec 32) : Fin 2 → Nat :=
  let v1497 : Index := Scalar.indexCast v1496
  let c0_653 : Index := 0#32
  ![v1497.toNat, 0]

def k0_chk48 (v351 : BitVec 32) (v1496 : BitVec 32) : Prop :=
  (∀ (k0_h17 : k0_cond17 v351 = 1#1), ∀ a, (k0_off80 v1496) a + S1x32.size a ≤ S1024x32.size a)
theorem k0_off80_inb : ∀ (v351 : BitVec 32) (v1496 : BitVec 32) (k0_hw48 : k0_chk48 v351 v1496), ∀ (k0_h17 : k0_cond17 v351 = 1#1), ∀ a, (k0_off80 v1496) a + S1x32.size a ≤ S1024x32.size a := fun v351 v1496 k0_hw48 k0_h17 => k0_hw48 k0_h17

def k0_off81 (i : grid0.Coords) : Fin 1 → Nat :=
  let arg0 : BitVec 32 := BitVec.ofNat 32 (i 0).val
  let c64_i32_160 : BitVec 32 := 64#32
  let v371 : BitVec 32 := Scalar.muli arg0 c64_i32_160
  let c16_i32 : BitVec 32 := 16#32
  let v372 : BitVec 32 := Scalar.addi v371 c16_i32
  let v373 : Index := Scalar.indexCast v372
  ![v373.toNat]
@[reducible] def k0_t33_loop (v374 : BitVec 32) (v376 : BitVec 32) : Scf.Loop 32 :=
  let v1485 : BitVec 32 := Scalar.addi v376 v374
  let v1487 : BitVec 32 := Scalar.subi v1485 v376
  let c1_i32_650 : BitVec 32 := 1#32
  let v1489 : BitVec 32 := Scalar.divsi v1487 c1_i32_650
  let v1490 : BitVec 32 := Scalar.muli v1489 c1_i32_650
  let v1491 : BitVec 32 := Scalar.addi v376 v1490
  let c1_i32_651 : BitVec 32 := 1#32
  ⟨v376, v1491, c1_i32_651⟩
def k0_cond18 (v374 : BitVec 32) : BitVec 1 :=
  let c0_i32_163 : BitVec 32 := 0#32
  let v379 : BitVec 1 := Scalar.cmpi .sgt v374 c0_i32_163
  let v380 : BitVec 32 := Scalar.extui v379
  let c0_i32_164 : BitVec 32 := 0#32
  let v381 : BitVec 1 := Scalar.cmpi .ne v380 c0_i32_164
  v381

def k0_off82 (v374 : BitVec 32) (v376 : BitVec 32) (k0_t33 : Fin (k0_t33_loop v374 v376).trips) : Fin 1 → Nat :=
  let c1_i32_651 : BitVec 32 := 1#32
  let arg12 : BitVec 32 := Scf.iv v376 c1_i32_651 k0_t33
  let v1495 : Index := Scalar.indexCast arg12
  ![v1495.toNat]
def k0_off83 (v1496 : BitVec 32) : Fin 2 → Nat :=
  let v1497 : Index := Scalar.indexCast v1496
  let c0_653 : Index := 0#32
  ![v1497.toNat, 0]

def k0_chk50 (v374 : BitVec 32) (v1496 : BitVec 32) : Prop :=
  (∀ (k0_h18 : k0_cond18 v374 = 1#1), ∀ a, (k0_off83 v1496) a + S1x32.size a ≤ S1024x32.size a)
theorem k0_off83_inb : ∀ (v374 : BitVec 32) (v1496 : BitVec 32) (k0_hw50 : k0_chk50 v374 v1496), ∀ (k0_h18 : k0_cond18 v374 = 1#1), ∀ a, (k0_off83 v1496) a + S1x32.size a ≤ S1024x32.size a := fun v374 v1496 k0_hw50 k0_h18 => k0_hw50 k0_h18

@[reducible] def k0_t34_loop (v374 : BitVec 32) (v376 : BitVec 32) : Scf.Loop 32 :=
  let v1485 : BitVec 32 := Scalar.addi v376 v374
  let v1487 : BitVec 32 := Scalar.subi v1485 v376
  let c1_i32_650 : BitVec 32 := 1#32
  let v1489 : BitVec 32 := Scalar.divsi v1487 c1_i32_650
  let v1490 : BitVec 32 := Scalar.muli v1489 c1_i32_650
  let v1491 : BitVec 32 := Scalar.addi v376 v1490
  let v1488 : BitVec 32 := Scalar.addi v376 v1487
  let c1_i32_652 : BitVec 32 := 1#32
  ⟨v1491, v1488, c1_i32_652⟩
def k0_off84 (v374 : BitVec 32) (v376 : BitVec 32) (k0_t34 : Fin (k0_t34_loop v374 v376).trips) : Fin 1 → Nat :=
  let v1485 : BitVec 32 := Scalar.addi v376 v374
  let v1487 : BitVec 32 := Scalar.subi v1485 v376
  let c1_i32_650 : BitVec 32 := 1#32
  let v1489 : BitVec 32 := Scalar.divsi v1487 c1_i32_650
  let v1490 : BitVec 32 := Scalar.muli v1489 c1_i32_650
  let v1491 : BitVec 32 := Scalar.addi v376 v1490
  let c1_i32_652 : BitVec 32 := 1#32
  let arg12 : BitVec 32 := Scf.iv v1491 c1_i32_652 k0_t34
  let v1495 : Index := Scalar.indexCast arg12
  ![v1495.toNat]

def k0_chk49 (v374 : BitVec 32) (v376 : BitVec 32) : Prop :=
  (∀ (k0_h18 : k0_cond18 v374 = 1#1), (k0_t33_loop v374 v376).OK) ∧
  (∀ k0_t33 : Fin (k0_t33_loop v374 v376).trips, ∀ (k0_h18 : k0_cond18 v374 = 1#1), ∀ a, (k0_off82 v374 v376 k0_t33) a + S1.size a ≤ S1024.size a) ∧
  (∀ (k0_h18 : k0_cond18 v374 = 1#1), (k0_t34_loop v374 v376).OK) ∧
  (∀ k0_t34 : Fin (k0_t34_loop v374 v376).trips, ∀ (k0_h18 : k0_cond18 v374 = 1#1), ∀ a, (k0_off84 v374 v376 k0_t34) a + S1.size a ≤ S1024.size a)
theorem k0_t33_ok : ∀ (v374 : BitVec 32) (v376 : BitVec 32) (k0_hw49 : k0_chk49 v374 v376), ∀ (k0_h18 : k0_cond18 v374 = 1#1), (k0_t33_loop v374 v376).OK := fun v374 v376 k0_hw49 k0_h18 => k0_hw49.1 k0_h18
theorem k0_off82_inb : ∀ (v374 : BitVec 32) (v376 : BitVec 32) (k0_hw49 : k0_chk49 v374 v376) (k0_t33 : Fin (k0_t33_loop v374 v376).trips), ∀ (k0_h18 : k0_cond18 v374 = 1#1), ∀ a, (k0_off82 v374 v376 k0_t33) a + S1.size a ≤ S1024.size a := fun v374 v376 k0_hw49 k0_t33 k0_h18 => k0_hw49.2.1 k0_t33 k0_h18
theorem k0_t34_ok : ∀ (v374 : BitVec 32) (v376 : BitVec 32) (k0_hw49 : k0_chk49 v374 v376), ∀ (k0_h18 : k0_cond18 v374 = 1#1), (k0_t34_loop v374 v376).OK := fun v374 v376 k0_hw49 k0_h18 => k0_hw49.2.2.1 k0_h18
theorem k0_off84_inb : ∀ (v374 : BitVec 32) (v376 : BitVec 32) (k0_hw49 : k0_chk49 v374 v376) (k0_t34 : Fin (k0_t34_loop v374 v376).trips), ∀ (k0_h18 : k0_cond18 v374 = 1#1), ∀ a, (k0_off84 v374 v376 k0_t34) a + S1.size a ≤ S1024.size a := fun v374 v376 k0_hw49 k0_t34 k0_h18 => k0_hw49.2.2.2 k0_t34 k0_h18

def k0_off85 (v1496 : BitVec 32) : Fin 2 → Nat :=
  let v1497 : Index := Scalar.indexCast v1496
  let c0_653 : Index := 0#32
  ![v1497.toNat, 0]

def k0_chk51 (v374 : BitVec 32) (v1496 : BitVec 32) : Prop :=
  (∀ (k0_h18 : k0_cond18 v374 = 1#1), ∀ a, (k0_off85 v1496) a + S1x32.size a ≤ S1024x32.size a)
theorem k0_off85_inb : ∀ (v374 : BitVec 32) (v1496 : BitVec 32) (k0_hw51 : k0_chk51 v374 v1496), ∀ (k0_h18 : k0_cond18 v374 = 1#1), ∀ a, (k0_off85 v1496) a + S1x32.size a ≤ S1024x32.size a := fun v374 v1496 k0_hw51 k0_h18 => k0_hw51 k0_h18

def k0_off86 (i : grid0.Coords) : Fin 1 → Nat :=
  let arg0 : BitVec 32 := BitVec.ofNat 32 (i 0).val
  let c64_i32_170 : BitVec 32 := 64#32
  let v394 : BitVec 32 := Scalar.muli arg0 c64_i32_170
  let c17_i32 : BitVec 32 := 17#32
  let v395 : BitVec 32 := Scalar.addi v394 c17_i32
  let v396 : Index := Scalar.indexCast v395
  ![v396.toNat]
@[reducible] def k0_t35_loop (v397 : BitVec 32) (v399 : BitVec 32) : Scf.Loop 32 :=
  let v1485 : BitVec 32 := Scalar.addi v399 v397
  let v1487 : BitVec 32 := Scalar.subi v1485 v399
  let c1_i32_650 : BitVec 32 := 1#32
  let v1489 : BitVec 32 := Scalar.divsi v1487 c1_i32_650
  let v1490 : BitVec 32 := Scalar.muli v1489 c1_i32_650
  let v1491 : BitVec 32 := Scalar.addi v399 v1490
  let c1_i32_651 : BitVec 32 := 1#32
  ⟨v399, v1491, c1_i32_651⟩
def k0_cond19 (v397 : BitVec 32) : BitVec 1 :=
  let c0_i32_173 : BitVec 32 := 0#32
  let v402 : BitVec 1 := Scalar.cmpi .sgt v397 c0_i32_173
  let v403 : BitVec 32 := Scalar.extui v402
  let c0_i32_174 : BitVec 32 := 0#32
  let v404 : BitVec 1 := Scalar.cmpi .ne v403 c0_i32_174
  v404

def k0_off87 (v397 : BitVec 32) (v399 : BitVec 32) (k0_t35 : Fin (k0_t35_loop v397 v399).trips) : Fin 1 → Nat :=
  let c1_i32_651 : BitVec 32 := 1#32
  let arg12 : BitVec 32 := Scf.iv v399 c1_i32_651 k0_t35
  let v1495 : Index := Scalar.indexCast arg12
  ![v1495.toNat]
def k0_off88 (v1496 : BitVec 32) : Fin 2 → Nat :=
  let v1497 : Index := Scalar.indexCast v1496
  let c0_653 : Index := 0#32
  ![v1497.toNat, 0]

def k0_chk53 (v397 : BitVec 32) (v1496 : BitVec 32) : Prop :=
  (∀ (k0_h19 : k0_cond19 v397 = 1#1), ∀ a, (k0_off88 v1496) a + S1x32.size a ≤ S1024x32.size a)
theorem k0_off88_inb : ∀ (v397 : BitVec 32) (v1496 : BitVec 32) (k0_hw53 : k0_chk53 v397 v1496), ∀ (k0_h19 : k0_cond19 v397 = 1#1), ∀ a, (k0_off88 v1496) a + S1x32.size a ≤ S1024x32.size a := fun v397 v1496 k0_hw53 k0_h19 => k0_hw53 k0_h19

@[reducible] def k0_t36_loop (v397 : BitVec 32) (v399 : BitVec 32) : Scf.Loop 32 :=
  let v1485 : BitVec 32 := Scalar.addi v399 v397
  let v1487 : BitVec 32 := Scalar.subi v1485 v399
  let c1_i32_650 : BitVec 32 := 1#32
  let v1489 : BitVec 32 := Scalar.divsi v1487 c1_i32_650
  let v1490 : BitVec 32 := Scalar.muli v1489 c1_i32_650
  let v1491 : BitVec 32 := Scalar.addi v399 v1490
  let v1488 : BitVec 32 := Scalar.addi v399 v1487
  let c1_i32_652 : BitVec 32 := 1#32
  ⟨v1491, v1488, c1_i32_652⟩
def k0_off89 (v397 : BitVec 32) (v399 : BitVec 32) (k0_t36 : Fin (k0_t36_loop v397 v399).trips) : Fin 1 → Nat :=
  let v1485 : BitVec 32 := Scalar.addi v399 v397
  let v1487 : BitVec 32 := Scalar.subi v1485 v399
  let c1_i32_650 : BitVec 32 := 1#32
  let v1489 : BitVec 32 := Scalar.divsi v1487 c1_i32_650
  let v1490 : BitVec 32 := Scalar.muli v1489 c1_i32_650
  let v1491 : BitVec 32 := Scalar.addi v399 v1490
  let c1_i32_652 : BitVec 32 := 1#32
  let arg12 : BitVec 32 := Scf.iv v1491 c1_i32_652 k0_t36
  let v1495 : Index := Scalar.indexCast arg12
  ![v1495.toNat]

def k0_chk52 (v397 : BitVec 32) (v399 : BitVec 32) : Prop :=
  (∀ (k0_h19 : k0_cond19 v397 = 1#1), (k0_t35_loop v397 v399).OK) ∧
  (∀ k0_t35 : Fin (k0_t35_loop v397 v399).trips, ∀ (k0_h19 : k0_cond19 v397 = 1#1), ∀ a, (k0_off87 v397 v399 k0_t35) a + S1.size a ≤ S1024.size a) ∧
  (∀ (k0_h19 : k0_cond19 v397 = 1#1), (k0_t36_loop v397 v399).OK) ∧
  (∀ k0_t36 : Fin (k0_t36_loop v397 v399).trips, ∀ (k0_h19 : k0_cond19 v397 = 1#1), ∀ a, (k0_off89 v397 v399 k0_t36) a + S1.size a ≤ S1024.size a)
theorem k0_t35_ok : ∀ (v397 : BitVec 32) (v399 : BitVec 32) (k0_hw52 : k0_chk52 v397 v399), ∀ (k0_h19 : k0_cond19 v397 = 1#1), (k0_t35_loop v397 v399).OK := fun v397 v399 k0_hw52 k0_h19 => k0_hw52.1 k0_h19
theorem k0_off87_inb : ∀ (v397 : BitVec 32) (v399 : BitVec 32) (k0_hw52 : k0_chk52 v397 v399) (k0_t35 : Fin (k0_t35_loop v397 v399).trips), ∀ (k0_h19 : k0_cond19 v397 = 1#1), ∀ a, (k0_off87 v397 v399 k0_t35) a + S1.size a ≤ S1024.size a := fun v397 v399 k0_hw52 k0_t35 k0_h19 => k0_hw52.2.1 k0_t35 k0_h19
theorem k0_t36_ok : ∀ (v397 : BitVec 32) (v399 : BitVec 32) (k0_hw52 : k0_chk52 v397 v399), ∀ (k0_h19 : k0_cond19 v397 = 1#1), (k0_t36_loop v397 v399).OK := fun v397 v399 k0_hw52 k0_h19 => k0_hw52.2.2.1 k0_h19
theorem k0_off89_inb : ∀ (v397 : BitVec 32) (v399 : BitVec 32) (k0_hw52 : k0_chk52 v397 v399) (k0_t36 : Fin (k0_t36_loop v397 v399).trips), ∀ (k0_h19 : k0_cond19 v397 = 1#1), ∀ a, (k0_off89 v397 v399 k0_t36) a + S1.size a ≤ S1024.size a := fun v397 v399 k0_hw52 k0_t36 k0_h19 => k0_hw52.2.2.2 k0_t36 k0_h19

def k0_off90 (v1496 : BitVec 32) : Fin 2 → Nat :=
  let v1497 : Index := Scalar.indexCast v1496
  let c0_653 : Index := 0#32
  ![v1497.toNat, 0]

def k0_chk54 (v397 : BitVec 32) (v1496 : BitVec 32) : Prop :=
  (∀ (k0_h19 : k0_cond19 v397 = 1#1), ∀ a, (k0_off90 v1496) a + S1x32.size a ≤ S1024x32.size a)
theorem k0_off90_inb : ∀ (v397 : BitVec 32) (v1496 : BitVec 32) (k0_hw54 : k0_chk54 v397 v1496), ∀ (k0_h19 : k0_cond19 v397 = 1#1), ∀ a, (k0_off90 v1496) a + S1x32.size a ≤ S1024x32.size a := fun v397 v1496 k0_hw54 k0_h19 => k0_hw54 k0_h19

def k0_off91 (i : grid0.Coords) : Fin 1 → Nat :=
  let arg0 : BitVec 32 := BitVec.ofNat 32 (i 0).val
  let c64_i32_180 : BitVec 32 := 64#32
  let v417 : BitVec 32 := Scalar.muli arg0 c64_i32_180
  let c18_i32 : BitVec 32 := 18#32
  let v418 : BitVec 32 := Scalar.addi v417 c18_i32
  let v419 : Index := Scalar.indexCast v418
  ![v419.toNat]
@[reducible] def k0_t37_loop (v420 : BitVec 32) (v422 : BitVec 32) : Scf.Loop 32 :=
  let v1485 : BitVec 32 := Scalar.addi v422 v420
  let v1487 : BitVec 32 := Scalar.subi v1485 v422
  let c1_i32_650 : BitVec 32 := 1#32
  let v1489 : BitVec 32 := Scalar.divsi v1487 c1_i32_650
  let v1490 : BitVec 32 := Scalar.muli v1489 c1_i32_650
  let v1491 : BitVec 32 := Scalar.addi v422 v1490
  let c1_i32_651 : BitVec 32 := 1#32
  ⟨v422, v1491, c1_i32_651⟩
def k0_cond20 (v420 : BitVec 32) : BitVec 1 :=
  let c0_i32_183 : BitVec 32 := 0#32
  let v425 : BitVec 1 := Scalar.cmpi .sgt v420 c0_i32_183
  let v426 : BitVec 32 := Scalar.extui v425
  let c0_i32_184 : BitVec 32 := 0#32
  let v427 : BitVec 1 := Scalar.cmpi .ne v426 c0_i32_184
  v427

def k0_off92 (v420 : BitVec 32) (v422 : BitVec 32) (k0_t37 : Fin (k0_t37_loop v420 v422).trips) : Fin 1 → Nat :=
  let c1_i32_651 : BitVec 32 := 1#32
  let arg12 : BitVec 32 := Scf.iv v422 c1_i32_651 k0_t37
  let v1495 : Index := Scalar.indexCast arg12
  ![v1495.toNat]
def k0_off93 (v1496 : BitVec 32) : Fin 2 → Nat :=
  let v1497 : Index := Scalar.indexCast v1496
  let c0_653 : Index := 0#32
  ![v1497.toNat, 0]

def k0_chk56 (v420 : BitVec 32) (v1496 : BitVec 32) : Prop :=
  (∀ (k0_h20 : k0_cond20 v420 = 1#1), ∀ a, (k0_off93 v1496) a + S1x32.size a ≤ S1024x32.size a)
theorem k0_off93_inb : ∀ (v420 : BitVec 32) (v1496 : BitVec 32) (k0_hw56 : k0_chk56 v420 v1496), ∀ (k0_h20 : k0_cond20 v420 = 1#1), ∀ a, (k0_off93 v1496) a + S1x32.size a ≤ S1024x32.size a := fun v420 v1496 k0_hw56 k0_h20 => k0_hw56 k0_h20

@[reducible] def k0_t38_loop (v420 : BitVec 32) (v422 : BitVec 32) : Scf.Loop 32 :=
  let v1485 : BitVec 32 := Scalar.addi v422 v420
  let v1487 : BitVec 32 := Scalar.subi v1485 v422
  let c1_i32_650 : BitVec 32 := 1#32
  let v1489 : BitVec 32 := Scalar.divsi v1487 c1_i32_650
  let v1490 : BitVec 32 := Scalar.muli v1489 c1_i32_650
  let v1491 : BitVec 32 := Scalar.addi v422 v1490
  let v1488 : BitVec 32 := Scalar.addi v422 v1487
  let c1_i32_652 : BitVec 32 := 1#32
  ⟨v1491, v1488, c1_i32_652⟩
def k0_off94 (v420 : BitVec 32) (v422 : BitVec 32) (k0_t38 : Fin (k0_t38_loop v420 v422).trips) : Fin 1 → Nat :=
  let v1485 : BitVec 32 := Scalar.addi v422 v420
  let v1487 : BitVec 32 := Scalar.subi v1485 v422
  let c1_i32_650 : BitVec 32 := 1#32
  let v1489 : BitVec 32 := Scalar.divsi v1487 c1_i32_650
  let v1490 : BitVec 32 := Scalar.muli v1489 c1_i32_650
  let v1491 : BitVec 32 := Scalar.addi v422 v1490
  let c1_i32_652 : BitVec 32 := 1#32
  let arg12 : BitVec 32 := Scf.iv v1491 c1_i32_652 k0_t38
  let v1495 : Index := Scalar.indexCast arg12
  ![v1495.toNat]

def k0_chk55 (v420 : BitVec 32) (v422 : BitVec 32) : Prop :=
  (∀ (k0_h20 : k0_cond20 v420 = 1#1), (k0_t37_loop v420 v422).OK) ∧
  (∀ k0_t37 : Fin (k0_t37_loop v420 v422).trips, ∀ (k0_h20 : k0_cond20 v420 = 1#1), ∀ a, (k0_off92 v420 v422 k0_t37) a + S1.size a ≤ S1024.size a) ∧
  (∀ (k0_h20 : k0_cond20 v420 = 1#1), (k0_t38_loop v420 v422).OK) ∧
  (∀ k0_t38 : Fin (k0_t38_loop v420 v422).trips, ∀ (k0_h20 : k0_cond20 v420 = 1#1), ∀ a, (k0_off94 v420 v422 k0_t38) a + S1.size a ≤ S1024.size a)
theorem k0_t37_ok : ∀ (v420 : BitVec 32) (v422 : BitVec 32) (k0_hw55 : k0_chk55 v420 v422), ∀ (k0_h20 : k0_cond20 v420 = 1#1), (k0_t37_loop v420 v422).OK := fun v420 v422 k0_hw55 k0_h20 => k0_hw55.1 k0_h20
theorem k0_off92_inb : ∀ (v420 : BitVec 32) (v422 : BitVec 32) (k0_hw55 : k0_chk55 v420 v422) (k0_t37 : Fin (k0_t37_loop v420 v422).trips), ∀ (k0_h20 : k0_cond20 v420 = 1#1), ∀ a, (k0_off92 v420 v422 k0_t37) a + S1.size a ≤ S1024.size a := fun v420 v422 k0_hw55 k0_t37 k0_h20 => k0_hw55.2.1 k0_t37 k0_h20
theorem k0_t38_ok : ∀ (v420 : BitVec 32) (v422 : BitVec 32) (k0_hw55 : k0_chk55 v420 v422), ∀ (k0_h20 : k0_cond20 v420 = 1#1), (k0_t38_loop v420 v422).OK := fun v420 v422 k0_hw55 k0_h20 => k0_hw55.2.2.1 k0_h20
theorem k0_off94_inb : ∀ (v420 : BitVec 32) (v422 : BitVec 32) (k0_hw55 : k0_chk55 v420 v422) (k0_t38 : Fin (k0_t38_loop v420 v422).trips), ∀ (k0_h20 : k0_cond20 v420 = 1#1), ∀ a, (k0_off94 v420 v422 k0_t38) a + S1.size a ≤ S1024.size a := fun v420 v422 k0_hw55 k0_t38 k0_h20 => k0_hw55.2.2.2 k0_t38 k0_h20

def k0_off95 (v1496 : BitVec 32) : Fin 2 → Nat :=
  let v1497 : Index := Scalar.indexCast v1496
  let c0_653 : Index := 0#32
  ![v1497.toNat, 0]

def k0_chk57 (v420 : BitVec 32) (v1496 : BitVec 32) : Prop :=
  (∀ (k0_h20 : k0_cond20 v420 = 1#1), ∀ a, (k0_off95 v1496) a + S1x32.size a ≤ S1024x32.size a)
theorem k0_off95_inb : ∀ (v420 : BitVec 32) (v1496 : BitVec 32) (k0_hw57 : k0_chk57 v420 v1496), ∀ (k0_h20 : k0_cond20 v420 = 1#1), ∀ a, (k0_off95 v1496) a + S1x32.size a ≤ S1024x32.size a := fun v420 v1496 k0_hw57 k0_h20 => k0_hw57 k0_h20

def k0_off96 (i : grid0.Coords) : Fin 1 → Nat :=
  let arg0 : BitVec 32 := BitVec.ofNat 32 (i 0).val
  let c64_i32_190 : BitVec 32 := 64#32
  let v440 : BitVec 32 := Scalar.muli arg0 c64_i32_190
  let c19_i32 : BitVec 32 := 19#32
  let v441 : BitVec 32 := Scalar.addi v440 c19_i32
  let v442 : Index := Scalar.indexCast v441
  ![v442.toNat]
@[reducible] def k0_t39_loop (v443 : BitVec 32) (v445 : BitVec 32) : Scf.Loop 32 :=
  let v1485 : BitVec 32 := Scalar.addi v445 v443
  let v1487 : BitVec 32 := Scalar.subi v1485 v445
  let c1_i32_650 : BitVec 32 := 1#32
  let v1489 : BitVec 32 := Scalar.divsi v1487 c1_i32_650
  let v1490 : BitVec 32 := Scalar.muli v1489 c1_i32_650
  let v1491 : BitVec 32 := Scalar.addi v445 v1490
  let c1_i32_651 : BitVec 32 := 1#32
  ⟨v445, v1491, c1_i32_651⟩
def k0_cond21 (v443 : BitVec 32) : BitVec 1 :=
  let c0_i32_193 : BitVec 32 := 0#32
  let v448 : BitVec 1 := Scalar.cmpi .sgt v443 c0_i32_193
  let v449 : BitVec 32 := Scalar.extui v448
  let c0_i32_194 : BitVec 32 := 0#32
  let v450 : BitVec 1 := Scalar.cmpi .ne v449 c0_i32_194
  v450

def k0_off97 (v443 : BitVec 32) (v445 : BitVec 32) (k0_t39 : Fin (k0_t39_loop v443 v445).trips) : Fin 1 → Nat :=
  let c1_i32_651 : BitVec 32 := 1#32
  let arg12 : BitVec 32 := Scf.iv v445 c1_i32_651 k0_t39
  let v1495 : Index := Scalar.indexCast arg12
  ![v1495.toNat]
def k0_off98 (v1496 : BitVec 32) : Fin 2 → Nat :=
  let v1497 : Index := Scalar.indexCast v1496
  let c0_653 : Index := 0#32
  ![v1497.toNat, 0]

def k0_chk59 (v443 : BitVec 32) (v1496 : BitVec 32) : Prop :=
  (∀ (k0_h21 : k0_cond21 v443 = 1#1), ∀ a, (k0_off98 v1496) a + S1x32.size a ≤ S1024x32.size a)
theorem k0_off98_inb : ∀ (v443 : BitVec 32) (v1496 : BitVec 32) (k0_hw59 : k0_chk59 v443 v1496), ∀ (k0_h21 : k0_cond21 v443 = 1#1), ∀ a, (k0_off98 v1496) a + S1x32.size a ≤ S1024x32.size a := fun v443 v1496 k0_hw59 k0_h21 => k0_hw59 k0_h21

@[reducible] def k0_t40_loop (v443 : BitVec 32) (v445 : BitVec 32) : Scf.Loop 32 :=
  let v1485 : BitVec 32 := Scalar.addi v445 v443
  let v1487 : BitVec 32 := Scalar.subi v1485 v445
  let c1_i32_650 : BitVec 32 := 1#32
  let v1489 : BitVec 32 := Scalar.divsi v1487 c1_i32_650
  let v1490 : BitVec 32 := Scalar.muli v1489 c1_i32_650
  let v1491 : BitVec 32 := Scalar.addi v445 v1490
  let v1488 : BitVec 32 := Scalar.addi v445 v1487
  let c1_i32_652 : BitVec 32 := 1#32
  ⟨v1491, v1488, c1_i32_652⟩
def k0_off99 (v443 : BitVec 32) (v445 : BitVec 32) (k0_t40 : Fin (k0_t40_loop v443 v445).trips) : Fin 1 → Nat :=
  let v1485 : BitVec 32 := Scalar.addi v445 v443
  let v1487 : BitVec 32 := Scalar.subi v1485 v445
  let c1_i32_650 : BitVec 32 := 1#32
  let v1489 : BitVec 32 := Scalar.divsi v1487 c1_i32_650
  let v1490 : BitVec 32 := Scalar.muli v1489 c1_i32_650
  let v1491 : BitVec 32 := Scalar.addi v445 v1490
  let c1_i32_652 : BitVec 32 := 1#32
  let arg12 : BitVec 32 := Scf.iv v1491 c1_i32_652 k0_t40
  let v1495 : Index := Scalar.indexCast arg12
  ![v1495.toNat]

def k0_chk58 (v443 : BitVec 32) (v445 : BitVec 32) : Prop :=
  (∀ (k0_h21 : k0_cond21 v443 = 1#1), (k0_t39_loop v443 v445).OK) ∧
  (∀ k0_t39 : Fin (k0_t39_loop v443 v445).trips, ∀ (k0_h21 : k0_cond21 v443 = 1#1), ∀ a, (k0_off97 v443 v445 k0_t39) a + S1.size a ≤ S1024.size a) ∧
  (∀ (k0_h21 : k0_cond21 v443 = 1#1), (k0_t40_loop v443 v445).OK) ∧
  (∀ k0_t40 : Fin (k0_t40_loop v443 v445).trips, ∀ (k0_h21 : k0_cond21 v443 = 1#1), ∀ a, (k0_off99 v443 v445 k0_t40) a + S1.size a ≤ S1024.size a)
theorem k0_t39_ok : ∀ (v443 : BitVec 32) (v445 : BitVec 32) (k0_hw58 : k0_chk58 v443 v445), ∀ (k0_h21 : k0_cond21 v443 = 1#1), (k0_t39_loop v443 v445).OK := fun v443 v445 k0_hw58 k0_h21 => k0_hw58.1 k0_h21
theorem k0_off97_inb : ∀ (v443 : BitVec 32) (v445 : BitVec 32) (k0_hw58 : k0_chk58 v443 v445) (k0_t39 : Fin (k0_t39_loop v443 v445).trips), ∀ (k0_h21 : k0_cond21 v443 = 1#1), ∀ a, (k0_off97 v443 v445 k0_t39) a + S1.size a ≤ S1024.size a := fun v443 v445 k0_hw58 k0_t39 k0_h21 => k0_hw58.2.1 k0_t39 k0_h21
theorem k0_t40_ok : ∀ (v443 : BitVec 32) (v445 : BitVec 32) (k0_hw58 : k0_chk58 v443 v445), ∀ (k0_h21 : k0_cond21 v443 = 1#1), (k0_t40_loop v443 v445).OK := fun v443 v445 k0_hw58 k0_h21 => k0_hw58.2.2.1 k0_h21
theorem k0_off99_inb : ∀ (v443 : BitVec 32) (v445 : BitVec 32) (k0_hw58 : k0_chk58 v443 v445) (k0_t40 : Fin (k0_t40_loop v443 v445).trips), ∀ (k0_h21 : k0_cond21 v443 = 1#1), ∀ a, (k0_off99 v443 v445 k0_t40) a + S1.size a ≤ S1024.size a := fun v443 v445 k0_hw58 k0_t40 k0_h21 => k0_hw58.2.2.2 k0_t40 k0_h21

def k0_off100 (v1496 : BitVec 32) : Fin 2 → Nat :=
  let v1497 : Index := Scalar.indexCast v1496
  let c0_653 : Index := 0#32
  ![v1497.toNat, 0]

def k0_chk60 (v443 : BitVec 32) (v1496 : BitVec 32) : Prop :=
  (∀ (k0_h21 : k0_cond21 v443 = 1#1), ∀ a, (k0_off100 v1496) a + S1x32.size a ≤ S1024x32.size a)
theorem k0_off100_inb : ∀ (v443 : BitVec 32) (v1496 : BitVec 32) (k0_hw60 : k0_chk60 v443 v1496), ∀ (k0_h21 : k0_cond21 v443 = 1#1), ∀ a, (k0_off100 v1496) a + S1x32.size a ≤ S1024x32.size a := fun v443 v1496 k0_hw60 k0_h21 => k0_hw60 k0_h21

def k0_off101 (i : grid0.Coords) : Fin 1 → Nat :=
  let arg0 : BitVec 32 := BitVec.ofNat 32 (i 0).val
  let c64_i32_200 : BitVec 32 := 64#32
  let v463 : BitVec 32 := Scalar.muli arg0 c64_i32_200
  let c20_i32 : BitVec 32 := 20#32
  let v464 : BitVec 32 := Scalar.addi v463 c20_i32
  let v465 : Index := Scalar.indexCast v464
  ![v465.toNat]
@[reducible] def k0_t41_loop (v466 : BitVec 32) (v468 : BitVec 32) : Scf.Loop 32 :=
  let v1485 : BitVec 32 := Scalar.addi v468 v466
  let v1487 : BitVec 32 := Scalar.subi v1485 v468
  let c1_i32_650 : BitVec 32 := 1#32
  let v1489 : BitVec 32 := Scalar.divsi v1487 c1_i32_650
  let v1490 : BitVec 32 := Scalar.muli v1489 c1_i32_650
  let v1491 : BitVec 32 := Scalar.addi v468 v1490
  let c1_i32_651 : BitVec 32 := 1#32
  ⟨v468, v1491, c1_i32_651⟩
def k0_cond22 (v466 : BitVec 32) : BitVec 1 :=
  let c0_i32_203 : BitVec 32 := 0#32
  let v471 : BitVec 1 := Scalar.cmpi .sgt v466 c0_i32_203
  let v472 : BitVec 32 := Scalar.extui v471
  let c0_i32_204 : BitVec 32 := 0#32
  let v473 : BitVec 1 := Scalar.cmpi .ne v472 c0_i32_204
  v473

def k0_off102 (v466 : BitVec 32) (v468 : BitVec 32) (k0_t41 : Fin (k0_t41_loop v466 v468).trips) : Fin 1 → Nat :=
  let c1_i32_651 : BitVec 32 := 1#32
  let arg12 : BitVec 32 := Scf.iv v468 c1_i32_651 k0_t41
  let v1495 : Index := Scalar.indexCast arg12
  ![v1495.toNat]
def k0_off103 (v1496 : BitVec 32) : Fin 2 → Nat :=
  let v1497 : Index := Scalar.indexCast v1496
  let c0_653 : Index := 0#32
  ![v1497.toNat, 0]

def k0_chk62 (v466 : BitVec 32) (v1496 : BitVec 32) : Prop :=
  (∀ (k0_h22 : k0_cond22 v466 = 1#1), ∀ a, (k0_off103 v1496) a + S1x32.size a ≤ S1024x32.size a)
theorem k0_off103_inb : ∀ (v466 : BitVec 32) (v1496 : BitVec 32) (k0_hw62 : k0_chk62 v466 v1496), ∀ (k0_h22 : k0_cond22 v466 = 1#1), ∀ a, (k0_off103 v1496) a + S1x32.size a ≤ S1024x32.size a := fun v466 v1496 k0_hw62 k0_h22 => k0_hw62 k0_h22

@[reducible] def k0_t42_loop (v466 : BitVec 32) (v468 : BitVec 32) : Scf.Loop 32 :=
  let v1485 : BitVec 32 := Scalar.addi v468 v466
  let v1487 : BitVec 32 := Scalar.subi v1485 v468
  let c1_i32_650 : BitVec 32 := 1#32
  let v1489 : BitVec 32 := Scalar.divsi v1487 c1_i32_650
  let v1490 : BitVec 32 := Scalar.muli v1489 c1_i32_650
  let v1491 : BitVec 32 := Scalar.addi v468 v1490
  let v1488 : BitVec 32 := Scalar.addi v468 v1487
  let c1_i32_652 : BitVec 32 := 1#32
  ⟨v1491, v1488, c1_i32_652⟩
def k0_off104 (v466 : BitVec 32) (v468 : BitVec 32) (k0_t42 : Fin (k0_t42_loop v466 v468).trips) : Fin 1 → Nat :=
  let v1485 : BitVec 32 := Scalar.addi v468 v466
  let v1487 : BitVec 32 := Scalar.subi v1485 v468
  let c1_i32_650 : BitVec 32 := 1#32
  let v1489 : BitVec 32 := Scalar.divsi v1487 c1_i32_650
  let v1490 : BitVec 32 := Scalar.muli v1489 c1_i32_650
  let v1491 : BitVec 32 := Scalar.addi v468 v1490
  let c1_i32_652 : BitVec 32 := 1#32
  let arg12 : BitVec 32 := Scf.iv v1491 c1_i32_652 k0_t42
  let v1495 : Index := Scalar.indexCast arg12
  ![v1495.toNat]

def k0_chk61 (v466 : BitVec 32) (v468 : BitVec 32) : Prop :=
  (∀ (k0_h22 : k0_cond22 v466 = 1#1), (k0_t41_loop v466 v468).OK) ∧
  (∀ k0_t41 : Fin (k0_t41_loop v466 v468).trips, ∀ (k0_h22 : k0_cond22 v466 = 1#1), ∀ a, (k0_off102 v466 v468 k0_t41) a + S1.size a ≤ S1024.size a) ∧
  (∀ (k0_h22 : k0_cond22 v466 = 1#1), (k0_t42_loop v466 v468).OK) ∧
  (∀ k0_t42 : Fin (k0_t42_loop v466 v468).trips, ∀ (k0_h22 : k0_cond22 v466 = 1#1), ∀ a, (k0_off104 v466 v468 k0_t42) a + S1.size a ≤ S1024.size a)
theorem k0_t41_ok : ∀ (v466 : BitVec 32) (v468 : BitVec 32) (k0_hw61 : k0_chk61 v466 v468), ∀ (k0_h22 : k0_cond22 v466 = 1#1), (k0_t41_loop v466 v468).OK := fun v466 v468 k0_hw61 k0_h22 => k0_hw61.1 k0_h22
theorem k0_off102_inb : ∀ (v466 : BitVec 32) (v468 : BitVec 32) (k0_hw61 : k0_chk61 v466 v468) (k0_t41 : Fin (k0_t41_loop v466 v468).trips), ∀ (k0_h22 : k0_cond22 v466 = 1#1), ∀ a, (k0_off102 v466 v468 k0_t41) a + S1.size a ≤ S1024.size a := fun v466 v468 k0_hw61 k0_t41 k0_h22 => k0_hw61.2.1 k0_t41 k0_h22
theorem k0_t42_ok : ∀ (v466 : BitVec 32) (v468 : BitVec 32) (k0_hw61 : k0_chk61 v466 v468), ∀ (k0_h22 : k0_cond22 v466 = 1#1), (k0_t42_loop v466 v468).OK := fun v466 v468 k0_hw61 k0_h22 => k0_hw61.2.2.1 k0_h22
theorem k0_off104_inb : ∀ (v466 : BitVec 32) (v468 : BitVec 32) (k0_hw61 : k0_chk61 v466 v468) (k0_t42 : Fin (k0_t42_loop v466 v468).trips), ∀ (k0_h22 : k0_cond22 v466 = 1#1), ∀ a, (k0_off104 v466 v468 k0_t42) a + S1.size a ≤ S1024.size a := fun v466 v468 k0_hw61 k0_t42 k0_h22 => k0_hw61.2.2.2 k0_t42 k0_h22

def k0_off105 (v1496 : BitVec 32) : Fin 2 → Nat :=
  let v1497 : Index := Scalar.indexCast v1496
  let c0_653 : Index := 0#32
  ![v1497.toNat, 0]

def k0_chk63 (v466 : BitVec 32) (v1496 : BitVec 32) : Prop :=
  (∀ (k0_h22 : k0_cond22 v466 = 1#1), ∀ a, (k0_off105 v1496) a + S1x32.size a ≤ S1024x32.size a)
theorem k0_off105_inb : ∀ (v466 : BitVec 32) (v1496 : BitVec 32) (k0_hw63 : k0_chk63 v466 v1496), ∀ (k0_h22 : k0_cond22 v466 = 1#1), ∀ a, (k0_off105 v1496) a + S1x32.size a ≤ S1024x32.size a := fun v466 v1496 k0_hw63 k0_h22 => k0_hw63 k0_h22

def k0_off106 (i : grid0.Coords) : Fin 1 → Nat :=
  let arg0 : BitVec 32 := BitVec.ofNat 32 (i 0).val
  let c64_i32_210 : BitVec 32 := 64#32
  let v486 : BitVec 32 := Scalar.muli arg0 c64_i32_210
  let c21_i32 : BitVec 32 := 21#32
  let v487 : BitVec 32 := Scalar.addi v486 c21_i32
  let v488 : Index := Scalar.indexCast v487
  ![v488.toNat]
@[reducible] def k0_t43_loop (v489 : BitVec 32) (v491 : BitVec 32) : Scf.Loop 32 :=
  let v1485 : BitVec 32 := Scalar.addi v491 v489
  let v1487 : BitVec 32 := Scalar.subi v1485 v491
  let c1_i32_650 : BitVec 32 := 1#32
  let v1489 : BitVec 32 := Scalar.divsi v1487 c1_i32_650
  let v1490 : BitVec 32 := Scalar.muli v1489 c1_i32_650
  let v1491 : BitVec 32 := Scalar.addi v491 v1490
  let c1_i32_651 : BitVec 32 := 1#32
  ⟨v491, v1491, c1_i32_651⟩
def k0_cond23 (v489 : BitVec 32) : BitVec 1 :=
  let c0_i32_213 : BitVec 32 := 0#32
  let v494 : BitVec 1 := Scalar.cmpi .sgt v489 c0_i32_213
  let v495 : BitVec 32 := Scalar.extui v494
  let c0_i32_214 : BitVec 32 := 0#32
  let v496 : BitVec 1 := Scalar.cmpi .ne v495 c0_i32_214
  v496

def k0_off107 (v489 : BitVec 32) (v491 : BitVec 32) (k0_t43 : Fin (k0_t43_loop v489 v491).trips) : Fin 1 → Nat :=
  let c1_i32_651 : BitVec 32 := 1#32
  let arg12 : BitVec 32 := Scf.iv v491 c1_i32_651 k0_t43
  let v1495 : Index := Scalar.indexCast arg12
  ![v1495.toNat]
def k0_off108 (v1496 : BitVec 32) : Fin 2 → Nat :=
  let v1497 : Index := Scalar.indexCast v1496
  let c0_653 : Index := 0#32
  ![v1497.toNat, 0]

def k0_chk65 (v489 : BitVec 32) (v1496 : BitVec 32) : Prop :=
  (∀ (k0_h23 : k0_cond23 v489 = 1#1), ∀ a, (k0_off108 v1496) a + S1x32.size a ≤ S1024x32.size a)
theorem k0_off108_inb : ∀ (v489 : BitVec 32) (v1496 : BitVec 32) (k0_hw65 : k0_chk65 v489 v1496), ∀ (k0_h23 : k0_cond23 v489 = 1#1), ∀ a, (k0_off108 v1496) a + S1x32.size a ≤ S1024x32.size a := fun v489 v1496 k0_hw65 k0_h23 => k0_hw65 k0_h23

@[reducible] def k0_t44_loop (v489 : BitVec 32) (v491 : BitVec 32) : Scf.Loop 32 :=
  let v1485 : BitVec 32 := Scalar.addi v491 v489
  let v1487 : BitVec 32 := Scalar.subi v1485 v491
  let c1_i32_650 : BitVec 32 := 1#32
  let v1489 : BitVec 32 := Scalar.divsi v1487 c1_i32_650
  let v1490 : BitVec 32 := Scalar.muli v1489 c1_i32_650
  let v1491 : BitVec 32 := Scalar.addi v491 v1490
  let v1488 : BitVec 32 := Scalar.addi v491 v1487
  let c1_i32_652 : BitVec 32 := 1#32
  ⟨v1491, v1488, c1_i32_652⟩
def k0_off109 (v489 : BitVec 32) (v491 : BitVec 32) (k0_t44 : Fin (k0_t44_loop v489 v491).trips) : Fin 1 → Nat :=
  let v1485 : BitVec 32 := Scalar.addi v491 v489
  let v1487 : BitVec 32 := Scalar.subi v1485 v491
  let c1_i32_650 : BitVec 32 := 1#32
  let v1489 : BitVec 32 := Scalar.divsi v1487 c1_i32_650
  let v1490 : BitVec 32 := Scalar.muli v1489 c1_i32_650
  let v1491 : BitVec 32 := Scalar.addi v491 v1490
  let c1_i32_652 : BitVec 32 := 1#32
  let arg12 : BitVec 32 := Scf.iv v1491 c1_i32_652 k0_t44
  let v1495 : Index := Scalar.indexCast arg12
  ![v1495.toNat]

def k0_chk64 (v489 : BitVec 32) (v491 : BitVec 32) : Prop :=
  (∀ (k0_h23 : k0_cond23 v489 = 1#1), (k0_t43_loop v489 v491).OK) ∧
  (∀ k0_t43 : Fin (k0_t43_loop v489 v491).trips, ∀ (k0_h23 : k0_cond23 v489 = 1#1), ∀ a, (k0_off107 v489 v491 k0_t43) a + S1.size a ≤ S1024.size a) ∧
  (∀ (k0_h23 : k0_cond23 v489 = 1#1), (k0_t44_loop v489 v491).OK) ∧
  (∀ k0_t44 : Fin (k0_t44_loop v489 v491).trips, ∀ (k0_h23 : k0_cond23 v489 = 1#1), ∀ a, (k0_off109 v489 v491 k0_t44) a + S1.size a ≤ S1024.size a)
theorem k0_t43_ok : ∀ (v489 : BitVec 32) (v491 : BitVec 32) (k0_hw64 : k0_chk64 v489 v491), ∀ (k0_h23 : k0_cond23 v489 = 1#1), (k0_t43_loop v489 v491).OK := fun v489 v491 k0_hw64 k0_h23 => k0_hw64.1 k0_h23
theorem k0_off107_inb : ∀ (v489 : BitVec 32) (v491 : BitVec 32) (k0_hw64 : k0_chk64 v489 v491) (k0_t43 : Fin (k0_t43_loop v489 v491).trips), ∀ (k0_h23 : k0_cond23 v489 = 1#1), ∀ a, (k0_off107 v489 v491 k0_t43) a + S1.size a ≤ S1024.size a := fun v489 v491 k0_hw64 k0_t43 k0_h23 => k0_hw64.2.1 k0_t43 k0_h23
theorem k0_t44_ok : ∀ (v489 : BitVec 32) (v491 : BitVec 32) (k0_hw64 : k0_chk64 v489 v491), ∀ (k0_h23 : k0_cond23 v489 = 1#1), (k0_t44_loop v489 v491).OK := fun v489 v491 k0_hw64 k0_h23 => k0_hw64.2.2.1 k0_h23
theorem k0_off109_inb : ∀ (v489 : BitVec 32) (v491 : BitVec 32) (k0_hw64 : k0_chk64 v489 v491) (k0_t44 : Fin (k0_t44_loop v489 v491).trips), ∀ (k0_h23 : k0_cond23 v489 = 1#1), ∀ a, (k0_off109 v489 v491 k0_t44) a + S1.size a ≤ S1024.size a := fun v489 v491 k0_hw64 k0_t44 k0_h23 => k0_hw64.2.2.2 k0_t44 k0_h23

def k0_off110 (v1496 : BitVec 32) : Fin 2 → Nat :=
  let v1497 : Index := Scalar.indexCast v1496
  let c0_653 : Index := 0#32
  ![v1497.toNat, 0]

def k0_chk66 (v489 : BitVec 32) (v1496 : BitVec 32) : Prop :=
  (∀ (k0_h23 : k0_cond23 v489 = 1#1), ∀ a, (k0_off110 v1496) a + S1x32.size a ≤ S1024x32.size a)
theorem k0_off110_inb : ∀ (v489 : BitVec 32) (v1496 : BitVec 32) (k0_hw66 : k0_chk66 v489 v1496), ∀ (k0_h23 : k0_cond23 v489 = 1#1), ∀ a, (k0_off110 v1496) a + S1x32.size a ≤ S1024x32.size a := fun v489 v1496 k0_hw66 k0_h23 => k0_hw66 k0_h23

def k0_off111 (i : grid0.Coords) : Fin 1 → Nat :=
  let arg0 : BitVec 32 := BitVec.ofNat 32 (i 0).val
  let c64_i32_220 : BitVec 32 := 64#32
  let v509 : BitVec 32 := Scalar.muli arg0 c64_i32_220
  let c22_i32 : BitVec 32 := 22#32
  let v510 : BitVec 32 := Scalar.addi v509 c22_i32
  let v511 : Index := Scalar.indexCast v510
  ![v511.toNat]
@[reducible] def k0_t45_loop (v512 : BitVec 32) (v514 : BitVec 32) : Scf.Loop 32 :=
  let v1485 : BitVec 32 := Scalar.addi v514 v512
  let v1487 : BitVec 32 := Scalar.subi v1485 v514
  let c1_i32_650 : BitVec 32 := 1#32
  let v1489 : BitVec 32 := Scalar.divsi v1487 c1_i32_650
  let v1490 : BitVec 32 := Scalar.muli v1489 c1_i32_650
  let v1491 : BitVec 32 := Scalar.addi v514 v1490
  let c1_i32_651 : BitVec 32 := 1#32
  ⟨v514, v1491, c1_i32_651⟩
def k0_cond24 (v512 : BitVec 32) : BitVec 1 :=
  let c0_i32_223 : BitVec 32 := 0#32
  let v517 : BitVec 1 := Scalar.cmpi .sgt v512 c0_i32_223
  let v518 : BitVec 32 := Scalar.extui v517
  let c0_i32_224 : BitVec 32 := 0#32
  let v519 : BitVec 1 := Scalar.cmpi .ne v518 c0_i32_224
  v519

def k0_off112 (v512 : BitVec 32) (v514 : BitVec 32) (k0_t45 : Fin (k0_t45_loop v512 v514).trips) : Fin 1 → Nat :=
  let c1_i32_651 : BitVec 32 := 1#32
  let arg12 : BitVec 32 := Scf.iv v514 c1_i32_651 k0_t45
  let v1495 : Index := Scalar.indexCast arg12
  ![v1495.toNat]
def k0_off113 (v1496 : BitVec 32) : Fin 2 → Nat :=
  let v1497 : Index := Scalar.indexCast v1496
  let c0_653 : Index := 0#32
  ![v1497.toNat, 0]

def k0_chk68 (v512 : BitVec 32) (v1496 : BitVec 32) : Prop :=
  (∀ (k0_h24 : k0_cond24 v512 = 1#1), ∀ a, (k0_off113 v1496) a + S1x32.size a ≤ S1024x32.size a)
theorem k0_off113_inb : ∀ (v512 : BitVec 32) (v1496 : BitVec 32) (k0_hw68 : k0_chk68 v512 v1496), ∀ (k0_h24 : k0_cond24 v512 = 1#1), ∀ a, (k0_off113 v1496) a + S1x32.size a ≤ S1024x32.size a := fun v512 v1496 k0_hw68 k0_h24 => k0_hw68 k0_h24

@[reducible] def k0_t46_loop (v512 : BitVec 32) (v514 : BitVec 32) : Scf.Loop 32 :=
  let v1485 : BitVec 32 := Scalar.addi v514 v512
  let v1487 : BitVec 32 := Scalar.subi v1485 v514
  let c1_i32_650 : BitVec 32 := 1#32
  let v1489 : BitVec 32 := Scalar.divsi v1487 c1_i32_650
  let v1490 : BitVec 32 := Scalar.muli v1489 c1_i32_650
  let v1491 : BitVec 32 := Scalar.addi v514 v1490
  let v1488 : BitVec 32 := Scalar.addi v514 v1487
  let c1_i32_652 : BitVec 32 := 1#32
  ⟨v1491, v1488, c1_i32_652⟩
def k0_off114 (v512 : BitVec 32) (v514 : BitVec 32) (k0_t46 : Fin (k0_t46_loop v512 v514).trips) : Fin 1 → Nat :=
  let v1485 : BitVec 32 := Scalar.addi v514 v512
  let v1487 : BitVec 32 := Scalar.subi v1485 v514
  let c1_i32_650 : BitVec 32 := 1#32
  let v1489 : BitVec 32 := Scalar.divsi v1487 c1_i32_650
  let v1490 : BitVec 32 := Scalar.muli v1489 c1_i32_650
  let v1491 : BitVec 32 := Scalar.addi v514 v1490
  let c1_i32_652 : BitVec 32 := 1#32
  let arg12 : BitVec 32 := Scf.iv v1491 c1_i32_652 k0_t46
  let v1495 : Index := Scalar.indexCast arg12
  ![v1495.toNat]

def k0_chk67 (v512 : BitVec 32) (v514 : BitVec 32) : Prop :=
  (∀ (k0_h24 : k0_cond24 v512 = 1#1), (k0_t45_loop v512 v514).OK) ∧
  (∀ k0_t45 : Fin (k0_t45_loop v512 v514).trips, ∀ (k0_h24 : k0_cond24 v512 = 1#1), ∀ a, (k0_off112 v512 v514 k0_t45) a + S1.size a ≤ S1024.size a) ∧
  (∀ (k0_h24 : k0_cond24 v512 = 1#1), (k0_t46_loop v512 v514).OK) ∧
  (∀ k0_t46 : Fin (k0_t46_loop v512 v514).trips, ∀ (k0_h24 : k0_cond24 v512 = 1#1), ∀ a, (k0_off114 v512 v514 k0_t46) a + S1.size a ≤ S1024.size a)
theorem k0_t45_ok : ∀ (v512 : BitVec 32) (v514 : BitVec 32) (k0_hw67 : k0_chk67 v512 v514), ∀ (k0_h24 : k0_cond24 v512 = 1#1), (k0_t45_loop v512 v514).OK := fun v512 v514 k0_hw67 k0_h24 => k0_hw67.1 k0_h24
theorem k0_off112_inb : ∀ (v512 : BitVec 32) (v514 : BitVec 32) (k0_hw67 : k0_chk67 v512 v514) (k0_t45 : Fin (k0_t45_loop v512 v514).trips), ∀ (k0_h24 : k0_cond24 v512 = 1#1), ∀ a, (k0_off112 v512 v514 k0_t45) a + S1.size a ≤ S1024.size a := fun v512 v514 k0_hw67 k0_t45 k0_h24 => k0_hw67.2.1 k0_t45 k0_h24
theorem k0_t46_ok : ∀ (v512 : BitVec 32) (v514 : BitVec 32) (k0_hw67 : k0_chk67 v512 v514), ∀ (k0_h24 : k0_cond24 v512 = 1#1), (k0_t46_loop v512 v514).OK := fun v512 v514 k0_hw67 k0_h24 => k0_hw67.2.2.1 k0_h24
theorem k0_off114_inb : ∀ (v512 : BitVec 32) (v514 : BitVec 32) (k0_hw67 : k0_chk67 v512 v514) (k0_t46 : Fin (k0_t46_loop v512 v514).trips), ∀ (k0_h24 : k0_cond24 v512 = 1#1), ∀ a, (k0_off114 v512 v514 k0_t46) a + S1.size a ≤ S1024.size a := fun v512 v514 k0_hw67 k0_t46 k0_h24 => k0_hw67.2.2.2 k0_t46 k0_h24

def k0_off115 (v1496 : BitVec 32) : Fin 2 → Nat :=
  let v1497 : Index := Scalar.indexCast v1496
  let c0_653 : Index := 0#32
  ![v1497.toNat, 0]

def k0_chk69 (v512 : BitVec 32) (v1496 : BitVec 32) : Prop :=
  (∀ (k0_h24 : k0_cond24 v512 = 1#1), ∀ a, (k0_off115 v1496) a + S1x32.size a ≤ S1024x32.size a)
theorem k0_off115_inb : ∀ (v512 : BitVec 32) (v1496 : BitVec 32) (k0_hw69 : k0_chk69 v512 v1496), ∀ (k0_h24 : k0_cond24 v512 = 1#1), ∀ a, (k0_off115 v1496) a + S1x32.size a ≤ S1024x32.size a := fun v512 v1496 k0_hw69 k0_h24 => k0_hw69 k0_h24

def k0_off116 (i : grid0.Coords) : Fin 1 → Nat :=
  let arg0 : BitVec 32 := BitVec.ofNat 32 (i 0).val
  let c64_i32_230 : BitVec 32 := 64#32
  let v532 : BitVec 32 := Scalar.muli arg0 c64_i32_230
  let c23_i32 : BitVec 32 := 23#32
  let v533 : BitVec 32 := Scalar.addi v532 c23_i32
  let v534 : Index := Scalar.indexCast v533
  ![v534.toNat]
@[reducible] def k0_t47_loop (v535 : BitVec 32) (v537 : BitVec 32) : Scf.Loop 32 :=
  let v1485 : BitVec 32 := Scalar.addi v537 v535
  let v1487 : BitVec 32 := Scalar.subi v1485 v537
  let c1_i32_650 : BitVec 32 := 1#32
  let v1489 : BitVec 32 := Scalar.divsi v1487 c1_i32_650
  let v1490 : BitVec 32 := Scalar.muli v1489 c1_i32_650
  let v1491 : BitVec 32 := Scalar.addi v537 v1490
  let c1_i32_651 : BitVec 32 := 1#32
  ⟨v537, v1491, c1_i32_651⟩
def k0_cond25 (v535 : BitVec 32) : BitVec 1 :=
  let c0_i32_233 : BitVec 32 := 0#32
  let v540 : BitVec 1 := Scalar.cmpi .sgt v535 c0_i32_233
  let v541 : BitVec 32 := Scalar.extui v540
  let c0_i32_234 : BitVec 32 := 0#32
  let v542 : BitVec 1 := Scalar.cmpi .ne v541 c0_i32_234
  v542

def k0_off117 (v535 : BitVec 32) (v537 : BitVec 32) (k0_t47 : Fin (k0_t47_loop v535 v537).trips) : Fin 1 → Nat :=
  let c1_i32_651 : BitVec 32 := 1#32
  let arg12 : BitVec 32 := Scf.iv v537 c1_i32_651 k0_t47
  let v1495 : Index := Scalar.indexCast arg12
  ![v1495.toNat]
def k0_off118 (v1496 : BitVec 32) : Fin 2 → Nat :=
  let v1497 : Index := Scalar.indexCast v1496
  let c0_653 : Index := 0#32
  ![v1497.toNat, 0]

def k0_chk71 (v535 : BitVec 32) (v1496 : BitVec 32) : Prop :=
  (∀ (k0_h25 : k0_cond25 v535 = 1#1), ∀ a, (k0_off118 v1496) a + S1x32.size a ≤ S1024x32.size a)
theorem k0_off118_inb : ∀ (v535 : BitVec 32) (v1496 : BitVec 32) (k0_hw71 : k0_chk71 v535 v1496), ∀ (k0_h25 : k0_cond25 v535 = 1#1), ∀ a, (k0_off118 v1496) a + S1x32.size a ≤ S1024x32.size a := fun v535 v1496 k0_hw71 k0_h25 => k0_hw71 k0_h25

@[reducible] def k0_t48_loop (v535 : BitVec 32) (v537 : BitVec 32) : Scf.Loop 32 :=
  let v1485 : BitVec 32 := Scalar.addi v537 v535
  let v1487 : BitVec 32 := Scalar.subi v1485 v537
  let c1_i32_650 : BitVec 32 := 1#32
  let v1489 : BitVec 32 := Scalar.divsi v1487 c1_i32_650
  let v1490 : BitVec 32 := Scalar.muli v1489 c1_i32_650
  let v1491 : BitVec 32 := Scalar.addi v537 v1490
  let v1488 : BitVec 32 := Scalar.addi v537 v1487
  let c1_i32_652 : BitVec 32 := 1#32
  ⟨v1491, v1488, c1_i32_652⟩
def k0_off119 (v535 : BitVec 32) (v537 : BitVec 32) (k0_t48 : Fin (k0_t48_loop v535 v537).trips) : Fin 1 → Nat :=
  let v1485 : BitVec 32 := Scalar.addi v537 v535
  let v1487 : BitVec 32 := Scalar.subi v1485 v537
  let c1_i32_650 : BitVec 32 := 1#32
  let v1489 : BitVec 32 := Scalar.divsi v1487 c1_i32_650
  let v1490 : BitVec 32 := Scalar.muli v1489 c1_i32_650
  let v1491 : BitVec 32 := Scalar.addi v537 v1490
  let c1_i32_652 : BitVec 32 := 1#32
  let arg12 : BitVec 32 := Scf.iv v1491 c1_i32_652 k0_t48
  let v1495 : Index := Scalar.indexCast arg12
  ![v1495.toNat]

def k0_chk70 (v535 : BitVec 32) (v537 : BitVec 32) : Prop :=
  (∀ (k0_h25 : k0_cond25 v535 = 1#1), (k0_t47_loop v535 v537).OK) ∧
  (∀ k0_t47 : Fin (k0_t47_loop v535 v537).trips, ∀ (k0_h25 : k0_cond25 v535 = 1#1), ∀ a, (k0_off117 v535 v537 k0_t47) a + S1.size a ≤ S1024.size a) ∧
  (∀ (k0_h25 : k0_cond25 v535 = 1#1), (k0_t48_loop v535 v537).OK) ∧
  (∀ k0_t48 : Fin (k0_t48_loop v535 v537).trips, ∀ (k0_h25 : k0_cond25 v535 = 1#1), ∀ a, (k0_off119 v535 v537 k0_t48) a + S1.size a ≤ S1024.size a)
theorem k0_t47_ok : ∀ (v535 : BitVec 32) (v537 : BitVec 32) (k0_hw70 : k0_chk70 v535 v537), ∀ (k0_h25 : k0_cond25 v535 = 1#1), (k0_t47_loop v535 v537).OK := fun v535 v537 k0_hw70 k0_h25 => k0_hw70.1 k0_h25
theorem k0_off117_inb : ∀ (v535 : BitVec 32) (v537 : BitVec 32) (k0_hw70 : k0_chk70 v535 v537) (k0_t47 : Fin (k0_t47_loop v535 v537).trips), ∀ (k0_h25 : k0_cond25 v535 = 1#1), ∀ a, (k0_off117 v535 v537 k0_t47) a + S1.size a ≤ S1024.size a := fun v535 v537 k0_hw70 k0_t47 k0_h25 => k0_hw70.2.1 k0_t47 k0_h25
theorem k0_t48_ok : ∀ (v535 : BitVec 32) (v537 : BitVec 32) (k0_hw70 : k0_chk70 v535 v537), ∀ (k0_h25 : k0_cond25 v535 = 1#1), (k0_t48_loop v535 v537).OK := fun v535 v537 k0_hw70 k0_h25 => k0_hw70.2.2.1 k0_h25
theorem k0_off119_inb : ∀ (v535 : BitVec 32) (v537 : BitVec 32) (k0_hw70 : k0_chk70 v535 v537) (k0_t48 : Fin (k0_t48_loop v535 v537).trips), ∀ (k0_h25 : k0_cond25 v535 = 1#1), ∀ a, (k0_off119 v535 v537 k0_t48) a + S1.size a ≤ S1024.size a := fun v535 v537 k0_hw70 k0_t48 k0_h25 => k0_hw70.2.2.2 k0_t48 k0_h25

def k0_off120 (v1496 : BitVec 32) : Fin 2 → Nat :=
  let v1497 : Index := Scalar.indexCast v1496
  let c0_653 : Index := 0#32
  ![v1497.toNat, 0]

def k0_chk72 (v535 : BitVec 32) (v1496 : BitVec 32) : Prop :=
  (∀ (k0_h25 : k0_cond25 v535 = 1#1), ∀ a, (k0_off120 v1496) a + S1x32.size a ≤ S1024x32.size a)
theorem k0_off120_inb : ∀ (v535 : BitVec 32) (v1496 : BitVec 32) (k0_hw72 : k0_chk72 v535 v1496), ∀ (k0_h25 : k0_cond25 v535 = 1#1), ∀ a, (k0_off120 v1496) a + S1x32.size a ≤ S1024x32.size a := fun v535 v1496 k0_hw72 k0_h25 => k0_hw72 k0_h25

def k0_off121 (i : grid0.Coords) : Fin 1 → Nat :=
  let arg0 : BitVec 32 := BitVec.ofNat 32 (i 0).val
  let c64_i32_240 : BitVec 32 := 64#32
  let v555 : BitVec 32 := Scalar.muli arg0 c64_i32_240
  let c24_i32 : BitVec 32 := 24#32
  let v556 : BitVec 32 := Scalar.addi v555 c24_i32
  let v557 : Index := Scalar.indexCast v556
  ![v557.toNat]
@[reducible] def k0_t49_loop (v558 : BitVec 32) (v560 : BitVec 32) : Scf.Loop 32 :=
  let v1485 : BitVec 32 := Scalar.addi v560 v558
  let v1487 : BitVec 32 := Scalar.subi v1485 v560
  let c1_i32_650 : BitVec 32 := 1#32
  let v1489 : BitVec 32 := Scalar.divsi v1487 c1_i32_650
  let v1490 : BitVec 32 := Scalar.muli v1489 c1_i32_650
  let v1491 : BitVec 32 := Scalar.addi v560 v1490
  let c1_i32_651 : BitVec 32 := 1#32
  ⟨v560, v1491, c1_i32_651⟩
def k0_cond26 (v558 : BitVec 32) : BitVec 1 :=
  let c0_i32_243 : BitVec 32 := 0#32
  let v563 : BitVec 1 := Scalar.cmpi .sgt v558 c0_i32_243
  let v564 : BitVec 32 := Scalar.extui v563
  let c0_i32_244 : BitVec 32 := 0#32
  let v565 : BitVec 1 := Scalar.cmpi .ne v564 c0_i32_244
  v565

def k0_off122 (v558 : BitVec 32) (v560 : BitVec 32) (k0_t49 : Fin (k0_t49_loop v558 v560).trips) : Fin 1 → Nat :=
  let c1_i32_651 : BitVec 32 := 1#32
  let arg12 : BitVec 32 := Scf.iv v560 c1_i32_651 k0_t49
  let v1495 : Index := Scalar.indexCast arg12
  ![v1495.toNat]
def k0_off123 (v1496 : BitVec 32) : Fin 2 → Nat :=
  let v1497 : Index := Scalar.indexCast v1496
  let c0_653 : Index := 0#32
  ![v1497.toNat, 0]

def k0_chk74 (v558 : BitVec 32) (v1496 : BitVec 32) : Prop :=
  (∀ (k0_h26 : k0_cond26 v558 = 1#1), ∀ a, (k0_off123 v1496) a + S1x32.size a ≤ S1024x32.size a)
theorem k0_off123_inb : ∀ (v558 : BitVec 32) (v1496 : BitVec 32) (k0_hw74 : k0_chk74 v558 v1496), ∀ (k0_h26 : k0_cond26 v558 = 1#1), ∀ a, (k0_off123 v1496) a + S1x32.size a ≤ S1024x32.size a := fun v558 v1496 k0_hw74 k0_h26 => k0_hw74 k0_h26

@[reducible] def k0_t50_loop (v558 : BitVec 32) (v560 : BitVec 32) : Scf.Loop 32 :=
  let v1485 : BitVec 32 := Scalar.addi v560 v558
  let v1487 : BitVec 32 := Scalar.subi v1485 v560
  let c1_i32_650 : BitVec 32 := 1#32
  let v1489 : BitVec 32 := Scalar.divsi v1487 c1_i32_650
  let v1490 : BitVec 32 := Scalar.muli v1489 c1_i32_650
  let v1491 : BitVec 32 := Scalar.addi v560 v1490
  let v1488 : BitVec 32 := Scalar.addi v560 v1487
  let c1_i32_652 : BitVec 32 := 1#32
  ⟨v1491, v1488, c1_i32_652⟩
def k0_off124 (v558 : BitVec 32) (v560 : BitVec 32) (k0_t50 : Fin (k0_t50_loop v558 v560).trips) : Fin 1 → Nat :=
  let v1485 : BitVec 32 := Scalar.addi v560 v558
  let v1487 : BitVec 32 := Scalar.subi v1485 v560
  let c1_i32_650 : BitVec 32 := 1#32
  let v1489 : BitVec 32 := Scalar.divsi v1487 c1_i32_650
  let v1490 : BitVec 32 := Scalar.muli v1489 c1_i32_650
  let v1491 : BitVec 32 := Scalar.addi v560 v1490
  let c1_i32_652 : BitVec 32 := 1#32
  let arg12 : BitVec 32 := Scf.iv v1491 c1_i32_652 k0_t50
  let v1495 : Index := Scalar.indexCast arg12
  ![v1495.toNat]

def k0_chk73 (v558 : BitVec 32) (v560 : BitVec 32) : Prop :=
  (∀ (k0_h26 : k0_cond26 v558 = 1#1), (k0_t49_loop v558 v560).OK) ∧
  (∀ k0_t49 : Fin (k0_t49_loop v558 v560).trips, ∀ (k0_h26 : k0_cond26 v558 = 1#1), ∀ a, (k0_off122 v558 v560 k0_t49) a + S1.size a ≤ S1024.size a) ∧
  (∀ (k0_h26 : k0_cond26 v558 = 1#1), (k0_t50_loop v558 v560).OK) ∧
  (∀ k0_t50 : Fin (k0_t50_loop v558 v560).trips, ∀ (k0_h26 : k0_cond26 v558 = 1#1), ∀ a, (k0_off124 v558 v560 k0_t50) a + S1.size a ≤ S1024.size a)
theorem k0_t49_ok : ∀ (v558 : BitVec 32) (v560 : BitVec 32) (k0_hw73 : k0_chk73 v558 v560), ∀ (k0_h26 : k0_cond26 v558 = 1#1), (k0_t49_loop v558 v560).OK := fun v558 v560 k0_hw73 k0_h26 => k0_hw73.1 k0_h26
theorem k0_off122_inb : ∀ (v558 : BitVec 32) (v560 : BitVec 32) (k0_hw73 : k0_chk73 v558 v560) (k0_t49 : Fin (k0_t49_loop v558 v560).trips), ∀ (k0_h26 : k0_cond26 v558 = 1#1), ∀ a, (k0_off122 v558 v560 k0_t49) a + S1.size a ≤ S1024.size a := fun v558 v560 k0_hw73 k0_t49 k0_h26 => k0_hw73.2.1 k0_t49 k0_h26
theorem k0_t50_ok : ∀ (v558 : BitVec 32) (v560 : BitVec 32) (k0_hw73 : k0_chk73 v558 v560), ∀ (k0_h26 : k0_cond26 v558 = 1#1), (k0_t50_loop v558 v560).OK := fun v558 v560 k0_hw73 k0_h26 => k0_hw73.2.2.1 k0_h26
theorem k0_off124_inb : ∀ (v558 : BitVec 32) (v560 : BitVec 32) (k0_hw73 : k0_chk73 v558 v560) (k0_t50 : Fin (k0_t50_loop v558 v560).trips), ∀ (k0_h26 : k0_cond26 v558 = 1#1), ∀ a, (k0_off124 v558 v560 k0_t50) a + S1.size a ≤ S1024.size a := fun v558 v560 k0_hw73 k0_t50 k0_h26 => k0_hw73.2.2.2 k0_t50 k0_h26

def k0_off125 (v1496 : BitVec 32) : Fin 2 → Nat :=
  let v1497 : Index := Scalar.indexCast v1496
  let c0_653 : Index := 0#32
  ![v1497.toNat, 0]

def k0_chk75 (v558 : BitVec 32) (v1496 : BitVec 32) : Prop :=
  (∀ (k0_h26 : k0_cond26 v558 = 1#1), ∀ a, (k0_off125 v1496) a + S1x32.size a ≤ S1024x32.size a)
theorem k0_off125_inb : ∀ (v558 : BitVec 32) (v1496 : BitVec 32) (k0_hw75 : k0_chk75 v558 v1496), ∀ (k0_h26 : k0_cond26 v558 = 1#1), ∀ a, (k0_off125 v1496) a + S1x32.size a ≤ S1024x32.size a := fun v558 v1496 k0_hw75 k0_h26 => k0_hw75 k0_h26

def k0_off126 (i : grid0.Coords) : Fin 1 → Nat :=
  let arg0 : BitVec 32 := BitVec.ofNat 32 (i 0).val
  let c64_i32_250 : BitVec 32 := 64#32
  let v578 : BitVec 32 := Scalar.muli arg0 c64_i32_250
  let c25_i32 : BitVec 32 := 25#32
  let v579 : BitVec 32 := Scalar.addi v578 c25_i32
  let v580 : Index := Scalar.indexCast v579
  ![v580.toNat]
@[reducible] def k0_t51_loop (v581 : BitVec 32) (v583 : BitVec 32) : Scf.Loop 32 :=
  let v1485 : BitVec 32 := Scalar.addi v583 v581
  let v1487 : BitVec 32 := Scalar.subi v1485 v583
  let c1_i32_650 : BitVec 32 := 1#32
  let v1489 : BitVec 32 := Scalar.divsi v1487 c1_i32_650
  let v1490 : BitVec 32 := Scalar.muli v1489 c1_i32_650
  let v1491 : BitVec 32 := Scalar.addi v583 v1490
  let c1_i32_651 : BitVec 32 := 1#32
  ⟨v583, v1491, c1_i32_651⟩
def k0_cond27 (v581 : BitVec 32) : BitVec 1 :=
  let c0_i32_253 : BitVec 32 := 0#32
  let v586 : BitVec 1 := Scalar.cmpi .sgt v581 c0_i32_253
  let v587 : BitVec 32 := Scalar.extui v586
  let c0_i32_254 : BitVec 32 := 0#32
  let v588 : BitVec 1 := Scalar.cmpi .ne v587 c0_i32_254
  v588

def k0_off127 (v581 : BitVec 32) (v583 : BitVec 32) (k0_t51 : Fin (k0_t51_loop v581 v583).trips) : Fin 1 → Nat :=
  let c1_i32_651 : BitVec 32 := 1#32
  let arg12 : BitVec 32 := Scf.iv v583 c1_i32_651 k0_t51
  let v1495 : Index := Scalar.indexCast arg12
  ![v1495.toNat]
def k0_off128 (v1496 : BitVec 32) : Fin 2 → Nat :=
  let v1497 : Index := Scalar.indexCast v1496
  let c0_653 : Index := 0#32
  ![v1497.toNat, 0]

def k0_chk77 (v581 : BitVec 32) (v1496 : BitVec 32) : Prop :=
  (∀ (k0_h27 : k0_cond27 v581 = 1#1), ∀ a, (k0_off128 v1496) a + S1x32.size a ≤ S1024x32.size a)
theorem k0_off128_inb : ∀ (v581 : BitVec 32) (v1496 : BitVec 32) (k0_hw77 : k0_chk77 v581 v1496), ∀ (k0_h27 : k0_cond27 v581 = 1#1), ∀ a, (k0_off128 v1496) a + S1x32.size a ≤ S1024x32.size a := fun v581 v1496 k0_hw77 k0_h27 => k0_hw77 k0_h27

@[reducible] def k0_t52_loop (v581 : BitVec 32) (v583 : BitVec 32) : Scf.Loop 32 :=
  let v1485 : BitVec 32 := Scalar.addi v583 v581
  let v1487 : BitVec 32 := Scalar.subi v1485 v583
  let c1_i32_650 : BitVec 32 := 1#32
  let v1489 : BitVec 32 := Scalar.divsi v1487 c1_i32_650
  let v1490 : BitVec 32 := Scalar.muli v1489 c1_i32_650
  let v1491 : BitVec 32 := Scalar.addi v583 v1490
  let v1488 : BitVec 32 := Scalar.addi v583 v1487
  let c1_i32_652 : BitVec 32 := 1#32
  ⟨v1491, v1488, c1_i32_652⟩
def k0_off129 (v581 : BitVec 32) (v583 : BitVec 32) (k0_t52 : Fin (k0_t52_loop v581 v583).trips) : Fin 1 → Nat :=
  let v1485 : BitVec 32 := Scalar.addi v583 v581
  let v1487 : BitVec 32 := Scalar.subi v1485 v583
  let c1_i32_650 : BitVec 32 := 1#32
  let v1489 : BitVec 32 := Scalar.divsi v1487 c1_i32_650
  let v1490 : BitVec 32 := Scalar.muli v1489 c1_i32_650
  let v1491 : BitVec 32 := Scalar.addi v583 v1490
  let c1_i32_652 : BitVec 32 := 1#32
  let arg12 : BitVec 32 := Scf.iv v1491 c1_i32_652 k0_t52
  let v1495 : Index := Scalar.indexCast arg12
  ![v1495.toNat]

def k0_chk76 (v581 : BitVec 32) (v583 : BitVec 32) : Prop :=
  (∀ (k0_h27 : k0_cond27 v581 = 1#1), (k0_t51_loop v581 v583).OK) ∧
  (∀ k0_t51 : Fin (k0_t51_loop v581 v583).trips, ∀ (k0_h27 : k0_cond27 v581 = 1#1), ∀ a, (k0_off127 v581 v583 k0_t51) a + S1.size a ≤ S1024.size a) ∧
  (∀ (k0_h27 : k0_cond27 v581 = 1#1), (k0_t52_loop v581 v583).OK) ∧
  (∀ k0_t52 : Fin (k0_t52_loop v581 v583).trips, ∀ (k0_h27 : k0_cond27 v581 = 1#1), ∀ a, (k0_off129 v581 v583 k0_t52) a + S1.size a ≤ S1024.size a)
theorem k0_t51_ok : ∀ (v581 : BitVec 32) (v583 : BitVec 32) (k0_hw76 : k0_chk76 v581 v583), ∀ (k0_h27 : k0_cond27 v581 = 1#1), (k0_t51_loop v581 v583).OK := fun v581 v583 k0_hw76 k0_h27 => k0_hw76.1 k0_h27
theorem k0_off127_inb : ∀ (v581 : BitVec 32) (v583 : BitVec 32) (k0_hw76 : k0_chk76 v581 v583) (k0_t51 : Fin (k0_t51_loop v581 v583).trips), ∀ (k0_h27 : k0_cond27 v581 = 1#1), ∀ a, (k0_off127 v581 v583 k0_t51) a + S1.size a ≤ S1024.size a := fun v581 v583 k0_hw76 k0_t51 k0_h27 => k0_hw76.2.1 k0_t51 k0_h27
theorem k0_t52_ok : ∀ (v581 : BitVec 32) (v583 : BitVec 32) (k0_hw76 : k0_chk76 v581 v583), ∀ (k0_h27 : k0_cond27 v581 = 1#1), (k0_t52_loop v581 v583).OK := fun v581 v583 k0_hw76 k0_h27 => k0_hw76.2.2.1 k0_h27
theorem k0_off129_inb : ∀ (v581 : BitVec 32) (v583 : BitVec 32) (k0_hw76 : k0_chk76 v581 v583) (k0_t52 : Fin (k0_t52_loop v581 v583).trips), ∀ (k0_h27 : k0_cond27 v581 = 1#1), ∀ a, (k0_off129 v581 v583 k0_t52) a + S1.size a ≤ S1024.size a := fun v581 v583 k0_hw76 k0_t52 k0_h27 => k0_hw76.2.2.2 k0_t52 k0_h27

def k0_off130 (v1496 : BitVec 32) : Fin 2 → Nat :=
  let v1497 : Index := Scalar.indexCast v1496
  let c0_653 : Index := 0#32
  ![v1497.toNat, 0]

def k0_chk78 (v581 : BitVec 32) (v1496 : BitVec 32) : Prop :=
  (∀ (k0_h27 : k0_cond27 v581 = 1#1), ∀ a, (k0_off130 v1496) a + S1x32.size a ≤ S1024x32.size a)
theorem k0_off130_inb : ∀ (v581 : BitVec 32) (v1496 : BitVec 32) (k0_hw78 : k0_chk78 v581 v1496), ∀ (k0_h27 : k0_cond27 v581 = 1#1), ∀ a, (k0_off130 v1496) a + S1x32.size a ≤ S1024x32.size a := fun v581 v1496 k0_hw78 k0_h27 => k0_hw78 k0_h27

def k0_off131 (i : grid0.Coords) : Fin 1 → Nat :=
  let arg0 : BitVec 32 := BitVec.ofNat 32 (i 0).val
  let c64_i32_260 : BitVec 32 := 64#32
  let v601 : BitVec 32 := Scalar.muli arg0 c64_i32_260
  let c26_i32 : BitVec 32 := 26#32
  let v602 : BitVec 32 := Scalar.addi v601 c26_i32
  let v603 : Index := Scalar.indexCast v602
  ![v603.toNat]
@[reducible] def k0_t53_loop (v604 : BitVec 32) (v606 : BitVec 32) : Scf.Loop 32 :=
  let v1485 : BitVec 32 := Scalar.addi v606 v604
  let v1487 : BitVec 32 := Scalar.subi v1485 v606
  let c1_i32_650 : BitVec 32 := 1#32
  let v1489 : BitVec 32 := Scalar.divsi v1487 c1_i32_650
  let v1490 : BitVec 32 := Scalar.muli v1489 c1_i32_650
  let v1491 : BitVec 32 := Scalar.addi v606 v1490
  let c1_i32_651 : BitVec 32 := 1#32
  ⟨v606, v1491, c1_i32_651⟩
def k0_cond28 (v604 : BitVec 32) : BitVec 1 :=
  let c0_i32_263 : BitVec 32 := 0#32
  let v609 : BitVec 1 := Scalar.cmpi .sgt v604 c0_i32_263
  let v610 : BitVec 32 := Scalar.extui v609
  let c0_i32_264 : BitVec 32 := 0#32
  let v611 : BitVec 1 := Scalar.cmpi .ne v610 c0_i32_264
  v611

def k0_off132 (v604 : BitVec 32) (v606 : BitVec 32) (k0_t53 : Fin (k0_t53_loop v604 v606).trips) : Fin 1 → Nat :=
  let c1_i32_651 : BitVec 32 := 1#32
  let arg12 : BitVec 32 := Scf.iv v606 c1_i32_651 k0_t53
  let v1495 : Index := Scalar.indexCast arg12
  ![v1495.toNat]
def k0_off133 (v1496 : BitVec 32) : Fin 2 → Nat :=
  let v1497 : Index := Scalar.indexCast v1496
  let c0_653 : Index := 0#32
  ![v1497.toNat, 0]

def k0_chk80 (v604 : BitVec 32) (v1496 : BitVec 32) : Prop :=
  (∀ (k0_h28 : k0_cond28 v604 = 1#1), ∀ a, (k0_off133 v1496) a + S1x32.size a ≤ S1024x32.size a)
theorem k0_off133_inb : ∀ (v604 : BitVec 32) (v1496 : BitVec 32) (k0_hw80 : k0_chk80 v604 v1496), ∀ (k0_h28 : k0_cond28 v604 = 1#1), ∀ a, (k0_off133 v1496) a + S1x32.size a ≤ S1024x32.size a := fun v604 v1496 k0_hw80 k0_h28 => k0_hw80 k0_h28

@[reducible] def k0_t54_loop (v604 : BitVec 32) (v606 : BitVec 32) : Scf.Loop 32 :=
  let v1485 : BitVec 32 := Scalar.addi v606 v604
  let v1487 : BitVec 32 := Scalar.subi v1485 v606
  let c1_i32_650 : BitVec 32 := 1#32
  let v1489 : BitVec 32 := Scalar.divsi v1487 c1_i32_650
  let v1490 : BitVec 32 := Scalar.muli v1489 c1_i32_650
  let v1491 : BitVec 32 := Scalar.addi v606 v1490
  let v1488 : BitVec 32 := Scalar.addi v606 v1487
  let c1_i32_652 : BitVec 32 := 1#32
  ⟨v1491, v1488, c1_i32_652⟩
def k0_off134 (v604 : BitVec 32) (v606 : BitVec 32) (k0_t54 : Fin (k0_t54_loop v604 v606).trips) : Fin 1 → Nat :=
  let v1485 : BitVec 32 := Scalar.addi v606 v604
  let v1487 : BitVec 32 := Scalar.subi v1485 v606
  let c1_i32_650 : BitVec 32 := 1#32
  let v1489 : BitVec 32 := Scalar.divsi v1487 c1_i32_650
  let v1490 : BitVec 32 := Scalar.muli v1489 c1_i32_650
  let v1491 : BitVec 32 := Scalar.addi v606 v1490
  let c1_i32_652 : BitVec 32 := 1#32
  let arg12 : BitVec 32 := Scf.iv v1491 c1_i32_652 k0_t54
  let v1495 : Index := Scalar.indexCast arg12
  ![v1495.toNat]

def k0_chk79 (v604 : BitVec 32) (v606 : BitVec 32) : Prop :=
  (∀ (k0_h28 : k0_cond28 v604 = 1#1), (k0_t53_loop v604 v606).OK) ∧
  (∀ k0_t53 : Fin (k0_t53_loop v604 v606).trips, ∀ (k0_h28 : k0_cond28 v604 = 1#1), ∀ a, (k0_off132 v604 v606 k0_t53) a + S1.size a ≤ S1024.size a) ∧
  (∀ (k0_h28 : k0_cond28 v604 = 1#1), (k0_t54_loop v604 v606).OK) ∧
  (∀ k0_t54 : Fin (k0_t54_loop v604 v606).trips, ∀ (k0_h28 : k0_cond28 v604 = 1#1), ∀ a, (k0_off134 v604 v606 k0_t54) a + S1.size a ≤ S1024.size a)
theorem k0_t53_ok : ∀ (v604 : BitVec 32) (v606 : BitVec 32) (k0_hw79 : k0_chk79 v604 v606), ∀ (k0_h28 : k0_cond28 v604 = 1#1), (k0_t53_loop v604 v606).OK := fun v604 v606 k0_hw79 k0_h28 => k0_hw79.1 k0_h28
theorem k0_off132_inb : ∀ (v604 : BitVec 32) (v606 : BitVec 32) (k0_hw79 : k0_chk79 v604 v606) (k0_t53 : Fin (k0_t53_loop v604 v606).trips), ∀ (k0_h28 : k0_cond28 v604 = 1#1), ∀ a, (k0_off132 v604 v606 k0_t53) a + S1.size a ≤ S1024.size a := fun v604 v606 k0_hw79 k0_t53 k0_h28 => k0_hw79.2.1 k0_t53 k0_h28
theorem k0_t54_ok : ∀ (v604 : BitVec 32) (v606 : BitVec 32) (k0_hw79 : k0_chk79 v604 v606), ∀ (k0_h28 : k0_cond28 v604 = 1#1), (k0_t54_loop v604 v606).OK := fun v604 v606 k0_hw79 k0_h28 => k0_hw79.2.2.1 k0_h28
theorem k0_off134_inb : ∀ (v604 : BitVec 32) (v606 : BitVec 32) (k0_hw79 : k0_chk79 v604 v606) (k0_t54 : Fin (k0_t54_loop v604 v606).trips), ∀ (k0_h28 : k0_cond28 v604 = 1#1), ∀ a, (k0_off134 v604 v606 k0_t54) a + S1.size a ≤ S1024.size a := fun v604 v606 k0_hw79 k0_t54 k0_h28 => k0_hw79.2.2.2 k0_t54 k0_h28

def k0_off135 (v1496 : BitVec 32) : Fin 2 → Nat :=
  let v1497 : Index := Scalar.indexCast v1496
  let c0_653 : Index := 0#32
  ![v1497.toNat, 0]

def k0_chk81 (v604 : BitVec 32) (v1496 : BitVec 32) : Prop :=
  (∀ (k0_h28 : k0_cond28 v604 = 1#1), ∀ a, (k0_off135 v1496) a + S1x32.size a ≤ S1024x32.size a)
theorem k0_off135_inb : ∀ (v604 : BitVec 32) (v1496 : BitVec 32) (k0_hw81 : k0_chk81 v604 v1496), ∀ (k0_h28 : k0_cond28 v604 = 1#1), ∀ a, (k0_off135 v1496) a + S1x32.size a ≤ S1024x32.size a := fun v604 v1496 k0_hw81 k0_h28 => k0_hw81 k0_h28

def k0_off136 (i : grid0.Coords) : Fin 1 → Nat :=
  let arg0 : BitVec 32 := BitVec.ofNat 32 (i 0).val
  let c64_i32_270 : BitVec 32 := 64#32
  let v624 : BitVec 32 := Scalar.muli arg0 c64_i32_270
  let c27_i32 : BitVec 32 := 27#32
  let v625 : BitVec 32 := Scalar.addi v624 c27_i32
  let v626 : Index := Scalar.indexCast v625
  ![v626.toNat]
@[reducible] def k0_t55_loop (v627 : BitVec 32) (v629 : BitVec 32) : Scf.Loop 32 :=
  let v1485 : BitVec 32 := Scalar.addi v629 v627
  let v1487 : BitVec 32 := Scalar.subi v1485 v629
  let c1_i32_650 : BitVec 32 := 1#32
  let v1489 : BitVec 32 := Scalar.divsi v1487 c1_i32_650
  let v1490 : BitVec 32 := Scalar.muli v1489 c1_i32_650
  let v1491 : BitVec 32 := Scalar.addi v629 v1490
  let c1_i32_651 : BitVec 32 := 1#32
  ⟨v629, v1491, c1_i32_651⟩
def k0_cond29 (v627 : BitVec 32) : BitVec 1 :=
  let c0_i32_273 : BitVec 32 := 0#32
  let v632 : BitVec 1 := Scalar.cmpi .sgt v627 c0_i32_273
  let v633 : BitVec 32 := Scalar.extui v632
  let c0_i32_274 : BitVec 32 := 0#32
  let v634 : BitVec 1 := Scalar.cmpi .ne v633 c0_i32_274
  v634

def k0_off137 (v627 : BitVec 32) (v629 : BitVec 32) (k0_t55 : Fin (k0_t55_loop v627 v629).trips) : Fin 1 → Nat :=
  let c1_i32_651 : BitVec 32 := 1#32
  let arg12 : BitVec 32 := Scf.iv v629 c1_i32_651 k0_t55
  let v1495 : Index := Scalar.indexCast arg12
  ![v1495.toNat]
def k0_off138 (v1496 : BitVec 32) : Fin 2 → Nat :=
  let v1497 : Index := Scalar.indexCast v1496
  let c0_653 : Index := 0#32
  ![v1497.toNat, 0]

def k0_chk83 (v627 : BitVec 32) (v1496 : BitVec 32) : Prop :=
  (∀ (k0_h29 : k0_cond29 v627 = 1#1), ∀ a, (k0_off138 v1496) a + S1x32.size a ≤ S1024x32.size a)
theorem k0_off138_inb : ∀ (v627 : BitVec 32) (v1496 : BitVec 32) (k0_hw83 : k0_chk83 v627 v1496), ∀ (k0_h29 : k0_cond29 v627 = 1#1), ∀ a, (k0_off138 v1496) a + S1x32.size a ≤ S1024x32.size a := fun v627 v1496 k0_hw83 k0_h29 => k0_hw83 k0_h29

@[reducible] def k0_t56_loop (v627 : BitVec 32) (v629 : BitVec 32) : Scf.Loop 32 :=
  let v1485 : BitVec 32 := Scalar.addi v629 v627
  let v1487 : BitVec 32 := Scalar.subi v1485 v629
  let c1_i32_650 : BitVec 32 := 1#32
  let v1489 : BitVec 32 := Scalar.divsi v1487 c1_i32_650
  let v1490 : BitVec 32 := Scalar.muli v1489 c1_i32_650
  let v1491 : BitVec 32 := Scalar.addi v629 v1490
  let v1488 : BitVec 32 := Scalar.addi v629 v1487
  let c1_i32_652 : BitVec 32 := 1#32
  ⟨v1491, v1488, c1_i32_652⟩
def k0_off139 (v627 : BitVec 32) (v629 : BitVec 32) (k0_t56 : Fin (k0_t56_loop v627 v629).trips) : Fin 1 → Nat :=
  let v1485 : BitVec 32 := Scalar.addi v629 v627
  let v1487 : BitVec 32 := Scalar.subi v1485 v629
  let c1_i32_650 : BitVec 32 := 1#32
  let v1489 : BitVec 32 := Scalar.divsi v1487 c1_i32_650
  let v1490 : BitVec 32 := Scalar.muli v1489 c1_i32_650
  let v1491 : BitVec 32 := Scalar.addi v629 v1490
  let c1_i32_652 : BitVec 32 := 1#32
  let arg12 : BitVec 32 := Scf.iv v1491 c1_i32_652 k0_t56
  let v1495 : Index := Scalar.indexCast arg12
  ![v1495.toNat]

def k0_chk82 (v627 : BitVec 32) (v629 : BitVec 32) : Prop :=
  (∀ (k0_h29 : k0_cond29 v627 = 1#1), (k0_t55_loop v627 v629).OK) ∧
  (∀ k0_t55 : Fin (k0_t55_loop v627 v629).trips, ∀ (k0_h29 : k0_cond29 v627 = 1#1), ∀ a, (k0_off137 v627 v629 k0_t55) a + S1.size a ≤ S1024.size a) ∧
  (∀ (k0_h29 : k0_cond29 v627 = 1#1), (k0_t56_loop v627 v629).OK) ∧
  (∀ k0_t56 : Fin (k0_t56_loop v627 v629).trips, ∀ (k0_h29 : k0_cond29 v627 = 1#1), ∀ a, (k0_off139 v627 v629 k0_t56) a + S1.size a ≤ S1024.size a)
theorem k0_t55_ok : ∀ (v627 : BitVec 32) (v629 : BitVec 32) (k0_hw82 : k0_chk82 v627 v629), ∀ (k0_h29 : k0_cond29 v627 = 1#1), (k0_t55_loop v627 v629).OK := fun v627 v629 k0_hw82 k0_h29 => k0_hw82.1 k0_h29
theorem k0_off137_inb : ∀ (v627 : BitVec 32) (v629 : BitVec 32) (k0_hw82 : k0_chk82 v627 v629) (k0_t55 : Fin (k0_t55_loop v627 v629).trips), ∀ (k0_h29 : k0_cond29 v627 = 1#1), ∀ a, (k0_off137 v627 v629 k0_t55) a + S1.size a ≤ S1024.size a := fun v627 v629 k0_hw82 k0_t55 k0_h29 => k0_hw82.2.1 k0_t55 k0_h29
theorem k0_t56_ok : ∀ (v627 : BitVec 32) (v629 : BitVec 32) (k0_hw82 : k0_chk82 v627 v629), ∀ (k0_h29 : k0_cond29 v627 = 1#1), (k0_t56_loop v627 v629).OK := fun v627 v629 k0_hw82 k0_h29 => k0_hw82.2.2.1 k0_h29
theorem k0_off139_inb : ∀ (v627 : BitVec 32) (v629 : BitVec 32) (k0_hw82 : k0_chk82 v627 v629) (k0_t56 : Fin (k0_t56_loop v627 v629).trips), ∀ (k0_h29 : k0_cond29 v627 = 1#1), ∀ a, (k0_off139 v627 v629 k0_t56) a + S1.size a ≤ S1024.size a := fun v627 v629 k0_hw82 k0_t56 k0_h29 => k0_hw82.2.2.2 k0_t56 k0_h29

def k0_off140 (v1496 : BitVec 32) : Fin 2 → Nat :=
  let v1497 : Index := Scalar.indexCast v1496
  let c0_653 : Index := 0#32
  ![v1497.toNat, 0]

def k0_chk84 (v627 : BitVec 32) (v1496 : BitVec 32) : Prop :=
  (∀ (k0_h29 : k0_cond29 v627 = 1#1), ∀ a, (k0_off140 v1496) a + S1x32.size a ≤ S1024x32.size a)
theorem k0_off140_inb : ∀ (v627 : BitVec 32) (v1496 : BitVec 32) (k0_hw84 : k0_chk84 v627 v1496), ∀ (k0_h29 : k0_cond29 v627 = 1#1), ∀ a, (k0_off140 v1496) a + S1x32.size a ≤ S1024x32.size a := fun v627 v1496 k0_hw84 k0_h29 => k0_hw84 k0_h29

def k0_off141 (i : grid0.Coords) : Fin 1 → Nat :=
  let arg0 : BitVec 32 := BitVec.ofNat 32 (i 0).val
  let c64_i32_280 : BitVec 32 := 64#32
  let v647 : BitVec 32 := Scalar.muli arg0 c64_i32_280
  let c28_i32 : BitVec 32 := 28#32
  let v648 : BitVec 32 := Scalar.addi v647 c28_i32
  let v649 : Index := Scalar.indexCast v648
  ![v649.toNat]
@[reducible] def k0_t57_loop (v650 : BitVec 32) (v652 : BitVec 32) : Scf.Loop 32 :=
  let v1485 : BitVec 32 := Scalar.addi v652 v650
  let v1487 : BitVec 32 := Scalar.subi v1485 v652
  let c1_i32_650 : BitVec 32 := 1#32
  let v1489 : BitVec 32 := Scalar.divsi v1487 c1_i32_650
  let v1490 : BitVec 32 := Scalar.muli v1489 c1_i32_650
  let v1491 : BitVec 32 := Scalar.addi v652 v1490
  let c1_i32_651 : BitVec 32 := 1#32
  ⟨v652, v1491, c1_i32_651⟩
def k0_cond30 (v650 : BitVec 32) : BitVec 1 :=
  let c0_i32_283 : BitVec 32 := 0#32
  let v655 : BitVec 1 := Scalar.cmpi .sgt v650 c0_i32_283
  let v656 : BitVec 32 := Scalar.extui v655
  let c0_i32_284 : BitVec 32 := 0#32
  let v657 : BitVec 1 := Scalar.cmpi .ne v656 c0_i32_284
  v657

def k0_off142 (v650 : BitVec 32) (v652 : BitVec 32) (k0_t57 : Fin (k0_t57_loop v650 v652).trips) : Fin 1 → Nat :=
  let c1_i32_651 : BitVec 32 := 1#32
  let arg12 : BitVec 32 := Scf.iv v652 c1_i32_651 k0_t57
  let v1495 : Index := Scalar.indexCast arg12
  ![v1495.toNat]
def k0_off143 (v1496 : BitVec 32) : Fin 2 → Nat :=
  let v1497 : Index := Scalar.indexCast v1496
  let c0_653 : Index := 0#32
  ![v1497.toNat, 0]

def k0_chk86 (v650 : BitVec 32) (v1496 : BitVec 32) : Prop :=
  (∀ (k0_h30 : k0_cond30 v650 = 1#1), ∀ a, (k0_off143 v1496) a + S1x32.size a ≤ S1024x32.size a)
theorem k0_off143_inb : ∀ (v650 : BitVec 32) (v1496 : BitVec 32) (k0_hw86 : k0_chk86 v650 v1496), ∀ (k0_h30 : k0_cond30 v650 = 1#1), ∀ a, (k0_off143 v1496) a + S1x32.size a ≤ S1024x32.size a := fun v650 v1496 k0_hw86 k0_h30 => k0_hw86 k0_h30

@[reducible] def k0_t58_loop (v650 : BitVec 32) (v652 : BitVec 32) : Scf.Loop 32 :=
  let v1485 : BitVec 32 := Scalar.addi v652 v650
  let v1487 : BitVec 32 := Scalar.subi v1485 v652
  let c1_i32_650 : BitVec 32 := 1#32
  let v1489 : BitVec 32 := Scalar.divsi v1487 c1_i32_650
  let v1490 : BitVec 32 := Scalar.muli v1489 c1_i32_650
  let v1491 : BitVec 32 := Scalar.addi v652 v1490
  let v1488 : BitVec 32 := Scalar.addi v652 v1487
  let c1_i32_652 : BitVec 32 := 1#32
  ⟨v1491, v1488, c1_i32_652⟩
def k0_off144 (v650 : BitVec 32) (v652 : BitVec 32) (k0_t58 : Fin (k0_t58_loop v650 v652).trips) : Fin 1 → Nat :=
  let v1485 : BitVec 32 := Scalar.addi v652 v650
  let v1487 : BitVec 32 := Scalar.subi v1485 v652
  let c1_i32_650 : BitVec 32 := 1#32
  let v1489 : BitVec 32 := Scalar.divsi v1487 c1_i32_650
  let v1490 : BitVec 32 := Scalar.muli v1489 c1_i32_650
  let v1491 : BitVec 32 := Scalar.addi v652 v1490
  let c1_i32_652 : BitVec 32 := 1#32
  let arg12 : BitVec 32 := Scf.iv v1491 c1_i32_652 k0_t58
  let v1495 : Index := Scalar.indexCast arg12
  ![v1495.toNat]

def k0_chk85 (v650 : BitVec 32) (v652 : BitVec 32) : Prop :=
  (∀ (k0_h30 : k0_cond30 v650 = 1#1), (k0_t57_loop v650 v652).OK) ∧
  (∀ k0_t57 : Fin (k0_t57_loop v650 v652).trips, ∀ (k0_h30 : k0_cond30 v650 = 1#1), ∀ a, (k0_off142 v650 v652 k0_t57) a + S1.size a ≤ S1024.size a) ∧
  (∀ (k0_h30 : k0_cond30 v650 = 1#1), (k0_t58_loop v650 v652).OK) ∧
  (∀ k0_t58 : Fin (k0_t58_loop v650 v652).trips, ∀ (k0_h30 : k0_cond30 v650 = 1#1), ∀ a, (k0_off144 v650 v652 k0_t58) a + S1.size a ≤ S1024.size a)
theorem k0_t57_ok : ∀ (v650 : BitVec 32) (v652 : BitVec 32) (k0_hw85 : k0_chk85 v650 v652), ∀ (k0_h30 : k0_cond30 v650 = 1#1), (k0_t57_loop v650 v652).OK := fun v650 v652 k0_hw85 k0_h30 => k0_hw85.1 k0_h30
theorem k0_off142_inb : ∀ (v650 : BitVec 32) (v652 : BitVec 32) (k0_hw85 : k0_chk85 v650 v652) (k0_t57 : Fin (k0_t57_loop v650 v652).trips), ∀ (k0_h30 : k0_cond30 v650 = 1#1), ∀ a, (k0_off142 v650 v652 k0_t57) a + S1.size a ≤ S1024.size a := fun v650 v652 k0_hw85 k0_t57 k0_h30 => k0_hw85.2.1 k0_t57 k0_h30
theorem k0_t58_ok : ∀ (v650 : BitVec 32) (v652 : BitVec 32) (k0_hw85 : k0_chk85 v650 v652), ∀ (k0_h30 : k0_cond30 v650 = 1#1), (k0_t58_loop v650 v652).OK := fun v650 v652 k0_hw85 k0_h30 => k0_hw85.2.2.1 k0_h30
theorem k0_off144_inb : ∀ (v650 : BitVec 32) (v652 : BitVec 32) (k0_hw85 : k0_chk85 v650 v652) (k0_t58 : Fin (k0_t58_loop v650 v652).trips), ∀ (k0_h30 : k0_cond30 v650 = 1#1), ∀ a, (k0_off144 v650 v652 k0_t58) a + S1.size a ≤ S1024.size a := fun v650 v652 k0_hw85 k0_t58 k0_h30 => k0_hw85.2.2.2 k0_t58 k0_h30

def k0_off145 (v1496 : BitVec 32) : Fin 2 → Nat :=
  let v1497 : Index := Scalar.indexCast v1496
  let c0_653 : Index := 0#32
  ![v1497.toNat, 0]

def k0_chk87 (v650 : BitVec 32) (v1496 : BitVec 32) : Prop :=
  (∀ (k0_h30 : k0_cond30 v650 = 1#1), ∀ a, (k0_off145 v1496) a + S1x32.size a ≤ S1024x32.size a)
theorem k0_off145_inb : ∀ (v650 : BitVec 32) (v1496 : BitVec 32) (k0_hw87 : k0_chk87 v650 v1496), ∀ (k0_h30 : k0_cond30 v650 = 1#1), ∀ a, (k0_off145 v1496) a + S1x32.size a ≤ S1024x32.size a := fun v650 v1496 k0_hw87 k0_h30 => k0_hw87 k0_h30

def k0_off146 (i : grid0.Coords) : Fin 1 → Nat :=
  let arg0 : BitVec 32 := BitVec.ofNat 32 (i 0).val
  let c64_i32_290 : BitVec 32 := 64#32
  let v670 : BitVec 32 := Scalar.muli arg0 c64_i32_290
  let c29_i32 : BitVec 32 := 29#32
  let v671 : BitVec 32 := Scalar.addi v670 c29_i32
  let v672 : Index := Scalar.indexCast v671
  ![v672.toNat]
@[reducible] def k0_t59_loop (v673 : BitVec 32) (v675 : BitVec 32) : Scf.Loop 32 :=
  let v1485 : BitVec 32 := Scalar.addi v675 v673
  let v1487 : BitVec 32 := Scalar.subi v1485 v675
  let c1_i32_650 : BitVec 32 := 1#32
  let v1489 : BitVec 32 := Scalar.divsi v1487 c1_i32_650
  let v1490 : BitVec 32 := Scalar.muli v1489 c1_i32_650
  let v1491 : BitVec 32 := Scalar.addi v675 v1490
  let c1_i32_651 : BitVec 32 := 1#32
  ⟨v675, v1491, c1_i32_651⟩
def k0_cond31 (v673 : BitVec 32) : BitVec 1 :=
  let c0_i32_293 : BitVec 32 := 0#32
  let v678 : BitVec 1 := Scalar.cmpi .sgt v673 c0_i32_293
  let v679 : BitVec 32 := Scalar.extui v678
  let c0_i32_294 : BitVec 32 := 0#32
  let v680 : BitVec 1 := Scalar.cmpi .ne v679 c0_i32_294
  v680

def k0_off147 (v673 : BitVec 32) (v675 : BitVec 32) (k0_t59 : Fin (k0_t59_loop v673 v675).trips) : Fin 1 → Nat :=
  let c1_i32_651 : BitVec 32 := 1#32
  let arg12 : BitVec 32 := Scf.iv v675 c1_i32_651 k0_t59
  let v1495 : Index := Scalar.indexCast arg12
  ![v1495.toNat]
def k0_off148 (v1496 : BitVec 32) : Fin 2 → Nat :=
  let v1497 : Index := Scalar.indexCast v1496
  let c0_653 : Index := 0#32
  ![v1497.toNat, 0]

def k0_chk89 (v673 : BitVec 32) (v1496 : BitVec 32) : Prop :=
  (∀ (k0_h31 : k0_cond31 v673 = 1#1), ∀ a, (k0_off148 v1496) a + S1x32.size a ≤ S1024x32.size a)
theorem k0_off148_inb : ∀ (v673 : BitVec 32) (v1496 : BitVec 32) (k0_hw89 : k0_chk89 v673 v1496), ∀ (k0_h31 : k0_cond31 v673 = 1#1), ∀ a, (k0_off148 v1496) a + S1x32.size a ≤ S1024x32.size a := fun v673 v1496 k0_hw89 k0_h31 => k0_hw89 k0_h31

@[reducible] def k0_t60_loop (v673 : BitVec 32) (v675 : BitVec 32) : Scf.Loop 32 :=
  let v1485 : BitVec 32 := Scalar.addi v675 v673
  let v1487 : BitVec 32 := Scalar.subi v1485 v675
  let c1_i32_650 : BitVec 32 := 1#32
  let v1489 : BitVec 32 := Scalar.divsi v1487 c1_i32_650
  let v1490 : BitVec 32 := Scalar.muli v1489 c1_i32_650
  let v1491 : BitVec 32 := Scalar.addi v675 v1490
  let v1488 : BitVec 32 := Scalar.addi v675 v1487
  let c1_i32_652 : BitVec 32 := 1#32
  ⟨v1491, v1488, c1_i32_652⟩
def k0_off149 (v673 : BitVec 32) (v675 : BitVec 32) (k0_t60 : Fin (k0_t60_loop v673 v675).trips) : Fin 1 → Nat :=
  let v1485 : BitVec 32 := Scalar.addi v675 v673
  let v1487 : BitVec 32 := Scalar.subi v1485 v675
  let c1_i32_650 : BitVec 32 := 1#32
  let v1489 : BitVec 32 := Scalar.divsi v1487 c1_i32_650
  let v1490 : BitVec 32 := Scalar.muli v1489 c1_i32_650
  let v1491 : BitVec 32 := Scalar.addi v675 v1490
  let c1_i32_652 : BitVec 32 := 1#32
  let arg12 : BitVec 32 := Scf.iv v1491 c1_i32_652 k0_t60
  let v1495 : Index := Scalar.indexCast arg12
  ![v1495.toNat]

def k0_chk88 (v673 : BitVec 32) (v675 : BitVec 32) : Prop :=
  (∀ (k0_h31 : k0_cond31 v673 = 1#1), (k0_t59_loop v673 v675).OK) ∧
  (∀ k0_t59 : Fin (k0_t59_loop v673 v675).trips, ∀ (k0_h31 : k0_cond31 v673 = 1#1), ∀ a, (k0_off147 v673 v675 k0_t59) a + S1.size a ≤ S1024.size a) ∧
  (∀ (k0_h31 : k0_cond31 v673 = 1#1), (k0_t60_loop v673 v675).OK) ∧
  (∀ k0_t60 : Fin (k0_t60_loop v673 v675).trips, ∀ (k0_h31 : k0_cond31 v673 = 1#1), ∀ a, (k0_off149 v673 v675 k0_t60) a + S1.size a ≤ S1024.size a)
theorem k0_t59_ok : ∀ (v673 : BitVec 32) (v675 : BitVec 32) (k0_hw88 : k0_chk88 v673 v675), ∀ (k0_h31 : k0_cond31 v673 = 1#1), (k0_t59_loop v673 v675).OK := fun v673 v675 k0_hw88 k0_h31 => k0_hw88.1 k0_h31
theorem k0_off147_inb : ∀ (v673 : BitVec 32) (v675 : BitVec 32) (k0_hw88 : k0_chk88 v673 v675) (k0_t59 : Fin (k0_t59_loop v673 v675).trips), ∀ (k0_h31 : k0_cond31 v673 = 1#1), ∀ a, (k0_off147 v673 v675 k0_t59) a + S1.size a ≤ S1024.size a := fun v673 v675 k0_hw88 k0_t59 k0_h31 => k0_hw88.2.1 k0_t59 k0_h31
theorem k0_t60_ok : ∀ (v673 : BitVec 32) (v675 : BitVec 32) (k0_hw88 : k0_chk88 v673 v675), ∀ (k0_h31 : k0_cond31 v673 = 1#1), (k0_t60_loop v673 v675).OK := fun v673 v675 k0_hw88 k0_h31 => k0_hw88.2.2.1 k0_h31
theorem k0_off149_inb : ∀ (v673 : BitVec 32) (v675 : BitVec 32) (k0_hw88 : k0_chk88 v673 v675) (k0_t60 : Fin (k0_t60_loop v673 v675).trips), ∀ (k0_h31 : k0_cond31 v673 = 1#1), ∀ a, (k0_off149 v673 v675 k0_t60) a + S1.size a ≤ S1024.size a := fun v673 v675 k0_hw88 k0_t60 k0_h31 => k0_hw88.2.2.2 k0_t60 k0_h31

def k0_off150 (v1496 : BitVec 32) : Fin 2 → Nat :=
  let v1497 : Index := Scalar.indexCast v1496
  let c0_653 : Index := 0#32
  ![v1497.toNat, 0]

def k0_chk90 (v673 : BitVec 32) (v1496 : BitVec 32) : Prop :=
  (∀ (k0_h31 : k0_cond31 v673 = 1#1), ∀ a, (k0_off150 v1496) a + S1x32.size a ≤ S1024x32.size a)
theorem k0_off150_inb : ∀ (v673 : BitVec 32) (v1496 : BitVec 32) (k0_hw90 : k0_chk90 v673 v1496), ∀ (k0_h31 : k0_cond31 v673 = 1#1), ∀ a, (k0_off150 v1496) a + S1x32.size a ≤ S1024x32.size a := fun v673 v1496 k0_hw90 k0_h31 => k0_hw90 k0_h31

def k0_off151 (i : grid0.Coords) : Fin 1 → Nat :=
  let arg0 : BitVec 32 := BitVec.ofNat 32 (i 0).val
  let c64_i32_300 : BitVec 32 := 64#32
  let v693 : BitVec 32 := Scalar.muli arg0 c64_i32_300
  let c30_i32 : BitVec 32 := 30#32
  let v694 : BitVec 32 := Scalar.addi v693 c30_i32
  let v695 : Index := Scalar.indexCast v694
  ![v695.toNat]
@[reducible] def k0_t61_loop (v696 : BitVec 32) (v698 : BitVec 32) : Scf.Loop 32 :=
  let v1485 : BitVec 32 := Scalar.addi v698 v696
  let v1487 : BitVec 32 := Scalar.subi v1485 v698
  let c1_i32_650 : BitVec 32 := 1#32
  let v1489 : BitVec 32 := Scalar.divsi v1487 c1_i32_650
  let v1490 : BitVec 32 := Scalar.muli v1489 c1_i32_650
  let v1491 : BitVec 32 := Scalar.addi v698 v1490
  let c1_i32_651 : BitVec 32 := 1#32
  ⟨v698, v1491, c1_i32_651⟩
def k0_cond32 (v696 : BitVec 32) : BitVec 1 :=
  let c0_i32_303 : BitVec 32 := 0#32
  let v701 : BitVec 1 := Scalar.cmpi .sgt v696 c0_i32_303
  let v702 : BitVec 32 := Scalar.extui v701
  let c0_i32_304 : BitVec 32 := 0#32
  let v703 : BitVec 1 := Scalar.cmpi .ne v702 c0_i32_304
  v703

def k0_off152 (v696 : BitVec 32) (v698 : BitVec 32) (k0_t61 : Fin (k0_t61_loop v696 v698).trips) : Fin 1 → Nat :=
  let c1_i32_651 : BitVec 32 := 1#32
  let arg12 : BitVec 32 := Scf.iv v698 c1_i32_651 k0_t61
  let v1495 : Index := Scalar.indexCast arg12
  ![v1495.toNat]
def k0_off153 (v1496 : BitVec 32) : Fin 2 → Nat :=
  let v1497 : Index := Scalar.indexCast v1496
  let c0_653 : Index := 0#32
  ![v1497.toNat, 0]

def k0_chk92 (v696 : BitVec 32) (v1496 : BitVec 32) : Prop :=
  (∀ (k0_h32 : k0_cond32 v696 = 1#1), ∀ a, (k0_off153 v1496) a + S1x32.size a ≤ S1024x32.size a)
theorem k0_off153_inb : ∀ (v696 : BitVec 32) (v1496 : BitVec 32) (k0_hw92 : k0_chk92 v696 v1496), ∀ (k0_h32 : k0_cond32 v696 = 1#1), ∀ a, (k0_off153 v1496) a + S1x32.size a ≤ S1024x32.size a := fun v696 v1496 k0_hw92 k0_h32 => k0_hw92 k0_h32

@[reducible] def k0_t62_loop (v696 : BitVec 32) (v698 : BitVec 32) : Scf.Loop 32 :=
  let v1485 : BitVec 32 := Scalar.addi v698 v696
  let v1487 : BitVec 32 := Scalar.subi v1485 v698
  let c1_i32_650 : BitVec 32 := 1#32
  let v1489 : BitVec 32 := Scalar.divsi v1487 c1_i32_650
  let v1490 : BitVec 32 := Scalar.muli v1489 c1_i32_650
  let v1491 : BitVec 32 := Scalar.addi v698 v1490
  let v1488 : BitVec 32 := Scalar.addi v698 v1487
  let c1_i32_652 : BitVec 32 := 1#32
  ⟨v1491, v1488, c1_i32_652⟩
def k0_off154 (v696 : BitVec 32) (v698 : BitVec 32) (k0_t62 : Fin (k0_t62_loop v696 v698).trips) : Fin 1 → Nat :=
  let v1485 : BitVec 32 := Scalar.addi v698 v696
  let v1487 : BitVec 32 := Scalar.subi v1485 v698
  let c1_i32_650 : BitVec 32 := 1#32
  let v1489 : BitVec 32 := Scalar.divsi v1487 c1_i32_650
  let v1490 : BitVec 32 := Scalar.muli v1489 c1_i32_650
  let v1491 : BitVec 32 := Scalar.addi v698 v1490
  let c1_i32_652 : BitVec 32 := 1#32
  let arg12 : BitVec 32 := Scf.iv v1491 c1_i32_652 k0_t62
  let v1495 : Index := Scalar.indexCast arg12
  ![v1495.toNat]

def k0_chk91 (v696 : BitVec 32) (v698 : BitVec 32) : Prop :=
  (∀ (k0_h32 : k0_cond32 v696 = 1#1), (k0_t61_loop v696 v698).OK) ∧
  (∀ k0_t61 : Fin (k0_t61_loop v696 v698).trips, ∀ (k0_h32 : k0_cond32 v696 = 1#1), ∀ a, (k0_off152 v696 v698 k0_t61) a + S1.size a ≤ S1024.size a) ∧
  (∀ (k0_h32 : k0_cond32 v696 = 1#1), (k0_t62_loop v696 v698).OK) ∧
  (∀ k0_t62 : Fin (k0_t62_loop v696 v698).trips, ∀ (k0_h32 : k0_cond32 v696 = 1#1), ∀ a, (k0_off154 v696 v698 k0_t62) a + S1.size a ≤ S1024.size a)
theorem k0_t61_ok : ∀ (v696 : BitVec 32) (v698 : BitVec 32) (k0_hw91 : k0_chk91 v696 v698), ∀ (k0_h32 : k0_cond32 v696 = 1#1), (k0_t61_loop v696 v698).OK := fun v696 v698 k0_hw91 k0_h32 => k0_hw91.1 k0_h32
theorem k0_off152_inb : ∀ (v696 : BitVec 32) (v698 : BitVec 32) (k0_hw91 : k0_chk91 v696 v698) (k0_t61 : Fin (k0_t61_loop v696 v698).trips), ∀ (k0_h32 : k0_cond32 v696 = 1#1), ∀ a, (k0_off152 v696 v698 k0_t61) a + S1.size a ≤ S1024.size a := fun v696 v698 k0_hw91 k0_t61 k0_h32 => k0_hw91.2.1 k0_t61 k0_h32
theorem k0_t62_ok : ∀ (v696 : BitVec 32) (v698 : BitVec 32) (k0_hw91 : k0_chk91 v696 v698), ∀ (k0_h32 : k0_cond32 v696 = 1#1), (k0_t62_loop v696 v698).OK := fun v696 v698 k0_hw91 k0_h32 => k0_hw91.2.2.1 k0_h32
theorem k0_off154_inb : ∀ (v696 : BitVec 32) (v698 : BitVec 32) (k0_hw91 : k0_chk91 v696 v698) (k0_t62 : Fin (k0_t62_loop v696 v698).trips), ∀ (k0_h32 : k0_cond32 v696 = 1#1), ∀ a, (k0_off154 v696 v698 k0_t62) a + S1.size a ≤ S1024.size a := fun v696 v698 k0_hw91 k0_t62 k0_h32 => k0_hw91.2.2.2 k0_t62 k0_h32

def k0_off155 (v1496 : BitVec 32) : Fin 2 → Nat :=
  let v1497 : Index := Scalar.indexCast v1496
  let c0_653 : Index := 0#32
  ![v1497.toNat, 0]

def k0_chk93 (v696 : BitVec 32) (v1496 : BitVec 32) : Prop :=
  (∀ (k0_h32 : k0_cond32 v696 = 1#1), ∀ a, (k0_off155 v1496) a + S1x32.size a ≤ S1024x32.size a)
theorem k0_off155_inb : ∀ (v696 : BitVec 32) (v1496 : BitVec 32) (k0_hw93 : k0_chk93 v696 v1496), ∀ (k0_h32 : k0_cond32 v696 = 1#1), ∀ a, (k0_off155 v1496) a + S1x32.size a ≤ S1024x32.size a := fun v696 v1496 k0_hw93 k0_h32 => k0_hw93 k0_h32

def k0_off156 (i : grid0.Coords) : Fin 1 → Nat :=
  let arg0 : BitVec 32 := BitVec.ofNat 32 (i 0).val
  let c64_i32_310 : BitVec 32 := 64#32
  let v716 : BitVec 32 := Scalar.muli arg0 c64_i32_310
  let c31_i32 : BitVec 32 := 31#32
  let v717 : BitVec 32 := Scalar.addi v716 c31_i32
  let v718 : Index := Scalar.indexCast v717
  ![v718.toNat]
@[reducible] def k0_t63_loop (v719 : BitVec 32) (v721 : BitVec 32) : Scf.Loop 32 :=
  let v1485 : BitVec 32 := Scalar.addi v721 v719
  let v1487 : BitVec 32 := Scalar.subi v1485 v721
  let c1_i32_650 : BitVec 32 := 1#32
  let v1489 : BitVec 32 := Scalar.divsi v1487 c1_i32_650
  let v1490 : BitVec 32 := Scalar.muli v1489 c1_i32_650
  let v1491 : BitVec 32 := Scalar.addi v721 v1490
  let c1_i32_651 : BitVec 32 := 1#32
  ⟨v721, v1491, c1_i32_651⟩
def k0_cond33 (v719 : BitVec 32) : BitVec 1 :=
  let c0_i32_313 : BitVec 32 := 0#32
  let v724 : BitVec 1 := Scalar.cmpi .sgt v719 c0_i32_313
  let v725 : BitVec 32 := Scalar.extui v724
  let c0_i32_314 : BitVec 32 := 0#32
  let v726 : BitVec 1 := Scalar.cmpi .ne v725 c0_i32_314
  v726

def k0_off157 (v719 : BitVec 32) (v721 : BitVec 32) (k0_t63 : Fin (k0_t63_loop v719 v721).trips) : Fin 1 → Nat :=
  let c1_i32_651 : BitVec 32 := 1#32
  let arg12 : BitVec 32 := Scf.iv v721 c1_i32_651 k0_t63
  let v1495 : Index := Scalar.indexCast arg12
  ![v1495.toNat]
def k0_off158 (v1496 : BitVec 32) : Fin 2 → Nat :=
  let v1497 : Index := Scalar.indexCast v1496
  let c0_653 : Index := 0#32
  ![v1497.toNat, 0]

def k0_chk95 (v719 : BitVec 32) (v1496 : BitVec 32) : Prop :=
  (∀ (k0_h33 : k0_cond33 v719 = 1#1), ∀ a, (k0_off158 v1496) a + S1x32.size a ≤ S1024x32.size a)
theorem k0_off158_inb : ∀ (v719 : BitVec 32) (v1496 : BitVec 32) (k0_hw95 : k0_chk95 v719 v1496), ∀ (k0_h33 : k0_cond33 v719 = 1#1), ∀ a, (k0_off158 v1496) a + S1x32.size a ≤ S1024x32.size a := fun v719 v1496 k0_hw95 k0_h33 => k0_hw95 k0_h33

@[reducible] def k0_t64_loop (v719 : BitVec 32) (v721 : BitVec 32) : Scf.Loop 32 :=
  let v1485 : BitVec 32 := Scalar.addi v721 v719
  let v1487 : BitVec 32 := Scalar.subi v1485 v721
  let c1_i32_650 : BitVec 32 := 1#32
  let v1489 : BitVec 32 := Scalar.divsi v1487 c1_i32_650
  let v1490 : BitVec 32 := Scalar.muli v1489 c1_i32_650
  let v1491 : BitVec 32 := Scalar.addi v721 v1490
  let v1488 : BitVec 32 := Scalar.addi v721 v1487
  let c1_i32_652 : BitVec 32 := 1#32
  ⟨v1491, v1488, c1_i32_652⟩
def k0_off159 (v719 : BitVec 32) (v721 : BitVec 32) (k0_t64 : Fin (k0_t64_loop v719 v721).trips) : Fin 1 → Nat :=
  let v1485 : BitVec 32 := Scalar.addi v721 v719
  let v1487 : BitVec 32 := Scalar.subi v1485 v721
  let c1_i32_650 : BitVec 32 := 1#32
  let v1489 : BitVec 32 := Scalar.divsi v1487 c1_i32_650
  let v1490 : BitVec 32 := Scalar.muli v1489 c1_i32_650
  let v1491 : BitVec 32 := Scalar.addi v721 v1490
  let c1_i32_652 : BitVec 32 := 1#32
  let arg12 : BitVec 32 := Scf.iv v1491 c1_i32_652 k0_t64
  let v1495 : Index := Scalar.indexCast arg12
  ![v1495.toNat]

def k0_chk94 (v719 : BitVec 32) (v721 : BitVec 32) : Prop :=
  (∀ (k0_h33 : k0_cond33 v719 = 1#1), (k0_t63_loop v719 v721).OK) ∧
  (∀ k0_t63 : Fin (k0_t63_loop v719 v721).trips, ∀ (k0_h33 : k0_cond33 v719 = 1#1), ∀ a, (k0_off157 v719 v721 k0_t63) a + S1.size a ≤ S1024.size a) ∧
  (∀ (k0_h33 : k0_cond33 v719 = 1#1), (k0_t64_loop v719 v721).OK) ∧
  (∀ k0_t64 : Fin (k0_t64_loop v719 v721).trips, ∀ (k0_h33 : k0_cond33 v719 = 1#1), ∀ a, (k0_off159 v719 v721 k0_t64) a + S1.size a ≤ S1024.size a)
theorem k0_t63_ok : ∀ (v719 : BitVec 32) (v721 : BitVec 32) (k0_hw94 : k0_chk94 v719 v721), ∀ (k0_h33 : k0_cond33 v719 = 1#1), (k0_t63_loop v719 v721).OK := fun v719 v721 k0_hw94 k0_h33 => k0_hw94.1 k0_h33
theorem k0_off157_inb : ∀ (v719 : BitVec 32) (v721 : BitVec 32) (k0_hw94 : k0_chk94 v719 v721) (k0_t63 : Fin (k0_t63_loop v719 v721).trips), ∀ (k0_h33 : k0_cond33 v719 = 1#1), ∀ a, (k0_off157 v719 v721 k0_t63) a + S1.size a ≤ S1024.size a := fun v719 v721 k0_hw94 k0_t63 k0_h33 => k0_hw94.2.1 k0_t63 k0_h33
theorem k0_t64_ok : ∀ (v719 : BitVec 32) (v721 : BitVec 32) (k0_hw94 : k0_chk94 v719 v721), ∀ (k0_h33 : k0_cond33 v719 = 1#1), (k0_t64_loop v719 v721).OK := fun v719 v721 k0_hw94 k0_h33 => k0_hw94.2.2.1 k0_h33
theorem k0_off159_inb : ∀ (v719 : BitVec 32) (v721 : BitVec 32) (k0_hw94 : k0_chk94 v719 v721) (k0_t64 : Fin (k0_t64_loop v719 v721).trips), ∀ (k0_h33 : k0_cond33 v719 = 1#1), ∀ a, (k0_off159 v719 v721 k0_t64) a + S1.size a ≤ S1024.size a := fun v719 v721 k0_hw94 k0_t64 k0_h33 => k0_hw94.2.2.2 k0_t64 k0_h33

def k0_off160 (v1496 : BitVec 32) : Fin 2 → Nat :=
  let v1497 : Index := Scalar.indexCast v1496
  let c0_653 : Index := 0#32
  ![v1497.toNat, 0]

def k0_chk96 (v719 : BitVec 32) (v1496 : BitVec 32) : Prop :=
  (∀ (k0_h33 : k0_cond33 v719 = 1#1), ∀ a, (k0_off160 v1496) a + S1x32.size a ≤ S1024x32.size a)
theorem k0_off160_inb : ∀ (v719 : BitVec 32) (v1496 : BitVec 32) (k0_hw96 : k0_chk96 v719 v1496), ∀ (k0_h33 : k0_cond33 v719 = 1#1), ∀ a, (k0_off160 v1496) a + S1x32.size a ≤ S1024x32.size a := fun v719 v1496 k0_hw96 k0_h33 => k0_hw96 k0_h33

def k0_off161 (i : grid0.Coords) : Fin 1 → Nat :=
  let arg0 : BitVec 32 := BitVec.ofNat 32 (i 0).val
  let c64_i32_320 : BitVec 32 := 64#32
  let v739 : BitVec 32 := Scalar.muli arg0 c64_i32_320
  let c32_i32 : BitVec 32 := 32#32
  let v740 : BitVec 32 := Scalar.addi v739 c32_i32
  let v741 : Index := Scalar.indexCast v740
  ![v741.toNat]
@[reducible] def k0_t65_loop (v742 : BitVec 32) (v744 : BitVec 32) : Scf.Loop 32 :=
  let v1485 : BitVec 32 := Scalar.addi v744 v742
  let v1487 : BitVec 32 := Scalar.subi v1485 v744
  let c1_i32_650 : BitVec 32 := 1#32
  let v1489 : BitVec 32 := Scalar.divsi v1487 c1_i32_650
  let v1490 : BitVec 32 := Scalar.muli v1489 c1_i32_650
  let v1491 : BitVec 32 := Scalar.addi v744 v1490
  let c1_i32_651 : BitVec 32 := 1#32
  ⟨v744, v1491, c1_i32_651⟩
def k0_cond34 (v742 : BitVec 32) : BitVec 1 :=
  let c0_i32_323 : BitVec 32 := 0#32
  let v747 : BitVec 1 := Scalar.cmpi .sgt v742 c0_i32_323
  let v748 : BitVec 32 := Scalar.extui v747
  let c0_i32_324 : BitVec 32 := 0#32
  let v749 : BitVec 1 := Scalar.cmpi .ne v748 c0_i32_324
  v749

def k0_off162 (v742 : BitVec 32) (v744 : BitVec 32) (k0_t65 : Fin (k0_t65_loop v742 v744).trips) : Fin 1 → Nat :=
  let c1_i32_651 : BitVec 32 := 1#32
  let arg12 : BitVec 32 := Scf.iv v744 c1_i32_651 k0_t65
  let v1495 : Index := Scalar.indexCast arg12
  ![v1495.toNat]
def k0_off163 (v1496 : BitVec 32) : Fin 2 → Nat :=
  let v1497 : Index := Scalar.indexCast v1496
  let c0_653 : Index := 0#32
  ![v1497.toNat, 0]

def k0_chk98 (v742 : BitVec 32) (v1496 : BitVec 32) : Prop :=
  (∀ (k0_h34 : k0_cond34 v742 = 1#1), ∀ a, (k0_off163 v1496) a + S1x32.size a ≤ S1024x32.size a)
theorem k0_off163_inb : ∀ (v742 : BitVec 32) (v1496 : BitVec 32) (k0_hw98 : k0_chk98 v742 v1496), ∀ (k0_h34 : k0_cond34 v742 = 1#1), ∀ a, (k0_off163 v1496) a + S1x32.size a ≤ S1024x32.size a := fun v742 v1496 k0_hw98 k0_h34 => k0_hw98 k0_h34

@[reducible] def k0_t66_loop (v742 : BitVec 32) (v744 : BitVec 32) : Scf.Loop 32 :=
  let v1485 : BitVec 32 := Scalar.addi v744 v742
  let v1487 : BitVec 32 := Scalar.subi v1485 v744
  let c1_i32_650 : BitVec 32 := 1#32
  let v1489 : BitVec 32 := Scalar.divsi v1487 c1_i32_650
  let v1490 : BitVec 32 := Scalar.muli v1489 c1_i32_650
  let v1491 : BitVec 32 := Scalar.addi v744 v1490
  let v1488 : BitVec 32 := Scalar.addi v744 v1487
  let c1_i32_652 : BitVec 32 := 1#32
  ⟨v1491, v1488, c1_i32_652⟩
def k0_off164 (v742 : BitVec 32) (v744 : BitVec 32) (k0_t66 : Fin (k0_t66_loop v742 v744).trips) : Fin 1 → Nat :=
  let v1485 : BitVec 32 := Scalar.addi v744 v742
  let v1487 : BitVec 32 := Scalar.subi v1485 v744
  let c1_i32_650 : BitVec 32 := 1#32
  let v1489 : BitVec 32 := Scalar.divsi v1487 c1_i32_650
  let v1490 : BitVec 32 := Scalar.muli v1489 c1_i32_650
  let v1491 : BitVec 32 := Scalar.addi v744 v1490
  let c1_i32_652 : BitVec 32 := 1#32
  let arg12 : BitVec 32 := Scf.iv v1491 c1_i32_652 k0_t66
  let v1495 : Index := Scalar.indexCast arg12
  ![v1495.toNat]

def k0_chk97 (v742 : BitVec 32) (v744 : BitVec 32) : Prop :=
  (∀ (k0_h34 : k0_cond34 v742 = 1#1), (k0_t65_loop v742 v744).OK) ∧
  (∀ k0_t65 : Fin (k0_t65_loop v742 v744).trips, ∀ (k0_h34 : k0_cond34 v742 = 1#1), ∀ a, (k0_off162 v742 v744 k0_t65) a + S1.size a ≤ S1024.size a) ∧
  (∀ (k0_h34 : k0_cond34 v742 = 1#1), (k0_t66_loop v742 v744).OK) ∧
  (∀ k0_t66 : Fin (k0_t66_loop v742 v744).trips, ∀ (k0_h34 : k0_cond34 v742 = 1#1), ∀ a, (k0_off164 v742 v744 k0_t66) a + S1.size a ≤ S1024.size a)
theorem k0_t65_ok : ∀ (v742 : BitVec 32) (v744 : BitVec 32) (k0_hw97 : k0_chk97 v742 v744), ∀ (k0_h34 : k0_cond34 v742 = 1#1), (k0_t65_loop v742 v744).OK := fun v742 v744 k0_hw97 k0_h34 => k0_hw97.1 k0_h34
theorem k0_off162_inb : ∀ (v742 : BitVec 32) (v744 : BitVec 32) (k0_hw97 : k0_chk97 v742 v744) (k0_t65 : Fin (k0_t65_loop v742 v744).trips), ∀ (k0_h34 : k0_cond34 v742 = 1#1), ∀ a, (k0_off162 v742 v744 k0_t65) a + S1.size a ≤ S1024.size a := fun v742 v744 k0_hw97 k0_t65 k0_h34 => k0_hw97.2.1 k0_t65 k0_h34
theorem k0_t66_ok : ∀ (v742 : BitVec 32) (v744 : BitVec 32) (k0_hw97 : k0_chk97 v742 v744), ∀ (k0_h34 : k0_cond34 v742 = 1#1), (k0_t66_loop v742 v744).OK := fun v742 v744 k0_hw97 k0_h34 => k0_hw97.2.2.1 k0_h34
theorem k0_off164_inb : ∀ (v742 : BitVec 32) (v744 : BitVec 32) (k0_hw97 : k0_chk97 v742 v744) (k0_t66 : Fin (k0_t66_loop v742 v744).trips), ∀ (k0_h34 : k0_cond34 v742 = 1#1), ∀ a, (k0_off164 v742 v744 k0_t66) a + S1.size a ≤ S1024.size a := fun v742 v744 k0_hw97 k0_t66 k0_h34 => k0_hw97.2.2.2 k0_t66 k0_h34

def k0_off165 (v1496 : BitVec 32) : Fin 2 → Nat :=
  let v1497 : Index := Scalar.indexCast v1496
  let c0_653 : Index := 0#32
  ![v1497.toNat, 0]

def k0_chk99 (v742 : BitVec 32) (v1496 : BitVec 32) : Prop :=
  (∀ (k0_h34 : k0_cond34 v742 = 1#1), ∀ a, (k0_off165 v1496) a + S1x32.size a ≤ S1024x32.size a)
theorem k0_off165_inb : ∀ (v742 : BitVec 32) (v1496 : BitVec 32) (k0_hw99 : k0_chk99 v742 v1496), ∀ (k0_h34 : k0_cond34 v742 = 1#1), ∀ a, (k0_off165 v1496) a + S1x32.size a ≤ S1024x32.size a := fun v742 v1496 k0_hw99 k0_h34 => k0_hw99 k0_h34

def k0_off166 (i : grid0.Coords) : Fin 1 → Nat :=
  let arg0 : BitVec 32 := BitVec.ofNat 32 (i 0).val
  let c64_i32_330 : BitVec 32 := 64#32
  let v762 : BitVec 32 := Scalar.muli arg0 c64_i32_330
  let c33_i32 : BitVec 32 := 33#32
  let v763 : BitVec 32 := Scalar.addi v762 c33_i32
  let v764 : Index := Scalar.indexCast v763
  ![v764.toNat]
@[reducible] def k0_t67_loop (v765 : BitVec 32) (v767 : BitVec 32) : Scf.Loop 32 :=
  let v1485 : BitVec 32 := Scalar.addi v767 v765
  let v1487 : BitVec 32 := Scalar.subi v1485 v767
  let c1_i32_650 : BitVec 32 := 1#32
  let v1489 : BitVec 32 := Scalar.divsi v1487 c1_i32_650
  let v1490 : BitVec 32 := Scalar.muli v1489 c1_i32_650
  let v1491 : BitVec 32 := Scalar.addi v767 v1490
  let c1_i32_651 : BitVec 32 := 1#32
  ⟨v767, v1491, c1_i32_651⟩
def k0_cond35 (v765 : BitVec 32) : BitVec 1 :=
  let c0_i32_333 : BitVec 32 := 0#32
  let v770 : BitVec 1 := Scalar.cmpi .sgt v765 c0_i32_333
  let v771 : BitVec 32 := Scalar.extui v770
  let c0_i32_334 : BitVec 32 := 0#32
  let v772 : BitVec 1 := Scalar.cmpi .ne v771 c0_i32_334
  v772

def k0_off167 (v765 : BitVec 32) (v767 : BitVec 32) (k0_t67 : Fin (k0_t67_loop v765 v767).trips) : Fin 1 → Nat :=
  let c1_i32_651 : BitVec 32 := 1#32
  let arg12 : BitVec 32 := Scf.iv v767 c1_i32_651 k0_t67
  let v1495 : Index := Scalar.indexCast arg12
  ![v1495.toNat]
def k0_off168 (v1496 : BitVec 32) : Fin 2 → Nat :=
  let v1497 : Index := Scalar.indexCast v1496
  let c0_653 : Index := 0#32
  ![v1497.toNat, 0]

def k0_chk101 (v765 : BitVec 32) (v1496 : BitVec 32) : Prop :=
  (∀ (k0_h35 : k0_cond35 v765 = 1#1), ∀ a, (k0_off168 v1496) a + S1x32.size a ≤ S1024x32.size a)
theorem k0_off168_inb : ∀ (v765 : BitVec 32) (v1496 : BitVec 32) (k0_hw101 : k0_chk101 v765 v1496), ∀ (k0_h35 : k0_cond35 v765 = 1#1), ∀ a, (k0_off168 v1496) a + S1x32.size a ≤ S1024x32.size a := fun v765 v1496 k0_hw101 k0_h35 => k0_hw101 k0_h35

@[reducible] def k0_t68_loop (v765 : BitVec 32) (v767 : BitVec 32) : Scf.Loop 32 :=
  let v1485 : BitVec 32 := Scalar.addi v767 v765
  let v1487 : BitVec 32 := Scalar.subi v1485 v767
  let c1_i32_650 : BitVec 32 := 1#32
  let v1489 : BitVec 32 := Scalar.divsi v1487 c1_i32_650
  let v1490 : BitVec 32 := Scalar.muli v1489 c1_i32_650
  let v1491 : BitVec 32 := Scalar.addi v767 v1490
  let v1488 : BitVec 32 := Scalar.addi v767 v1487
  let c1_i32_652 : BitVec 32 := 1#32
  ⟨v1491, v1488, c1_i32_652⟩
def k0_off169 (v765 : BitVec 32) (v767 : BitVec 32) (k0_t68 : Fin (k0_t68_loop v765 v767).trips) : Fin 1 → Nat :=
  let v1485 : BitVec 32 := Scalar.addi v767 v765
  let v1487 : BitVec 32 := Scalar.subi v1485 v767
  let c1_i32_650 : BitVec 32 := 1#32
  let v1489 : BitVec 32 := Scalar.divsi v1487 c1_i32_650
  let v1490 : BitVec 32 := Scalar.muli v1489 c1_i32_650
  let v1491 : BitVec 32 := Scalar.addi v767 v1490
  let c1_i32_652 : BitVec 32 := 1#32
  let arg12 : BitVec 32 := Scf.iv v1491 c1_i32_652 k0_t68
  let v1495 : Index := Scalar.indexCast arg12
  ![v1495.toNat]

def k0_chk100 (v765 : BitVec 32) (v767 : BitVec 32) : Prop :=
  (∀ (k0_h35 : k0_cond35 v765 = 1#1), (k0_t67_loop v765 v767).OK) ∧
  (∀ k0_t67 : Fin (k0_t67_loop v765 v767).trips, ∀ (k0_h35 : k0_cond35 v765 = 1#1), ∀ a, (k0_off167 v765 v767 k0_t67) a + S1.size a ≤ S1024.size a) ∧
  (∀ (k0_h35 : k0_cond35 v765 = 1#1), (k0_t68_loop v765 v767).OK) ∧
  (∀ k0_t68 : Fin (k0_t68_loop v765 v767).trips, ∀ (k0_h35 : k0_cond35 v765 = 1#1), ∀ a, (k0_off169 v765 v767 k0_t68) a + S1.size a ≤ S1024.size a)
theorem k0_t67_ok : ∀ (v765 : BitVec 32) (v767 : BitVec 32) (k0_hw100 : k0_chk100 v765 v767), ∀ (k0_h35 : k0_cond35 v765 = 1#1), (k0_t67_loop v765 v767).OK := fun v765 v767 k0_hw100 k0_h35 => k0_hw100.1 k0_h35
theorem k0_off167_inb : ∀ (v765 : BitVec 32) (v767 : BitVec 32) (k0_hw100 : k0_chk100 v765 v767) (k0_t67 : Fin (k0_t67_loop v765 v767).trips), ∀ (k0_h35 : k0_cond35 v765 = 1#1), ∀ a, (k0_off167 v765 v767 k0_t67) a + S1.size a ≤ S1024.size a := fun v765 v767 k0_hw100 k0_t67 k0_h35 => k0_hw100.2.1 k0_t67 k0_h35
theorem k0_t68_ok : ∀ (v765 : BitVec 32) (v767 : BitVec 32) (k0_hw100 : k0_chk100 v765 v767), ∀ (k0_h35 : k0_cond35 v765 = 1#1), (k0_t68_loop v765 v767).OK := fun v765 v767 k0_hw100 k0_h35 => k0_hw100.2.2.1 k0_h35
theorem k0_off169_inb : ∀ (v765 : BitVec 32) (v767 : BitVec 32) (k0_hw100 : k0_chk100 v765 v767) (k0_t68 : Fin (k0_t68_loop v765 v767).trips), ∀ (k0_h35 : k0_cond35 v765 = 1#1), ∀ a, (k0_off169 v765 v767 k0_t68) a + S1.size a ≤ S1024.size a := fun v765 v767 k0_hw100 k0_t68 k0_h35 => k0_hw100.2.2.2 k0_t68 k0_h35

def k0_off170 (v1496 : BitVec 32) : Fin 2 → Nat :=
  let v1497 : Index := Scalar.indexCast v1496
  let c0_653 : Index := 0#32
  ![v1497.toNat, 0]

def k0_chk102 (v765 : BitVec 32) (v1496 : BitVec 32) : Prop :=
  (∀ (k0_h35 : k0_cond35 v765 = 1#1), ∀ a, (k0_off170 v1496) a + S1x32.size a ≤ S1024x32.size a)
theorem k0_off170_inb : ∀ (v765 : BitVec 32) (v1496 : BitVec 32) (k0_hw102 : k0_chk102 v765 v1496), ∀ (k0_h35 : k0_cond35 v765 = 1#1), ∀ a, (k0_off170 v1496) a + S1x32.size a ≤ S1024x32.size a := fun v765 v1496 k0_hw102 k0_h35 => k0_hw102 k0_h35

def k0_off171 (i : grid0.Coords) : Fin 1 → Nat :=
  let arg0 : BitVec 32 := BitVec.ofNat 32 (i 0).val
  let c64_i32_340 : BitVec 32 := 64#32
  let v785 : BitVec 32 := Scalar.muli arg0 c64_i32_340
  let c34_i32 : BitVec 32 := 34#32
  let v786 : BitVec 32 := Scalar.addi v785 c34_i32
  let v787 : Index := Scalar.indexCast v786
  ![v787.toNat]
@[reducible] def k0_t69_loop (v788 : BitVec 32) (v790 : BitVec 32) : Scf.Loop 32 :=
  let v1485 : BitVec 32 := Scalar.addi v790 v788
  let v1487 : BitVec 32 := Scalar.subi v1485 v790
  let c1_i32_650 : BitVec 32 := 1#32
  let v1489 : BitVec 32 := Scalar.divsi v1487 c1_i32_650
  let v1490 : BitVec 32 := Scalar.muli v1489 c1_i32_650
  let v1491 : BitVec 32 := Scalar.addi v790 v1490
  let c1_i32_651 : BitVec 32 := 1#32
  ⟨v790, v1491, c1_i32_651⟩
def k0_cond36 (v788 : BitVec 32) : BitVec 1 :=
  let c0_i32_343 : BitVec 32 := 0#32
  let v793 : BitVec 1 := Scalar.cmpi .sgt v788 c0_i32_343
  let v794 : BitVec 32 := Scalar.extui v793
  let c0_i32_344 : BitVec 32 := 0#32
  let v795 : BitVec 1 := Scalar.cmpi .ne v794 c0_i32_344
  v795

def k0_off172 (v788 : BitVec 32) (v790 : BitVec 32) (k0_t69 : Fin (k0_t69_loop v788 v790).trips) : Fin 1 → Nat :=
  let c1_i32_651 : BitVec 32 := 1#32
  let arg12 : BitVec 32 := Scf.iv v790 c1_i32_651 k0_t69
  let v1495 : Index := Scalar.indexCast arg12
  ![v1495.toNat]
def k0_off173 (v1496 : BitVec 32) : Fin 2 → Nat :=
  let v1497 : Index := Scalar.indexCast v1496
  let c0_653 : Index := 0#32
  ![v1497.toNat, 0]

def k0_chk104 (v788 : BitVec 32) (v1496 : BitVec 32) : Prop :=
  (∀ (k0_h36 : k0_cond36 v788 = 1#1), ∀ a, (k0_off173 v1496) a + S1x32.size a ≤ S1024x32.size a)
theorem k0_off173_inb : ∀ (v788 : BitVec 32) (v1496 : BitVec 32) (k0_hw104 : k0_chk104 v788 v1496), ∀ (k0_h36 : k0_cond36 v788 = 1#1), ∀ a, (k0_off173 v1496) a + S1x32.size a ≤ S1024x32.size a := fun v788 v1496 k0_hw104 k0_h36 => k0_hw104 k0_h36

@[reducible] def k0_t70_loop (v788 : BitVec 32) (v790 : BitVec 32) : Scf.Loop 32 :=
  let v1485 : BitVec 32 := Scalar.addi v790 v788
  let v1487 : BitVec 32 := Scalar.subi v1485 v790
  let c1_i32_650 : BitVec 32 := 1#32
  let v1489 : BitVec 32 := Scalar.divsi v1487 c1_i32_650
  let v1490 : BitVec 32 := Scalar.muli v1489 c1_i32_650
  let v1491 : BitVec 32 := Scalar.addi v790 v1490
  let v1488 : BitVec 32 := Scalar.addi v790 v1487
  let c1_i32_652 : BitVec 32 := 1#32
  ⟨v1491, v1488, c1_i32_652⟩
def k0_off174 (v788 : BitVec 32) (v790 : BitVec 32) (k0_t70 : Fin (k0_t70_loop v788 v790).trips) : Fin 1 → Nat :=
  let v1485 : BitVec 32 := Scalar.addi v790 v788
  let v1487 : BitVec 32 := Scalar.subi v1485 v790
  let c1_i32_650 : BitVec 32 := 1#32
  let v1489 : BitVec 32 := Scalar.divsi v1487 c1_i32_650
  let v1490 : BitVec 32 := Scalar.muli v1489 c1_i32_650
  let v1491 : BitVec 32 := Scalar.addi v790 v1490
  let c1_i32_652 : BitVec 32 := 1#32
  let arg12 : BitVec 32 := Scf.iv v1491 c1_i32_652 k0_t70
  let v1495 : Index := Scalar.indexCast arg12
  ![v1495.toNat]

def k0_chk103 (v788 : BitVec 32) (v790 : BitVec 32) : Prop :=
  (∀ (k0_h36 : k0_cond36 v788 = 1#1), (k0_t69_loop v788 v790).OK) ∧
  (∀ k0_t69 : Fin (k0_t69_loop v788 v790).trips, ∀ (k0_h36 : k0_cond36 v788 = 1#1), ∀ a, (k0_off172 v788 v790 k0_t69) a + S1.size a ≤ S1024.size a) ∧
  (∀ (k0_h36 : k0_cond36 v788 = 1#1), (k0_t70_loop v788 v790).OK) ∧
  (∀ k0_t70 : Fin (k0_t70_loop v788 v790).trips, ∀ (k0_h36 : k0_cond36 v788 = 1#1), ∀ a, (k0_off174 v788 v790 k0_t70) a + S1.size a ≤ S1024.size a)
theorem k0_t69_ok : ∀ (v788 : BitVec 32) (v790 : BitVec 32) (k0_hw103 : k0_chk103 v788 v790), ∀ (k0_h36 : k0_cond36 v788 = 1#1), (k0_t69_loop v788 v790).OK := fun v788 v790 k0_hw103 k0_h36 => k0_hw103.1 k0_h36
theorem k0_off172_inb : ∀ (v788 : BitVec 32) (v790 : BitVec 32) (k0_hw103 : k0_chk103 v788 v790) (k0_t69 : Fin (k0_t69_loop v788 v790).trips), ∀ (k0_h36 : k0_cond36 v788 = 1#1), ∀ a, (k0_off172 v788 v790 k0_t69) a + S1.size a ≤ S1024.size a := fun v788 v790 k0_hw103 k0_t69 k0_h36 => k0_hw103.2.1 k0_t69 k0_h36
theorem k0_t70_ok : ∀ (v788 : BitVec 32) (v790 : BitVec 32) (k0_hw103 : k0_chk103 v788 v790), ∀ (k0_h36 : k0_cond36 v788 = 1#1), (k0_t70_loop v788 v790).OK := fun v788 v790 k0_hw103 k0_h36 => k0_hw103.2.2.1 k0_h36
theorem k0_off174_inb : ∀ (v788 : BitVec 32) (v790 : BitVec 32) (k0_hw103 : k0_chk103 v788 v790) (k0_t70 : Fin (k0_t70_loop v788 v790).trips), ∀ (k0_h36 : k0_cond36 v788 = 1#1), ∀ a, (k0_off174 v788 v790 k0_t70) a + S1.size a ≤ S1024.size a := fun v788 v790 k0_hw103 k0_t70 k0_h36 => k0_hw103.2.2.2 k0_t70 k0_h36

def k0_off175 (v1496 : BitVec 32) : Fin 2 → Nat :=
  let v1497 : Index := Scalar.indexCast v1496
  let c0_653 : Index := 0#32
  ![v1497.toNat, 0]

def k0_chk105 (v788 : BitVec 32) (v1496 : BitVec 32) : Prop :=
  (∀ (k0_h36 : k0_cond36 v788 = 1#1), ∀ a, (k0_off175 v1496) a + S1x32.size a ≤ S1024x32.size a)
theorem k0_off175_inb : ∀ (v788 : BitVec 32) (v1496 : BitVec 32) (k0_hw105 : k0_chk105 v788 v1496), ∀ (k0_h36 : k0_cond36 v788 = 1#1), ∀ a, (k0_off175 v1496) a + S1x32.size a ≤ S1024x32.size a := fun v788 v1496 k0_hw105 k0_h36 => k0_hw105 k0_h36

def k0_off176 (i : grid0.Coords) : Fin 1 → Nat :=
  let arg0 : BitVec 32 := BitVec.ofNat 32 (i 0).val
  let c64_i32_350 : BitVec 32 := 64#32
  let v808 : BitVec 32 := Scalar.muli arg0 c64_i32_350
  let c35_i32 : BitVec 32 := 35#32
  let v809 : BitVec 32 := Scalar.addi v808 c35_i32
  let v810 : Index := Scalar.indexCast v809
  ![v810.toNat]
@[reducible] def k0_t71_loop (v811 : BitVec 32) (v813 : BitVec 32) : Scf.Loop 32 :=
  let v1485 : BitVec 32 := Scalar.addi v813 v811
  let v1487 : BitVec 32 := Scalar.subi v1485 v813
  let c1_i32_650 : BitVec 32 := 1#32
  let v1489 : BitVec 32 := Scalar.divsi v1487 c1_i32_650
  let v1490 : BitVec 32 := Scalar.muli v1489 c1_i32_650
  let v1491 : BitVec 32 := Scalar.addi v813 v1490
  let c1_i32_651 : BitVec 32 := 1#32
  ⟨v813, v1491, c1_i32_651⟩
def k0_cond37 (v811 : BitVec 32) : BitVec 1 :=
  let c0_i32_353 : BitVec 32 := 0#32
  let v816 : BitVec 1 := Scalar.cmpi .sgt v811 c0_i32_353
  let v817 : BitVec 32 := Scalar.extui v816
  let c0_i32_354 : BitVec 32 := 0#32
  let v818 : BitVec 1 := Scalar.cmpi .ne v817 c0_i32_354
  v818

def k0_off177 (v811 : BitVec 32) (v813 : BitVec 32) (k0_t71 : Fin (k0_t71_loop v811 v813).trips) : Fin 1 → Nat :=
  let c1_i32_651 : BitVec 32 := 1#32
  let arg12 : BitVec 32 := Scf.iv v813 c1_i32_651 k0_t71
  let v1495 : Index := Scalar.indexCast arg12
  ![v1495.toNat]
def k0_off178 (v1496 : BitVec 32) : Fin 2 → Nat :=
  let v1497 : Index := Scalar.indexCast v1496
  let c0_653 : Index := 0#32
  ![v1497.toNat, 0]

def k0_chk107 (v811 : BitVec 32) (v1496 : BitVec 32) : Prop :=
  (∀ (k0_h37 : k0_cond37 v811 = 1#1), ∀ a, (k0_off178 v1496) a + S1x32.size a ≤ S1024x32.size a)
theorem k0_off178_inb : ∀ (v811 : BitVec 32) (v1496 : BitVec 32) (k0_hw107 : k0_chk107 v811 v1496), ∀ (k0_h37 : k0_cond37 v811 = 1#1), ∀ a, (k0_off178 v1496) a + S1x32.size a ≤ S1024x32.size a := fun v811 v1496 k0_hw107 k0_h37 => k0_hw107 k0_h37

@[reducible] def k0_t72_loop (v811 : BitVec 32) (v813 : BitVec 32) : Scf.Loop 32 :=
  let v1485 : BitVec 32 := Scalar.addi v813 v811
  let v1487 : BitVec 32 := Scalar.subi v1485 v813
  let c1_i32_650 : BitVec 32 := 1#32
  let v1489 : BitVec 32 := Scalar.divsi v1487 c1_i32_650
  let v1490 : BitVec 32 := Scalar.muli v1489 c1_i32_650
  let v1491 : BitVec 32 := Scalar.addi v813 v1490
  let v1488 : BitVec 32 := Scalar.addi v813 v1487
  let c1_i32_652 : BitVec 32 := 1#32
  ⟨v1491, v1488, c1_i32_652⟩
def k0_off179 (v811 : BitVec 32) (v813 : BitVec 32) (k0_t72 : Fin (k0_t72_loop v811 v813).trips) : Fin 1 → Nat :=
  let v1485 : BitVec 32 := Scalar.addi v813 v811
  let v1487 : BitVec 32 := Scalar.subi v1485 v813
  let c1_i32_650 : BitVec 32 := 1#32
  let v1489 : BitVec 32 := Scalar.divsi v1487 c1_i32_650
  let v1490 : BitVec 32 := Scalar.muli v1489 c1_i32_650
  let v1491 : BitVec 32 := Scalar.addi v813 v1490
  let c1_i32_652 : BitVec 32 := 1#32
  let arg12 : BitVec 32 := Scf.iv v1491 c1_i32_652 k0_t72
  let v1495 : Index := Scalar.indexCast arg12
  ![v1495.toNat]

def k0_chk106 (v811 : BitVec 32) (v813 : BitVec 32) : Prop :=
  (∀ (k0_h37 : k0_cond37 v811 = 1#1), (k0_t71_loop v811 v813).OK) ∧
  (∀ k0_t71 : Fin (k0_t71_loop v811 v813).trips, ∀ (k0_h37 : k0_cond37 v811 = 1#1), ∀ a, (k0_off177 v811 v813 k0_t71) a + S1.size a ≤ S1024.size a) ∧
  (∀ (k0_h37 : k0_cond37 v811 = 1#1), (k0_t72_loop v811 v813).OK) ∧
  (∀ k0_t72 : Fin (k0_t72_loop v811 v813).trips, ∀ (k0_h37 : k0_cond37 v811 = 1#1), ∀ a, (k0_off179 v811 v813 k0_t72) a + S1.size a ≤ S1024.size a)
theorem k0_t71_ok : ∀ (v811 : BitVec 32) (v813 : BitVec 32) (k0_hw106 : k0_chk106 v811 v813), ∀ (k0_h37 : k0_cond37 v811 = 1#1), (k0_t71_loop v811 v813).OK := fun v811 v813 k0_hw106 k0_h37 => k0_hw106.1 k0_h37
theorem k0_off177_inb : ∀ (v811 : BitVec 32) (v813 : BitVec 32) (k0_hw106 : k0_chk106 v811 v813) (k0_t71 : Fin (k0_t71_loop v811 v813).trips), ∀ (k0_h37 : k0_cond37 v811 = 1#1), ∀ a, (k0_off177 v811 v813 k0_t71) a + S1.size a ≤ S1024.size a := fun v811 v813 k0_hw106 k0_t71 k0_h37 => k0_hw106.2.1 k0_t71 k0_h37
theorem k0_t72_ok : ∀ (v811 : BitVec 32) (v813 : BitVec 32) (k0_hw106 : k0_chk106 v811 v813), ∀ (k0_h37 : k0_cond37 v811 = 1#1), (k0_t72_loop v811 v813).OK := fun v811 v813 k0_hw106 k0_h37 => k0_hw106.2.2.1 k0_h37
theorem k0_off179_inb : ∀ (v811 : BitVec 32) (v813 : BitVec 32) (k0_hw106 : k0_chk106 v811 v813) (k0_t72 : Fin (k0_t72_loop v811 v813).trips), ∀ (k0_h37 : k0_cond37 v811 = 1#1), ∀ a, (k0_off179 v811 v813 k0_t72) a + S1.size a ≤ S1024.size a := fun v811 v813 k0_hw106 k0_t72 k0_h37 => k0_hw106.2.2.2 k0_t72 k0_h37

def k0_off180 (v1496 : BitVec 32) : Fin 2 → Nat :=
  let v1497 : Index := Scalar.indexCast v1496
  let c0_653 : Index := 0#32
  ![v1497.toNat, 0]

def k0_chk108 (v811 : BitVec 32) (v1496 : BitVec 32) : Prop :=
  (∀ (k0_h37 : k0_cond37 v811 = 1#1), ∀ a, (k0_off180 v1496) a + S1x32.size a ≤ S1024x32.size a)
theorem k0_off180_inb : ∀ (v811 : BitVec 32) (v1496 : BitVec 32) (k0_hw108 : k0_chk108 v811 v1496), ∀ (k0_h37 : k0_cond37 v811 = 1#1), ∀ a, (k0_off180 v1496) a + S1x32.size a ≤ S1024x32.size a := fun v811 v1496 k0_hw108 k0_h37 => k0_hw108 k0_h37

def k0_off181 (i : grid0.Coords) : Fin 1 → Nat :=
  let arg0 : BitVec 32 := BitVec.ofNat 32 (i 0).val
  let c64_i32_360 : BitVec 32 := 64#32
  let v831 : BitVec 32 := Scalar.muli arg0 c64_i32_360
  let c36_i32 : BitVec 32 := 36#32
  let v832 : BitVec 32 := Scalar.addi v831 c36_i32
  let v833 : Index := Scalar.indexCast v832
  ![v833.toNat]
@[reducible] def k0_t73_loop (v834 : BitVec 32) (v836 : BitVec 32) : Scf.Loop 32 :=
  let v1485 : BitVec 32 := Scalar.addi v836 v834
  let v1487 : BitVec 32 := Scalar.subi v1485 v836
  let c1_i32_650 : BitVec 32 := 1#32
  let v1489 : BitVec 32 := Scalar.divsi v1487 c1_i32_650
  let v1490 : BitVec 32 := Scalar.muli v1489 c1_i32_650
  let v1491 : BitVec 32 := Scalar.addi v836 v1490
  let c1_i32_651 : BitVec 32 := 1#32
  ⟨v836, v1491, c1_i32_651⟩
def k0_cond38 (v834 : BitVec 32) : BitVec 1 :=
  let c0_i32_363 : BitVec 32 := 0#32
  let v839 : BitVec 1 := Scalar.cmpi .sgt v834 c0_i32_363
  let v840 : BitVec 32 := Scalar.extui v839
  let c0_i32_364 : BitVec 32 := 0#32
  let v841 : BitVec 1 := Scalar.cmpi .ne v840 c0_i32_364
  v841

def k0_off182 (v834 : BitVec 32) (v836 : BitVec 32) (k0_t73 : Fin (k0_t73_loop v834 v836).trips) : Fin 1 → Nat :=
  let c1_i32_651 : BitVec 32 := 1#32
  let arg12 : BitVec 32 := Scf.iv v836 c1_i32_651 k0_t73
  let v1495 : Index := Scalar.indexCast arg12
  ![v1495.toNat]
def k0_off183 (v1496 : BitVec 32) : Fin 2 → Nat :=
  let v1497 : Index := Scalar.indexCast v1496
  let c0_653 : Index := 0#32
  ![v1497.toNat, 0]

def k0_chk110 (v834 : BitVec 32) (v1496 : BitVec 32) : Prop :=
  (∀ (k0_h38 : k0_cond38 v834 = 1#1), ∀ a, (k0_off183 v1496) a + S1x32.size a ≤ S1024x32.size a)
theorem k0_off183_inb : ∀ (v834 : BitVec 32) (v1496 : BitVec 32) (k0_hw110 : k0_chk110 v834 v1496), ∀ (k0_h38 : k0_cond38 v834 = 1#1), ∀ a, (k0_off183 v1496) a + S1x32.size a ≤ S1024x32.size a := fun v834 v1496 k0_hw110 k0_h38 => k0_hw110 k0_h38

@[reducible] def k0_t74_loop (v834 : BitVec 32) (v836 : BitVec 32) : Scf.Loop 32 :=
  let v1485 : BitVec 32 := Scalar.addi v836 v834
  let v1487 : BitVec 32 := Scalar.subi v1485 v836
  let c1_i32_650 : BitVec 32 := 1#32
  let v1489 : BitVec 32 := Scalar.divsi v1487 c1_i32_650
  let v1490 : BitVec 32 := Scalar.muli v1489 c1_i32_650
  let v1491 : BitVec 32 := Scalar.addi v836 v1490
  let v1488 : BitVec 32 := Scalar.addi v836 v1487
  let c1_i32_652 : BitVec 32 := 1#32
  ⟨v1491, v1488, c1_i32_652⟩
def k0_off184 (v834 : BitVec 32) (v836 : BitVec 32) (k0_t74 : Fin (k0_t74_loop v834 v836).trips) : Fin 1 → Nat :=
  let v1485 : BitVec 32 := Scalar.addi v836 v834
  let v1487 : BitVec 32 := Scalar.subi v1485 v836
  let c1_i32_650 : BitVec 32 := 1#32
  let v1489 : BitVec 32 := Scalar.divsi v1487 c1_i32_650
  let v1490 : BitVec 32 := Scalar.muli v1489 c1_i32_650
  let v1491 : BitVec 32 := Scalar.addi v836 v1490
  let c1_i32_652 : BitVec 32 := 1#32
  let arg12 : BitVec 32 := Scf.iv v1491 c1_i32_652 k0_t74
  let v1495 : Index := Scalar.indexCast arg12
  ![v1495.toNat]

def k0_chk109 (v834 : BitVec 32) (v836 : BitVec 32) : Prop :=
  (∀ (k0_h38 : k0_cond38 v834 = 1#1), (k0_t73_loop v834 v836).OK) ∧
  (∀ k0_t73 : Fin (k0_t73_loop v834 v836).trips, ∀ (k0_h38 : k0_cond38 v834 = 1#1), ∀ a, (k0_off182 v834 v836 k0_t73) a + S1.size a ≤ S1024.size a) ∧
  (∀ (k0_h38 : k0_cond38 v834 = 1#1), (k0_t74_loop v834 v836).OK) ∧
  (∀ k0_t74 : Fin (k0_t74_loop v834 v836).trips, ∀ (k0_h38 : k0_cond38 v834 = 1#1), ∀ a, (k0_off184 v834 v836 k0_t74) a + S1.size a ≤ S1024.size a)
theorem k0_t73_ok : ∀ (v834 : BitVec 32) (v836 : BitVec 32) (k0_hw109 : k0_chk109 v834 v836), ∀ (k0_h38 : k0_cond38 v834 = 1#1), (k0_t73_loop v834 v836).OK := fun v834 v836 k0_hw109 k0_h38 => k0_hw109.1 k0_h38
theorem k0_off182_inb : ∀ (v834 : BitVec 32) (v836 : BitVec 32) (k0_hw109 : k0_chk109 v834 v836) (k0_t73 : Fin (k0_t73_loop v834 v836).trips), ∀ (k0_h38 : k0_cond38 v834 = 1#1), ∀ a, (k0_off182 v834 v836 k0_t73) a + S1.size a ≤ S1024.size a := fun v834 v836 k0_hw109 k0_t73 k0_h38 => k0_hw109.2.1 k0_t73 k0_h38
theorem k0_t74_ok : ∀ (v834 : BitVec 32) (v836 : BitVec 32) (k0_hw109 : k0_chk109 v834 v836), ∀ (k0_h38 : k0_cond38 v834 = 1#1), (k0_t74_loop v834 v836).OK := fun v834 v836 k0_hw109 k0_h38 => k0_hw109.2.2.1 k0_h38
theorem k0_off184_inb : ∀ (v834 : BitVec 32) (v836 : BitVec 32) (k0_hw109 : k0_chk109 v834 v836) (k0_t74 : Fin (k0_t74_loop v834 v836).trips), ∀ (k0_h38 : k0_cond38 v834 = 1#1), ∀ a, (k0_off184 v834 v836 k0_t74) a + S1.size a ≤ S1024.size a := fun v834 v836 k0_hw109 k0_t74 k0_h38 => k0_hw109.2.2.2 k0_t74 k0_h38

def k0_off185 (v1496 : BitVec 32) : Fin 2 → Nat :=
  let v1497 : Index := Scalar.indexCast v1496
  let c0_653 : Index := 0#32
  ![v1497.toNat, 0]

def k0_chk111 (v834 : BitVec 32) (v1496 : BitVec 32) : Prop :=
  (∀ (k0_h38 : k0_cond38 v834 = 1#1), ∀ a, (k0_off185 v1496) a + S1x32.size a ≤ S1024x32.size a)
theorem k0_off185_inb : ∀ (v834 : BitVec 32) (v1496 : BitVec 32) (k0_hw111 : k0_chk111 v834 v1496), ∀ (k0_h38 : k0_cond38 v834 = 1#1), ∀ a, (k0_off185 v1496) a + S1x32.size a ≤ S1024x32.size a := fun v834 v1496 k0_hw111 k0_h38 => k0_hw111 k0_h38

def k0_off186 (i : grid0.Coords) : Fin 1 → Nat :=
  let arg0 : BitVec 32 := BitVec.ofNat 32 (i 0).val
  let c64_i32_370 : BitVec 32 := 64#32
  let v854 : BitVec 32 := Scalar.muli arg0 c64_i32_370
  let c37_i32 : BitVec 32 := 37#32
  let v855 : BitVec 32 := Scalar.addi v854 c37_i32
  let v856 : Index := Scalar.indexCast v855
  ![v856.toNat]
@[reducible] def k0_t75_loop (v857 : BitVec 32) (v859 : BitVec 32) : Scf.Loop 32 :=
  let v1485 : BitVec 32 := Scalar.addi v859 v857
  let v1487 : BitVec 32 := Scalar.subi v1485 v859
  let c1_i32_650 : BitVec 32 := 1#32
  let v1489 : BitVec 32 := Scalar.divsi v1487 c1_i32_650
  let v1490 : BitVec 32 := Scalar.muli v1489 c1_i32_650
  let v1491 : BitVec 32 := Scalar.addi v859 v1490
  let c1_i32_651 : BitVec 32 := 1#32
  ⟨v859, v1491, c1_i32_651⟩
def k0_cond39 (v857 : BitVec 32) : BitVec 1 :=
  let c0_i32_373 : BitVec 32 := 0#32
  let v862 : BitVec 1 := Scalar.cmpi .sgt v857 c0_i32_373
  let v863 : BitVec 32 := Scalar.extui v862
  let c0_i32_374 : BitVec 32 := 0#32
  let v864 : BitVec 1 := Scalar.cmpi .ne v863 c0_i32_374
  v864

def k0_off187 (v857 : BitVec 32) (v859 : BitVec 32) (k0_t75 : Fin (k0_t75_loop v857 v859).trips) : Fin 1 → Nat :=
  let c1_i32_651 : BitVec 32 := 1#32
  let arg12 : BitVec 32 := Scf.iv v859 c1_i32_651 k0_t75
  let v1495 : Index := Scalar.indexCast arg12
  ![v1495.toNat]
def k0_off188 (v1496 : BitVec 32) : Fin 2 → Nat :=
  let v1497 : Index := Scalar.indexCast v1496
  let c0_653 : Index := 0#32
  ![v1497.toNat, 0]

def k0_chk113 (v857 : BitVec 32) (v1496 : BitVec 32) : Prop :=
  (∀ (k0_h39 : k0_cond39 v857 = 1#1), ∀ a, (k0_off188 v1496) a + S1x32.size a ≤ S1024x32.size a)
theorem k0_off188_inb : ∀ (v857 : BitVec 32) (v1496 : BitVec 32) (k0_hw113 : k0_chk113 v857 v1496), ∀ (k0_h39 : k0_cond39 v857 = 1#1), ∀ a, (k0_off188 v1496) a + S1x32.size a ≤ S1024x32.size a := fun v857 v1496 k0_hw113 k0_h39 => k0_hw113 k0_h39

@[reducible] def k0_t76_loop (v857 : BitVec 32) (v859 : BitVec 32) : Scf.Loop 32 :=
  let v1485 : BitVec 32 := Scalar.addi v859 v857
  let v1487 : BitVec 32 := Scalar.subi v1485 v859
  let c1_i32_650 : BitVec 32 := 1#32
  let v1489 : BitVec 32 := Scalar.divsi v1487 c1_i32_650
  let v1490 : BitVec 32 := Scalar.muli v1489 c1_i32_650
  let v1491 : BitVec 32 := Scalar.addi v859 v1490
  let v1488 : BitVec 32 := Scalar.addi v859 v1487
  let c1_i32_652 : BitVec 32 := 1#32
  ⟨v1491, v1488, c1_i32_652⟩
def k0_off189 (v857 : BitVec 32) (v859 : BitVec 32) (k0_t76 : Fin (k0_t76_loop v857 v859).trips) : Fin 1 → Nat :=
  let v1485 : BitVec 32 := Scalar.addi v859 v857
  let v1487 : BitVec 32 := Scalar.subi v1485 v859
  let c1_i32_650 : BitVec 32 := 1#32
  let v1489 : BitVec 32 := Scalar.divsi v1487 c1_i32_650
  let v1490 : BitVec 32 := Scalar.muli v1489 c1_i32_650
  let v1491 : BitVec 32 := Scalar.addi v859 v1490
  let c1_i32_652 : BitVec 32 := 1#32
  let arg12 : BitVec 32 := Scf.iv v1491 c1_i32_652 k0_t76
  let v1495 : Index := Scalar.indexCast arg12
  ![v1495.toNat]

def k0_chk112 (v857 : BitVec 32) (v859 : BitVec 32) : Prop :=
  (∀ (k0_h39 : k0_cond39 v857 = 1#1), (k0_t75_loop v857 v859).OK) ∧
  (∀ k0_t75 : Fin (k0_t75_loop v857 v859).trips, ∀ (k0_h39 : k0_cond39 v857 = 1#1), ∀ a, (k0_off187 v857 v859 k0_t75) a + S1.size a ≤ S1024.size a) ∧
  (∀ (k0_h39 : k0_cond39 v857 = 1#1), (k0_t76_loop v857 v859).OK) ∧
  (∀ k0_t76 : Fin (k0_t76_loop v857 v859).trips, ∀ (k0_h39 : k0_cond39 v857 = 1#1), ∀ a, (k0_off189 v857 v859 k0_t76) a + S1.size a ≤ S1024.size a)
theorem k0_t75_ok : ∀ (v857 : BitVec 32) (v859 : BitVec 32) (k0_hw112 : k0_chk112 v857 v859), ∀ (k0_h39 : k0_cond39 v857 = 1#1), (k0_t75_loop v857 v859).OK := fun v857 v859 k0_hw112 k0_h39 => k0_hw112.1 k0_h39
theorem k0_off187_inb : ∀ (v857 : BitVec 32) (v859 : BitVec 32) (k0_hw112 : k0_chk112 v857 v859) (k0_t75 : Fin (k0_t75_loop v857 v859).trips), ∀ (k0_h39 : k0_cond39 v857 = 1#1), ∀ a, (k0_off187 v857 v859 k0_t75) a + S1.size a ≤ S1024.size a := fun v857 v859 k0_hw112 k0_t75 k0_h39 => k0_hw112.2.1 k0_t75 k0_h39
theorem k0_t76_ok : ∀ (v857 : BitVec 32) (v859 : BitVec 32) (k0_hw112 : k0_chk112 v857 v859), ∀ (k0_h39 : k0_cond39 v857 = 1#1), (k0_t76_loop v857 v859).OK := fun v857 v859 k0_hw112 k0_h39 => k0_hw112.2.2.1 k0_h39
theorem k0_off189_inb : ∀ (v857 : BitVec 32) (v859 : BitVec 32) (k0_hw112 : k0_chk112 v857 v859) (k0_t76 : Fin (k0_t76_loop v857 v859).trips), ∀ (k0_h39 : k0_cond39 v857 = 1#1), ∀ a, (k0_off189 v857 v859 k0_t76) a + S1.size a ≤ S1024.size a := fun v857 v859 k0_hw112 k0_t76 k0_h39 => k0_hw112.2.2.2 k0_t76 k0_h39

def k0_off190 (v1496 : BitVec 32) : Fin 2 → Nat :=
  let v1497 : Index := Scalar.indexCast v1496
  let c0_653 : Index := 0#32
  ![v1497.toNat, 0]

def k0_chk114 (v857 : BitVec 32) (v1496 : BitVec 32) : Prop :=
  (∀ (k0_h39 : k0_cond39 v857 = 1#1), ∀ a, (k0_off190 v1496) a + S1x32.size a ≤ S1024x32.size a)
theorem k0_off190_inb : ∀ (v857 : BitVec 32) (v1496 : BitVec 32) (k0_hw114 : k0_chk114 v857 v1496), ∀ (k0_h39 : k0_cond39 v857 = 1#1), ∀ a, (k0_off190 v1496) a + S1x32.size a ≤ S1024x32.size a := fun v857 v1496 k0_hw114 k0_h39 => k0_hw114 k0_h39

def k0_off191 (i : grid0.Coords) : Fin 1 → Nat :=
  let arg0 : BitVec 32 := BitVec.ofNat 32 (i 0).val
  let c64_i32_380 : BitVec 32 := 64#32
  let v877 : BitVec 32 := Scalar.muli arg0 c64_i32_380
  let c38_i32 : BitVec 32 := 38#32
  let v878 : BitVec 32 := Scalar.addi v877 c38_i32
  let v879 : Index := Scalar.indexCast v878
  ![v879.toNat]
@[reducible] def k0_t77_loop (v880 : BitVec 32) (v882 : BitVec 32) : Scf.Loop 32 :=
  let v1485 : BitVec 32 := Scalar.addi v882 v880
  let v1487 : BitVec 32 := Scalar.subi v1485 v882
  let c1_i32_650 : BitVec 32 := 1#32
  let v1489 : BitVec 32 := Scalar.divsi v1487 c1_i32_650
  let v1490 : BitVec 32 := Scalar.muli v1489 c1_i32_650
  let v1491 : BitVec 32 := Scalar.addi v882 v1490
  let c1_i32_651 : BitVec 32 := 1#32
  ⟨v882, v1491, c1_i32_651⟩
def k0_cond40 (v880 : BitVec 32) : BitVec 1 :=
  let c0_i32_383 : BitVec 32 := 0#32
  let v885 : BitVec 1 := Scalar.cmpi .sgt v880 c0_i32_383
  let v886 : BitVec 32 := Scalar.extui v885
  let c0_i32_384 : BitVec 32 := 0#32
  let v887 : BitVec 1 := Scalar.cmpi .ne v886 c0_i32_384
  v887

def k0_off192 (v880 : BitVec 32) (v882 : BitVec 32) (k0_t77 : Fin (k0_t77_loop v880 v882).trips) : Fin 1 → Nat :=
  let c1_i32_651 : BitVec 32 := 1#32
  let arg12 : BitVec 32 := Scf.iv v882 c1_i32_651 k0_t77
  let v1495 : Index := Scalar.indexCast arg12
  ![v1495.toNat]
def k0_off193 (v1496 : BitVec 32) : Fin 2 → Nat :=
  let v1497 : Index := Scalar.indexCast v1496
  let c0_653 : Index := 0#32
  ![v1497.toNat, 0]

def k0_chk116 (v880 : BitVec 32) (v1496 : BitVec 32) : Prop :=
  (∀ (k0_h40 : k0_cond40 v880 = 1#1), ∀ a, (k0_off193 v1496) a + S1x32.size a ≤ S1024x32.size a)
theorem k0_off193_inb : ∀ (v880 : BitVec 32) (v1496 : BitVec 32) (k0_hw116 : k0_chk116 v880 v1496), ∀ (k0_h40 : k0_cond40 v880 = 1#1), ∀ a, (k0_off193 v1496) a + S1x32.size a ≤ S1024x32.size a := fun v880 v1496 k0_hw116 k0_h40 => k0_hw116 k0_h40

@[reducible] def k0_t78_loop (v880 : BitVec 32) (v882 : BitVec 32) : Scf.Loop 32 :=
  let v1485 : BitVec 32 := Scalar.addi v882 v880
  let v1487 : BitVec 32 := Scalar.subi v1485 v882
  let c1_i32_650 : BitVec 32 := 1#32
  let v1489 : BitVec 32 := Scalar.divsi v1487 c1_i32_650
  let v1490 : BitVec 32 := Scalar.muli v1489 c1_i32_650
  let v1491 : BitVec 32 := Scalar.addi v882 v1490
  let v1488 : BitVec 32 := Scalar.addi v882 v1487
  let c1_i32_652 : BitVec 32 := 1#32
  ⟨v1491, v1488, c1_i32_652⟩
def k0_off194 (v880 : BitVec 32) (v882 : BitVec 32) (k0_t78 : Fin (k0_t78_loop v880 v882).trips) : Fin 1 → Nat :=
  let v1485 : BitVec 32 := Scalar.addi v882 v880
  let v1487 : BitVec 32 := Scalar.subi v1485 v882
  let c1_i32_650 : BitVec 32 := 1#32
  let v1489 : BitVec 32 := Scalar.divsi v1487 c1_i32_650
  let v1490 : BitVec 32 := Scalar.muli v1489 c1_i32_650
  let v1491 : BitVec 32 := Scalar.addi v882 v1490
  let c1_i32_652 : BitVec 32 := 1#32
  let arg12 : BitVec 32 := Scf.iv v1491 c1_i32_652 k0_t78
  let v1495 : Index := Scalar.indexCast arg12
  ![v1495.toNat]

def k0_chk115 (v880 : BitVec 32) (v882 : BitVec 32) : Prop :=
  (∀ (k0_h40 : k0_cond40 v880 = 1#1), (k0_t77_loop v880 v882).OK) ∧
  (∀ k0_t77 : Fin (k0_t77_loop v880 v882).trips, ∀ (k0_h40 : k0_cond40 v880 = 1#1), ∀ a, (k0_off192 v880 v882 k0_t77) a + S1.size a ≤ S1024.size a) ∧
  (∀ (k0_h40 : k0_cond40 v880 = 1#1), (k0_t78_loop v880 v882).OK) ∧
  (∀ k0_t78 : Fin (k0_t78_loop v880 v882).trips, ∀ (k0_h40 : k0_cond40 v880 = 1#1), ∀ a, (k0_off194 v880 v882 k0_t78) a + S1.size a ≤ S1024.size a)
theorem k0_t77_ok : ∀ (v880 : BitVec 32) (v882 : BitVec 32) (k0_hw115 : k0_chk115 v880 v882), ∀ (k0_h40 : k0_cond40 v880 = 1#1), (k0_t77_loop v880 v882).OK := fun v880 v882 k0_hw115 k0_h40 => k0_hw115.1 k0_h40
theorem k0_off192_inb : ∀ (v880 : BitVec 32) (v882 : BitVec 32) (k0_hw115 : k0_chk115 v880 v882) (k0_t77 : Fin (k0_t77_loop v880 v882).trips), ∀ (k0_h40 : k0_cond40 v880 = 1#1), ∀ a, (k0_off192 v880 v882 k0_t77) a + S1.size a ≤ S1024.size a := fun v880 v882 k0_hw115 k0_t77 k0_h40 => k0_hw115.2.1 k0_t77 k0_h40
theorem k0_t78_ok : ∀ (v880 : BitVec 32) (v882 : BitVec 32) (k0_hw115 : k0_chk115 v880 v882), ∀ (k0_h40 : k0_cond40 v880 = 1#1), (k0_t78_loop v880 v882).OK := fun v880 v882 k0_hw115 k0_h40 => k0_hw115.2.2.1 k0_h40
theorem k0_off194_inb : ∀ (v880 : BitVec 32) (v882 : BitVec 32) (k0_hw115 : k0_chk115 v880 v882) (k0_t78 : Fin (k0_t78_loop v880 v882).trips), ∀ (k0_h40 : k0_cond40 v880 = 1#1), ∀ a, (k0_off194 v880 v882 k0_t78) a + S1.size a ≤ S1024.size a := fun v880 v882 k0_hw115 k0_t78 k0_h40 => k0_hw115.2.2.2 k0_t78 k0_h40

def k0_off195 (v1496 : BitVec 32) : Fin 2 → Nat :=
  let v1497 : Index := Scalar.indexCast v1496
  let c0_653 : Index := 0#32
  ![v1497.toNat, 0]

def k0_chk117 (v880 : BitVec 32) (v1496 : BitVec 32) : Prop :=
  (∀ (k0_h40 : k0_cond40 v880 = 1#1), ∀ a, (k0_off195 v1496) a + S1x32.size a ≤ S1024x32.size a)
theorem k0_off195_inb : ∀ (v880 : BitVec 32) (v1496 : BitVec 32) (k0_hw117 : k0_chk117 v880 v1496), ∀ (k0_h40 : k0_cond40 v880 = 1#1), ∀ a, (k0_off195 v1496) a + S1x32.size a ≤ S1024x32.size a := fun v880 v1496 k0_hw117 k0_h40 => k0_hw117 k0_h40

def k0_off196 (i : grid0.Coords) : Fin 1 → Nat :=
  let arg0 : BitVec 32 := BitVec.ofNat 32 (i 0).val
  let c64_i32_390 : BitVec 32 := 64#32
  let v900 : BitVec 32 := Scalar.muli arg0 c64_i32_390
  let c39_i32 : BitVec 32 := 39#32
  let v901 : BitVec 32 := Scalar.addi v900 c39_i32
  let v902 : Index := Scalar.indexCast v901
  ![v902.toNat]
@[reducible] def k0_t79_loop (v903 : BitVec 32) (v905 : BitVec 32) : Scf.Loop 32 :=
  let v1485 : BitVec 32 := Scalar.addi v905 v903
  let v1487 : BitVec 32 := Scalar.subi v1485 v905
  let c1_i32_650 : BitVec 32 := 1#32
  let v1489 : BitVec 32 := Scalar.divsi v1487 c1_i32_650
  let v1490 : BitVec 32 := Scalar.muli v1489 c1_i32_650
  let v1491 : BitVec 32 := Scalar.addi v905 v1490
  let c1_i32_651 : BitVec 32 := 1#32
  ⟨v905, v1491, c1_i32_651⟩
def k0_cond41 (v903 : BitVec 32) : BitVec 1 :=
  let c0_i32_393 : BitVec 32 := 0#32
  let v908 : BitVec 1 := Scalar.cmpi .sgt v903 c0_i32_393
  let v909 : BitVec 32 := Scalar.extui v908
  let c0_i32_394 : BitVec 32 := 0#32
  let v910 : BitVec 1 := Scalar.cmpi .ne v909 c0_i32_394
  v910

def k0_off197 (v903 : BitVec 32) (v905 : BitVec 32) (k0_t79 : Fin (k0_t79_loop v903 v905).trips) : Fin 1 → Nat :=
  let c1_i32_651 : BitVec 32 := 1#32
  let arg12 : BitVec 32 := Scf.iv v905 c1_i32_651 k0_t79
  let v1495 : Index := Scalar.indexCast arg12
  ![v1495.toNat]
def k0_off198 (v1496 : BitVec 32) : Fin 2 → Nat :=
  let v1497 : Index := Scalar.indexCast v1496
  let c0_653 : Index := 0#32
  ![v1497.toNat, 0]

def k0_chk119 (v903 : BitVec 32) (v1496 : BitVec 32) : Prop :=
  (∀ (k0_h41 : k0_cond41 v903 = 1#1), ∀ a, (k0_off198 v1496) a + S1x32.size a ≤ S1024x32.size a)
theorem k0_off198_inb : ∀ (v903 : BitVec 32) (v1496 : BitVec 32) (k0_hw119 : k0_chk119 v903 v1496), ∀ (k0_h41 : k0_cond41 v903 = 1#1), ∀ a, (k0_off198 v1496) a + S1x32.size a ≤ S1024x32.size a := fun v903 v1496 k0_hw119 k0_h41 => k0_hw119 k0_h41

@[reducible] def k0_t80_loop (v903 : BitVec 32) (v905 : BitVec 32) : Scf.Loop 32 :=
  let v1485 : BitVec 32 := Scalar.addi v905 v903
  let v1487 : BitVec 32 := Scalar.subi v1485 v905
  let c1_i32_650 : BitVec 32 := 1#32
  let v1489 : BitVec 32 := Scalar.divsi v1487 c1_i32_650
  let v1490 : BitVec 32 := Scalar.muli v1489 c1_i32_650
  let v1491 : BitVec 32 := Scalar.addi v905 v1490
  let v1488 : BitVec 32 := Scalar.addi v905 v1487
  let c1_i32_652 : BitVec 32 := 1#32
  ⟨v1491, v1488, c1_i32_652⟩
def k0_off199 (v903 : BitVec 32) (v905 : BitVec 32) (k0_t80 : Fin (k0_t80_loop v903 v905).trips) : Fin 1 → Nat :=
  let v1485 : BitVec 32 := Scalar.addi v905 v903
  let v1487 : BitVec 32 := Scalar.subi v1485 v905
  let c1_i32_650 : BitVec 32 := 1#32
  let v1489 : BitVec 32 := Scalar.divsi v1487 c1_i32_650
  let v1490 : BitVec 32 := Scalar.muli v1489 c1_i32_650
  let v1491 : BitVec 32 := Scalar.addi v905 v1490
  let c1_i32_652 : BitVec 32 := 1#32
  let arg12 : BitVec 32 := Scf.iv v1491 c1_i32_652 k0_t80
  let v1495 : Index := Scalar.indexCast arg12
  ![v1495.toNat]

def k0_chk118 (v903 : BitVec 32) (v905 : BitVec 32) : Prop :=
  (∀ (k0_h41 : k0_cond41 v903 = 1#1), (k0_t79_loop v903 v905).OK) ∧
  (∀ k0_t79 : Fin (k0_t79_loop v903 v905).trips, ∀ (k0_h41 : k0_cond41 v903 = 1#1), ∀ a, (k0_off197 v903 v905 k0_t79) a + S1.size a ≤ S1024.size a) ∧
  (∀ (k0_h41 : k0_cond41 v903 = 1#1), (k0_t80_loop v903 v905).OK) ∧
  (∀ k0_t80 : Fin (k0_t80_loop v903 v905).trips, ∀ (k0_h41 : k0_cond41 v903 = 1#1), ∀ a, (k0_off199 v903 v905 k0_t80) a + S1.size a ≤ S1024.size a)
theorem k0_t79_ok : ∀ (v903 : BitVec 32) (v905 : BitVec 32) (k0_hw118 : k0_chk118 v903 v905), ∀ (k0_h41 : k0_cond41 v903 = 1#1), (k0_t79_loop v903 v905).OK := fun v903 v905 k0_hw118 k0_h41 => k0_hw118.1 k0_h41
theorem k0_off197_inb : ∀ (v903 : BitVec 32) (v905 : BitVec 32) (k0_hw118 : k0_chk118 v903 v905) (k0_t79 : Fin (k0_t79_loop v903 v905).trips), ∀ (k0_h41 : k0_cond41 v903 = 1#1), ∀ a, (k0_off197 v903 v905 k0_t79) a + S1.size a ≤ S1024.size a := fun v903 v905 k0_hw118 k0_t79 k0_h41 => k0_hw118.2.1 k0_t79 k0_h41
theorem k0_t80_ok : ∀ (v903 : BitVec 32) (v905 : BitVec 32) (k0_hw118 : k0_chk118 v903 v905), ∀ (k0_h41 : k0_cond41 v903 = 1#1), (k0_t80_loop v903 v905).OK := fun v903 v905 k0_hw118 k0_h41 => k0_hw118.2.2.1 k0_h41
theorem k0_off199_inb : ∀ (v903 : BitVec 32) (v905 : BitVec 32) (k0_hw118 : k0_chk118 v903 v905) (k0_t80 : Fin (k0_t80_loop v903 v905).trips), ∀ (k0_h41 : k0_cond41 v903 = 1#1), ∀ a, (k0_off199 v903 v905 k0_t80) a + S1.size a ≤ S1024.size a := fun v903 v905 k0_hw118 k0_t80 k0_h41 => k0_hw118.2.2.2 k0_t80 k0_h41

def k0_off200 (v1496 : BitVec 32) : Fin 2 → Nat :=
  let v1497 : Index := Scalar.indexCast v1496
  let c0_653 : Index := 0#32
  ![v1497.toNat, 0]

def k0_chk120 (v903 : BitVec 32) (v1496 : BitVec 32) : Prop :=
  (∀ (k0_h41 : k0_cond41 v903 = 1#1), ∀ a, (k0_off200 v1496) a + S1x32.size a ≤ S1024x32.size a)
theorem k0_off200_inb : ∀ (v903 : BitVec 32) (v1496 : BitVec 32) (k0_hw120 : k0_chk120 v903 v1496), ∀ (k0_h41 : k0_cond41 v903 = 1#1), ∀ a, (k0_off200 v1496) a + S1x32.size a ≤ S1024x32.size a := fun v903 v1496 k0_hw120 k0_h41 => k0_hw120 k0_h41

def k0_off201 (i : grid0.Coords) : Fin 1 → Nat :=
  let arg0 : BitVec 32 := BitVec.ofNat 32 (i 0).val
  let c64_i32_400 : BitVec 32 := 64#32
  let v923 : BitVec 32 := Scalar.muli arg0 c64_i32_400
  let c40_i32 : BitVec 32 := 40#32
  let v924 : BitVec 32 := Scalar.addi v923 c40_i32
  let v925 : Index := Scalar.indexCast v924
  ![v925.toNat]
@[reducible] def k0_t81_loop (v926 : BitVec 32) (v928 : BitVec 32) : Scf.Loop 32 :=
  let v1485 : BitVec 32 := Scalar.addi v928 v926
  let v1487 : BitVec 32 := Scalar.subi v1485 v928
  let c1_i32_650 : BitVec 32 := 1#32
  let v1489 : BitVec 32 := Scalar.divsi v1487 c1_i32_650
  let v1490 : BitVec 32 := Scalar.muli v1489 c1_i32_650
  let v1491 : BitVec 32 := Scalar.addi v928 v1490
  let c1_i32_651 : BitVec 32 := 1#32
  ⟨v928, v1491, c1_i32_651⟩
def k0_cond42 (v926 : BitVec 32) : BitVec 1 :=
  let c0_i32_403 : BitVec 32 := 0#32
  let v931 : BitVec 1 := Scalar.cmpi .sgt v926 c0_i32_403
  let v932 : BitVec 32 := Scalar.extui v931
  let c0_i32_404 : BitVec 32 := 0#32
  let v933 : BitVec 1 := Scalar.cmpi .ne v932 c0_i32_404
  v933

def k0_off202 (v926 : BitVec 32) (v928 : BitVec 32) (k0_t81 : Fin (k0_t81_loop v926 v928).trips) : Fin 1 → Nat :=
  let c1_i32_651 : BitVec 32 := 1#32
  let arg12 : BitVec 32 := Scf.iv v928 c1_i32_651 k0_t81
  let v1495 : Index := Scalar.indexCast arg12
  ![v1495.toNat]
def k0_off203 (v1496 : BitVec 32) : Fin 2 → Nat :=
  let v1497 : Index := Scalar.indexCast v1496
  let c0_653 : Index := 0#32
  ![v1497.toNat, 0]

def k0_chk122 (v926 : BitVec 32) (v1496 : BitVec 32) : Prop :=
  (∀ (k0_h42 : k0_cond42 v926 = 1#1), ∀ a, (k0_off203 v1496) a + S1x32.size a ≤ S1024x32.size a)
theorem k0_off203_inb : ∀ (v926 : BitVec 32) (v1496 : BitVec 32) (k0_hw122 : k0_chk122 v926 v1496), ∀ (k0_h42 : k0_cond42 v926 = 1#1), ∀ a, (k0_off203 v1496) a + S1x32.size a ≤ S1024x32.size a := fun v926 v1496 k0_hw122 k0_h42 => k0_hw122 k0_h42

@[reducible] def k0_t82_loop (v926 : BitVec 32) (v928 : BitVec 32) : Scf.Loop 32 :=
  let v1485 : BitVec 32 := Scalar.addi v928 v926
  let v1487 : BitVec 32 := Scalar.subi v1485 v928
  let c1_i32_650 : BitVec 32 := 1#32
  let v1489 : BitVec 32 := Scalar.divsi v1487 c1_i32_650
  let v1490 : BitVec 32 := Scalar.muli v1489 c1_i32_650
  let v1491 : BitVec 32 := Scalar.addi v928 v1490
  let v1488 : BitVec 32 := Scalar.addi v928 v1487
  let c1_i32_652 : BitVec 32 := 1#32
  ⟨v1491, v1488, c1_i32_652⟩
def k0_off204 (v926 : BitVec 32) (v928 : BitVec 32) (k0_t82 : Fin (k0_t82_loop v926 v928).trips) : Fin 1 → Nat :=
  let v1485 : BitVec 32 := Scalar.addi v928 v926
  let v1487 : BitVec 32 := Scalar.subi v1485 v928
  let c1_i32_650 : BitVec 32 := 1#32
  let v1489 : BitVec 32 := Scalar.divsi v1487 c1_i32_650
  let v1490 : BitVec 32 := Scalar.muli v1489 c1_i32_650
  let v1491 : BitVec 32 := Scalar.addi v928 v1490
  let c1_i32_652 : BitVec 32 := 1#32
  let arg12 : BitVec 32 := Scf.iv v1491 c1_i32_652 k0_t82
  let v1495 : Index := Scalar.indexCast arg12
  ![v1495.toNat]

def k0_chk121 (v926 : BitVec 32) (v928 : BitVec 32) : Prop :=
  (∀ (k0_h42 : k0_cond42 v926 = 1#1), (k0_t81_loop v926 v928).OK) ∧
  (∀ k0_t81 : Fin (k0_t81_loop v926 v928).trips, ∀ (k0_h42 : k0_cond42 v926 = 1#1), ∀ a, (k0_off202 v926 v928 k0_t81) a + S1.size a ≤ S1024.size a) ∧
  (∀ (k0_h42 : k0_cond42 v926 = 1#1), (k0_t82_loop v926 v928).OK) ∧
  (∀ k0_t82 : Fin (k0_t82_loop v926 v928).trips, ∀ (k0_h42 : k0_cond42 v926 = 1#1), ∀ a, (k0_off204 v926 v928 k0_t82) a + S1.size a ≤ S1024.size a)
theorem k0_t81_ok : ∀ (v926 : BitVec 32) (v928 : BitVec 32) (k0_hw121 : k0_chk121 v926 v928), ∀ (k0_h42 : k0_cond42 v926 = 1#1), (k0_t81_loop v926 v928).OK := fun v926 v928 k0_hw121 k0_h42 => k0_hw121.1 k0_h42
theorem k0_off202_inb : ∀ (v926 : BitVec 32) (v928 : BitVec 32) (k0_hw121 : k0_chk121 v926 v928) (k0_t81 : Fin (k0_t81_loop v926 v928).trips), ∀ (k0_h42 : k0_cond42 v926 = 1#1), ∀ a, (k0_off202 v926 v928 k0_t81) a + S1.size a ≤ S1024.size a := fun v926 v928 k0_hw121 k0_t81 k0_h42 => k0_hw121.2.1 k0_t81 k0_h42
theorem k0_t82_ok : ∀ (v926 : BitVec 32) (v928 : BitVec 32) (k0_hw121 : k0_chk121 v926 v928), ∀ (k0_h42 : k0_cond42 v926 = 1#1), (k0_t82_loop v926 v928).OK := fun v926 v928 k0_hw121 k0_h42 => k0_hw121.2.2.1 k0_h42
theorem k0_off204_inb : ∀ (v926 : BitVec 32) (v928 : BitVec 32) (k0_hw121 : k0_chk121 v926 v928) (k0_t82 : Fin (k0_t82_loop v926 v928).trips), ∀ (k0_h42 : k0_cond42 v926 = 1#1), ∀ a, (k0_off204 v926 v928 k0_t82) a + S1.size a ≤ S1024.size a := fun v926 v928 k0_hw121 k0_t82 k0_h42 => k0_hw121.2.2.2 k0_t82 k0_h42

def k0_off205 (v1496 : BitVec 32) : Fin 2 → Nat :=
  let v1497 : Index := Scalar.indexCast v1496
  let c0_653 : Index := 0#32
  ![v1497.toNat, 0]

def k0_chk123 (v926 : BitVec 32) (v1496 : BitVec 32) : Prop :=
  (∀ (k0_h42 : k0_cond42 v926 = 1#1), ∀ a, (k0_off205 v1496) a + S1x32.size a ≤ S1024x32.size a)
theorem k0_off205_inb : ∀ (v926 : BitVec 32) (v1496 : BitVec 32) (k0_hw123 : k0_chk123 v926 v1496), ∀ (k0_h42 : k0_cond42 v926 = 1#1), ∀ a, (k0_off205 v1496) a + S1x32.size a ≤ S1024x32.size a := fun v926 v1496 k0_hw123 k0_h42 => k0_hw123 k0_h42

def k0_off206 (i : grid0.Coords) : Fin 1 → Nat :=
  let arg0 : BitVec 32 := BitVec.ofNat 32 (i 0).val
  let c64_i32_410 : BitVec 32 := 64#32
  let v946 : BitVec 32 := Scalar.muli arg0 c64_i32_410
  let c41_i32 : BitVec 32 := 41#32
  let v947 : BitVec 32 := Scalar.addi v946 c41_i32
  let v948 : Index := Scalar.indexCast v947
  ![v948.toNat]
@[reducible] def k0_t83_loop (v949 : BitVec 32) (v951 : BitVec 32) : Scf.Loop 32 :=
  let v1485 : BitVec 32 := Scalar.addi v951 v949
  let v1487 : BitVec 32 := Scalar.subi v1485 v951
  let c1_i32_650 : BitVec 32 := 1#32
  let v1489 : BitVec 32 := Scalar.divsi v1487 c1_i32_650
  let v1490 : BitVec 32 := Scalar.muli v1489 c1_i32_650
  let v1491 : BitVec 32 := Scalar.addi v951 v1490
  let c1_i32_651 : BitVec 32 := 1#32
  ⟨v951, v1491, c1_i32_651⟩
def k0_cond43 (v949 : BitVec 32) : BitVec 1 :=
  let c0_i32_413 : BitVec 32 := 0#32
  let v954 : BitVec 1 := Scalar.cmpi .sgt v949 c0_i32_413
  let v955 : BitVec 32 := Scalar.extui v954
  let c0_i32_414 : BitVec 32 := 0#32
  let v956 : BitVec 1 := Scalar.cmpi .ne v955 c0_i32_414
  v956

def k0_off207 (v949 : BitVec 32) (v951 : BitVec 32) (k0_t83 : Fin (k0_t83_loop v949 v951).trips) : Fin 1 → Nat :=
  let c1_i32_651 : BitVec 32 := 1#32
  let arg12 : BitVec 32 := Scf.iv v951 c1_i32_651 k0_t83
  let v1495 : Index := Scalar.indexCast arg12
  ![v1495.toNat]
def k0_off208 (v1496 : BitVec 32) : Fin 2 → Nat :=
  let v1497 : Index := Scalar.indexCast v1496
  let c0_653 : Index := 0#32
  ![v1497.toNat, 0]

def k0_chk125 (v949 : BitVec 32) (v1496 : BitVec 32) : Prop :=
  (∀ (k0_h43 : k0_cond43 v949 = 1#1), ∀ a, (k0_off208 v1496) a + S1x32.size a ≤ S1024x32.size a)
theorem k0_off208_inb : ∀ (v949 : BitVec 32) (v1496 : BitVec 32) (k0_hw125 : k0_chk125 v949 v1496), ∀ (k0_h43 : k0_cond43 v949 = 1#1), ∀ a, (k0_off208 v1496) a + S1x32.size a ≤ S1024x32.size a := fun v949 v1496 k0_hw125 k0_h43 => k0_hw125 k0_h43

@[reducible] def k0_t84_loop (v949 : BitVec 32) (v951 : BitVec 32) : Scf.Loop 32 :=
  let v1485 : BitVec 32 := Scalar.addi v951 v949
  let v1487 : BitVec 32 := Scalar.subi v1485 v951
  let c1_i32_650 : BitVec 32 := 1#32
  let v1489 : BitVec 32 := Scalar.divsi v1487 c1_i32_650
  let v1490 : BitVec 32 := Scalar.muli v1489 c1_i32_650
  let v1491 : BitVec 32 := Scalar.addi v951 v1490
  let v1488 : BitVec 32 := Scalar.addi v951 v1487
  let c1_i32_652 : BitVec 32 := 1#32
  ⟨v1491, v1488, c1_i32_652⟩
def k0_off209 (v949 : BitVec 32) (v951 : BitVec 32) (k0_t84 : Fin (k0_t84_loop v949 v951).trips) : Fin 1 → Nat :=
  let v1485 : BitVec 32 := Scalar.addi v951 v949
  let v1487 : BitVec 32 := Scalar.subi v1485 v951
  let c1_i32_650 : BitVec 32 := 1#32
  let v1489 : BitVec 32 := Scalar.divsi v1487 c1_i32_650
  let v1490 : BitVec 32 := Scalar.muli v1489 c1_i32_650
  let v1491 : BitVec 32 := Scalar.addi v951 v1490
  let c1_i32_652 : BitVec 32 := 1#32
  let arg12 : BitVec 32 := Scf.iv v1491 c1_i32_652 k0_t84
  let v1495 : Index := Scalar.indexCast arg12
  ![v1495.toNat]

def k0_chk124 (v949 : BitVec 32) (v951 : BitVec 32) : Prop :=
  (∀ (k0_h43 : k0_cond43 v949 = 1#1), (k0_t83_loop v949 v951).OK) ∧
  (∀ k0_t83 : Fin (k0_t83_loop v949 v951).trips, ∀ (k0_h43 : k0_cond43 v949 = 1#1), ∀ a, (k0_off207 v949 v951 k0_t83) a + S1.size a ≤ S1024.size a) ∧
  (∀ (k0_h43 : k0_cond43 v949 = 1#1), (k0_t84_loop v949 v951).OK) ∧
  (∀ k0_t84 : Fin (k0_t84_loop v949 v951).trips, ∀ (k0_h43 : k0_cond43 v949 = 1#1), ∀ a, (k0_off209 v949 v951 k0_t84) a + S1.size a ≤ S1024.size a)
theorem k0_t83_ok : ∀ (v949 : BitVec 32) (v951 : BitVec 32) (k0_hw124 : k0_chk124 v949 v951), ∀ (k0_h43 : k0_cond43 v949 = 1#1), (k0_t83_loop v949 v951).OK := fun v949 v951 k0_hw124 k0_h43 => k0_hw124.1 k0_h43
theorem k0_off207_inb : ∀ (v949 : BitVec 32) (v951 : BitVec 32) (k0_hw124 : k0_chk124 v949 v951) (k0_t83 : Fin (k0_t83_loop v949 v951).trips), ∀ (k0_h43 : k0_cond43 v949 = 1#1), ∀ a, (k0_off207 v949 v951 k0_t83) a + S1.size a ≤ S1024.size a := fun v949 v951 k0_hw124 k0_t83 k0_h43 => k0_hw124.2.1 k0_t83 k0_h43
theorem k0_t84_ok : ∀ (v949 : BitVec 32) (v951 : BitVec 32) (k0_hw124 : k0_chk124 v949 v951), ∀ (k0_h43 : k0_cond43 v949 = 1#1), (k0_t84_loop v949 v951).OK := fun v949 v951 k0_hw124 k0_h43 => k0_hw124.2.2.1 k0_h43
theorem k0_off209_inb : ∀ (v949 : BitVec 32) (v951 : BitVec 32) (k0_hw124 : k0_chk124 v949 v951) (k0_t84 : Fin (k0_t84_loop v949 v951).trips), ∀ (k0_h43 : k0_cond43 v949 = 1#1), ∀ a, (k0_off209 v949 v951 k0_t84) a + S1.size a ≤ S1024.size a := fun v949 v951 k0_hw124 k0_t84 k0_h43 => k0_hw124.2.2.2 k0_t84 k0_h43

def k0_off210 (v1496 : BitVec 32) : Fin 2 → Nat :=
  let v1497 : Index := Scalar.indexCast v1496
  let c0_653 : Index := 0#32
  ![v1497.toNat, 0]

def k0_chk126 (v949 : BitVec 32) (v1496 : BitVec 32) : Prop :=
  (∀ (k0_h43 : k0_cond43 v949 = 1#1), ∀ a, (k0_off210 v1496) a + S1x32.size a ≤ S1024x32.size a)
theorem k0_off210_inb : ∀ (v949 : BitVec 32) (v1496 : BitVec 32) (k0_hw126 : k0_chk126 v949 v1496), ∀ (k0_h43 : k0_cond43 v949 = 1#1), ∀ a, (k0_off210 v1496) a + S1x32.size a ≤ S1024x32.size a := fun v949 v1496 k0_hw126 k0_h43 => k0_hw126 k0_h43

def k0_off211 (i : grid0.Coords) : Fin 1 → Nat :=
  let arg0 : BitVec 32 := BitVec.ofNat 32 (i 0).val
  let c64_i32_420 : BitVec 32 := 64#32
  let v969 : BitVec 32 := Scalar.muli arg0 c64_i32_420
  let c42_i32 : BitVec 32 := 42#32
  let v970 : BitVec 32 := Scalar.addi v969 c42_i32
  let v971 : Index := Scalar.indexCast v970
  ![v971.toNat]
@[reducible] def k0_t85_loop (v972 : BitVec 32) (v974 : BitVec 32) : Scf.Loop 32 :=
  let v1485 : BitVec 32 := Scalar.addi v974 v972
  let v1487 : BitVec 32 := Scalar.subi v1485 v974
  let c1_i32_650 : BitVec 32 := 1#32
  let v1489 : BitVec 32 := Scalar.divsi v1487 c1_i32_650
  let v1490 : BitVec 32 := Scalar.muli v1489 c1_i32_650
  let v1491 : BitVec 32 := Scalar.addi v974 v1490
  let c1_i32_651 : BitVec 32 := 1#32
  ⟨v974, v1491, c1_i32_651⟩
def k0_cond44 (v972 : BitVec 32) : BitVec 1 :=
  let c0_i32_423 : BitVec 32 := 0#32
  let v977 : BitVec 1 := Scalar.cmpi .sgt v972 c0_i32_423
  let v978 : BitVec 32 := Scalar.extui v977
  let c0_i32_424 : BitVec 32 := 0#32
  let v979 : BitVec 1 := Scalar.cmpi .ne v978 c0_i32_424
  v979

def k0_off212 (v972 : BitVec 32) (v974 : BitVec 32) (k0_t85 : Fin (k0_t85_loop v972 v974).trips) : Fin 1 → Nat :=
  let c1_i32_651 : BitVec 32 := 1#32
  let arg12 : BitVec 32 := Scf.iv v974 c1_i32_651 k0_t85
  let v1495 : Index := Scalar.indexCast arg12
  ![v1495.toNat]
def k0_off213 (v1496 : BitVec 32) : Fin 2 → Nat :=
  let v1497 : Index := Scalar.indexCast v1496
  let c0_653 : Index := 0#32
  ![v1497.toNat, 0]

def k0_chk128 (v972 : BitVec 32) (v1496 : BitVec 32) : Prop :=
  (∀ (k0_h44 : k0_cond44 v972 = 1#1), ∀ a, (k0_off213 v1496) a + S1x32.size a ≤ S1024x32.size a)
theorem k0_off213_inb : ∀ (v972 : BitVec 32) (v1496 : BitVec 32) (k0_hw128 : k0_chk128 v972 v1496), ∀ (k0_h44 : k0_cond44 v972 = 1#1), ∀ a, (k0_off213 v1496) a + S1x32.size a ≤ S1024x32.size a := fun v972 v1496 k0_hw128 k0_h44 => k0_hw128 k0_h44

@[reducible] def k0_t86_loop (v972 : BitVec 32) (v974 : BitVec 32) : Scf.Loop 32 :=
  let v1485 : BitVec 32 := Scalar.addi v974 v972
  let v1487 : BitVec 32 := Scalar.subi v1485 v974
  let c1_i32_650 : BitVec 32 := 1#32
  let v1489 : BitVec 32 := Scalar.divsi v1487 c1_i32_650
  let v1490 : BitVec 32 := Scalar.muli v1489 c1_i32_650
  let v1491 : BitVec 32 := Scalar.addi v974 v1490
  let v1488 : BitVec 32 := Scalar.addi v974 v1487
  let c1_i32_652 : BitVec 32 := 1#32
  ⟨v1491, v1488, c1_i32_652⟩
def k0_off214 (v972 : BitVec 32) (v974 : BitVec 32) (k0_t86 : Fin (k0_t86_loop v972 v974).trips) : Fin 1 → Nat :=
  let v1485 : BitVec 32 := Scalar.addi v974 v972
  let v1487 : BitVec 32 := Scalar.subi v1485 v974
  let c1_i32_650 : BitVec 32 := 1#32
  let v1489 : BitVec 32 := Scalar.divsi v1487 c1_i32_650
  let v1490 : BitVec 32 := Scalar.muli v1489 c1_i32_650
  let v1491 : BitVec 32 := Scalar.addi v974 v1490
  let c1_i32_652 : BitVec 32 := 1#32
  let arg12 : BitVec 32 := Scf.iv v1491 c1_i32_652 k0_t86
  let v1495 : Index := Scalar.indexCast arg12
  ![v1495.toNat]

def k0_chk127 (v972 : BitVec 32) (v974 : BitVec 32) : Prop :=
  (∀ (k0_h44 : k0_cond44 v972 = 1#1), (k0_t85_loop v972 v974).OK) ∧
  (∀ k0_t85 : Fin (k0_t85_loop v972 v974).trips, ∀ (k0_h44 : k0_cond44 v972 = 1#1), ∀ a, (k0_off212 v972 v974 k0_t85) a + S1.size a ≤ S1024.size a) ∧
  (∀ (k0_h44 : k0_cond44 v972 = 1#1), (k0_t86_loop v972 v974).OK) ∧
  (∀ k0_t86 : Fin (k0_t86_loop v972 v974).trips, ∀ (k0_h44 : k0_cond44 v972 = 1#1), ∀ a, (k0_off214 v972 v974 k0_t86) a + S1.size a ≤ S1024.size a)
theorem k0_t85_ok : ∀ (v972 : BitVec 32) (v974 : BitVec 32) (k0_hw127 : k0_chk127 v972 v974), ∀ (k0_h44 : k0_cond44 v972 = 1#1), (k0_t85_loop v972 v974).OK := fun v972 v974 k0_hw127 k0_h44 => k0_hw127.1 k0_h44
theorem k0_off212_inb : ∀ (v972 : BitVec 32) (v974 : BitVec 32) (k0_hw127 : k0_chk127 v972 v974) (k0_t85 : Fin (k0_t85_loop v972 v974).trips), ∀ (k0_h44 : k0_cond44 v972 = 1#1), ∀ a, (k0_off212 v972 v974 k0_t85) a + S1.size a ≤ S1024.size a := fun v972 v974 k0_hw127 k0_t85 k0_h44 => k0_hw127.2.1 k0_t85 k0_h44
theorem k0_t86_ok : ∀ (v972 : BitVec 32) (v974 : BitVec 32) (k0_hw127 : k0_chk127 v972 v974), ∀ (k0_h44 : k0_cond44 v972 = 1#1), (k0_t86_loop v972 v974).OK := fun v972 v974 k0_hw127 k0_h44 => k0_hw127.2.2.1 k0_h44
theorem k0_off214_inb : ∀ (v972 : BitVec 32) (v974 : BitVec 32) (k0_hw127 : k0_chk127 v972 v974) (k0_t86 : Fin (k0_t86_loop v972 v974).trips), ∀ (k0_h44 : k0_cond44 v972 = 1#1), ∀ a, (k0_off214 v972 v974 k0_t86) a + S1.size a ≤ S1024.size a := fun v972 v974 k0_hw127 k0_t86 k0_h44 => k0_hw127.2.2.2 k0_t86 k0_h44

def k0_off215 (v1496 : BitVec 32) : Fin 2 → Nat :=
  let v1497 : Index := Scalar.indexCast v1496
  let c0_653 : Index := 0#32
  ![v1497.toNat, 0]

def k0_chk129 (v972 : BitVec 32) (v1496 : BitVec 32) : Prop :=
  (∀ (k0_h44 : k0_cond44 v972 = 1#1), ∀ a, (k0_off215 v1496) a + S1x32.size a ≤ S1024x32.size a)
theorem k0_off215_inb : ∀ (v972 : BitVec 32) (v1496 : BitVec 32) (k0_hw129 : k0_chk129 v972 v1496), ∀ (k0_h44 : k0_cond44 v972 = 1#1), ∀ a, (k0_off215 v1496) a + S1x32.size a ≤ S1024x32.size a := fun v972 v1496 k0_hw129 k0_h44 => k0_hw129 k0_h44

def k0_off216 (i : grid0.Coords) : Fin 1 → Nat :=
  let arg0 : BitVec 32 := BitVec.ofNat 32 (i 0).val
  let c64_i32_430 : BitVec 32 := 64#32
  let v992 : BitVec 32 := Scalar.muli arg0 c64_i32_430
  let c43_i32 : BitVec 32 := 43#32
  let v993 : BitVec 32 := Scalar.addi v992 c43_i32
  let v994 : Index := Scalar.indexCast v993
  ![v994.toNat]
@[reducible] def k0_t87_loop (v995 : BitVec 32) (v997 : BitVec 32) : Scf.Loop 32 :=
  let v1485 : BitVec 32 := Scalar.addi v997 v995
  let v1487 : BitVec 32 := Scalar.subi v1485 v997
  let c1_i32_650 : BitVec 32 := 1#32
  let v1489 : BitVec 32 := Scalar.divsi v1487 c1_i32_650
  let v1490 : BitVec 32 := Scalar.muli v1489 c1_i32_650
  let v1491 : BitVec 32 := Scalar.addi v997 v1490
  let c1_i32_651 : BitVec 32 := 1#32
  ⟨v997, v1491, c1_i32_651⟩
def k0_cond45 (v995 : BitVec 32) : BitVec 1 :=
  let c0_i32_433 : BitVec 32 := 0#32
  let v1000 : BitVec 1 := Scalar.cmpi .sgt v995 c0_i32_433
  let v1001 : BitVec 32 := Scalar.extui v1000
  let c0_i32_434 : BitVec 32 := 0#32
  let v1002 : BitVec 1 := Scalar.cmpi .ne v1001 c0_i32_434
  v1002

def k0_off217 (v995 : BitVec 32) (v997 : BitVec 32) (k0_t87 : Fin (k0_t87_loop v995 v997).trips) : Fin 1 → Nat :=
  let c1_i32_651 : BitVec 32 := 1#32
  let arg12 : BitVec 32 := Scf.iv v997 c1_i32_651 k0_t87
  let v1495 : Index := Scalar.indexCast arg12
  ![v1495.toNat]
def k0_off218 (v1496 : BitVec 32) : Fin 2 → Nat :=
  let v1497 : Index := Scalar.indexCast v1496
  let c0_653 : Index := 0#32
  ![v1497.toNat, 0]

def k0_chk131 (v995 : BitVec 32) (v1496 : BitVec 32) : Prop :=
  (∀ (k0_h45 : k0_cond45 v995 = 1#1), ∀ a, (k0_off218 v1496) a + S1x32.size a ≤ S1024x32.size a)
theorem k0_off218_inb : ∀ (v995 : BitVec 32) (v1496 : BitVec 32) (k0_hw131 : k0_chk131 v995 v1496), ∀ (k0_h45 : k0_cond45 v995 = 1#1), ∀ a, (k0_off218 v1496) a + S1x32.size a ≤ S1024x32.size a := fun v995 v1496 k0_hw131 k0_h45 => k0_hw131 k0_h45

@[reducible] def k0_t88_loop (v995 : BitVec 32) (v997 : BitVec 32) : Scf.Loop 32 :=
  let v1485 : BitVec 32 := Scalar.addi v997 v995
  let v1487 : BitVec 32 := Scalar.subi v1485 v997
  let c1_i32_650 : BitVec 32 := 1#32
  let v1489 : BitVec 32 := Scalar.divsi v1487 c1_i32_650
  let v1490 : BitVec 32 := Scalar.muli v1489 c1_i32_650
  let v1491 : BitVec 32 := Scalar.addi v997 v1490
  let v1488 : BitVec 32 := Scalar.addi v997 v1487
  let c1_i32_652 : BitVec 32 := 1#32
  ⟨v1491, v1488, c1_i32_652⟩
def k0_off219 (v995 : BitVec 32) (v997 : BitVec 32) (k0_t88 : Fin (k0_t88_loop v995 v997).trips) : Fin 1 → Nat :=
  let v1485 : BitVec 32 := Scalar.addi v997 v995
  let v1487 : BitVec 32 := Scalar.subi v1485 v997
  let c1_i32_650 : BitVec 32 := 1#32
  let v1489 : BitVec 32 := Scalar.divsi v1487 c1_i32_650
  let v1490 : BitVec 32 := Scalar.muli v1489 c1_i32_650
  let v1491 : BitVec 32 := Scalar.addi v997 v1490
  let c1_i32_652 : BitVec 32 := 1#32
  let arg12 : BitVec 32 := Scf.iv v1491 c1_i32_652 k0_t88
  let v1495 : Index := Scalar.indexCast arg12
  ![v1495.toNat]

def k0_chk130 (v995 : BitVec 32) (v997 : BitVec 32) : Prop :=
  (∀ (k0_h45 : k0_cond45 v995 = 1#1), (k0_t87_loop v995 v997).OK) ∧
  (∀ k0_t87 : Fin (k0_t87_loop v995 v997).trips, ∀ (k0_h45 : k0_cond45 v995 = 1#1), ∀ a, (k0_off217 v995 v997 k0_t87) a + S1.size a ≤ S1024.size a) ∧
  (∀ (k0_h45 : k0_cond45 v995 = 1#1), (k0_t88_loop v995 v997).OK) ∧
  (∀ k0_t88 : Fin (k0_t88_loop v995 v997).trips, ∀ (k0_h45 : k0_cond45 v995 = 1#1), ∀ a, (k0_off219 v995 v997 k0_t88) a + S1.size a ≤ S1024.size a)
theorem k0_t87_ok : ∀ (v995 : BitVec 32) (v997 : BitVec 32) (k0_hw130 : k0_chk130 v995 v997), ∀ (k0_h45 : k0_cond45 v995 = 1#1), (k0_t87_loop v995 v997).OK := fun v995 v997 k0_hw130 k0_h45 => k0_hw130.1 k0_h45
theorem k0_off217_inb : ∀ (v995 : BitVec 32) (v997 : BitVec 32) (k0_hw130 : k0_chk130 v995 v997) (k0_t87 : Fin (k0_t87_loop v995 v997).trips), ∀ (k0_h45 : k0_cond45 v995 = 1#1), ∀ a, (k0_off217 v995 v997 k0_t87) a + S1.size a ≤ S1024.size a := fun v995 v997 k0_hw130 k0_t87 k0_h45 => k0_hw130.2.1 k0_t87 k0_h45
theorem k0_t88_ok : ∀ (v995 : BitVec 32) (v997 : BitVec 32) (k0_hw130 : k0_chk130 v995 v997), ∀ (k0_h45 : k0_cond45 v995 = 1#1), (k0_t88_loop v995 v997).OK := fun v995 v997 k0_hw130 k0_h45 => k0_hw130.2.2.1 k0_h45
theorem k0_off219_inb : ∀ (v995 : BitVec 32) (v997 : BitVec 32) (k0_hw130 : k0_chk130 v995 v997) (k0_t88 : Fin (k0_t88_loop v995 v997).trips), ∀ (k0_h45 : k0_cond45 v995 = 1#1), ∀ a, (k0_off219 v995 v997 k0_t88) a + S1.size a ≤ S1024.size a := fun v995 v997 k0_hw130 k0_t88 k0_h45 => k0_hw130.2.2.2 k0_t88 k0_h45

def k0_off220 (v1496 : BitVec 32) : Fin 2 → Nat :=
  let v1497 : Index := Scalar.indexCast v1496
  let c0_653 : Index := 0#32
  ![v1497.toNat, 0]

def k0_chk132 (v995 : BitVec 32) (v1496 : BitVec 32) : Prop :=
  (∀ (k0_h45 : k0_cond45 v995 = 1#1), ∀ a, (k0_off220 v1496) a + S1x32.size a ≤ S1024x32.size a)
theorem k0_off220_inb : ∀ (v995 : BitVec 32) (v1496 : BitVec 32) (k0_hw132 : k0_chk132 v995 v1496), ∀ (k0_h45 : k0_cond45 v995 = 1#1), ∀ a, (k0_off220 v1496) a + S1x32.size a ≤ S1024x32.size a := fun v995 v1496 k0_hw132 k0_h45 => k0_hw132 k0_h45

def k0_off221 (i : grid0.Coords) : Fin 1 → Nat :=
  let arg0 : BitVec 32 := BitVec.ofNat 32 (i 0).val
  let c64_i32_440 : BitVec 32 := 64#32
  let v1015 : BitVec 32 := Scalar.muli arg0 c64_i32_440
  let c44_i32 : BitVec 32 := 44#32
  let v1016 : BitVec 32 := Scalar.addi v1015 c44_i32
  let v1017 : Index := Scalar.indexCast v1016
  ![v1017.toNat]
@[reducible] def k0_t89_loop (v1018 : BitVec 32) (v1020 : BitVec 32) : Scf.Loop 32 :=
  let v1485 : BitVec 32 := Scalar.addi v1020 v1018
  let v1487 : BitVec 32 := Scalar.subi v1485 v1020
  let c1_i32_650 : BitVec 32 := 1#32
  let v1489 : BitVec 32 := Scalar.divsi v1487 c1_i32_650
  let v1490 : BitVec 32 := Scalar.muli v1489 c1_i32_650
  let v1491 : BitVec 32 := Scalar.addi v1020 v1490
  let c1_i32_651 : BitVec 32 := 1#32
  ⟨v1020, v1491, c1_i32_651⟩
def k0_cond46 (v1018 : BitVec 32) : BitVec 1 :=
  let c0_i32_443 : BitVec 32 := 0#32
  let v1023 : BitVec 1 := Scalar.cmpi .sgt v1018 c0_i32_443
  let v1024 : BitVec 32 := Scalar.extui v1023
  let c0_i32_444 : BitVec 32 := 0#32
  let v1025 : BitVec 1 := Scalar.cmpi .ne v1024 c0_i32_444
  v1025

def k0_off222 (v1018 : BitVec 32) (v1020 : BitVec 32) (k0_t89 : Fin (k0_t89_loop v1018 v1020).trips) : Fin 1 → Nat :=
  let c1_i32_651 : BitVec 32 := 1#32
  let arg12 : BitVec 32 := Scf.iv v1020 c1_i32_651 k0_t89
  let v1495 : Index := Scalar.indexCast arg12
  ![v1495.toNat]
def k0_off223 (v1496 : BitVec 32) : Fin 2 → Nat :=
  let v1497 : Index := Scalar.indexCast v1496
  let c0_653 : Index := 0#32
  ![v1497.toNat, 0]

def k0_chk134 (v1018 : BitVec 32) (v1496 : BitVec 32) : Prop :=
  (∀ (k0_h46 : k0_cond46 v1018 = 1#1), ∀ a, (k0_off223 v1496) a + S1x32.size a ≤ S1024x32.size a)
theorem k0_off223_inb : ∀ (v1018 : BitVec 32) (v1496 : BitVec 32) (k0_hw134 : k0_chk134 v1018 v1496), ∀ (k0_h46 : k0_cond46 v1018 = 1#1), ∀ a, (k0_off223 v1496) a + S1x32.size a ≤ S1024x32.size a := fun v1018 v1496 k0_hw134 k0_h46 => k0_hw134 k0_h46

@[reducible] def k0_t90_loop (v1018 : BitVec 32) (v1020 : BitVec 32) : Scf.Loop 32 :=
  let v1485 : BitVec 32 := Scalar.addi v1020 v1018
  let v1487 : BitVec 32 := Scalar.subi v1485 v1020
  let c1_i32_650 : BitVec 32 := 1#32
  let v1489 : BitVec 32 := Scalar.divsi v1487 c1_i32_650
  let v1490 : BitVec 32 := Scalar.muli v1489 c1_i32_650
  let v1491 : BitVec 32 := Scalar.addi v1020 v1490
  let v1488 : BitVec 32 := Scalar.addi v1020 v1487
  let c1_i32_652 : BitVec 32 := 1#32
  ⟨v1491, v1488, c1_i32_652⟩
def k0_off224 (v1018 : BitVec 32) (v1020 : BitVec 32) (k0_t90 : Fin (k0_t90_loop v1018 v1020).trips) : Fin 1 → Nat :=
  let v1485 : BitVec 32 := Scalar.addi v1020 v1018
  let v1487 : BitVec 32 := Scalar.subi v1485 v1020
  let c1_i32_650 : BitVec 32 := 1#32
  let v1489 : BitVec 32 := Scalar.divsi v1487 c1_i32_650
  let v1490 : BitVec 32 := Scalar.muli v1489 c1_i32_650
  let v1491 : BitVec 32 := Scalar.addi v1020 v1490
  let c1_i32_652 : BitVec 32 := 1#32
  let arg12 : BitVec 32 := Scf.iv v1491 c1_i32_652 k0_t90
  let v1495 : Index := Scalar.indexCast arg12
  ![v1495.toNat]

def k0_chk133 (v1018 : BitVec 32) (v1020 : BitVec 32) : Prop :=
  (∀ (k0_h46 : k0_cond46 v1018 = 1#1), (k0_t89_loop v1018 v1020).OK) ∧
  (∀ k0_t89 : Fin (k0_t89_loop v1018 v1020).trips, ∀ (k0_h46 : k0_cond46 v1018 = 1#1), ∀ a, (k0_off222 v1018 v1020 k0_t89) a + S1.size a ≤ S1024.size a) ∧
  (∀ (k0_h46 : k0_cond46 v1018 = 1#1), (k0_t90_loop v1018 v1020).OK) ∧
  (∀ k0_t90 : Fin (k0_t90_loop v1018 v1020).trips, ∀ (k0_h46 : k0_cond46 v1018 = 1#1), ∀ a, (k0_off224 v1018 v1020 k0_t90) a + S1.size a ≤ S1024.size a)
theorem k0_t89_ok : ∀ (v1018 : BitVec 32) (v1020 : BitVec 32) (k0_hw133 : k0_chk133 v1018 v1020), ∀ (k0_h46 : k0_cond46 v1018 = 1#1), (k0_t89_loop v1018 v1020).OK := fun v1018 v1020 k0_hw133 k0_h46 => k0_hw133.1 k0_h46
theorem k0_off222_inb : ∀ (v1018 : BitVec 32) (v1020 : BitVec 32) (k0_hw133 : k0_chk133 v1018 v1020) (k0_t89 : Fin (k0_t89_loop v1018 v1020).trips), ∀ (k0_h46 : k0_cond46 v1018 = 1#1), ∀ a, (k0_off222 v1018 v1020 k0_t89) a + S1.size a ≤ S1024.size a := fun v1018 v1020 k0_hw133 k0_t89 k0_h46 => k0_hw133.2.1 k0_t89 k0_h46
theorem k0_t90_ok : ∀ (v1018 : BitVec 32) (v1020 : BitVec 32) (k0_hw133 : k0_chk133 v1018 v1020), ∀ (k0_h46 : k0_cond46 v1018 = 1#1), (k0_t90_loop v1018 v1020).OK := fun v1018 v1020 k0_hw133 k0_h46 => k0_hw133.2.2.1 k0_h46
theorem k0_off224_inb : ∀ (v1018 : BitVec 32) (v1020 : BitVec 32) (k0_hw133 : k0_chk133 v1018 v1020) (k0_t90 : Fin (k0_t90_loop v1018 v1020).trips), ∀ (k0_h46 : k0_cond46 v1018 = 1#1), ∀ a, (k0_off224 v1018 v1020 k0_t90) a + S1.size a ≤ S1024.size a := fun v1018 v1020 k0_hw133 k0_t90 k0_h46 => k0_hw133.2.2.2 k0_t90 k0_h46

def k0_off225 (v1496 : BitVec 32) : Fin 2 → Nat :=
  let v1497 : Index := Scalar.indexCast v1496
  let c0_653 : Index := 0#32
  ![v1497.toNat, 0]

def k0_chk135 (v1018 : BitVec 32) (v1496 : BitVec 32) : Prop :=
  (∀ (k0_h46 : k0_cond46 v1018 = 1#1), ∀ a, (k0_off225 v1496) a + S1x32.size a ≤ S1024x32.size a)
theorem k0_off225_inb : ∀ (v1018 : BitVec 32) (v1496 : BitVec 32) (k0_hw135 : k0_chk135 v1018 v1496), ∀ (k0_h46 : k0_cond46 v1018 = 1#1), ∀ a, (k0_off225 v1496) a + S1x32.size a ≤ S1024x32.size a := fun v1018 v1496 k0_hw135 k0_h46 => k0_hw135 k0_h46

def k0_off226 (i : grid0.Coords) : Fin 1 → Nat :=
  let arg0 : BitVec 32 := BitVec.ofNat 32 (i 0).val
  let c64_i32_450 : BitVec 32 := 64#32
  let v1038 : BitVec 32 := Scalar.muli arg0 c64_i32_450
  let c45_i32 : BitVec 32 := 45#32
  let v1039 : BitVec 32 := Scalar.addi v1038 c45_i32
  let v1040 : Index := Scalar.indexCast v1039
  ![v1040.toNat]
@[reducible] def k0_t91_loop (v1041 : BitVec 32) (v1043 : BitVec 32) : Scf.Loop 32 :=
  let v1485 : BitVec 32 := Scalar.addi v1043 v1041
  let v1487 : BitVec 32 := Scalar.subi v1485 v1043
  let c1_i32_650 : BitVec 32 := 1#32
  let v1489 : BitVec 32 := Scalar.divsi v1487 c1_i32_650
  let v1490 : BitVec 32 := Scalar.muli v1489 c1_i32_650
  let v1491 : BitVec 32 := Scalar.addi v1043 v1490
  let c1_i32_651 : BitVec 32 := 1#32
  ⟨v1043, v1491, c1_i32_651⟩
def k0_cond47 (v1041 : BitVec 32) : BitVec 1 :=
  let c0_i32_453 : BitVec 32 := 0#32
  let v1046 : BitVec 1 := Scalar.cmpi .sgt v1041 c0_i32_453
  let v1047 : BitVec 32 := Scalar.extui v1046
  let c0_i32_454 : BitVec 32 := 0#32
  let v1048 : BitVec 1 := Scalar.cmpi .ne v1047 c0_i32_454
  v1048

def k0_off227 (v1041 : BitVec 32) (v1043 : BitVec 32) (k0_t91 : Fin (k0_t91_loop v1041 v1043).trips) : Fin 1 → Nat :=
  let c1_i32_651 : BitVec 32 := 1#32
  let arg12 : BitVec 32 := Scf.iv v1043 c1_i32_651 k0_t91
  let v1495 : Index := Scalar.indexCast arg12
  ![v1495.toNat]
def k0_off228 (v1496 : BitVec 32) : Fin 2 → Nat :=
  let v1497 : Index := Scalar.indexCast v1496
  let c0_653 : Index := 0#32
  ![v1497.toNat, 0]

def k0_chk137 (v1041 : BitVec 32) (v1496 : BitVec 32) : Prop :=
  (∀ (k0_h47 : k0_cond47 v1041 = 1#1), ∀ a, (k0_off228 v1496) a + S1x32.size a ≤ S1024x32.size a)
theorem k0_off228_inb : ∀ (v1041 : BitVec 32) (v1496 : BitVec 32) (k0_hw137 : k0_chk137 v1041 v1496), ∀ (k0_h47 : k0_cond47 v1041 = 1#1), ∀ a, (k0_off228 v1496) a + S1x32.size a ≤ S1024x32.size a := fun v1041 v1496 k0_hw137 k0_h47 => k0_hw137 k0_h47

@[reducible] def k0_t92_loop (v1041 : BitVec 32) (v1043 : BitVec 32) : Scf.Loop 32 :=
  let v1485 : BitVec 32 := Scalar.addi v1043 v1041
  let v1487 : BitVec 32 := Scalar.subi v1485 v1043
  let c1_i32_650 : BitVec 32 := 1#32
  let v1489 : BitVec 32 := Scalar.divsi v1487 c1_i32_650
  let v1490 : BitVec 32 := Scalar.muli v1489 c1_i32_650
  let v1491 : BitVec 32 := Scalar.addi v1043 v1490
  let v1488 : BitVec 32 := Scalar.addi v1043 v1487
  let c1_i32_652 : BitVec 32 := 1#32
  ⟨v1491, v1488, c1_i32_652⟩
def k0_off229 (v1041 : BitVec 32) (v1043 : BitVec 32) (k0_t92 : Fin (k0_t92_loop v1041 v1043).trips) : Fin 1 → Nat :=
  let v1485 : BitVec 32 := Scalar.addi v1043 v1041
  let v1487 : BitVec 32 := Scalar.subi v1485 v1043
  let c1_i32_650 : BitVec 32 := 1#32
  let v1489 : BitVec 32 := Scalar.divsi v1487 c1_i32_650
  let v1490 : BitVec 32 := Scalar.muli v1489 c1_i32_650
  let v1491 : BitVec 32 := Scalar.addi v1043 v1490
  let c1_i32_652 : BitVec 32 := 1#32
  let arg12 : BitVec 32 := Scf.iv v1491 c1_i32_652 k0_t92
  let v1495 : Index := Scalar.indexCast arg12
  ![v1495.toNat]

def k0_chk136 (v1041 : BitVec 32) (v1043 : BitVec 32) : Prop :=
  (∀ (k0_h47 : k0_cond47 v1041 = 1#1), (k0_t91_loop v1041 v1043).OK) ∧
  (∀ k0_t91 : Fin (k0_t91_loop v1041 v1043).trips, ∀ (k0_h47 : k0_cond47 v1041 = 1#1), ∀ a, (k0_off227 v1041 v1043 k0_t91) a + S1.size a ≤ S1024.size a) ∧
  (∀ (k0_h47 : k0_cond47 v1041 = 1#1), (k0_t92_loop v1041 v1043).OK) ∧
  (∀ k0_t92 : Fin (k0_t92_loop v1041 v1043).trips, ∀ (k0_h47 : k0_cond47 v1041 = 1#1), ∀ a, (k0_off229 v1041 v1043 k0_t92) a + S1.size a ≤ S1024.size a)
theorem k0_t91_ok : ∀ (v1041 : BitVec 32) (v1043 : BitVec 32) (k0_hw136 : k0_chk136 v1041 v1043), ∀ (k0_h47 : k0_cond47 v1041 = 1#1), (k0_t91_loop v1041 v1043).OK := fun v1041 v1043 k0_hw136 k0_h47 => k0_hw136.1 k0_h47
theorem k0_off227_inb : ∀ (v1041 : BitVec 32) (v1043 : BitVec 32) (k0_hw136 : k0_chk136 v1041 v1043) (k0_t91 : Fin (k0_t91_loop v1041 v1043).trips), ∀ (k0_h47 : k0_cond47 v1041 = 1#1), ∀ a, (k0_off227 v1041 v1043 k0_t91) a + S1.size a ≤ S1024.size a := fun v1041 v1043 k0_hw136 k0_t91 k0_h47 => k0_hw136.2.1 k0_t91 k0_h47
theorem k0_t92_ok : ∀ (v1041 : BitVec 32) (v1043 : BitVec 32) (k0_hw136 : k0_chk136 v1041 v1043), ∀ (k0_h47 : k0_cond47 v1041 = 1#1), (k0_t92_loop v1041 v1043).OK := fun v1041 v1043 k0_hw136 k0_h47 => k0_hw136.2.2.1 k0_h47
theorem k0_off229_inb : ∀ (v1041 : BitVec 32) (v1043 : BitVec 32) (k0_hw136 : k0_chk136 v1041 v1043) (k0_t92 : Fin (k0_t92_loop v1041 v1043).trips), ∀ (k0_h47 : k0_cond47 v1041 = 1#1), ∀ a, (k0_off229 v1041 v1043 k0_t92) a + S1.size a ≤ S1024.size a := fun v1041 v1043 k0_hw136 k0_t92 k0_h47 => k0_hw136.2.2.2 k0_t92 k0_h47

def k0_off230 (v1496 : BitVec 32) : Fin 2 → Nat :=
  let v1497 : Index := Scalar.indexCast v1496
  let c0_653 : Index := 0#32
  ![v1497.toNat, 0]

def k0_chk138 (v1041 : BitVec 32) (v1496 : BitVec 32) : Prop :=
  (∀ (k0_h47 : k0_cond47 v1041 = 1#1), ∀ a, (k0_off230 v1496) a + S1x32.size a ≤ S1024x32.size a)
theorem k0_off230_inb : ∀ (v1041 : BitVec 32) (v1496 : BitVec 32) (k0_hw138 : k0_chk138 v1041 v1496), ∀ (k0_h47 : k0_cond47 v1041 = 1#1), ∀ a, (k0_off230 v1496) a + S1x32.size a ≤ S1024x32.size a := fun v1041 v1496 k0_hw138 k0_h47 => k0_hw138 k0_h47

def k0_off231 (i : grid0.Coords) : Fin 1 → Nat :=
  let arg0 : BitVec 32 := BitVec.ofNat 32 (i 0).val
  let c64_i32_460 : BitVec 32 := 64#32
  let v1061 : BitVec 32 := Scalar.muli arg0 c64_i32_460
  let c46_i32 : BitVec 32 := 46#32
  let v1062 : BitVec 32 := Scalar.addi v1061 c46_i32
  let v1063 : Index := Scalar.indexCast v1062
  ![v1063.toNat]
@[reducible] def k0_t93_loop (v1064 : BitVec 32) (v1066 : BitVec 32) : Scf.Loop 32 :=
  let v1485 : BitVec 32 := Scalar.addi v1066 v1064
  let v1487 : BitVec 32 := Scalar.subi v1485 v1066
  let c1_i32_650 : BitVec 32 := 1#32
  let v1489 : BitVec 32 := Scalar.divsi v1487 c1_i32_650
  let v1490 : BitVec 32 := Scalar.muli v1489 c1_i32_650
  let v1491 : BitVec 32 := Scalar.addi v1066 v1490
  let c1_i32_651 : BitVec 32 := 1#32
  ⟨v1066, v1491, c1_i32_651⟩
def k0_cond48 (v1064 : BitVec 32) : BitVec 1 :=
  let c0_i32_463 : BitVec 32 := 0#32
  let v1069 : BitVec 1 := Scalar.cmpi .sgt v1064 c0_i32_463
  let v1070 : BitVec 32 := Scalar.extui v1069
  let c0_i32_464 : BitVec 32 := 0#32
  let v1071 : BitVec 1 := Scalar.cmpi .ne v1070 c0_i32_464
  v1071

def k0_off232 (v1064 : BitVec 32) (v1066 : BitVec 32) (k0_t93 : Fin (k0_t93_loop v1064 v1066).trips) : Fin 1 → Nat :=
  let c1_i32_651 : BitVec 32 := 1#32
  let arg12 : BitVec 32 := Scf.iv v1066 c1_i32_651 k0_t93
  let v1495 : Index := Scalar.indexCast arg12
  ![v1495.toNat]
def k0_off233 (v1496 : BitVec 32) : Fin 2 → Nat :=
  let v1497 : Index := Scalar.indexCast v1496
  let c0_653 : Index := 0#32
  ![v1497.toNat, 0]

def k0_chk140 (v1064 : BitVec 32) (v1496 : BitVec 32) : Prop :=
  (∀ (k0_h48 : k0_cond48 v1064 = 1#1), ∀ a, (k0_off233 v1496) a + S1x32.size a ≤ S1024x32.size a)
theorem k0_off233_inb : ∀ (v1064 : BitVec 32) (v1496 : BitVec 32) (k0_hw140 : k0_chk140 v1064 v1496), ∀ (k0_h48 : k0_cond48 v1064 = 1#1), ∀ a, (k0_off233 v1496) a + S1x32.size a ≤ S1024x32.size a := fun v1064 v1496 k0_hw140 k0_h48 => k0_hw140 k0_h48

@[reducible] def k0_t94_loop (v1064 : BitVec 32) (v1066 : BitVec 32) : Scf.Loop 32 :=
  let v1485 : BitVec 32 := Scalar.addi v1066 v1064
  let v1487 : BitVec 32 := Scalar.subi v1485 v1066
  let c1_i32_650 : BitVec 32 := 1#32
  let v1489 : BitVec 32 := Scalar.divsi v1487 c1_i32_650
  let v1490 : BitVec 32 := Scalar.muli v1489 c1_i32_650
  let v1491 : BitVec 32 := Scalar.addi v1066 v1490
  let v1488 : BitVec 32 := Scalar.addi v1066 v1487
  let c1_i32_652 : BitVec 32 := 1#32
  ⟨v1491, v1488, c1_i32_652⟩
def k0_off234 (v1064 : BitVec 32) (v1066 : BitVec 32) (k0_t94 : Fin (k0_t94_loop v1064 v1066).trips) : Fin 1 → Nat :=
  let v1485 : BitVec 32 := Scalar.addi v1066 v1064
  let v1487 : BitVec 32 := Scalar.subi v1485 v1066
  let c1_i32_650 : BitVec 32 := 1#32
  let v1489 : BitVec 32 := Scalar.divsi v1487 c1_i32_650
  let v1490 : BitVec 32 := Scalar.muli v1489 c1_i32_650
  let v1491 : BitVec 32 := Scalar.addi v1066 v1490
  let c1_i32_652 : BitVec 32 := 1#32
  let arg12 : BitVec 32 := Scf.iv v1491 c1_i32_652 k0_t94
  let v1495 : Index := Scalar.indexCast arg12
  ![v1495.toNat]

def k0_chk139 (v1064 : BitVec 32) (v1066 : BitVec 32) : Prop :=
  (∀ (k0_h48 : k0_cond48 v1064 = 1#1), (k0_t93_loop v1064 v1066).OK) ∧
  (∀ k0_t93 : Fin (k0_t93_loop v1064 v1066).trips, ∀ (k0_h48 : k0_cond48 v1064 = 1#1), ∀ a, (k0_off232 v1064 v1066 k0_t93) a + S1.size a ≤ S1024.size a) ∧
  (∀ (k0_h48 : k0_cond48 v1064 = 1#1), (k0_t94_loop v1064 v1066).OK) ∧
  (∀ k0_t94 : Fin (k0_t94_loop v1064 v1066).trips, ∀ (k0_h48 : k0_cond48 v1064 = 1#1), ∀ a, (k0_off234 v1064 v1066 k0_t94) a + S1.size a ≤ S1024.size a)
theorem k0_t93_ok : ∀ (v1064 : BitVec 32) (v1066 : BitVec 32) (k0_hw139 : k0_chk139 v1064 v1066), ∀ (k0_h48 : k0_cond48 v1064 = 1#1), (k0_t93_loop v1064 v1066).OK := fun v1064 v1066 k0_hw139 k0_h48 => k0_hw139.1 k0_h48
theorem k0_off232_inb : ∀ (v1064 : BitVec 32) (v1066 : BitVec 32) (k0_hw139 : k0_chk139 v1064 v1066) (k0_t93 : Fin (k0_t93_loop v1064 v1066).trips), ∀ (k0_h48 : k0_cond48 v1064 = 1#1), ∀ a, (k0_off232 v1064 v1066 k0_t93) a + S1.size a ≤ S1024.size a := fun v1064 v1066 k0_hw139 k0_t93 k0_h48 => k0_hw139.2.1 k0_t93 k0_h48
theorem k0_t94_ok : ∀ (v1064 : BitVec 32) (v1066 : BitVec 32) (k0_hw139 : k0_chk139 v1064 v1066), ∀ (k0_h48 : k0_cond48 v1064 = 1#1), (k0_t94_loop v1064 v1066).OK := fun v1064 v1066 k0_hw139 k0_h48 => k0_hw139.2.2.1 k0_h48
theorem k0_off234_inb : ∀ (v1064 : BitVec 32) (v1066 : BitVec 32) (k0_hw139 : k0_chk139 v1064 v1066) (k0_t94 : Fin (k0_t94_loop v1064 v1066).trips), ∀ (k0_h48 : k0_cond48 v1064 = 1#1), ∀ a, (k0_off234 v1064 v1066 k0_t94) a + S1.size a ≤ S1024.size a := fun v1064 v1066 k0_hw139 k0_t94 k0_h48 => k0_hw139.2.2.2 k0_t94 k0_h48

def k0_off235 (v1496 : BitVec 32) : Fin 2 → Nat :=
  let v1497 : Index := Scalar.indexCast v1496
  let c0_653 : Index := 0#32
  ![v1497.toNat, 0]

def k0_chk141 (v1064 : BitVec 32) (v1496 : BitVec 32) : Prop :=
  (∀ (k0_h48 : k0_cond48 v1064 = 1#1), ∀ a, (k0_off235 v1496) a + S1x32.size a ≤ S1024x32.size a)
theorem k0_off235_inb : ∀ (v1064 : BitVec 32) (v1496 : BitVec 32) (k0_hw141 : k0_chk141 v1064 v1496), ∀ (k0_h48 : k0_cond48 v1064 = 1#1), ∀ a, (k0_off235 v1496) a + S1x32.size a ≤ S1024x32.size a := fun v1064 v1496 k0_hw141 k0_h48 => k0_hw141 k0_h48

def k0_off236 (i : grid0.Coords) : Fin 1 → Nat :=
  let arg0 : BitVec 32 := BitVec.ofNat 32 (i 0).val
  let c64_i32_470 : BitVec 32 := 64#32
  let v1084 : BitVec 32 := Scalar.muli arg0 c64_i32_470
  let c47_i32 : BitVec 32 := 47#32
  let v1085 : BitVec 32 := Scalar.addi v1084 c47_i32
  let v1086 : Index := Scalar.indexCast v1085
  ![v1086.toNat]
@[reducible] def k0_t95_loop (v1087 : BitVec 32) (v1089 : BitVec 32) : Scf.Loop 32 :=
  let v1485 : BitVec 32 := Scalar.addi v1089 v1087
  let v1487 : BitVec 32 := Scalar.subi v1485 v1089
  let c1_i32_650 : BitVec 32 := 1#32
  let v1489 : BitVec 32 := Scalar.divsi v1487 c1_i32_650
  let v1490 : BitVec 32 := Scalar.muli v1489 c1_i32_650
  let v1491 : BitVec 32 := Scalar.addi v1089 v1490
  let c1_i32_651 : BitVec 32 := 1#32
  ⟨v1089, v1491, c1_i32_651⟩
def k0_cond49 (v1087 : BitVec 32) : BitVec 1 :=
  let c0_i32_473 : BitVec 32 := 0#32
  let v1092 : BitVec 1 := Scalar.cmpi .sgt v1087 c0_i32_473
  let v1093 : BitVec 32 := Scalar.extui v1092
  let c0_i32_474 : BitVec 32 := 0#32
  let v1094 : BitVec 1 := Scalar.cmpi .ne v1093 c0_i32_474
  v1094

def k0_off237 (v1087 : BitVec 32) (v1089 : BitVec 32) (k0_t95 : Fin (k0_t95_loop v1087 v1089).trips) : Fin 1 → Nat :=
  let c1_i32_651 : BitVec 32 := 1#32
  let arg12 : BitVec 32 := Scf.iv v1089 c1_i32_651 k0_t95
  let v1495 : Index := Scalar.indexCast arg12
  ![v1495.toNat]
def k0_off238 (v1496 : BitVec 32) : Fin 2 → Nat :=
  let v1497 : Index := Scalar.indexCast v1496
  let c0_653 : Index := 0#32
  ![v1497.toNat, 0]

def k0_chk143 (v1087 : BitVec 32) (v1496 : BitVec 32) : Prop :=
  (∀ (k0_h49 : k0_cond49 v1087 = 1#1), ∀ a, (k0_off238 v1496) a + S1x32.size a ≤ S1024x32.size a)
theorem k0_off238_inb : ∀ (v1087 : BitVec 32) (v1496 : BitVec 32) (k0_hw143 : k0_chk143 v1087 v1496), ∀ (k0_h49 : k0_cond49 v1087 = 1#1), ∀ a, (k0_off238 v1496) a + S1x32.size a ≤ S1024x32.size a := fun v1087 v1496 k0_hw143 k0_h49 => k0_hw143 k0_h49

@[reducible] def k0_t96_loop (v1087 : BitVec 32) (v1089 : BitVec 32) : Scf.Loop 32 :=
  let v1485 : BitVec 32 := Scalar.addi v1089 v1087
  let v1487 : BitVec 32 := Scalar.subi v1485 v1089
  let c1_i32_650 : BitVec 32 := 1#32
  let v1489 : BitVec 32 := Scalar.divsi v1487 c1_i32_650
  let v1490 : BitVec 32 := Scalar.muli v1489 c1_i32_650
  let v1491 : BitVec 32 := Scalar.addi v1089 v1490
  let v1488 : BitVec 32 := Scalar.addi v1089 v1487
  let c1_i32_652 : BitVec 32 := 1#32
  ⟨v1491, v1488, c1_i32_652⟩
def k0_off239 (v1087 : BitVec 32) (v1089 : BitVec 32) (k0_t96 : Fin (k0_t96_loop v1087 v1089).trips) : Fin 1 → Nat :=
  let v1485 : BitVec 32 := Scalar.addi v1089 v1087
  let v1487 : BitVec 32 := Scalar.subi v1485 v1089
  let c1_i32_650 : BitVec 32 := 1#32
  let v1489 : BitVec 32 := Scalar.divsi v1487 c1_i32_650
  let v1490 : BitVec 32 := Scalar.muli v1489 c1_i32_650
  let v1491 : BitVec 32 := Scalar.addi v1089 v1490
  let c1_i32_652 : BitVec 32 := 1#32
  let arg12 : BitVec 32 := Scf.iv v1491 c1_i32_652 k0_t96
  let v1495 : Index := Scalar.indexCast arg12
  ![v1495.toNat]

def k0_chk142 (v1087 : BitVec 32) (v1089 : BitVec 32) : Prop :=
  (∀ (k0_h49 : k0_cond49 v1087 = 1#1), (k0_t95_loop v1087 v1089).OK) ∧
  (∀ k0_t95 : Fin (k0_t95_loop v1087 v1089).trips, ∀ (k0_h49 : k0_cond49 v1087 = 1#1), ∀ a, (k0_off237 v1087 v1089 k0_t95) a + S1.size a ≤ S1024.size a) ∧
  (∀ (k0_h49 : k0_cond49 v1087 = 1#1), (k0_t96_loop v1087 v1089).OK) ∧
  (∀ k0_t96 : Fin (k0_t96_loop v1087 v1089).trips, ∀ (k0_h49 : k0_cond49 v1087 = 1#1), ∀ a, (k0_off239 v1087 v1089 k0_t96) a + S1.size a ≤ S1024.size a)
theorem k0_t95_ok : ∀ (v1087 : BitVec 32) (v1089 : BitVec 32) (k0_hw142 : k0_chk142 v1087 v1089), ∀ (k0_h49 : k0_cond49 v1087 = 1#1), (k0_t95_loop v1087 v1089).OK := fun v1087 v1089 k0_hw142 k0_h49 => k0_hw142.1 k0_h49
theorem k0_off237_inb : ∀ (v1087 : BitVec 32) (v1089 : BitVec 32) (k0_hw142 : k0_chk142 v1087 v1089) (k0_t95 : Fin (k0_t95_loop v1087 v1089).trips), ∀ (k0_h49 : k0_cond49 v1087 = 1#1), ∀ a, (k0_off237 v1087 v1089 k0_t95) a + S1.size a ≤ S1024.size a := fun v1087 v1089 k0_hw142 k0_t95 k0_h49 => k0_hw142.2.1 k0_t95 k0_h49
theorem k0_t96_ok : ∀ (v1087 : BitVec 32) (v1089 : BitVec 32) (k0_hw142 : k0_chk142 v1087 v1089), ∀ (k0_h49 : k0_cond49 v1087 = 1#1), (k0_t96_loop v1087 v1089).OK := fun v1087 v1089 k0_hw142 k0_h49 => k0_hw142.2.2.1 k0_h49
theorem k0_off239_inb : ∀ (v1087 : BitVec 32) (v1089 : BitVec 32) (k0_hw142 : k0_chk142 v1087 v1089) (k0_t96 : Fin (k0_t96_loop v1087 v1089).trips), ∀ (k0_h49 : k0_cond49 v1087 = 1#1), ∀ a, (k0_off239 v1087 v1089 k0_t96) a + S1.size a ≤ S1024.size a := fun v1087 v1089 k0_hw142 k0_t96 k0_h49 => k0_hw142.2.2.2 k0_t96 k0_h49

def k0_off240 (v1496 : BitVec 32) : Fin 2 → Nat :=
  let v1497 : Index := Scalar.indexCast v1496
  let c0_653 : Index := 0#32
  ![v1497.toNat, 0]

def k0_chk144 (v1087 : BitVec 32) (v1496 : BitVec 32) : Prop :=
  (∀ (k0_h49 : k0_cond49 v1087 = 1#1), ∀ a, (k0_off240 v1496) a + S1x32.size a ≤ S1024x32.size a)
theorem k0_off240_inb : ∀ (v1087 : BitVec 32) (v1496 : BitVec 32) (k0_hw144 : k0_chk144 v1087 v1496), ∀ (k0_h49 : k0_cond49 v1087 = 1#1), ∀ a, (k0_off240 v1496) a + S1x32.size a ≤ S1024x32.size a := fun v1087 v1496 k0_hw144 k0_h49 => k0_hw144 k0_h49

def k0_off241 (i : grid0.Coords) : Fin 1 → Nat :=
  let arg0 : BitVec 32 := BitVec.ofNat 32 (i 0).val
  let c64_i32_480 : BitVec 32 := 64#32
  let v1107 : BitVec 32 := Scalar.muli arg0 c64_i32_480
  let c48_i32 : BitVec 32 := 48#32
  let v1108 : BitVec 32 := Scalar.addi v1107 c48_i32
  let v1109 : Index := Scalar.indexCast v1108
  ![v1109.toNat]
@[reducible] def k0_t97_loop (v1110 : BitVec 32) (v1112 : BitVec 32) : Scf.Loop 32 :=
  let v1485 : BitVec 32 := Scalar.addi v1112 v1110
  let v1487 : BitVec 32 := Scalar.subi v1485 v1112
  let c1_i32_650 : BitVec 32 := 1#32
  let v1489 : BitVec 32 := Scalar.divsi v1487 c1_i32_650
  let v1490 : BitVec 32 := Scalar.muli v1489 c1_i32_650
  let v1491 : BitVec 32 := Scalar.addi v1112 v1490
  let c1_i32_651 : BitVec 32 := 1#32
  ⟨v1112, v1491, c1_i32_651⟩
def k0_cond50 (v1110 : BitVec 32) : BitVec 1 :=
  let c0_i32_483 : BitVec 32 := 0#32
  let v1115 : BitVec 1 := Scalar.cmpi .sgt v1110 c0_i32_483
  let v1116 : BitVec 32 := Scalar.extui v1115
  let c0_i32_484 : BitVec 32 := 0#32
  let v1117 : BitVec 1 := Scalar.cmpi .ne v1116 c0_i32_484
  v1117

def k0_off242 (v1110 : BitVec 32) (v1112 : BitVec 32) (k0_t97 : Fin (k0_t97_loop v1110 v1112).trips) : Fin 1 → Nat :=
  let c1_i32_651 : BitVec 32 := 1#32
  let arg12 : BitVec 32 := Scf.iv v1112 c1_i32_651 k0_t97
  let v1495 : Index := Scalar.indexCast arg12
  ![v1495.toNat]
def k0_off243 (v1496 : BitVec 32) : Fin 2 → Nat :=
  let v1497 : Index := Scalar.indexCast v1496
  let c0_653 : Index := 0#32
  ![v1497.toNat, 0]

def k0_chk146 (v1110 : BitVec 32) (v1496 : BitVec 32) : Prop :=
  (∀ (k0_h50 : k0_cond50 v1110 = 1#1), ∀ a, (k0_off243 v1496) a + S1x32.size a ≤ S1024x32.size a)
theorem k0_off243_inb : ∀ (v1110 : BitVec 32) (v1496 : BitVec 32) (k0_hw146 : k0_chk146 v1110 v1496), ∀ (k0_h50 : k0_cond50 v1110 = 1#1), ∀ a, (k0_off243 v1496) a + S1x32.size a ≤ S1024x32.size a := fun v1110 v1496 k0_hw146 k0_h50 => k0_hw146 k0_h50

@[reducible] def k0_t98_loop (v1110 : BitVec 32) (v1112 : BitVec 32) : Scf.Loop 32 :=
  let v1485 : BitVec 32 := Scalar.addi v1112 v1110
  let v1487 : BitVec 32 := Scalar.subi v1485 v1112
  let c1_i32_650 : BitVec 32 := 1#32
  let v1489 : BitVec 32 := Scalar.divsi v1487 c1_i32_650
  let v1490 : BitVec 32 := Scalar.muli v1489 c1_i32_650
  let v1491 : BitVec 32 := Scalar.addi v1112 v1490
  let v1488 : BitVec 32 := Scalar.addi v1112 v1487
  let c1_i32_652 : BitVec 32 := 1#32
  ⟨v1491, v1488, c1_i32_652⟩
def k0_off244 (v1110 : BitVec 32) (v1112 : BitVec 32) (k0_t98 : Fin (k0_t98_loop v1110 v1112).trips) : Fin 1 → Nat :=
  let v1485 : BitVec 32 := Scalar.addi v1112 v1110
  let v1487 : BitVec 32 := Scalar.subi v1485 v1112
  let c1_i32_650 : BitVec 32 := 1#32
  let v1489 : BitVec 32 := Scalar.divsi v1487 c1_i32_650
  let v1490 : BitVec 32 := Scalar.muli v1489 c1_i32_650
  let v1491 : BitVec 32 := Scalar.addi v1112 v1490
  let c1_i32_652 : BitVec 32 := 1#32
  let arg12 : BitVec 32 := Scf.iv v1491 c1_i32_652 k0_t98
  let v1495 : Index := Scalar.indexCast arg12
  ![v1495.toNat]

def k0_chk145 (v1110 : BitVec 32) (v1112 : BitVec 32) : Prop :=
  (∀ (k0_h50 : k0_cond50 v1110 = 1#1), (k0_t97_loop v1110 v1112).OK) ∧
  (∀ k0_t97 : Fin (k0_t97_loop v1110 v1112).trips, ∀ (k0_h50 : k0_cond50 v1110 = 1#1), ∀ a, (k0_off242 v1110 v1112 k0_t97) a + S1.size a ≤ S1024.size a) ∧
  (∀ (k0_h50 : k0_cond50 v1110 = 1#1), (k0_t98_loop v1110 v1112).OK) ∧
  (∀ k0_t98 : Fin (k0_t98_loop v1110 v1112).trips, ∀ (k0_h50 : k0_cond50 v1110 = 1#1), ∀ a, (k0_off244 v1110 v1112 k0_t98) a + S1.size a ≤ S1024.size a)
theorem k0_t97_ok : ∀ (v1110 : BitVec 32) (v1112 : BitVec 32) (k0_hw145 : k0_chk145 v1110 v1112), ∀ (k0_h50 : k0_cond50 v1110 = 1#1), (k0_t97_loop v1110 v1112).OK := fun v1110 v1112 k0_hw145 k0_h50 => k0_hw145.1 k0_h50
theorem k0_off242_inb : ∀ (v1110 : BitVec 32) (v1112 : BitVec 32) (k0_hw145 : k0_chk145 v1110 v1112) (k0_t97 : Fin (k0_t97_loop v1110 v1112).trips), ∀ (k0_h50 : k0_cond50 v1110 = 1#1), ∀ a, (k0_off242 v1110 v1112 k0_t97) a + S1.size a ≤ S1024.size a := fun v1110 v1112 k0_hw145 k0_t97 k0_h50 => k0_hw145.2.1 k0_t97 k0_h50
theorem k0_t98_ok : ∀ (v1110 : BitVec 32) (v1112 : BitVec 32) (k0_hw145 : k0_chk145 v1110 v1112), ∀ (k0_h50 : k0_cond50 v1110 = 1#1), (k0_t98_loop v1110 v1112).OK := fun v1110 v1112 k0_hw145 k0_h50 => k0_hw145.2.2.1 k0_h50
theorem k0_off244_inb : ∀ (v1110 : BitVec 32) (v1112 : BitVec 32) (k0_hw145 : k0_chk145 v1110 v1112) (k0_t98 : Fin (k0_t98_loop v1110 v1112).trips), ∀ (k0_h50 : k0_cond50 v1110 = 1#1), ∀ a, (k0_off244 v1110 v1112 k0_t98) a + S1.size a ≤ S1024.size a := fun v1110 v1112 k0_hw145 k0_t98 k0_h50 => k0_hw145.2.2.2 k0_t98 k0_h50

def k0_off245 (v1496 : BitVec 32) : Fin 2 → Nat :=
  let v1497 : Index := Scalar.indexCast v1496
  let c0_653 : Index := 0#32
  ![v1497.toNat, 0]

def k0_chk147 (v1110 : BitVec 32) (v1496 : BitVec 32) : Prop :=
  (∀ (k0_h50 : k0_cond50 v1110 = 1#1), ∀ a, (k0_off245 v1496) a + S1x32.size a ≤ S1024x32.size a)
theorem k0_off245_inb : ∀ (v1110 : BitVec 32) (v1496 : BitVec 32) (k0_hw147 : k0_chk147 v1110 v1496), ∀ (k0_h50 : k0_cond50 v1110 = 1#1), ∀ a, (k0_off245 v1496) a + S1x32.size a ≤ S1024x32.size a := fun v1110 v1496 k0_hw147 k0_h50 => k0_hw147 k0_h50

def k0_off246 (i : grid0.Coords) : Fin 1 → Nat :=
  let arg0 : BitVec 32 := BitVec.ofNat 32 (i 0).val
  let c64_i32_490 : BitVec 32 := 64#32
  let v1130 : BitVec 32 := Scalar.muli arg0 c64_i32_490
  let c49_i32 : BitVec 32 := 49#32
  let v1131 : BitVec 32 := Scalar.addi v1130 c49_i32
  let v1132 : Index := Scalar.indexCast v1131
  ![v1132.toNat]
@[reducible] def k0_t99_loop (v1133 : BitVec 32) (v1135 : BitVec 32) : Scf.Loop 32 :=
  let v1485 : BitVec 32 := Scalar.addi v1135 v1133
  let v1487 : BitVec 32 := Scalar.subi v1485 v1135
  let c1_i32_650 : BitVec 32 := 1#32
  let v1489 : BitVec 32 := Scalar.divsi v1487 c1_i32_650
  let v1490 : BitVec 32 := Scalar.muli v1489 c1_i32_650
  let v1491 : BitVec 32 := Scalar.addi v1135 v1490
  let c1_i32_651 : BitVec 32 := 1#32
  ⟨v1135, v1491, c1_i32_651⟩
def k0_cond51 (v1133 : BitVec 32) : BitVec 1 :=
  let c0_i32_493 : BitVec 32 := 0#32
  let v1138 : BitVec 1 := Scalar.cmpi .sgt v1133 c0_i32_493
  let v1139 : BitVec 32 := Scalar.extui v1138
  let c0_i32_494 : BitVec 32 := 0#32
  let v1140 : BitVec 1 := Scalar.cmpi .ne v1139 c0_i32_494
  v1140

def k0_off247 (v1133 : BitVec 32) (v1135 : BitVec 32) (k0_t99 : Fin (k0_t99_loop v1133 v1135).trips) : Fin 1 → Nat :=
  let c1_i32_651 : BitVec 32 := 1#32
  let arg12 : BitVec 32 := Scf.iv v1135 c1_i32_651 k0_t99
  let v1495 : Index := Scalar.indexCast arg12
  ![v1495.toNat]
def k0_off248 (v1496 : BitVec 32) : Fin 2 → Nat :=
  let v1497 : Index := Scalar.indexCast v1496
  let c0_653 : Index := 0#32
  ![v1497.toNat, 0]

def k0_chk149 (v1133 : BitVec 32) (v1496 : BitVec 32) : Prop :=
  (∀ (k0_h51 : k0_cond51 v1133 = 1#1), ∀ a, (k0_off248 v1496) a + S1x32.size a ≤ S1024x32.size a)
theorem k0_off248_inb : ∀ (v1133 : BitVec 32) (v1496 : BitVec 32) (k0_hw149 : k0_chk149 v1133 v1496), ∀ (k0_h51 : k0_cond51 v1133 = 1#1), ∀ a, (k0_off248 v1496) a + S1x32.size a ≤ S1024x32.size a := fun v1133 v1496 k0_hw149 k0_h51 => k0_hw149 k0_h51

@[reducible] def k0_t100_loop (v1133 : BitVec 32) (v1135 : BitVec 32) : Scf.Loop 32 :=
  let v1485 : BitVec 32 := Scalar.addi v1135 v1133
  let v1487 : BitVec 32 := Scalar.subi v1485 v1135
  let c1_i32_650 : BitVec 32 := 1#32
  let v1489 : BitVec 32 := Scalar.divsi v1487 c1_i32_650
  let v1490 : BitVec 32 := Scalar.muli v1489 c1_i32_650
  let v1491 : BitVec 32 := Scalar.addi v1135 v1490
  let v1488 : BitVec 32 := Scalar.addi v1135 v1487
  let c1_i32_652 : BitVec 32 := 1#32
  ⟨v1491, v1488, c1_i32_652⟩
def k0_off249 (v1133 : BitVec 32) (v1135 : BitVec 32) (k0_t100 : Fin (k0_t100_loop v1133 v1135).trips) : Fin 1 → Nat :=
  let v1485 : BitVec 32 := Scalar.addi v1135 v1133
  let v1487 : BitVec 32 := Scalar.subi v1485 v1135
  let c1_i32_650 : BitVec 32 := 1#32
  let v1489 : BitVec 32 := Scalar.divsi v1487 c1_i32_650
  let v1490 : BitVec 32 := Scalar.muli v1489 c1_i32_650
  let v1491 : BitVec 32 := Scalar.addi v1135 v1490
  let c1_i32_652 : BitVec 32 := 1#32
  let arg12 : BitVec 32 := Scf.iv v1491 c1_i32_652 k0_t100
  let v1495 : Index := Scalar.indexCast arg12
  ![v1495.toNat]

def k0_chk148 (v1133 : BitVec 32) (v1135 : BitVec 32) : Prop :=
  (∀ (k0_h51 : k0_cond51 v1133 = 1#1), (k0_t99_loop v1133 v1135).OK) ∧
  (∀ k0_t99 : Fin (k0_t99_loop v1133 v1135).trips, ∀ (k0_h51 : k0_cond51 v1133 = 1#1), ∀ a, (k0_off247 v1133 v1135 k0_t99) a + S1.size a ≤ S1024.size a) ∧
  (∀ (k0_h51 : k0_cond51 v1133 = 1#1), (k0_t100_loop v1133 v1135).OK) ∧
  (∀ k0_t100 : Fin (k0_t100_loop v1133 v1135).trips, ∀ (k0_h51 : k0_cond51 v1133 = 1#1), ∀ a, (k0_off249 v1133 v1135 k0_t100) a + S1.size a ≤ S1024.size a)
theorem k0_t99_ok : ∀ (v1133 : BitVec 32) (v1135 : BitVec 32) (k0_hw148 : k0_chk148 v1133 v1135), ∀ (k0_h51 : k0_cond51 v1133 = 1#1), (k0_t99_loop v1133 v1135).OK := fun v1133 v1135 k0_hw148 k0_h51 => k0_hw148.1 k0_h51
theorem k0_off247_inb : ∀ (v1133 : BitVec 32) (v1135 : BitVec 32) (k0_hw148 : k0_chk148 v1133 v1135) (k0_t99 : Fin (k0_t99_loop v1133 v1135).trips), ∀ (k0_h51 : k0_cond51 v1133 = 1#1), ∀ a, (k0_off247 v1133 v1135 k0_t99) a + S1.size a ≤ S1024.size a := fun v1133 v1135 k0_hw148 k0_t99 k0_h51 => k0_hw148.2.1 k0_t99 k0_h51
theorem k0_t100_ok : ∀ (v1133 : BitVec 32) (v1135 : BitVec 32) (k0_hw148 : k0_chk148 v1133 v1135), ∀ (k0_h51 : k0_cond51 v1133 = 1#1), (k0_t100_loop v1133 v1135).OK := fun v1133 v1135 k0_hw148 k0_h51 => k0_hw148.2.2.1 k0_h51
theorem k0_off249_inb : ∀ (v1133 : BitVec 32) (v1135 : BitVec 32) (k0_hw148 : k0_chk148 v1133 v1135) (k0_t100 : Fin (k0_t100_loop v1133 v1135).trips), ∀ (k0_h51 : k0_cond51 v1133 = 1#1), ∀ a, (k0_off249 v1133 v1135 k0_t100) a + S1.size a ≤ S1024.size a := fun v1133 v1135 k0_hw148 k0_t100 k0_h51 => k0_hw148.2.2.2 k0_t100 k0_h51

def k0_off250 (v1496 : BitVec 32) : Fin 2 → Nat :=
  let v1497 : Index := Scalar.indexCast v1496
  let c0_653 : Index := 0#32
  ![v1497.toNat, 0]

def k0_chk150 (v1133 : BitVec 32) (v1496 : BitVec 32) : Prop :=
  (∀ (k0_h51 : k0_cond51 v1133 = 1#1), ∀ a, (k0_off250 v1496) a + S1x32.size a ≤ S1024x32.size a)
theorem k0_off250_inb : ∀ (v1133 : BitVec 32) (v1496 : BitVec 32) (k0_hw150 : k0_chk150 v1133 v1496), ∀ (k0_h51 : k0_cond51 v1133 = 1#1), ∀ a, (k0_off250 v1496) a + S1x32.size a ≤ S1024x32.size a := fun v1133 v1496 k0_hw150 k0_h51 => k0_hw150 k0_h51

def k0_off251 (i : grid0.Coords) : Fin 1 → Nat :=
  let arg0 : BitVec 32 := BitVec.ofNat 32 (i 0).val
  let c64_i32_500 : BitVec 32 := 64#32
  let v1153 : BitVec 32 := Scalar.muli arg0 c64_i32_500
  let c50_i32 : BitVec 32 := 50#32
  let v1154 : BitVec 32 := Scalar.addi v1153 c50_i32
  let v1155 : Index := Scalar.indexCast v1154
  ![v1155.toNat]
@[reducible] def k0_t101_loop (v1156 : BitVec 32) (v1158 : BitVec 32) : Scf.Loop 32 :=
  let v1485 : BitVec 32 := Scalar.addi v1158 v1156
  let v1487 : BitVec 32 := Scalar.subi v1485 v1158
  let c1_i32_650 : BitVec 32 := 1#32
  let v1489 : BitVec 32 := Scalar.divsi v1487 c1_i32_650
  let v1490 : BitVec 32 := Scalar.muli v1489 c1_i32_650
  let v1491 : BitVec 32 := Scalar.addi v1158 v1490
  let c1_i32_651 : BitVec 32 := 1#32
  ⟨v1158, v1491, c1_i32_651⟩
def k0_cond52 (v1156 : BitVec 32) : BitVec 1 :=
  let c0_i32_503 : BitVec 32 := 0#32
  let v1161 : BitVec 1 := Scalar.cmpi .sgt v1156 c0_i32_503
  let v1162 : BitVec 32 := Scalar.extui v1161
  let c0_i32_504 : BitVec 32 := 0#32
  let v1163 : BitVec 1 := Scalar.cmpi .ne v1162 c0_i32_504
  v1163

def k0_off252 (v1156 : BitVec 32) (v1158 : BitVec 32) (k0_t101 : Fin (k0_t101_loop v1156 v1158).trips) : Fin 1 → Nat :=
  let c1_i32_651 : BitVec 32 := 1#32
  let arg12 : BitVec 32 := Scf.iv v1158 c1_i32_651 k0_t101
  let v1495 : Index := Scalar.indexCast arg12
  ![v1495.toNat]
def k0_off253 (v1496 : BitVec 32) : Fin 2 → Nat :=
  let v1497 : Index := Scalar.indexCast v1496
  let c0_653 : Index := 0#32
  ![v1497.toNat, 0]

def k0_chk152 (v1156 : BitVec 32) (v1496 : BitVec 32) : Prop :=
  (∀ (k0_h52 : k0_cond52 v1156 = 1#1), ∀ a, (k0_off253 v1496) a + S1x32.size a ≤ S1024x32.size a)
theorem k0_off253_inb : ∀ (v1156 : BitVec 32) (v1496 : BitVec 32) (k0_hw152 : k0_chk152 v1156 v1496), ∀ (k0_h52 : k0_cond52 v1156 = 1#1), ∀ a, (k0_off253 v1496) a + S1x32.size a ≤ S1024x32.size a := fun v1156 v1496 k0_hw152 k0_h52 => k0_hw152 k0_h52

@[reducible] def k0_t102_loop (v1156 : BitVec 32) (v1158 : BitVec 32) : Scf.Loop 32 :=
  let v1485 : BitVec 32 := Scalar.addi v1158 v1156
  let v1487 : BitVec 32 := Scalar.subi v1485 v1158
  let c1_i32_650 : BitVec 32 := 1#32
  let v1489 : BitVec 32 := Scalar.divsi v1487 c1_i32_650
  let v1490 : BitVec 32 := Scalar.muli v1489 c1_i32_650
  let v1491 : BitVec 32 := Scalar.addi v1158 v1490
  let v1488 : BitVec 32 := Scalar.addi v1158 v1487
  let c1_i32_652 : BitVec 32 := 1#32
  ⟨v1491, v1488, c1_i32_652⟩
def k0_off254 (v1156 : BitVec 32) (v1158 : BitVec 32) (k0_t102 : Fin (k0_t102_loop v1156 v1158).trips) : Fin 1 → Nat :=
  let v1485 : BitVec 32 := Scalar.addi v1158 v1156
  let v1487 : BitVec 32 := Scalar.subi v1485 v1158
  let c1_i32_650 : BitVec 32 := 1#32
  let v1489 : BitVec 32 := Scalar.divsi v1487 c1_i32_650
  let v1490 : BitVec 32 := Scalar.muli v1489 c1_i32_650
  let v1491 : BitVec 32 := Scalar.addi v1158 v1490
  let c1_i32_652 : BitVec 32 := 1#32
  let arg12 : BitVec 32 := Scf.iv v1491 c1_i32_652 k0_t102
  let v1495 : Index := Scalar.indexCast arg12
  ![v1495.toNat]

def k0_chk151 (v1156 : BitVec 32) (v1158 : BitVec 32) : Prop :=
  (∀ (k0_h52 : k0_cond52 v1156 = 1#1), (k0_t101_loop v1156 v1158).OK) ∧
  (∀ k0_t101 : Fin (k0_t101_loop v1156 v1158).trips, ∀ (k0_h52 : k0_cond52 v1156 = 1#1), ∀ a, (k0_off252 v1156 v1158 k0_t101) a + S1.size a ≤ S1024.size a) ∧
  (∀ (k0_h52 : k0_cond52 v1156 = 1#1), (k0_t102_loop v1156 v1158).OK) ∧
  (∀ k0_t102 : Fin (k0_t102_loop v1156 v1158).trips, ∀ (k0_h52 : k0_cond52 v1156 = 1#1), ∀ a, (k0_off254 v1156 v1158 k0_t102) a + S1.size a ≤ S1024.size a)
theorem k0_t101_ok : ∀ (v1156 : BitVec 32) (v1158 : BitVec 32) (k0_hw151 : k0_chk151 v1156 v1158), ∀ (k0_h52 : k0_cond52 v1156 = 1#1), (k0_t101_loop v1156 v1158).OK := fun v1156 v1158 k0_hw151 k0_h52 => k0_hw151.1 k0_h52
theorem k0_off252_inb : ∀ (v1156 : BitVec 32) (v1158 : BitVec 32) (k0_hw151 : k0_chk151 v1156 v1158) (k0_t101 : Fin (k0_t101_loop v1156 v1158).trips), ∀ (k0_h52 : k0_cond52 v1156 = 1#1), ∀ a, (k0_off252 v1156 v1158 k0_t101) a + S1.size a ≤ S1024.size a := fun v1156 v1158 k0_hw151 k0_t101 k0_h52 => k0_hw151.2.1 k0_t101 k0_h52
theorem k0_t102_ok : ∀ (v1156 : BitVec 32) (v1158 : BitVec 32) (k0_hw151 : k0_chk151 v1156 v1158), ∀ (k0_h52 : k0_cond52 v1156 = 1#1), (k0_t102_loop v1156 v1158).OK := fun v1156 v1158 k0_hw151 k0_h52 => k0_hw151.2.2.1 k0_h52
theorem k0_off254_inb : ∀ (v1156 : BitVec 32) (v1158 : BitVec 32) (k0_hw151 : k0_chk151 v1156 v1158) (k0_t102 : Fin (k0_t102_loop v1156 v1158).trips), ∀ (k0_h52 : k0_cond52 v1156 = 1#1), ∀ a, (k0_off254 v1156 v1158 k0_t102) a + S1.size a ≤ S1024.size a := fun v1156 v1158 k0_hw151 k0_t102 k0_h52 => k0_hw151.2.2.2 k0_t102 k0_h52

def k0_off255 (v1496 : BitVec 32) : Fin 2 → Nat :=
  let v1497 : Index := Scalar.indexCast v1496
  let c0_653 : Index := 0#32
  ![v1497.toNat, 0]

def k0_chk153 (v1156 : BitVec 32) (v1496 : BitVec 32) : Prop :=
  (∀ (k0_h52 : k0_cond52 v1156 = 1#1), ∀ a, (k0_off255 v1496) a + S1x32.size a ≤ S1024x32.size a)
theorem k0_off255_inb : ∀ (v1156 : BitVec 32) (v1496 : BitVec 32) (k0_hw153 : k0_chk153 v1156 v1496), ∀ (k0_h52 : k0_cond52 v1156 = 1#1), ∀ a, (k0_off255 v1496) a + S1x32.size a ≤ S1024x32.size a := fun v1156 v1496 k0_hw153 k0_h52 => k0_hw153 k0_h52

def k0_off256 (i : grid0.Coords) : Fin 1 → Nat :=
  let arg0 : BitVec 32 := BitVec.ofNat 32 (i 0).val
  let c64_i32_510 : BitVec 32 := 64#32
  let v1176 : BitVec 32 := Scalar.muli arg0 c64_i32_510
  let c51_i32 : BitVec 32 := 51#32
  let v1177 : BitVec 32 := Scalar.addi v1176 c51_i32
  let v1178 : Index := Scalar.indexCast v1177
  ![v1178.toNat]
@[reducible] def k0_t103_loop (v1179 : BitVec 32) (v1181 : BitVec 32) : Scf.Loop 32 :=
  let v1485 : BitVec 32 := Scalar.addi v1181 v1179
  let v1487 : BitVec 32 := Scalar.subi v1485 v1181
  let c1_i32_650 : BitVec 32 := 1#32
  let v1489 : BitVec 32 := Scalar.divsi v1487 c1_i32_650
  let v1490 : BitVec 32 := Scalar.muli v1489 c1_i32_650
  let v1491 : BitVec 32 := Scalar.addi v1181 v1490
  let c1_i32_651 : BitVec 32 := 1#32
  ⟨v1181, v1491, c1_i32_651⟩
def k0_cond53 (v1179 : BitVec 32) : BitVec 1 :=
  let c0_i32_513 : BitVec 32 := 0#32
  let v1184 : BitVec 1 := Scalar.cmpi .sgt v1179 c0_i32_513
  let v1185 : BitVec 32 := Scalar.extui v1184
  let c0_i32_514 : BitVec 32 := 0#32
  let v1186 : BitVec 1 := Scalar.cmpi .ne v1185 c0_i32_514
  v1186

def k0_off257 (v1179 : BitVec 32) (v1181 : BitVec 32) (k0_t103 : Fin (k0_t103_loop v1179 v1181).trips) : Fin 1 → Nat :=
  let c1_i32_651 : BitVec 32 := 1#32
  let arg12 : BitVec 32 := Scf.iv v1181 c1_i32_651 k0_t103
  let v1495 : Index := Scalar.indexCast arg12
  ![v1495.toNat]
def k0_off258 (v1496 : BitVec 32) : Fin 2 → Nat :=
  let v1497 : Index := Scalar.indexCast v1496
  let c0_653 : Index := 0#32
  ![v1497.toNat, 0]

def k0_chk155 (v1179 : BitVec 32) (v1496 : BitVec 32) : Prop :=
  (∀ (k0_h53 : k0_cond53 v1179 = 1#1), ∀ a, (k0_off258 v1496) a + S1x32.size a ≤ S1024x32.size a)
theorem k0_off258_inb : ∀ (v1179 : BitVec 32) (v1496 : BitVec 32) (k0_hw155 : k0_chk155 v1179 v1496), ∀ (k0_h53 : k0_cond53 v1179 = 1#1), ∀ a, (k0_off258 v1496) a + S1x32.size a ≤ S1024x32.size a := fun v1179 v1496 k0_hw155 k0_h53 => k0_hw155 k0_h53

@[reducible] def k0_t104_loop (v1179 : BitVec 32) (v1181 : BitVec 32) : Scf.Loop 32 :=
  let v1485 : BitVec 32 := Scalar.addi v1181 v1179
  let v1487 : BitVec 32 := Scalar.subi v1485 v1181
  let c1_i32_650 : BitVec 32 := 1#32
  let v1489 : BitVec 32 := Scalar.divsi v1487 c1_i32_650
  let v1490 : BitVec 32 := Scalar.muli v1489 c1_i32_650
  let v1491 : BitVec 32 := Scalar.addi v1181 v1490
  let v1488 : BitVec 32 := Scalar.addi v1181 v1487
  let c1_i32_652 : BitVec 32 := 1#32
  ⟨v1491, v1488, c1_i32_652⟩
def k0_off259 (v1179 : BitVec 32) (v1181 : BitVec 32) (k0_t104 : Fin (k0_t104_loop v1179 v1181).trips) : Fin 1 → Nat :=
  let v1485 : BitVec 32 := Scalar.addi v1181 v1179
  let v1487 : BitVec 32 := Scalar.subi v1485 v1181
  let c1_i32_650 : BitVec 32 := 1#32
  let v1489 : BitVec 32 := Scalar.divsi v1487 c1_i32_650
  let v1490 : BitVec 32 := Scalar.muli v1489 c1_i32_650
  let v1491 : BitVec 32 := Scalar.addi v1181 v1490
  let c1_i32_652 : BitVec 32 := 1#32
  let arg12 : BitVec 32 := Scf.iv v1491 c1_i32_652 k0_t104
  let v1495 : Index := Scalar.indexCast arg12
  ![v1495.toNat]

def k0_chk154 (v1179 : BitVec 32) (v1181 : BitVec 32) : Prop :=
  (∀ (k0_h53 : k0_cond53 v1179 = 1#1), (k0_t103_loop v1179 v1181).OK) ∧
  (∀ k0_t103 : Fin (k0_t103_loop v1179 v1181).trips, ∀ (k0_h53 : k0_cond53 v1179 = 1#1), ∀ a, (k0_off257 v1179 v1181 k0_t103) a + S1.size a ≤ S1024.size a) ∧
  (∀ (k0_h53 : k0_cond53 v1179 = 1#1), (k0_t104_loop v1179 v1181).OK) ∧
  (∀ k0_t104 : Fin (k0_t104_loop v1179 v1181).trips, ∀ (k0_h53 : k0_cond53 v1179 = 1#1), ∀ a, (k0_off259 v1179 v1181 k0_t104) a + S1.size a ≤ S1024.size a)
theorem k0_t103_ok : ∀ (v1179 : BitVec 32) (v1181 : BitVec 32) (k0_hw154 : k0_chk154 v1179 v1181), ∀ (k0_h53 : k0_cond53 v1179 = 1#1), (k0_t103_loop v1179 v1181).OK := fun v1179 v1181 k0_hw154 k0_h53 => k0_hw154.1 k0_h53
theorem k0_off257_inb : ∀ (v1179 : BitVec 32) (v1181 : BitVec 32) (k0_hw154 : k0_chk154 v1179 v1181) (k0_t103 : Fin (k0_t103_loop v1179 v1181).trips), ∀ (k0_h53 : k0_cond53 v1179 = 1#1), ∀ a, (k0_off257 v1179 v1181 k0_t103) a + S1.size a ≤ S1024.size a := fun v1179 v1181 k0_hw154 k0_t103 k0_h53 => k0_hw154.2.1 k0_t103 k0_h53
theorem k0_t104_ok : ∀ (v1179 : BitVec 32) (v1181 : BitVec 32) (k0_hw154 : k0_chk154 v1179 v1181), ∀ (k0_h53 : k0_cond53 v1179 = 1#1), (k0_t104_loop v1179 v1181).OK := fun v1179 v1181 k0_hw154 k0_h53 => k0_hw154.2.2.1 k0_h53
theorem k0_off259_inb : ∀ (v1179 : BitVec 32) (v1181 : BitVec 32) (k0_hw154 : k0_chk154 v1179 v1181) (k0_t104 : Fin (k0_t104_loop v1179 v1181).trips), ∀ (k0_h53 : k0_cond53 v1179 = 1#1), ∀ a, (k0_off259 v1179 v1181 k0_t104) a + S1.size a ≤ S1024.size a := fun v1179 v1181 k0_hw154 k0_t104 k0_h53 => k0_hw154.2.2.2 k0_t104 k0_h53

def k0_off260 (v1496 : BitVec 32) : Fin 2 → Nat :=
  let v1497 : Index := Scalar.indexCast v1496
  let c0_653 : Index := 0#32
  ![v1497.toNat, 0]

def k0_chk156 (v1179 : BitVec 32) (v1496 : BitVec 32) : Prop :=
  (∀ (k0_h53 : k0_cond53 v1179 = 1#1), ∀ a, (k0_off260 v1496) a + S1x32.size a ≤ S1024x32.size a)
theorem k0_off260_inb : ∀ (v1179 : BitVec 32) (v1496 : BitVec 32) (k0_hw156 : k0_chk156 v1179 v1496), ∀ (k0_h53 : k0_cond53 v1179 = 1#1), ∀ a, (k0_off260 v1496) a + S1x32.size a ≤ S1024x32.size a := fun v1179 v1496 k0_hw156 k0_h53 => k0_hw156 k0_h53

def k0_off261 (i : grid0.Coords) : Fin 1 → Nat :=
  let arg0 : BitVec 32 := BitVec.ofNat 32 (i 0).val
  let c64_i32_520 : BitVec 32 := 64#32
  let v1199 : BitVec 32 := Scalar.muli arg0 c64_i32_520
  let c52_i32 : BitVec 32 := 52#32
  let v1200 : BitVec 32 := Scalar.addi v1199 c52_i32
  let v1201 : Index := Scalar.indexCast v1200
  ![v1201.toNat]
@[reducible] def k0_t105_loop (v1202 : BitVec 32) (v1204 : BitVec 32) : Scf.Loop 32 :=
  let v1485 : BitVec 32 := Scalar.addi v1204 v1202
  let v1487 : BitVec 32 := Scalar.subi v1485 v1204
  let c1_i32_650 : BitVec 32 := 1#32
  let v1489 : BitVec 32 := Scalar.divsi v1487 c1_i32_650
  let v1490 : BitVec 32 := Scalar.muli v1489 c1_i32_650
  let v1491 : BitVec 32 := Scalar.addi v1204 v1490
  let c1_i32_651 : BitVec 32 := 1#32
  ⟨v1204, v1491, c1_i32_651⟩
def k0_cond54 (v1202 : BitVec 32) : BitVec 1 :=
  let c0_i32_523 : BitVec 32 := 0#32
  let v1207 : BitVec 1 := Scalar.cmpi .sgt v1202 c0_i32_523
  let v1208 : BitVec 32 := Scalar.extui v1207
  let c0_i32_524 : BitVec 32 := 0#32
  let v1209 : BitVec 1 := Scalar.cmpi .ne v1208 c0_i32_524
  v1209

def k0_off262 (v1202 : BitVec 32) (v1204 : BitVec 32) (k0_t105 : Fin (k0_t105_loop v1202 v1204).trips) : Fin 1 → Nat :=
  let c1_i32_651 : BitVec 32 := 1#32
  let arg12 : BitVec 32 := Scf.iv v1204 c1_i32_651 k0_t105
  let v1495 : Index := Scalar.indexCast arg12
  ![v1495.toNat]
def k0_off263 (v1496 : BitVec 32) : Fin 2 → Nat :=
  let v1497 : Index := Scalar.indexCast v1496
  let c0_653 : Index := 0#32
  ![v1497.toNat, 0]

def k0_chk158 (v1202 : BitVec 32) (v1496 : BitVec 32) : Prop :=
  (∀ (k0_h54 : k0_cond54 v1202 = 1#1), ∀ a, (k0_off263 v1496) a + S1x32.size a ≤ S1024x32.size a)
theorem k0_off263_inb : ∀ (v1202 : BitVec 32) (v1496 : BitVec 32) (k0_hw158 : k0_chk158 v1202 v1496), ∀ (k0_h54 : k0_cond54 v1202 = 1#1), ∀ a, (k0_off263 v1496) a + S1x32.size a ≤ S1024x32.size a := fun v1202 v1496 k0_hw158 k0_h54 => k0_hw158 k0_h54

@[reducible] def k0_t106_loop (v1202 : BitVec 32) (v1204 : BitVec 32) : Scf.Loop 32 :=
  let v1485 : BitVec 32 := Scalar.addi v1204 v1202
  let v1487 : BitVec 32 := Scalar.subi v1485 v1204
  let c1_i32_650 : BitVec 32 := 1#32
  let v1489 : BitVec 32 := Scalar.divsi v1487 c1_i32_650
  let v1490 : BitVec 32 := Scalar.muli v1489 c1_i32_650
  let v1491 : BitVec 32 := Scalar.addi v1204 v1490
  let v1488 : BitVec 32 := Scalar.addi v1204 v1487
  let c1_i32_652 : BitVec 32 := 1#32
  ⟨v1491, v1488, c1_i32_652⟩
def k0_off264 (v1202 : BitVec 32) (v1204 : BitVec 32) (k0_t106 : Fin (k0_t106_loop v1202 v1204).trips) : Fin 1 → Nat :=
  let v1485 : BitVec 32 := Scalar.addi v1204 v1202
  let v1487 : BitVec 32 := Scalar.subi v1485 v1204
  let c1_i32_650 : BitVec 32 := 1#32
  let v1489 : BitVec 32 := Scalar.divsi v1487 c1_i32_650
  let v1490 : BitVec 32 := Scalar.muli v1489 c1_i32_650
  let v1491 : BitVec 32 := Scalar.addi v1204 v1490
  let c1_i32_652 : BitVec 32 := 1#32
  let arg12 : BitVec 32 := Scf.iv v1491 c1_i32_652 k0_t106
  let v1495 : Index := Scalar.indexCast arg12
  ![v1495.toNat]

def k0_chk157 (v1202 : BitVec 32) (v1204 : BitVec 32) : Prop :=
  (∀ (k0_h54 : k0_cond54 v1202 = 1#1), (k0_t105_loop v1202 v1204).OK) ∧
  (∀ k0_t105 : Fin (k0_t105_loop v1202 v1204).trips, ∀ (k0_h54 : k0_cond54 v1202 = 1#1), ∀ a, (k0_off262 v1202 v1204 k0_t105) a + S1.size a ≤ S1024.size a) ∧
  (∀ (k0_h54 : k0_cond54 v1202 = 1#1), (k0_t106_loop v1202 v1204).OK) ∧
  (∀ k0_t106 : Fin (k0_t106_loop v1202 v1204).trips, ∀ (k0_h54 : k0_cond54 v1202 = 1#1), ∀ a, (k0_off264 v1202 v1204 k0_t106) a + S1.size a ≤ S1024.size a)
theorem k0_t105_ok : ∀ (v1202 : BitVec 32) (v1204 : BitVec 32) (k0_hw157 : k0_chk157 v1202 v1204), ∀ (k0_h54 : k0_cond54 v1202 = 1#1), (k0_t105_loop v1202 v1204).OK := fun v1202 v1204 k0_hw157 k0_h54 => k0_hw157.1 k0_h54
theorem k0_off262_inb : ∀ (v1202 : BitVec 32) (v1204 : BitVec 32) (k0_hw157 : k0_chk157 v1202 v1204) (k0_t105 : Fin (k0_t105_loop v1202 v1204).trips), ∀ (k0_h54 : k0_cond54 v1202 = 1#1), ∀ a, (k0_off262 v1202 v1204 k0_t105) a + S1.size a ≤ S1024.size a := fun v1202 v1204 k0_hw157 k0_t105 k0_h54 => k0_hw157.2.1 k0_t105 k0_h54
theorem k0_t106_ok : ∀ (v1202 : BitVec 32) (v1204 : BitVec 32) (k0_hw157 : k0_chk157 v1202 v1204), ∀ (k0_h54 : k0_cond54 v1202 = 1#1), (k0_t106_loop v1202 v1204).OK := fun v1202 v1204 k0_hw157 k0_h54 => k0_hw157.2.2.1 k0_h54
theorem k0_off264_inb : ∀ (v1202 : BitVec 32) (v1204 : BitVec 32) (k0_hw157 : k0_chk157 v1202 v1204) (k0_t106 : Fin (k0_t106_loop v1202 v1204).trips), ∀ (k0_h54 : k0_cond54 v1202 = 1#1), ∀ a, (k0_off264 v1202 v1204 k0_t106) a + S1.size a ≤ S1024.size a := fun v1202 v1204 k0_hw157 k0_t106 k0_h54 => k0_hw157.2.2.2 k0_t106 k0_h54

def k0_off265 (v1496 : BitVec 32) : Fin 2 → Nat :=
  let v1497 : Index := Scalar.indexCast v1496
  let c0_653 : Index := 0#32
  ![v1497.toNat, 0]

def k0_chk159 (v1202 : BitVec 32) (v1496 : BitVec 32) : Prop :=
  (∀ (k0_h54 : k0_cond54 v1202 = 1#1), ∀ a, (k0_off265 v1496) a + S1x32.size a ≤ S1024x32.size a)
theorem k0_off265_inb : ∀ (v1202 : BitVec 32) (v1496 : BitVec 32) (k0_hw159 : k0_chk159 v1202 v1496), ∀ (k0_h54 : k0_cond54 v1202 = 1#1), ∀ a, (k0_off265 v1496) a + S1x32.size a ≤ S1024x32.size a := fun v1202 v1496 k0_hw159 k0_h54 => k0_hw159 k0_h54

def k0_off266 (i : grid0.Coords) : Fin 1 → Nat :=
  let arg0 : BitVec 32 := BitVec.ofNat 32 (i 0).val
  let c64_i32_530 : BitVec 32 := 64#32
  let v1222 : BitVec 32 := Scalar.muli arg0 c64_i32_530
  let c53_i32 : BitVec 32 := 53#32
  let v1223 : BitVec 32 := Scalar.addi v1222 c53_i32
  let v1224 : Index := Scalar.indexCast v1223
  ![v1224.toNat]
@[reducible] def k0_t107_loop (v1225 : BitVec 32) (v1227 : BitVec 32) : Scf.Loop 32 :=
  let v1485 : BitVec 32 := Scalar.addi v1227 v1225
  let v1487 : BitVec 32 := Scalar.subi v1485 v1227
  let c1_i32_650 : BitVec 32 := 1#32
  let v1489 : BitVec 32 := Scalar.divsi v1487 c1_i32_650
  let v1490 : BitVec 32 := Scalar.muli v1489 c1_i32_650
  let v1491 : BitVec 32 := Scalar.addi v1227 v1490
  let c1_i32_651 : BitVec 32 := 1#32
  ⟨v1227, v1491, c1_i32_651⟩
def k0_cond55 (v1225 : BitVec 32) : BitVec 1 :=
  let c0_i32_533 : BitVec 32 := 0#32
  let v1230 : BitVec 1 := Scalar.cmpi .sgt v1225 c0_i32_533
  let v1231 : BitVec 32 := Scalar.extui v1230
  let c0_i32_534 : BitVec 32 := 0#32
  let v1232 : BitVec 1 := Scalar.cmpi .ne v1231 c0_i32_534
  v1232

def k0_off267 (v1225 : BitVec 32) (v1227 : BitVec 32) (k0_t107 : Fin (k0_t107_loop v1225 v1227).trips) : Fin 1 → Nat :=
  let c1_i32_651 : BitVec 32 := 1#32
  let arg12 : BitVec 32 := Scf.iv v1227 c1_i32_651 k0_t107
  let v1495 : Index := Scalar.indexCast arg12
  ![v1495.toNat]
def k0_off268 (v1496 : BitVec 32) : Fin 2 → Nat :=
  let v1497 : Index := Scalar.indexCast v1496
  let c0_653 : Index := 0#32
  ![v1497.toNat, 0]

def k0_chk161 (v1225 : BitVec 32) (v1496 : BitVec 32) : Prop :=
  (∀ (k0_h55 : k0_cond55 v1225 = 1#1), ∀ a, (k0_off268 v1496) a + S1x32.size a ≤ S1024x32.size a)
theorem k0_off268_inb : ∀ (v1225 : BitVec 32) (v1496 : BitVec 32) (k0_hw161 : k0_chk161 v1225 v1496), ∀ (k0_h55 : k0_cond55 v1225 = 1#1), ∀ a, (k0_off268 v1496) a + S1x32.size a ≤ S1024x32.size a := fun v1225 v1496 k0_hw161 k0_h55 => k0_hw161 k0_h55

@[reducible] def k0_t108_loop (v1225 : BitVec 32) (v1227 : BitVec 32) : Scf.Loop 32 :=
  let v1485 : BitVec 32 := Scalar.addi v1227 v1225
  let v1487 : BitVec 32 := Scalar.subi v1485 v1227
  let c1_i32_650 : BitVec 32 := 1#32
  let v1489 : BitVec 32 := Scalar.divsi v1487 c1_i32_650
  let v1490 : BitVec 32 := Scalar.muli v1489 c1_i32_650
  let v1491 : BitVec 32 := Scalar.addi v1227 v1490
  let v1488 : BitVec 32 := Scalar.addi v1227 v1487
  let c1_i32_652 : BitVec 32 := 1#32
  ⟨v1491, v1488, c1_i32_652⟩
def k0_off269 (v1225 : BitVec 32) (v1227 : BitVec 32) (k0_t108 : Fin (k0_t108_loop v1225 v1227).trips) : Fin 1 → Nat :=
  let v1485 : BitVec 32 := Scalar.addi v1227 v1225
  let v1487 : BitVec 32 := Scalar.subi v1485 v1227
  let c1_i32_650 : BitVec 32 := 1#32
  let v1489 : BitVec 32 := Scalar.divsi v1487 c1_i32_650
  let v1490 : BitVec 32 := Scalar.muli v1489 c1_i32_650
  let v1491 : BitVec 32 := Scalar.addi v1227 v1490
  let c1_i32_652 : BitVec 32 := 1#32
  let arg12 : BitVec 32 := Scf.iv v1491 c1_i32_652 k0_t108
  let v1495 : Index := Scalar.indexCast arg12
  ![v1495.toNat]

def k0_chk160 (v1225 : BitVec 32) (v1227 : BitVec 32) : Prop :=
  (∀ (k0_h55 : k0_cond55 v1225 = 1#1), (k0_t107_loop v1225 v1227).OK) ∧
  (∀ k0_t107 : Fin (k0_t107_loop v1225 v1227).trips, ∀ (k0_h55 : k0_cond55 v1225 = 1#1), ∀ a, (k0_off267 v1225 v1227 k0_t107) a + S1.size a ≤ S1024.size a) ∧
  (∀ (k0_h55 : k0_cond55 v1225 = 1#1), (k0_t108_loop v1225 v1227).OK) ∧
  (∀ k0_t108 : Fin (k0_t108_loop v1225 v1227).trips, ∀ (k0_h55 : k0_cond55 v1225 = 1#1), ∀ a, (k0_off269 v1225 v1227 k0_t108) a + S1.size a ≤ S1024.size a)
theorem k0_t107_ok : ∀ (v1225 : BitVec 32) (v1227 : BitVec 32) (k0_hw160 : k0_chk160 v1225 v1227), ∀ (k0_h55 : k0_cond55 v1225 = 1#1), (k0_t107_loop v1225 v1227).OK := fun v1225 v1227 k0_hw160 k0_h55 => k0_hw160.1 k0_h55
theorem k0_off267_inb : ∀ (v1225 : BitVec 32) (v1227 : BitVec 32) (k0_hw160 : k0_chk160 v1225 v1227) (k0_t107 : Fin (k0_t107_loop v1225 v1227).trips), ∀ (k0_h55 : k0_cond55 v1225 = 1#1), ∀ a, (k0_off267 v1225 v1227 k0_t107) a + S1.size a ≤ S1024.size a := fun v1225 v1227 k0_hw160 k0_t107 k0_h55 => k0_hw160.2.1 k0_t107 k0_h55
theorem k0_t108_ok : ∀ (v1225 : BitVec 32) (v1227 : BitVec 32) (k0_hw160 : k0_chk160 v1225 v1227), ∀ (k0_h55 : k0_cond55 v1225 = 1#1), (k0_t108_loop v1225 v1227).OK := fun v1225 v1227 k0_hw160 k0_h55 => k0_hw160.2.2.1 k0_h55
theorem k0_off269_inb : ∀ (v1225 : BitVec 32) (v1227 : BitVec 32) (k0_hw160 : k0_chk160 v1225 v1227) (k0_t108 : Fin (k0_t108_loop v1225 v1227).trips), ∀ (k0_h55 : k0_cond55 v1225 = 1#1), ∀ a, (k0_off269 v1225 v1227 k0_t108) a + S1.size a ≤ S1024.size a := fun v1225 v1227 k0_hw160 k0_t108 k0_h55 => k0_hw160.2.2.2 k0_t108 k0_h55

def k0_off270 (v1496 : BitVec 32) : Fin 2 → Nat :=
  let v1497 : Index := Scalar.indexCast v1496
  let c0_653 : Index := 0#32
  ![v1497.toNat, 0]

def k0_chk162 (v1225 : BitVec 32) (v1496 : BitVec 32) : Prop :=
  (∀ (k0_h55 : k0_cond55 v1225 = 1#1), ∀ a, (k0_off270 v1496) a + S1x32.size a ≤ S1024x32.size a)
theorem k0_off270_inb : ∀ (v1225 : BitVec 32) (v1496 : BitVec 32) (k0_hw162 : k0_chk162 v1225 v1496), ∀ (k0_h55 : k0_cond55 v1225 = 1#1), ∀ a, (k0_off270 v1496) a + S1x32.size a ≤ S1024x32.size a := fun v1225 v1496 k0_hw162 k0_h55 => k0_hw162 k0_h55

def k0_off271 (i : grid0.Coords) : Fin 1 → Nat :=
  let arg0 : BitVec 32 := BitVec.ofNat 32 (i 0).val
  let c64_i32_540 : BitVec 32 := 64#32
  let v1245 : BitVec 32 := Scalar.muli arg0 c64_i32_540
  let c54_i32 : BitVec 32 := 54#32
  let v1246 : BitVec 32 := Scalar.addi v1245 c54_i32
  let v1247 : Index := Scalar.indexCast v1246
  ![v1247.toNat]
@[reducible] def k0_t109_loop (v1248 : BitVec 32) (v1250 : BitVec 32) : Scf.Loop 32 :=
  let v1485 : BitVec 32 := Scalar.addi v1250 v1248
  let v1487 : BitVec 32 := Scalar.subi v1485 v1250
  let c1_i32_650 : BitVec 32 := 1#32
  let v1489 : BitVec 32 := Scalar.divsi v1487 c1_i32_650
  let v1490 : BitVec 32 := Scalar.muli v1489 c1_i32_650
  let v1491 : BitVec 32 := Scalar.addi v1250 v1490
  let c1_i32_651 : BitVec 32 := 1#32
  ⟨v1250, v1491, c1_i32_651⟩
def k0_cond56 (v1248 : BitVec 32) : BitVec 1 :=
  let c0_i32_543 : BitVec 32 := 0#32
  let v1253 : BitVec 1 := Scalar.cmpi .sgt v1248 c0_i32_543
  let v1254 : BitVec 32 := Scalar.extui v1253
  let c0_i32_544 : BitVec 32 := 0#32
  let v1255 : BitVec 1 := Scalar.cmpi .ne v1254 c0_i32_544
  v1255

def k0_off272 (v1248 : BitVec 32) (v1250 : BitVec 32) (k0_t109 : Fin (k0_t109_loop v1248 v1250).trips) : Fin 1 → Nat :=
  let c1_i32_651 : BitVec 32 := 1#32
  let arg12 : BitVec 32 := Scf.iv v1250 c1_i32_651 k0_t109
  let v1495 : Index := Scalar.indexCast arg12
  ![v1495.toNat]
def k0_off273 (v1496 : BitVec 32) : Fin 2 → Nat :=
  let v1497 : Index := Scalar.indexCast v1496
  let c0_653 : Index := 0#32
  ![v1497.toNat, 0]

def k0_chk164 (v1248 : BitVec 32) (v1496 : BitVec 32) : Prop :=
  (∀ (k0_h56 : k0_cond56 v1248 = 1#1), ∀ a, (k0_off273 v1496) a + S1x32.size a ≤ S1024x32.size a)
theorem k0_off273_inb : ∀ (v1248 : BitVec 32) (v1496 : BitVec 32) (k0_hw164 : k0_chk164 v1248 v1496), ∀ (k0_h56 : k0_cond56 v1248 = 1#1), ∀ a, (k0_off273 v1496) a + S1x32.size a ≤ S1024x32.size a := fun v1248 v1496 k0_hw164 k0_h56 => k0_hw164 k0_h56

@[reducible] def k0_t110_loop (v1248 : BitVec 32) (v1250 : BitVec 32) : Scf.Loop 32 :=
  let v1485 : BitVec 32 := Scalar.addi v1250 v1248
  let v1487 : BitVec 32 := Scalar.subi v1485 v1250
  let c1_i32_650 : BitVec 32 := 1#32
  let v1489 : BitVec 32 := Scalar.divsi v1487 c1_i32_650
  let v1490 : BitVec 32 := Scalar.muli v1489 c1_i32_650
  let v1491 : BitVec 32 := Scalar.addi v1250 v1490
  let v1488 : BitVec 32 := Scalar.addi v1250 v1487
  let c1_i32_652 : BitVec 32 := 1#32
  ⟨v1491, v1488, c1_i32_652⟩
def k0_off274 (v1248 : BitVec 32) (v1250 : BitVec 32) (k0_t110 : Fin (k0_t110_loop v1248 v1250).trips) : Fin 1 → Nat :=
  let v1485 : BitVec 32 := Scalar.addi v1250 v1248
  let v1487 : BitVec 32 := Scalar.subi v1485 v1250
  let c1_i32_650 : BitVec 32 := 1#32
  let v1489 : BitVec 32 := Scalar.divsi v1487 c1_i32_650
  let v1490 : BitVec 32 := Scalar.muli v1489 c1_i32_650
  let v1491 : BitVec 32 := Scalar.addi v1250 v1490
  let c1_i32_652 : BitVec 32 := 1#32
  let arg12 : BitVec 32 := Scf.iv v1491 c1_i32_652 k0_t110
  let v1495 : Index := Scalar.indexCast arg12
  ![v1495.toNat]

def k0_chk163 (v1248 : BitVec 32) (v1250 : BitVec 32) : Prop :=
  (∀ (k0_h56 : k0_cond56 v1248 = 1#1), (k0_t109_loop v1248 v1250).OK) ∧
  (∀ k0_t109 : Fin (k0_t109_loop v1248 v1250).trips, ∀ (k0_h56 : k0_cond56 v1248 = 1#1), ∀ a, (k0_off272 v1248 v1250 k0_t109) a + S1.size a ≤ S1024.size a) ∧
  (∀ (k0_h56 : k0_cond56 v1248 = 1#1), (k0_t110_loop v1248 v1250).OK) ∧
  (∀ k0_t110 : Fin (k0_t110_loop v1248 v1250).trips, ∀ (k0_h56 : k0_cond56 v1248 = 1#1), ∀ a, (k0_off274 v1248 v1250 k0_t110) a + S1.size a ≤ S1024.size a)
theorem k0_t109_ok : ∀ (v1248 : BitVec 32) (v1250 : BitVec 32) (k0_hw163 : k0_chk163 v1248 v1250), ∀ (k0_h56 : k0_cond56 v1248 = 1#1), (k0_t109_loop v1248 v1250).OK := fun v1248 v1250 k0_hw163 k0_h56 => k0_hw163.1 k0_h56
theorem k0_off272_inb : ∀ (v1248 : BitVec 32) (v1250 : BitVec 32) (k0_hw163 : k0_chk163 v1248 v1250) (k0_t109 : Fin (k0_t109_loop v1248 v1250).trips), ∀ (k0_h56 : k0_cond56 v1248 = 1#1), ∀ a, (k0_off272 v1248 v1250 k0_t109) a + S1.size a ≤ S1024.size a := fun v1248 v1250 k0_hw163 k0_t109 k0_h56 => k0_hw163.2.1 k0_t109 k0_h56
theorem k0_t110_ok : ∀ (v1248 : BitVec 32) (v1250 : BitVec 32) (k0_hw163 : k0_chk163 v1248 v1250), ∀ (k0_h56 : k0_cond56 v1248 = 1#1), (k0_t110_loop v1248 v1250).OK := fun v1248 v1250 k0_hw163 k0_h56 => k0_hw163.2.2.1 k0_h56
theorem k0_off274_inb : ∀ (v1248 : BitVec 32) (v1250 : BitVec 32) (k0_hw163 : k0_chk163 v1248 v1250) (k0_t110 : Fin (k0_t110_loop v1248 v1250).trips), ∀ (k0_h56 : k0_cond56 v1248 = 1#1), ∀ a, (k0_off274 v1248 v1250 k0_t110) a + S1.size a ≤ S1024.size a := fun v1248 v1250 k0_hw163 k0_t110 k0_h56 => k0_hw163.2.2.2 k0_t110 k0_h56

def k0_off275 (v1496 : BitVec 32) : Fin 2 → Nat :=
  let v1497 : Index := Scalar.indexCast v1496
  let c0_653 : Index := 0#32
  ![v1497.toNat, 0]

def k0_chk165 (v1248 : BitVec 32) (v1496 : BitVec 32) : Prop :=
  (∀ (k0_h56 : k0_cond56 v1248 = 1#1), ∀ a, (k0_off275 v1496) a + S1x32.size a ≤ S1024x32.size a)
theorem k0_off275_inb : ∀ (v1248 : BitVec 32) (v1496 : BitVec 32) (k0_hw165 : k0_chk165 v1248 v1496), ∀ (k0_h56 : k0_cond56 v1248 = 1#1), ∀ a, (k0_off275 v1496) a + S1x32.size a ≤ S1024x32.size a := fun v1248 v1496 k0_hw165 k0_h56 => k0_hw165 k0_h56

def k0_off276 (i : grid0.Coords) : Fin 1 → Nat :=
  let arg0 : BitVec 32 := BitVec.ofNat 32 (i 0).val
  let c64_i32_550 : BitVec 32 := 64#32
  let v1268 : BitVec 32 := Scalar.muli arg0 c64_i32_550
  let c55_i32 : BitVec 32 := 55#32
  let v1269 : BitVec 32 := Scalar.addi v1268 c55_i32
  let v1270 : Index := Scalar.indexCast v1269
  ![v1270.toNat]
@[reducible] def k0_t111_loop (v1271 : BitVec 32) (v1273 : BitVec 32) : Scf.Loop 32 :=
  let v1485 : BitVec 32 := Scalar.addi v1273 v1271
  let v1487 : BitVec 32 := Scalar.subi v1485 v1273
  let c1_i32_650 : BitVec 32 := 1#32
  let v1489 : BitVec 32 := Scalar.divsi v1487 c1_i32_650
  let v1490 : BitVec 32 := Scalar.muli v1489 c1_i32_650
  let v1491 : BitVec 32 := Scalar.addi v1273 v1490
  let c1_i32_651 : BitVec 32 := 1#32
  ⟨v1273, v1491, c1_i32_651⟩
def k0_cond57 (v1271 : BitVec 32) : BitVec 1 :=
  let c0_i32_553 : BitVec 32 := 0#32
  let v1276 : BitVec 1 := Scalar.cmpi .sgt v1271 c0_i32_553
  let v1277 : BitVec 32 := Scalar.extui v1276
  let c0_i32_554 : BitVec 32 := 0#32
  let v1278 : BitVec 1 := Scalar.cmpi .ne v1277 c0_i32_554
  v1278

def k0_off277 (v1271 : BitVec 32) (v1273 : BitVec 32) (k0_t111 : Fin (k0_t111_loop v1271 v1273).trips) : Fin 1 → Nat :=
  let c1_i32_651 : BitVec 32 := 1#32
  let arg12 : BitVec 32 := Scf.iv v1273 c1_i32_651 k0_t111
  let v1495 : Index := Scalar.indexCast arg12
  ![v1495.toNat]
def k0_off278 (v1496 : BitVec 32) : Fin 2 → Nat :=
  let v1497 : Index := Scalar.indexCast v1496
  let c0_653 : Index := 0#32
  ![v1497.toNat, 0]

def k0_chk167 (v1271 : BitVec 32) (v1496 : BitVec 32) : Prop :=
  (∀ (k0_h57 : k0_cond57 v1271 = 1#1), ∀ a, (k0_off278 v1496) a + S1x32.size a ≤ S1024x32.size a)
theorem k0_off278_inb : ∀ (v1271 : BitVec 32) (v1496 : BitVec 32) (k0_hw167 : k0_chk167 v1271 v1496), ∀ (k0_h57 : k0_cond57 v1271 = 1#1), ∀ a, (k0_off278 v1496) a + S1x32.size a ≤ S1024x32.size a := fun v1271 v1496 k0_hw167 k0_h57 => k0_hw167 k0_h57

@[reducible] def k0_t112_loop (v1271 : BitVec 32) (v1273 : BitVec 32) : Scf.Loop 32 :=
  let v1485 : BitVec 32 := Scalar.addi v1273 v1271
  let v1487 : BitVec 32 := Scalar.subi v1485 v1273
  let c1_i32_650 : BitVec 32 := 1#32
  let v1489 : BitVec 32 := Scalar.divsi v1487 c1_i32_650
  let v1490 : BitVec 32 := Scalar.muli v1489 c1_i32_650
  let v1491 : BitVec 32 := Scalar.addi v1273 v1490
  let v1488 : BitVec 32 := Scalar.addi v1273 v1487
  let c1_i32_652 : BitVec 32 := 1#32
  ⟨v1491, v1488, c1_i32_652⟩
def k0_off279 (v1271 : BitVec 32) (v1273 : BitVec 32) (k0_t112 : Fin (k0_t112_loop v1271 v1273).trips) : Fin 1 → Nat :=
  let v1485 : BitVec 32 := Scalar.addi v1273 v1271
  let v1487 : BitVec 32 := Scalar.subi v1485 v1273
  let c1_i32_650 : BitVec 32 := 1#32
  let v1489 : BitVec 32 := Scalar.divsi v1487 c1_i32_650
  let v1490 : BitVec 32 := Scalar.muli v1489 c1_i32_650
  let v1491 : BitVec 32 := Scalar.addi v1273 v1490
  let c1_i32_652 : BitVec 32 := 1#32
  let arg12 : BitVec 32 := Scf.iv v1491 c1_i32_652 k0_t112
  let v1495 : Index := Scalar.indexCast arg12
  ![v1495.toNat]

def k0_chk166 (v1271 : BitVec 32) (v1273 : BitVec 32) : Prop :=
  (∀ (k0_h57 : k0_cond57 v1271 = 1#1), (k0_t111_loop v1271 v1273).OK) ∧
  (∀ k0_t111 : Fin (k0_t111_loop v1271 v1273).trips, ∀ (k0_h57 : k0_cond57 v1271 = 1#1), ∀ a, (k0_off277 v1271 v1273 k0_t111) a + S1.size a ≤ S1024.size a) ∧
  (∀ (k0_h57 : k0_cond57 v1271 = 1#1), (k0_t112_loop v1271 v1273).OK) ∧
  (∀ k0_t112 : Fin (k0_t112_loop v1271 v1273).trips, ∀ (k0_h57 : k0_cond57 v1271 = 1#1), ∀ a, (k0_off279 v1271 v1273 k0_t112) a + S1.size a ≤ S1024.size a)
theorem k0_t111_ok : ∀ (v1271 : BitVec 32) (v1273 : BitVec 32) (k0_hw166 : k0_chk166 v1271 v1273), ∀ (k0_h57 : k0_cond57 v1271 = 1#1), (k0_t111_loop v1271 v1273).OK := fun v1271 v1273 k0_hw166 k0_h57 => k0_hw166.1 k0_h57
theorem k0_off277_inb : ∀ (v1271 : BitVec 32) (v1273 : BitVec 32) (k0_hw166 : k0_chk166 v1271 v1273) (k0_t111 : Fin (k0_t111_loop v1271 v1273).trips), ∀ (k0_h57 : k0_cond57 v1271 = 1#1), ∀ a, (k0_off277 v1271 v1273 k0_t111) a + S1.size a ≤ S1024.size a := fun v1271 v1273 k0_hw166 k0_t111 k0_h57 => k0_hw166.2.1 k0_t111 k0_h57
theorem k0_t112_ok : ∀ (v1271 : BitVec 32) (v1273 : BitVec 32) (k0_hw166 : k0_chk166 v1271 v1273), ∀ (k0_h57 : k0_cond57 v1271 = 1#1), (k0_t112_loop v1271 v1273).OK := fun v1271 v1273 k0_hw166 k0_h57 => k0_hw166.2.2.1 k0_h57
theorem k0_off279_inb : ∀ (v1271 : BitVec 32) (v1273 : BitVec 32) (k0_hw166 : k0_chk166 v1271 v1273) (k0_t112 : Fin (k0_t112_loop v1271 v1273).trips), ∀ (k0_h57 : k0_cond57 v1271 = 1#1), ∀ a, (k0_off279 v1271 v1273 k0_t112) a + S1.size a ≤ S1024.size a := fun v1271 v1273 k0_hw166 k0_t112 k0_h57 => k0_hw166.2.2.2 k0_t112 k0_h57

def k0_off280 (v1496 : BitVec 32) : Fin 2 → Nat :=
  let v1497 : Index := Scalar.indexCast v1496
  let c0_653 : Index := 0#32
  ![v1497.toNat, 0]

def k0_chk168 (v1271 : BitVec 32) (v1496 : BitVec 32) : Prop :=
  (∀ (k0_h57 : k0_cond57 v1271 = 1#1), ∀ a, (k0_off280 v1496) a + S1x32.size a ≤ S1024x32.size a)
theorem k0_off280_inb : ∀ (v1271 : BitVec 32) (v1496 : BitVec 32) (k0_hw168 : k0_chk168 v1271 v1496), ∀ (k0_h57 : k0_cond57 v1271 = 1#1), ∀ a, (k0_off280 v1496) a + S1x32.size a ≤ S1024x32.size a := fun v1271 v1496 k0_hw168 k0_h57 => k0_hw168 k0_h57

def k0_off281 (i : grid0.Coords) : Fin 1 → Nat :=
  let arg0 : BitVec 32 := BitVec.ofNat 32 (i 0).val
  let c64_i32_560 : BitVec 32 := 64#32
  let v1291 : BitVec 32 := Scalar.muli arg0 c64_i32_560
  let c56_i32 : BitVec 32 := 56#32
  let v1292 : BitVec 32 := Scalar.addi v1291 c56_i32
  let v1293 : Index := Scalar.indexCast v1292
  ![v1293.toNat]
@[reducible] def k0_t113_loop (v1294 : BitVec 32) (v1296 : BitVec 32) : Scf.Loop 32 :=
  let v1485 : BitVec 32 := Scalar.addi v1296 v1294
  let v1487 : BitVec 32 := Scalar.subi v1485 v1296
  let c1_i32_650 : BitVec 32 := 1#32
  let v1489 : BitVec 32 := Scalar.divsi v1487 c1_i32_650
  let v1490 : BitVec 32 := Scalar.muli v1489 c1_i32_650
  let v1491 : BitVec 32 := Scalar.addi v1296 v1490
  let c1_i32_651 : BitVec 32 := 1#32
  ⟨v1296, v1491, c1_i32_651⟩
def k0_cond58 (v1294 : BitVec 32) : BitVec 1 :=
  let c0_i32_563 : BitVec 32 := 0#32
  let v1299 : BitVec 1 := Scalar.cmpi .sgt v1294 c0_i32_563
  let v1300 : BitVec 32 := Scalar.extui v1299
  let c0_i32_564 : BitVec 32 := 0#32
  let v1301 : BitVec 1 := Scalar.cmpi .ne v1300 c0_i32_564
  v1301

def k0_off282 (v1294 : BitVec 32) (v1296 : BitVec 32) (k0_t113 : Fin (k0_t113_loop v1294 v1296).trips) : Fin 1 → Nat :=
  let c1_i32_651 : BitVec 32 := 1#32
  let arg12 : BitVec 32 := Scf.iv v1296 c1_i32_651 k0_t113
  let v1495 : Index := Scalar.indexCast arg12
  ![v1495.toNat]
def k0_off283 (v1496 : BitVec 32) : Fin 2 → Nat :=
  let v1497 : Index := Scalar.indexCast v1496
  let c0_653 : Index := 0#32
  ![v1497.toNat, 0]

def k0_chk170 (v1294 : BitVec 32) (v1496 : BitVec 32) : Prop :=
  (∀ (k0_h58 : k0_cond58 v1294 = 1#1), ∀ a, (k0_off283 v1496) a + S1x32.size a ≤ S1024x32.size a)
theorem k0_off283_inb : ∀ (v1294 : BitVec 32) (v1496 : BitVec 32) (k0_hw170 : k0_chk170 v1294 v1496), ∀ (k0_h58 : k0_cond58 v1294 = 1#1), ∀ a, (k0_off283 v1496) a + S1x32.size a ≤ S1024x32.size a := fun v1294 v1496 k0_hw170 k0_h58 => k0_hw170 k0_h58

@[reducible] def k0_t114_loop (v1294 : BitVec 32) (v1296 : BitVec 32) : Scf.Loop 32 :=
  let v1485 : BitVec 32 := Scalar.addi v1296 v1294
  let v1487 : BitVec 32 := Scalar.subi v1485 v1296
  let c1_i32_650 : BitVec 32 := 1#32
  let v1489 : BitVec 32 := Scalar.divsi v1487 c1_i32_650
  let v1490 : BitVec 32 := Scalar.muli v1489 c1_i32_650
  let v1491 : BitVec 32 := Scalar.addi v1296 v1490
  let v1488 : BitVec 32 := Scalar.addi v1296 v1487
  let c1_i32_652 : BitVec 32 := 1#32
  ⟨v1491, v1488, c1_i32_652⟩
def k0_off284 (v1294 : BitVec 32) (v1296 : BitVec 32) (k0_t114 : Fin (k0_t114_loop v1294 v1296).trips) : Fin 1 → Nat :=
  let v1485 : BitVec 32 := Scalar.addi v1296 v1294
  let v1487 : BitVec 32 := Scalar.subi v1485 v1296
  let c1_i32_650 : BitVec 32 := 1#32
  let v1489 : BitVec 32 := Scalar.divsi v1487 c1_i32_650
  let v1490 : BitVec 32 := Scalar.muli v1489 c1_i32_650
  let v1491 : BitVec 32 := Scalar.addi v1296 v1490
  let c1_i32_652 : BitVec 32 := 1#32
  let arg12 : BitVec 32 := Scf.iv v1491 c1_i32_652 k0_t114
  let v1495 : Index := Scalar.indexCast arg12
  ![v1495.toNat]

def k0_chk169 (v1294 : BitVec 32) (v1296 : BitVec 32) : Prop :=
  (∀ (k0_h58 : k0_cond58 v1294 = 1#1), (k0_t113_loop v1294 v1296).OK) ∧
  (∀ k0_t113 : Fin (k0_t113_loop v1294 v1296).trips, ∀ (k0_h58 : k0_cond58 v1294 = 1#1), ∀ a, (k0_off282 v1294 v1296 k0_t113) a + S1.size a ≤ S1024.size a) ∧
  (∀ (k0_h58 : k0_cond58 v1294 = 1#1), (k0_t114_loop v1294 v1296).OK) ∧
  (∀ k0_t114 : Fin (k0_t114_loop v1294 v1296).trips, ∀ (k0_h58 : k0_cond58 v1294 = 1#1), ∀ a, (k0_off284 v1294 v1296 k0_t114) a + S1.size a ≤ S1024.size a)
theorem k0_t113_ok : ∀ (v1294 : BitVec 32) (v1296 : BitVec 32) (k0_hw169 : k0_chk169 v1294 v1296), ∀ (k0_h58 : k0_cond58 v1294 = 1#1), (k0_t113_loop v1294 v1296).OK := fun v1294 v1296 k0_hw169 k0_h58 => k0_hw169.1 k0_h58
theorem k0_off282_inb : ∀ (v1294 : BitVec 32) (v1296 : BitVec 32) (k0_hw169 : k0_chk169 v1294 v1296) (k0_t113 : Fin (k0_t113_loop v1294 v1296).trips), ∀ (k0_h58 : k0_cond58 v1294 = 1#1), ∀ a, (k0_off282 v1294 v1296 k0_t113) a + S1.size a ≤ S1024.size a := fun v1294 v1296 k0_hw169 k0_t113 k0_h58 => k0_hw169.2.1 k0_t113 k0_h58
theorem k0_t114_ok : ∀ (v1294 : BitVec 32) (v1296 : BitVec 32) (k0_hw169 : k0_chk169 v1294 v1296), ∀ (k0_h58 : k0_cond58 v1294 = 1#1), (k0_t114_loop v1294 v1296).OK := fun v1294 v1296 k0_hw169 k0_h58 => k0_hw169.2.2.1 k0_h58
theorem k0_off284_inb : ∀ (v1294 : BitVec 32) (v1296 : BitVec 32) (k0_hw169 : k0_chk169 v1294 v1296) (k0_t114 : Fin (k0_t114_loop v1294 v1296).trips), ∀ (k0_h58 : k0_cond58 v1294 = 1#1), ∀ a, (k0_off284 v1294 v1296 k0_t114) a + S1.size a ≤ S1024.size a := fun v1294 v1296 k0_hw169 k0_t114 k0_h58 => k0_hw169.2.2.2 k0_t114 k0_h58

def k0_off285 (v1496 : BitVec 32) : Fin 2 → Nat :=
  let v1497 : Index := Scalar.indexCast v1496
  let c0_653 : Index := 0#32
  ![v1497.toNat, 0]

def k0_chk171 (v1294 : BitVec 32) (v1496 : BitVec 32) : Prop :=
  (∀ (k0_h58 : k0_cond58 v1294 = 1#1), ∀ a, (k0_off285 v1496) a + S1x32.size a ≤ S1024x32.size a)
theorem k0_off285_inb : ∀ (v1294 : BitVec 32) (v1496 : BitVec 32) (k0_hw171 : k0_chk171 v1294 v1496), ∀ (k0_h58 : k0_cond58 v1294 = 1#1), ∀ a, (k0_off285 v1496) a + S1x32.size a ≤ S1024x32.size a := fun v1294 v1496 k0_hw171 k0_h58 => k0_hw171 k0_h58

def k0_off286 (i : grid0.Coords) : Fin 1 → Nat :=
  let arg0 : BitVec 32 := BitVec.ofNat 32 (i 0).val
  let c64_i32_570 : BitVec 32 := 64#32
  let v1314 : BitVec 32 := Scalar.muli arg0 c64_i32_570
  let c57_i32 : BitVec 32 := 57#32
  let v1315 : BitVec 32 := Scalar.addi v1314 c57_i32
  let v1316 : Index := Scalar.indexCast v1315
  ![v1316.toNat]
@[reducible] def k0_t115_loop (v1317 : BitVec 32) (v1319 : BitVec 32) : Scf.Loop 32 :=
  let v1485 : BitVec 32 := Scalar.addi v1319 v1317
  let v1487 : BitVec 32 := Scalar.subi v1485 v1319
  let c1_i32_650 : BitVec 32 := 1#32
  let v1489 : BitVec 32 := Scalar.divsi v1487 c1_i32_650
  let v1490 : BitVec 32 := Scalar.muli v1489 c1_i32_650
  let v1491 : BitVec 32 := Scalar.addi v1319 v1490
  let c1_i32_651 : BitVec 32 := 1#32
  ⟨v1319, v1491, c1_i32_651⟩
def k0_cond59 (v1317 : BitVec 32) : BitVec 1 :=
  let c0_i32_573 : BitVec 32 := 0#32
  let v1322 : BitVec 1 := Scalar.cmpi .sgt v1317 c0_i32_573
  let v1323 : BitVec 32 := Scalar.extui v1322
  let c0_i32_574 : BitVec 32 := 0#32
  let v1324 : BitVec 1 := Scalar.cmpi .ne v1323 c0_i32_574
  v1324

def k0_off287 (v1317 : BitVec 32) (v1319 : BitVec 32) (k0_t115 : Fin (k0_t115_loop v1317 v1319).trips) : Fin 1 → Nat :=
  let c1_i32_651 : BitVec 32 := 1#32
  let arg12 : BitVec 32 := Scf.iv v1319 c1_i32_651 k0_t115
  let v1495 : Index := Scalar.indexCast arg12
  ![v1495.toNat]
def k0_off288 (v1496 : BitVec 32) : Fin 2 → Nat :=
  let v1497 : Index := Scalar.indexCast v1496
  let c0_653 : Index := 0#32
  ![v1497.toNat, 0]

def k0_chk173 (v1317 : BitVec 32) (v1496 : BitVec 32) : Prop :=
  (∀ (k0_h59 : k0_cond59 v1317 = 1#1), ∀ a, (k0_off288 v1496) a + S1x32.size a ≤ S1024x32.size a)
theorem k0_off288_inb : ∀ (v1317 : BitVec 32) (v1496 : BitVec 32) (k0_hw173 : k0_chk173 v1317 v1496), ∀ (k0_h59 : k0_cond59 v1317 = 1#1), ∀ a, (k0_off288 v1496) a + S1x32.size a ≤ S1024x32.size a := fun v1317 v1496 k0_hw173 k0_h59 => k0_hw173 k0_h59

@[reducible] def k0_t116_loop (v1317 : BitVec 32) (v1319 : BitVec 32) : Scf.Loop 32 :=
  let v1485 : BitVec 32 := Scalar.addi v1319 v1317
  let v1487 : BitVec 32 := Scalar.subi v1485 v1319
  let c1_i32_650 : BitVec 32 := 1#32
  let v1489 : BitVec 32 := Scalar.divsi v1487 c1_i32_650
  let v1490 : BitVec 32 := Scalar.muli v1489 c1_i32_650
  let v1491 : BitVec 32 := Scalar.addi v1319 v1490
  let v1488 : BitVec 32 := Scalar.addi v1319 v1487
  let c1_i32_652 : BitVec 32 := 1#32
  ⟨v1491, v1488, c1_i32_652⟩
def k0_off289 (v1317 : BitVec 32) (v1319 : BitVec 32) (k0_t116 : Fin (k0_t116_loop v1317 v1319).trips) : Fin 1 → Nat :=
  let v1485 : BitVec 32 := Scalar.addi v1319 v1317
  let v1487 : BitVec 32 := Scalar.subi v1485 v1319
  let c1_i32_650 : BitVec 32 := 1#32
  let v1489 : BitVec 32 := Scalar.divsi v1487 c1_i32_650
  let v1490 : BitVec 32 := Scalar.muli v1489 c1_i32_650
  let v1491 : BitVec 32 := Scalar.addi v1319 v1490
  let c1_i32_652 : BitVec 32 := 1#32
  let arg12 : BitVec 32 := Scf.iv v1491 c1_i32_652 k0_t116
  let v1495 : Index := Scalar.indexCast arg12
  ![v1495.toNat]

def k0_chk172 (v1317 : BitVec 32) (v1319 : BitVec 32) : Prop :=
  (∀ (k0_h59 : k0_cond59 v1317 = 1#1), (k0_t115_loop v1317 v1319).OK) ∧
  (∀ k0_t115 : Fin (k0_t115_loop v1317 v1319).trips, ∀ (k0_h59 : k0_cond59 v1317 = 1#1), ∀ a, (k0_off287 v1317 v1319 k0_t115) a + S1.size a ≤ S1024.size a) ∧
  (∀ (k0_h59 : k0_cond59 v1317 = 1#1), (k0_t116_loop v1317 v1319).OK) ∧
  (∀ k0_t116 : Fin (k0_t116_loop v1317 v1319).trips, ∀ (k0_h59 : k0_cond59 v1317 = 1#1), ∀ a, (k0_off289 v1317 v1319 k0_t116) a + S1.size a ≤ S1024.size a)
theorem k0_t115_ok : ∀ (v1317 : BitVec 32) (v1319 : BitVec 32) (k0_hw172 : k0_chk172 v1317 v1319), ∀ (k0_h59 : k0_cond59 v1317 = 1#1), (k0_t115_loop v1317 v1319).OK := fun v1317 v1319 k0_hw172 k0_h59 => k0_hw172.1 k0_h59
theorem k0_off287_inb : ∀ (v1317 : BitVec 32) (v1319 : BitVec 32) (k0_hw172 : k0_chk172 v1317 v1319) (k0_t115 : Fin (k0_t115_loop v1317 v1319).trips), ∀ (k0_h59 : k0_cond59 v1317 = 1#1), ∀ a, (k0_off287 v1317 v1319 k0_t115) a + S1.size a ≤ S1024.size a := fun v1317 v1319 k0_hw172 k0_t115 k0_h59 => k0_hw172.2.1 k0_t115 k0_h59
theorem k0_t116_ok : ∀ (v1317 : BitVec 32) (v1319 : BitVec 32) (k0_hw172 : k0_chk172 v1317 v1319), ∀ (k0_h59 : k0_cond59 v1317 = 1#1), (k0_t116_loop v1317 v1319).OK := fun v1317 v1319 k0_hw172 k0_h59 => k0_hw172.2.2.1 k0_h59
theorem k0_off289_inb : ∀ (v1317 : BitVec 32) (v1319 : BitVec 32) (k0_hw172 : k0_chk172 v1317 v1319) (k0_t116 : Fin (k0_t116_loop v1317 v1319).trips), ∀ (k0_h59 : k0_cond59 v1317 = 1#1), ∀ a, (k0_off289 v1317 v1319 k0_t116) a + S1.size a ≤ S1024.size a := fun v1317 v1319 k0_hw172 k0_t116 k0_h59 => k0_hw172.2.2.2 k0_t116 k0_h59

def k0_off290 (v1496 : BitVec 32) : Fin 2 → Nat :=
  let v1497 : Index := Scalar.indexCast v1496
  let c0_653 : Index := 0#32
  ![v1497.toNat, 0]

def k0_chk174 (v1317 : BitVec 32) (v1496 : BitVec 32) : Prop :=
  (∀ (k0_h59 : k0_cond59 v1317 = 1#1), ∀ a, (k0_off290 v1496) a + S1x32.size a ≤ S1024x32.size a)
theorem k0_off290_inb : ∀ (v1317 : BitVec 32) (v1496 : BitVec 32) (k0_hw174 : k0_chk174 v1317 v1496), ∀ (k0_h59 : k0_cond59 v1317 = 1#1), ∀ a, (k0_off290 v1496) a + S1x32.size a ≤ S1024x32.size a := fun v1317 v1496 k0_hw174 k0_h59 => k0_hw174 k0_h59

def k0_off291 (i : grid0.Coords) : Fin 1 → Nat :=
  let arg0 : BitVec 32 := BitVec.ofNat 32 (i 0).val
  let c64_i32_580 : BitVec 32 := 64#32
  let v1337 : BitVec 32 := Scalar.muli arg0 c64_i32_580
  let c58_i32 : BitVec 32 := 58#32
  let v1338 : BitVec 32 := Scalar.addi v1337 c58_i32
  let v1339 : Index := Scalar.indexCast v1338
  ![v1339.toNat]
@[reducible] def k0_t117_loop (v1340 : BitVec 32) (v1342 : BitVec 32) : Scf.Loop 32 :=
  let v1485 : BitVec 32 := Scalar.addi v1342 v1340
  let v1487 : BitVec 32 := Scalar.subi v1485 v1342
  let c1_i32_650 : BitVec 32 := 1#32
  let v1489 : BitVec 32 := Scalar.divsi v1487 c1_i32_650
  let v1490 : BitVec 32 := Scalar.muli v1489 c1_i32_650
  let v1491 : BitVec 32 := Scalar.addi v1342 v1490
  let c1_i32_651 : BitVec 32 := 1#32
  ⟨v1342, v1491, c1_i32_651⟩
def k0_cond60 (v1340 : BitVec 32) : BitVec 1 :=
  let c0_i32_583 : BitVec 32 := 0#32
  let v1345 : BitVec 1 := Scalar.cmpi .sgt v1340 c0_i32_583
  let v1346 : BitVec 32 := Scalar.extui v1345
  let c0_i32_584 : BitVec 32 := 0#32
  let v1347 : BitVec 1 := Scalar.cmpi .ne v1346 c0_i32_584
  v1347

def k0_off292 (v1340 : BitVec 32) (v1342 : BitVec 32) (k0_t117 : Fin (k0_t117_loop v1340 v1342).trips) : Fin 1 → Nat :=
  let c1_i32_651 : BitVec 32 := 1#32
  let arg12 : BitVec 32 := Scf.iv v1342 c1_i32_651 k0_t117
  let v1495 : Index := Scalar.indexCast arg12
  ![v1495.toNat]
def k0_off293 (v1496 : BitVec 32) : Fin 2 → Nat :=
  let v1497 : Index := Scalar.indexCast v1496
  let c0_653 : Index := 0#32
  ![v1497.toNat, 0]

def k0_chk176 (v1340 : BitVec 32) (v1496 : BitVec 32) : Prop :=
  (∀ (k0_h60 : k0_cond60 v1340 = 1#1), ∀ a, (k0_off293 v1496) a + S1x32.size a ≤ S1024x32.size a)
theorem k0_off293_inb : ∀ (v1340 : BitVec 32) (v1496 : BitVec 32) (k0_hw176 : k0_chk176 v1340 v1496), ∀ (k0_h60 : k0_cond60 v1340 = 1#1), ∀ a, (k0_off293 v1496) a + S1x32.size a ≤ S1024x32.size a := fun v1340 v1496 k0_hw176 k0_h60 => k0_hw176 k0_h60

@[reducible] def k0_t118_loop (v1340 : BitVec 32) (v1342 : BitVec 32) : Scf.Loop 32 :=
  let v1485 : BitVec 32 := Scalar.addi v1342 v1340
  let v1487 : BitVec 32 := Scalar.subi v1485 v1342
  let c1_i32_650 : BitVec 32 := 1#32
  let v1489 : BitVec 32 := Scalar.divsi v1487 c1_i32_650
  let v1490 : BitVec 32 := Scalar.muli v1489 c1_i32_650
  let v1491 : BitVec 32 := Scalar.addi v1342 v1490
  let v1488 : BitVec 32 := Scalar.addi v1342 v1487
  let c1_i32_652 : BitVec 32 := 1#32
  ⟨v1491, v1488, c1_i32_652⟩
def k0_off294 (v1340 : BitVec 32) (v1342 : BitVec 32) (k0_t118 : Fin (k0_t118_loop v1340 v1342).trips) : Fin 1 → Nat :=
  let v1485 : BitVec 32 := Scalar.addi v1342 v1340
  let v1487 : BitVec 32 := Scalar.subi v1485 v1342
  let c1_i32_650 : BitVec 32 := 1#32
  let v1489 : BitVec 32 := Scalar.divsi v1487 c1_i32_650
  let v1490 : BitVec 32 := Scalar.muli v1489 c1_i32_650
  let v1491 : BitVec 32 := Scalar.addi v1342 v1490
  let c1_i32_652 : BitVec 32 := 1#32
  let arg12 : BitVec 32 := Scf.iv v1491 c1_i32_652 k0_t118
  let v1495 : Index := Scalar.indexCast arg12
  ![v1495.toNat]

def k0_chk175 (v1340 : BitVec 32) (v1342 : BitVec 32) : Prop :=
  (∀ (k0_h60 : k0_cond60 v1340 = 1#1), (k0_t117_loop v1340 v1342).OK) ∧
  (∀ k0_t117 : Fin (k0_t117_loop v1340 v1342).trips, ∀ (k0_h60 : k0_cond60 v1340 = 1#1), ∀ a, (k0_off292 v1340 v1342 k0_t117) a + S1.size a ≤ S1024.size a) ∧
  (∀ (k0_h60 : k0_cond60 v1340 = 1#1), (k0_t118_loop v1340 v1342).OK) ∧
  (∀ k0_t118 : Fin (k0_t118_loop v1340 v1342).trips, ∀ (k0_h60 : k0_cond60 v1340 = 1#1), ∀ a, (k0_off294 v1340 v1342 k0_t118) a + S1.size a ≤ S1024.size a)
theorem k0_t117_ok : ∀ (v1340 : BitVec 32) (v1342 : BitVec 32) (k0_hw175 : k0_chk175 v1340 v1342), ∀ (k0_h60 : k0_cond60 v1340 = 1#1), (k0_t117_loop v1340 v1342).OK := fun v1340 v1342 k0_hw175 k0_h60 => k0_hw175.1 k0_h60
theorem k0_off292_inb : ∀ (v1340 : BitVec 32) (v1342 : BitVec 32) (k0_hw175 : k0_chk175 v1340 v1342) (k0_t117 : Fin (k0_t117_loop v1340 v1342).trips), ∀ (k0_h60 : k0_cond60 v1340 = 1#1), ∀ a, (k0_off292 v1340 v1342 k0_t117) a + S1.size a ≤ S1024.size a := fun v1340 v1342 k0_hw175 k0_t117 k0_h60 => k0_hw175.2.1 k0_t117 k0_h60
theorem k0_t118_ok : ∀ (v1340 : BitVec 32) (v1342 : BitVec 32) (k0_hw175 : k0_chk175 v1340 v1342), ∀ (k0_h60 : k0_cond60 v1340 = 1#1), (k0_t118_loop v1340 v1342).OK := fun v1340 v1342 k0_hw175 k0_h60 => k0_hw175.2.2.1 k0_h60
theorem k0_off294_inb : ∀ (v1340 : BitVec 32) (v1342 : BitVec 32) (k0_hw175 : k0_chk175 v1340 v1342) (k0_t118 : Fin (k0_t118_loop v1340 v1342).trips), ∀ (k0_h60 : k0_cond60 v1340 = 1#1), ∀ a, (k0_off294 v1340 v1342 k0_t118) a + S1.size a ≤ S1024.size a := fun v1340 v1342 k0_hw175 k0_t118 k0_h60 => k0_hw175.2.2.2 k0_t118 k0_h60

def k0_off295 (v1496 : BitVec 32) : Fin 2 → Nat :=
  let v1497 : Index := Scalar.indexCast v1496
  let c0_653 : Index := 0#32
  ![v1497.toNat, 0]

def k0_chk177 (v1340 : BitVec 32) (v1496 : BitVec 32) : Prop :=
  (∀ (k0_h60 : k0_cond60 v1340 = 1#1), ∀ a, (k0_off295 v1496) a + S1x32.size a ≤ S1024x32.size a)
theorem k0_off295_inb : ∀ (v1340 : BitVec 32) (v1496 : BitVec 32) (k0_hw177 : k0_chk177 v1340 v1496), ∀ (k0_h60 : k0_cond60 v1340 = 1#1), ∀ a, (k0_off295 v1496) a + S1x32.size a ≤ S1024x32.size a := fun v1340 v1496 k0_hw177 k0_h60 => k0_hw177 k0_h60

def k0_off296 (i : grid0.Coords) : Fin 1 → Nat :=
  let arg0 : BitVec 32 := BitVec.ofNat 32 (i 0).val
  let c64_i32_590 : BitVec 32 := 64#32
  let v1360 : BitVec 32 := Scalar.muli arg0 c64_i32_590
  let c59_i32 : BitVec 32 := 59#32
  let v1361 : BitVec 32 := Scalar.addi v1360 c59_i32
  let v1362 : Index := Scalar.indexCast v1361
  ![v1362.toNat]
@[reducible] def k0_t119_loop (v1363 : BitVec 32) (v1365 : BitVec 32) : Scf.Loop 32 :=
  let v1485 : BitVec 32 := Scalar.addi v1365 v1363
  let v1487 : BitVec 32 := Scalar.subi v1485 v1365
  let c1_i32_650 : BitVec 32 := 1#32
  let v1489 : BitVec 32 := Scalar.divsi v1487 c1_i32_650
  let v1490 : BitVec 32 := Scalar.muli v1489 c1_i32_650
  let v1491 : BitVec 32 := Scalar.addi v1365 v1490
  let c1_i32_651 : BitVec 32 := 1#32
  ⟨v1365, v1491, c1_i32_651⟩
def k0_cond61 (v1363 : BitVec 32) : BitVec 1 :=
  let c0_i32_593 : BitVec 32 := 0#32
  let v1368 : BitVec 1 := Scalar.cmpi .sgt v1363 c0_i32_593
  let v1369 : BitVec 32 := Scalar.extui v1368
  let c0_i32_594 : BitVec 32 := 0#32
  let v1370 : BitVec 1 := Scalar.cmpi .ne v1369 c0_i32_594
  v1370

def k0_off297 (v1363 : BitVec 32) (v1365 : BitVec 32) (k0_t119 : Fin (k0_t119_loop v1363 v1365).trips) : Fin 1 → Nat :=
  let c1_i32_651 : BitVec 32 := 1#32
  let arg12 : BitVec 32 := Scf.iv v1365 c1_i32_651 k0_t119
  let v1495 : Index := Scalar.indexCast arg12
  ![v1495.toNat]
def k0_off298 (v1496 : BitVec 32) : Fin 2 → Nat :=
  let v1497 : Index := Scalar.indexCast v1496
  let c0_653 : Index := 0#32
  ![v1497.toNat, 0]

def k0_chk179 (v1363 : BitVec 32) (v1496 : BitVec 32) : Prop :=
  (∀ (k0_h61 : k0_cond61 v1363 = 1#1), ∀ a, (k0_off298 v1496) a + S1x32.size a ≤ S1024x32.size a)
theorem k0_off298_inb : ∀ (v1363 : BitVec 32) (v1496 : BitVec 32) (k0_hw179 : k0_chk179 v1363 v1496), ∀ (k0_h61 : k0_cond61 v1363 = 1#1), ∀ a, (k0_off298 v1496) a + S1x32.size a ≤ S1024x32.size a := fun v1363 v1496 k0_hw179 k0_h61 => k0_hw179 k0_h61

@[reducible] def k0_t120_loop (v1363 : BitVec 32) (v1365 : BitVec 32) : Scf.Loop 32 :=
  let v1485 : BitVec 32 := Scalar.addi v1365 v1363
  let v1487 : BitVec 32 := Scalar.subi v1485 v1365
  let c1_i32_650 : BitVec 32 := 1#32
  let v1489 : BitVec 32 := Scalar.divsi v1487 c1_i32_650
  let v1490 : BitVec 32 := Scalar.muli v1489 c1_i32_650
  let v1491 : BitVec 32 := Scalar.addi v1365 v1490
  let v1488 : BitVec 32 := Scalar.addi v1365 v1487
  let c1_i32_652 : BitVec 32 := 1#32
  ⟨v1491, v1488, c1_i32_652⟩
def k0_off299 (v1363 : BitVec 32) (v1365 : BitVec 32) (k0_t120 : Fin (k0_t120_loop v1363 v1365).trips) : Fin 1 → Nat :=
  let v1485 : BitVec 32 := Scalar.addi v1365 v1363
  let v1487 : BitVec 32 := Scalar.subi v1485 v1365
  let c1_i32_650 : BitVec 32 := 1#32
  let v1489 : BitVec 32 := Scalar.divsi v1487 c1_i32_650
  let v1490 : BitVec 32 := Scalar.muli v1489 c1_i32_650
  let v1491 : BitVec 32 := Scalar.addi v1365 v1490
  let c1_i32_652 : BitVec 32 := 1#32
  let arg12 : BitVec 32 := Scf.iv v1491 c1_i32_652 k0_t120
  let v1495 : Index := Scalar.indexCast arg12
  ![v1495.toNat]

def k0_chk178 (v1363 : BitVec 32) (v1365 : BitVec 32) : Prop :=
  (∀ (k0_h61 : k0_cond61 v1363 = 1#1), (k0_t119_loop v1363 v1365).OK) ∧
  (∀ k0_t119 : Fin (k0_t119_loop v1363 v1365).trips, ∀ (k0_h61 : k0_cond61 v1363 = 1#1), ∀ a, (k0_off297 v1363 v1365 k0_t119) a + S1.size a ≤ S1024.size a) ∧
  (∀ (k0_h61 : k0_cond61 v1363 = 1#1), (k0_t120_loop v1363 v1365).OK) ∧
  (∀ k0_t120 : Fin (k0_t120_loop v1363 v1365).trips, ∀ (k0_h61 : k0_cond61 v1363 = 1#1), ∀ a, (k0_off299 v1363 v1365 k0_t120) a + S1.size a ≤ S1024.size a)
theorem k0_t119_ok : ∀ (v1363 : BitVec 32) (v1365 : BitVec 32) (k0_hw178 : k0_chk178 v1363 v1365), ∀ (k0_h61 : k0_cond61 v1363 = 1#1), (k0_t119_loop v1363 v1365).OK := fun v1363 v1365 k0_hw178 k0_h61 => k0_hw178.1 k0_h61
theorem k0_off297_inb : ∀ (v1363 : BitVec 32) (v1365 : BitVec 32) (k0_hw178 : k0_chk178 v1363 v1365) (k0_t119 : Fin (k0_t119_loop v1363 v1365).trips), ∀ (k0_h61 : k0_cond61 v1363 = 1#1), ∀ a, (k0_off297 v1363 v1365 k0_t119) a + S1.size a ≤ S1024.size a := fun v1363 v1365 k0_hw178 k0_t119 k0_h61 => k0_hw178.2.1 k0_t119 k0_h61
theorem k0_t120_ok : ∀ (v1363 : BitVec 32) (v1365 : BitVec 32) (k0_hw178 : k0_chk178 v1363 v1365), ∀ (k0_h61 : k0_cond61 v1363 = 1#1), (k0_t120_loop v1363 v1365).OK := fun v1363 v1365 k0_hw178 k0_h61 => k0_hw178.2.2.1 k0_h61
theorem k0_off299_inb : ∀ (v1363 : BitVec 32) (v1365 : BitVec 32) (k0_hw178 : k0_chk178 v1363 v1365) (k0_t120 : Fin (k0_t120_loop v1363 v1365).trips), ∀ (k0_h61 : k0_cond61 v1363 = 1#1), ∀ a, (k0_off299 v1363 v1365 k0_t120) a + S1.size a ≤ S1024.size a := fun v1363 v1365 k0_hw178 k0_t120 k0_h61 => k0_hw178.2.2.2 k0_t120 k0_h61

def k0_off300 (v1496 : BitVec 32) : Fin 2 → Nat :=
  let v1497 : Index := Scalar.indexCast v1496
  let c0_653 : Index := 0#32
  ![v1497.toNat, 0]

def k0_chk180 (v1363 : BitVec 32) (v1496 : BitVec 32) : Prop :=
  (∀ (k0_h61 : k0_cond61 v1363 = 1#1), ∀ a, (k0_off300 v1496) a + S1x32.size a ≤ S1024x32.size a)
theorem k0_off300_inb : ∀ (v1363 : BitVec 32) (v1496 : BitVec 32) (k0_hw180 : k0_chk180 v1363 v1496), ∀ (k0_h61 : k0_cond61 v1363 = 1#1), ∀ a, (k0_off300 v1496) a + S1x32.size a ≤ S1024x32.size a := fun v1363 v1496 k0_hw180 k0_h61 => k0_hw180 k0_h61

def k0_off301 (i : grid0.Coords) : Fin 1 → Nat :=
  let arg0 : BitVec 32 := BitVec.ofNat 32 (i 0).val
  let c64_i32_600 : BitVec 32 := 64#32
  let v1383 : BitVec 32 := Scalar.muli arg0 c64_i32_600
  let c60_i32 : BitVec 32 := 60#32
  let v1384 : BitVec 32 := Scalar.addi v1383 c60_i32
  let v1385 : Index := Scalar.indexCast v1384
  ![v1385.toNat]
@[reducible] def k0_t121_loop (v1386 : BitVec 32) (v1388 : BitVec 32) : Scf.Loop 32 :=
  let v1485 : BitVec 32 := Scalar.addi v1388 v1386
  let v1487 : BitVec 32 := Scalar.subi v1485 v1388
  let c1_i32_650 : BitVec 32 := 1#32
  let v1489 : BitVec 32 := Scalar.divsi v1487 c1_i32_650
  let v1490 : BitVec 32 := Scalar.muli v1489 c1_i32_650
  let v1491 : BitVec 32 := Scalar.addi v1388 v1490
  let c1_i32_651 : BitVec 32 := 1#32
  ⟨v1388, v1491, c1_i32_651⟩
def k0_cond62 (v1386 : BitVec 32) : BitVec 1 :=
  let c0_i32_603 : BitVec 32 := 0#32
  let v1391 : BitVec 1 := Scalar.cmpi .sgt v1386 c0_i32_603
  let v1392 : BitVec 32 := Scalar.extui v1391
  let c0_i32_604 : BitVec 32 := 0#32
  let v1393 : BitVec 1 := Scalar.cmpi .ne v1392 c0_i32_604
  v1393

def k0_off302 (v1386 : BitVec 32) (v1388 : BitVec 32) (k0_t121 : Fin (k0_t121_loop v1386 v1388).trips) : Fin 1 → Nat :=
  let c1_i32_651 : BitVec 32 := 1#32
  let arg12 : BitVec 32 := Scf.iv v1388 c1_i32_651 k0_t121
  let v1495 : Index := Scalar.indexCast arg12
  ![v1495.toNat]
def k0_off303 (v1496 : BitVec 32) : Fin 2 → Nat :=
  let v1497 : Index := Scalar.indexCast v1496
  let c0_653 : Index := 0#32
  ![v1497.toNat, 0]

def k0_chk182 (v1386 : BitVec 32) (v1496 : BitVec 32) : Prop :=
  (∀ (k0_h62 : k0_cond62 v1386 = 1#1), ∀ a, (k0_off303 v1496) a + S1x32.size a ≤ S1024x32.size a)
theorem k0_off303_inb : ∀ (v1386 : BitVec 32) (v1496 : BitVec 32) (k0_hw182 : k0_chk182 v1386 v1496), ∀ (k0_h62 : k0_cond62 v1386 = 1#1), ∀ a, (k0_off303 v1496) a + S1x32.size a ≤ S1024x32.size a := fun v1386 v1496 k0_hw182 k0_h62 => k0_hw182 k0_h62

@[reducible] def k0_t122_loop (v1386 : BitVec 32) (v1388 : BitVec 32) : Scf.Loop 32 :=
  let v1485 : BitVec 32 := Scalar.addi v1388 v1386
  let v1487 : BitVec 32 := Scalar.subi v1485 v1388
  let c1_i32_650 : BitVec 32 := 1#32
  let v1489 : BitVec 32 := Scalar.divsi v1487 c1_i32_650
  let v1490 : BitVec 32 := Scalar.muli v1489 c1_i32_650
  let v1491 : BitVec 32 := Scalar.addi v1388 v1490
  let v1488 : BitVec 32 := Scalar.addi v1388 v1487
  let c1_i32_652 : BitVec 32 := 1#32
  ⟨v1491, v1488, c1_i32_652⟩
def k0_off304 (v1386 : BitVec 32) (v1388 : BitVec 32) (k0_t122 : Fin (k0_t122_loop v1386 v1388).trips) : Fin 1 → Nat :=
  let v1485 : BitVec 32 := Scalar.addi v1388 v1386
  let v1487 : BitVec 32 := Scalar.subi v1485 v1388
  let c1_i32_650 : BitVec 32 := 1#32
  let v1489 : BitVec 32 := Scalar.divsi v1487 c1_i32_650
  let v1490 : BitVec 32 := Scalar.muli v1489 c1_i32_650
  let v1491 : BitVec 32 := Scalar.addi v1388 v1490
  let c1_i32_652 : BitVec 32 := 1#32
  let arg12 : BitVec 32 := Scf.iv v1491 c1_i32_652 k0_t122
  let v1495 : Index := Scalar.indexCast arg12
  ![v1495.toNat]

def k0_chk181 (v1386 : BitVec 32) (v1388 : BitVec 32) : Prop :=
  (∀ (k0_h62 : k0_cond62 v1386 = 1#1), (k0_t121_loop v1386 v1388).OK) ∧
  (∀ k0_t121 : Fin (k0_t121_loop v1386 v1388).trips, ∀ (k0_h62 : k0_cond62 v1386 = 1#1), ∀ a, (k0_off302 v1386 v1388 k0_t121) a + S1.size a ≤ S1024.size a) ∧
  (∀ (k0_h62 : k0_cond62 v1386 = 1#1), (k0_t122_loop v1386 v1388).OK) ∧
  (∀ k0_t122 : Fin (k0_t122_loop v1386 v1388).trips, ∀ (k0_h62 : k0_cond62 v1386 = 1#1), ∀ a, (k0_off304 v1386 v1388 k0_t122) a + S1.size a ≤ S1024.size a)
theorem k0_t121_ok : ∀ (v1386 : BitVec 32) (v1388 : BitVec 32) (k0_hw181 : k0_chk181 v1386 v1388), ∀ (k0_h62 : k0_cond62 v1386 = 1#1), (k0_t121_loop v1386 v1388).OK := fun v1386 v1388 k0_hw181 k0_h62 => k0_hw181.1 k0_h62
theorem k0_off302_inb : ∀ (v1386 : BitVec 32) (v1388 : BitVec 32) (k0_hw181 : k0_chk181 v1386 v1388) (k0_t121 : Fin (k0_t121_loop v1386 v1388).trips), ∀ (k0_h62 : k0_cond62 v1386 = 1#1), ∀ a, (k0_off302 v1386 v1388 k0_t121) a + S1.size a ≤ S1024.size a := fun v1386 v1388 k0_hw181 k0_t121 k0_h62 => k0_hw181.2.1 k0_t121 k0_h62
theorem k0_t122_ok : ∀ (v1386 : BitVec 32) (v1388 : BitVec 32) (k0_hw181 : k0_chk181 v1386 v1388), ∀ (k0_h62 : k0_cond62 v1386 = 1#1), (k0_t122_loop v1386 v1388).OK := fun v1386 v1388 k0_hw181 k0_h62 => k0_hw181.2.2.1 k0_h62
theorem k0_off304_inb : ∀ (v1386 : BitVec 32) (v1388 : BitVec 32) (k0_hw181 : k0_chk181 v1386 v1388) (k0_t122 : Fin (k0_t122_loop v1386 v1388).trips), ∀ (k0_h62 : k0_cond62 v1386 = 1#1), ∀ a, (k0_off304 v1386 v1388 k0_t122) a + S1.size a ≤ S1024.size a := fun v1386 v1388 k0_hw181 k0_t122 k0_h62 => k0_hw181.2.2.2 k0_t122 k0_h62

def k0_off305 (v1496 : BitVec 32) : Fin 2 → Nat :=
  let v1497 : Index := Scalar.indexCast v1496
  let c0_653 : Index := 0#32
  ![v1497.toNat, 0]

def k0_chk183 (v1386 : BitVec 32) (v1496 : BitVec 32) : Prop :=
  (∀ (k0_h62 : k0_cond62 v1386 = 1#1), ∀ a, (k0_off305 v1496) a + S1x32.size a ≤ S1024x32.size a)
theorem k0_off305_inb : ∀ (v1386 : BitVec 32) (v1496 : BitVec 32) (k0_hw183 : k0_chk183 v1386 v1496), ∀ (k0_h62 : k0_cond62 v1386 = 1#1), ∀ a, (k0_off305 v1496) a + S1x32.size a ≤ S1024x32.size a := fun v1386 v1496 k0_hw183 k0_h62 => k0_hw183 k0_h62

def k0_off306 (i : grid0.Coords) : Fin 1 → Nat :=
  let arg0 : BitVec 32 := BitVec.ofNat 32 (i 0).val
  let c64_i32_610 : BitVec 32 := 64#32
  let v1406 : BitVec 32 := Scalar.muli arg0 c64_i32_610
  let c61_i32 : BitVec 32 := 61#32
  let v1407 : BitVec 32 := Scalar.addi v1406 c61_i32
  let v1408 : Index := Scalar.indexCast v1407
  ![v1408.toNat]
@[reducible] def k0_t123_loop (v1409 : BitVec 32) (v1411 : BitVec 32) : Scf.Loop 32 :=
  let v1485 : BitVec 32 := Scalar.addi v1411 v1409
  let v1487 : BitVec 32 := Scalar.subi v1485 v1411
  let c1_i32_650 : BitVec 32 := 1#32
  let v1489 : BitVec 32 := Scalar.divsi v1487 c1_i32_650
  let v1490 : BitVec 32 := Scalar.muli v1489 c1_i32_650
  let v1491 : BitVec 32 := Scalar.addi v1411 v1490
  let c1_i32_651 : BitVec 32 := 1#32
  ⟨v1411, v1491, c1_i32_651⟩
def k0_cond63 (v1409 : BitVec 32) : BitVec 1 :=
  let c0_i32_613 : BitVec 32 := 0#32
  let v1414 : BitVec 1 := Scalar.cmpi .sgt v1409 c0_i32_613
  let v1415 : BitVec 32 := Scalar.extui v1414
  let c0_i32_614 : BitVec 32 := 0#32
  let v1416 : BitVec 1 := Scalar.cmpi .ne v1415 c0_i32_614
  v1416

def k0_off307 (v1409 : BitVec 32) (v1411 : BitVec 32) (k0_t123 : Fin (k0_t123_loop v1409 v1411).trips) : Fin 1 → Nat :=
  let c1_i32_651 : BitVec 32 := 1#32
  let arg12 : BitVec 32 := Scf.iv v1411 c1_i32_651 k0_t123
  let v1495 : Index := Scalar.indexCast arg12
  ![v1495.toNat]
def k0_off308 (v1496 : BitVec 32) : Fin 2 → Nat :=
  let v1497 : Index := Scalar.indexCast v1496
  let c0_653 : Index := 0#32
  ![v1497.toNat, 0]

def k0_chk185 (v1409 : BitVec 32) (v1496 : BitVec 32) : Prop :=
  (∀ (k0_h63 : k0_cond63 v1409 = 1#1), ∀ a, (k0_off308 v1496) a + S1x32.size a ≤ S1024x32.size a)
theorem k0_off308_inb : ∀ (v1409 : BitVec 32) (v1496 : BitVec 32) (k0_hw185 : k0_chk185 v1409 v1496), ∀ (k0_h63 : k0_cond63 v1409 = 1#1), ∀ a, (k0_off308 v1496) a + S1x32.size a ≤ S1024x32.size a := fun v1409 v1496 k0_hw185 k0_h63 => k0_hw185 k0_h63

@[reducible] def k0_t124_loop (v1409 : BitVec 32) (v1411 : BitVec 32) : Scf.Loop 32 :=
  let v1485 : BitVec 32 := Scalar.addi v1411 v1409
  let v1487 : BitVec 32 := Scalar.subi v1485 v1411
  let c1_i32_650 : BitVec 32 := 1#32
  let v1489 : BitVec 32 := Scalar.divsi v1487 c1_i32_650
  let v1490 : BitVec 32 := Scalar.muli v1489 c1_i32_650
  let v1491 : BitVec 32 := Scalar.addi v1411 v1490
  let v1488 : BitVec 32 := Scalar.addi v1411 v1487
  let c1_i32_652 : BitVec 32 := 1#32
  ⟨v1491, v1488, c1_i32_652⟩
def k0_off309 (v1409 : BitVec 32) (v1411 : BitVec 32) (k0_t124 : Fin (k0_t124_loop v1409 v1411).trips) : Fin 1 → Nat :=
  let v1485 : BitVec 32 := Scalar.addi v1411 v1409
  let v1487 : BitVec 32 := Scalar.subi v1485 v1411
  let c1_i32_650 : BitVec 32 := 1#32
  let v1489 : BitVec 32 := Scalar.divsi v1487 c1_i32_650
  let v1490 : BitVec 32 := Scalar.muli v1489 c1_i32_650
  let v1491 : BitVec 32 := Scalar.addi v1411 v1490
  let c1_i32_652 : BitVec 32 := 1#32
  let arg12 : BitVec 32 := Scf.iv v1491 c1_i32_652 k0_t124
  let v1495 : Index := Scalar.indexCast arg12
  ![v1495.toNat]

def k0_chk184 (v1409 : BitVec 32) (v1411 : BitVec 32) : Prop :=
  (∀ (k0_h63 : k0_cond63 v1409 = 1#1), (k0_t123_loop v1409 v1411).OK) ∧
  (∀ k0_t123 : Fin (k0_t123_loop v1409 v1411).trips, ∀ (k0_h63 : k0_cond63 v1409 = 1#1), ∀ a, (k0_off307 v1409 v1411 k0_t123) a + S1.size a ≤ S1024.size a) ∧
  (∀ (k0_h63 : k0_cond63 v1409 = 1#1), (k0_t124_loop v1409 v1411).OK) ∧
  (∀ k0_t124 : Fin (k0_t124_loop v1409 v1411).trips, ∀ (k0_h63 : k0_cond63 v1409 = 1#1), ∀ a, (k0_off309 v1409 v1411 k0_t124) a + S1.size a ≤ S1024.size a)
theorem k0_t123_ok : ∀ (v1409 : BitVec 32) (v1411 : BitVec 32) (k0_hw184 : k0_chk184 v1409 v1411), ∀ (k0_h63 : k0_cond63 v1409 = 1#1), (k0_t123_loop v1409 v1411).OK := fun v1409 v1411 k0_hw184 k0_h63 => k0_hw184.1 k0_h63
theorem k0_off307_inb : ∀ (v1409 : BitVec 32) (v1411 : BitVec 32) (k0_hw184 : k0_chk184 v1409 v1411) (k0_t123 : Fin (k0_t123_loop v1409 v1411).trips), ∀ (k0_h63 : k0_cond63 v1409 = 1#1), ∀ a, (k0_off307 v1409 v1411 k0_t123) a + S1.size a ≤ S1024.size a := fun v1409 v1411 k0_hw184 k0_t123 k0_h63 => k0_hw184.2.1 k0_t123 k0_h63
theorem k0_t124_ok : ∀ (v1409 : BitVec 32) (v1411 : BitVec 32) (k0_hw184 : k0_chk184 v1409 v1411), ∀ (k0_h63 : k0_cond63 v1409 = 1#1), (k0_t124_loop v1409 v1411).OK := fun v1409 v1411 k0_hw184 k0_h63 => k0_hw184.2.2.1 k0_h63
theorem k0_off309_inb : ∀ (v1409 : BitVec 32) (v1411 : BitVec 32) (k0_hw184 : k0_chk184 v1409 v1411) (k0_t124 : Fin (k0_t124_loop v1409 v1411).trips), ∀ (k0_h63 : k0_cond63 v1409 = 1#1), ∀ a, (k0_off309 v1409 v1411 k0_t124) a + S1.size a ≤ S1024.size a := fun v1409 v1411 k0_hw184 k0_t124 k0_h63 => k0_hw184.2.2.2 k0_t124 k0_h63

def k0_off310 (v1496 : BitVec 32) : Fin 2 → Nat :=
  let v1497 : Index := Scalar.indexCast v1496
  let c0_653 : Index := 0#32
  ![v1497.toNat, 0]

def k0_chk186 (v1409 : BitVec 32) (v1496 : BitVec 32) : Prop :=
  (∀ (k0_h63 : k0_cond63 v1409 = 1#1), ∀ a, (k0_off310 v1496) a + S1x32.size a ≤ S1024x32.size a)
theorem k0_off310_inb : ∀ (v1409 : BitVec 32) (v1496 : BitVec 32) (k0_hw186 : k0_chk186 v1409 v1496), ∀ (k0_h63 : k0_cond63 v1409 = 1#1), ∀ a, (k0_off310 v1496) a + S1x32.size a ≤ S1024x32.size a := fun v1409 v1496 k0_hw186 k0_h63 => k0_hw186 k0_h63

def k0_off311 (i : grid0.Coords) : Fin 1 → Nat :=
  let arg0 : BitVec 32 := BitVec.ofNat 32 (i 0).val
  let c64_i32_620 : BitVec 32 := 64#32
  let v1429 : BitVec 32 := Scalar.muli arg0 c64_i32_620
  let c62_i32 : BitVec 32 := 62#32
  let v1430 : BitVec 32 := Scalar.addi v1429 c62_i32
  let v1431 : Index := Scalar.indexCast v1430
  ![v1431.toNat]
@[reducible] def k0_t125_loop (v1432 : BitVec 32) (v1434 : BitVec 32) : Scf.Loop 32 :=
  let v1485 : BitVec 32 := Scalar.addi v1434 v1432
  let v1487 : BitVec 32 := Scalar.subi v1485 v1434
  let c1_i32_650 : BitVec 32 := 1#32
  let v1489 : BitVec 32 := Scalar.divsi v1487 c1_i32_650
  let v1490 : BitVec 32 := Scalar.muli v1489 c1_i32_650
  let v1491 : BitVec 32 := Scalar.addi v1434 v1490
  let c1_i32_651 : BitVec 32 := 1#32
  ⟨v1434, v1491, c1_i32_651⟩
def k0_cond64 (v1432 : BitVec 32) : BitVec 1 :=
  let c0_i32_623 : BitVec 32 := 0#32
  let v1437 : BitVec 1 := Scalar.cmpi .sgt v1432 c0_i32_623
  let v1438 : BitVec 32 := Scalar.extui v1437
  let c0_i32_624 : BitVec 32 := 0#32
  let v1439 : BitVec 1 := Scalar.cmpi .ne v1438 c0_i32_624
  v1439

def k0_off312 (v1432 : BitVec 32) (v1434 : BitVec 32) (k0_t125 : Fin (k0_t125_loop v1432 v1434).trips) : Fin 1 → Nat :=
  let c1_i32_651 : BitVec 32 := 1#32
  let arg12 : BitVec 32 := Scf.iv v1434 c1_i32_651 k0_t125
  let v1495 : Index := Scalar.indexCast arg12
  ![v1495.toNat]
def k0_off313 (v1496 : BitVec 32) : Fin 2 → Nat :=
  let v1497 : Index := Scalar.indexCast v1496
  let c0_653 : Index := 0#32
  ![v1497.toNat, 0]

def k0_chk188 (v1432 : BitVec 32) (v1496 : BitVec 32) : Prop :=
  (∀ (k0_h64 : k0_cond64 v1432 = 1#1), ∀ a, (k0_off313 v1496) a + S1x32.size a ≤ S1024x32.size a)
theorem k0_off313_inb : ∀ (v1432 : BitVec 32) (v1496 : BitVec 32) (k0_hw188 : k0_chk188 v1432 v1496), ∀ (k0_h64 : k0_cond64 v1432 = 1#1), ∀ a, (k0_off313 v1496) a + S1x32.size a ≤ S1024x32.size a := fun v1432 v1496 k0_hw188 k0_h64 => k0_hw188 k0_h64

@[reducible] def k0_t126_loop (v1432 : BitVec 32) (v1434 : BitVec 32) : Scf.Loop 32 :=
  let v1485 : BitVec 32 := Scalar.addi v1434 v1432
  let v1487 : BitVec 32 := Scalar.subi v1485 v1434
  let c1_i32_650 : BitVec 32 := 1#32
  let v1489 : BitVec 32 := Scalar.divsi v1487 c1_i32_650
  let v1490 : BitVec 32 := Scalar.muli v1489 c1_i32_650
  let v1491 : BitVec 32 := Scalar.addi v1434 v1490
  let v1488 : BitVec 32 := Scalar.addi v1434 v1487
  let c1_i32_652 : BitVec 32 := 1#32
  ⟨v1491, v1488, c1_i32_652⟩
def k0_off314 (v1432 : BitVec 32) (v1434 : BitVec 32) (k0_t126 : Fin (k0_t126_loop v1432 v1434).trips) : Fin 1 → Nat :=
  let v1485 : BitVec 32 := Scalar.addi v1434 v1432
  let v1487 : BitVec 32 := Scalar.subi v1485 v1434
  let c1_i32_650 : BitVec 32 := 1#32
  let v1489 : BitVec 32 := Scalar.divsi v1487 c1_i32_650
  let v1490 : BitVec 32 := Scalar.muli v1489 c1_i32_650
  let v1491 : BitVec 32 := Scalar.addi v1434 v1490
  let c1_i32_652 : BitVec 32 := 1#32
  let arg12 : BitVec 32 := Scf.iv v1491 c1_i32_652 k0_t126
  let v1495 : Index := Scalar.indexCast arg12
  ![v1495.toNat]

def k0_chk187 (v1432 : BitVec 32) (v1434 : BitVec 32) : Prop :=
  (∀ (k0_h64 : k0_cond64 v1432 = 1#1), (k0_t125_loop v1432 v1434).OK) ∧
  (∀ k0_t125 : Fin (k0_t125_loop v1432 v1434).trips, ∀ (k0_h64 : k0_cond64 v1432 = 1#1), ∀ a, (k0_off312 v1432 v1434 k0_t125) a + S1.size a ≤ S1024.size a) ∧
  (∀ (k0_h64 : k0_cond64 v1432 = 1#1), (k0_t126_loop v1432 v1434).OK) ∧
  (∀ k0_t126 : Fin (k0_t126_loop v1432 v1434).trips, ∀ (k0_h64 : k0_cond64 v1432 = 1#1), ∀ a, (k0_off314 v1432 v1434 k0_t126) a + S1.size a ≤ S1024.size a)
theorem k0_t125_ok : ∀ (v1432 : BitVec 32) (v1434 : BitVec 32) (k0_hw187 : k0_chk187 v1432 v1434), ∀ (k0_h64 : k0_cond64 v1432 = 1#1), (k0_t125_loop v1432 v1434).OK := fun v1432 v1434 k0_hw187 k0_h64 => k0_hw187.1 k0_h64
theorem k0_off312_inb : ∀ (v1432 : BitVec 32) (v1434 : BitVec 32) (k0_hw187 : k0_chk187 v1432 v1434) (k0_t125 : Fin (k0_t125_loop v1432 v1434).trips), ∀ (k0_h64 : k0_cond64 v1432 = 1#1), ∀ a, (k0_off312 v1432 v1434 k0_t125) a + S1.size a ≤ S1024.size a := fun v1432 v1434 k0_hw187 k0_t125 k0_h64 => k0_hw187.2.1 k0_t125 k0_h64
theorem k0_t126_ok : ∀ (v1432 : BitVec 32) (v1434 : BitVec 32) (k0_hw187 : k0_chk187 v1432 v1434), ∀ (k0_h64 : k0_cond64 v1432 = 1#1), (k0_t126_loop v1432 v1434).OK := fun v1432 v1434 k0_hw187 k0_h64 => k0_hw187.2.2.1 k0_h64
theorem k0_off314_inb : ∀ (v1432 : BitVec 32) (v1434 : BitVec 32) (k0_hw187 : k0_chk187 v1432 v1434) (k0_t126 : Fin (k0_t126_loop v1432 v1434).trips), ∀ (k0_h64 : k0_cond64 v1432 = 1#1), ∀ a, (k0_off314 v1432 v1434 k0_t126) a + S1.size a ≤ S1024.size a := fun v1432 v1434 k0_hw187 k0_t126 k0_h64 => k0_hw187.2.2.2 k0_t126 k0_h64

def k0_off315 (v1496 : BitVec 32) : Fin 2 → Nat :=
  let v1497 : Index := Scalar.indexCast v1496
  let c0_653 : Index := 0#32
  ![v1497.toNat, 0]

def k0_chk189 (v1432 : BitVec 32) (v1496 : BitVec 32) : Prop :=
  (∀ (k0_h64 : k0_cond64 v1432 = 1#1), ∀ a, (k0_off315 v1496) a + S1x32.size a ≤ S1024x32.size a)
theorem k0_off315_inb : ∀ (v1432 : BitVec 32) (v1496 : BitVec 32) (k0_hw189 : k0_chk189 v1432 v1496), ∀ (k0_h64 : k0_cond64 v1432 = 1#1), ∀ a, (k0_off315 v1496) a + S1x32.size a ≤ S1024x32.size a := fun v1432 v1496 k0_hw189 k0_h64 => k0_hw189 k0_h64

def k0_off316 (i : grid0.Coords) : Fin 1 → Nat :=
  let arg0 : BitVec 32 := BitVec.ofNat 32 (i 0).val
  let c64_i32_630 : BitVec 32 := 64#32
  let v1452 : BitVec 32 := Scalar.muli arg0 c64_i32_630
  let c63_i32 : BitVec 32 := 63#32
  let v1453 : BitVec 32 := Scalar.addi v1452 c63_i32
  let v1454 : Index := Scalar.indexCast v1453
  ![v1454.toNat]
@[reducible] def k0_t127_loop (v1455 : BitVec 32) (v1457 : BitVec 32) : Scf.Loop 32 :=
  let v1485 : BitVec 32 := Scalar.addi v1457 v1455
  let v1487 : BitVec 32 := Scalar.subi v1485 v1457
  let c1_i32_650 : BitVec 32 := 1#32
  let v1489 : BitVec 32 := Scalar.divsi v1487 c1_i32_650
  let v1490 : BitVec 32 := Scalar.muli v1489 c1_i32_650
  let v1491 : BitVec 32 := Scalar.addi v1457 v1490
  let c1_i32_651 : BitVec 32 := 1#32
  ⟨v1457, v1491, c1_i32_651⟩
def k0_cond65 (v1455 : BitVec 32) : BitVec 1 :=
  let c0_i32_633 : BitVec 32 := 0#32
  let v1460 : BitVec 1 := Scalar.cmpi .sgt v1455 c0_i32_633
  let v1461 : BitVec 32 := Scalar.extui v1460
  let c0_i32_634 : BitVec 32 := 0#32
  let v1462 : BitVec 1 := Scalar.cmpi .ne v1461 c0_i32_634
  v1462

def k0_off317 (v1455 : BitVec 32) (v1457 : BitVec 32) (k0_t127 : Fin (k0_t127_loop v1455 v1457).trips) : Fin 1 → Nat :=
  let c1_i32_651 : BitVec 32 := 1#32
  let arg12 : BitVec 32 := Scf.iv v1457 c1_i32_651 k0_t127
  let v1495 : Index := Scalar.indexCast arg12
  ![v1495.toNat]
def k0_off318 (v1496 : BitVec 32) : Fin 2 → Nat :=
  let v1497 : Index := Scalar.indexCast v1496
  let c0_653 : Index := 0#32
  ![v1497.toNat, 0]

def k0_chk191 (v1455 : BitVec 32) (v1496 : BitVec 32) : Prop :=
  (∀ (k0_h65 : k0_cond65 v1455 = 1#1), ∀ a, (k0_off318 v1496) a + S1x32.size a ≤ S1024x32.size a)
theorem k0_off318_inb : ∀ (v1455 : BitVec 32) (v1496 : BitVec 32) (k0_hw191 : k0_chk191 v1455 v1496), ∀ (k0_h65 : k0_cond65 v1455 = 1#1), ∀ a, (k0_off318 v1496) a + S1x32.size a ≤ S1024x32.size a := fun v1455 v1496 k0_hw191 k0_h65 => k0_hw191 k0_h65

@[reducible] def k0_t128_loop (v1455 : BitVec 32) (v1457 : BitVec 32) : Scf.Loop 32 :=
  let v1485 : BitVec 32 := Scalar.addi v1457 v1455
  let v1487 : BitVec 32 := Scalar.subi v1485 v1457
  let c1_i32_650 : BitVec 32 := 1#32
  let v1489 : BitVec 32 := Scalar.divsi v1487 c1_i32_650
  let v1490 : BitVec 32 := Scalar.muli v1489 c1_i32_650
  let v1491 : BitVec 32 := Scalar.addi v1457 v1490
  let v1488 : BitVec 32 := Scalar.addi v1457 v1487
  let c1_i32_652 : BitVec 32 := 1#32
  ⟨v1491, v1488, c1_i32_652⟩
def k0_off319 (v1455 : BitVec 32) (v1457 : BitVec 32) (k0_t128 : Fin (k0_t128_loop v1455 v1457).trips) : Fin 1 → Nat :=
  let v1485 : BitVec 32 := Scalar.addi v1457 v1455
  let v1487 : BitVec 32 := Scalar.subi v1485 v1457
  let c1_i32_650 : BitVec 32 := 1#32
  let v1489 : BitVec 32 := Scalar.divsi v1487 c1_i32_650
  let v1490 : BitVec 32 := Scalar.muli v1489 c1_i32_650
  let v1491 : BitVec 32 := Scalar.addi v1457 v1490
  let c1_i32_652 : BitVec 32 := 1#32
  let arg12 : BitVec 32 := Scf.iv v1491 c1_i32_652 k0_t128
  let v1495 : Index := Scalar.indexCast arg12
  ![v1495.toNat]

def k0_chk190 (v1455 : BitVec 32) (v1457 : BitVec 32) : Prop :=
  (∀ (k0_h65 : k0_cond65 v1455 = 1#1), (k0_t127_loop v1455 v1457).OK) ∧
  (∀ k0_t127 : Fin (k0_t127_loop v1455 v1457).trips, ∀ (k0_h65 : k0_cond65 v1455 = 1#1), ∀ a, (k0_off317 v1455 v1457 k0_t127) a + S1.size a ≤ S1024.size a) ∧
  (∀ (k0_h65 : k0_cond65 v1455 = 1#1), (k0_t128_loop v1455 v1457).OK) ∧
  (∀ k0_t128 : Fin (k0_t128_loop v1455 v1457).trips, ∀ (k0_h65 : k0_cond65 v1455 = 1#1), ∀ a, (k0_off319 v1455 v1457 k0_t128) a + S1.size a ≤ S1024.size a)
theorem k0_t127_ok : ∀ (v1455 : BitVec 32) (v1457 : BitVec 32) (k0_hw190 : k0_chk190 v1455 v1457), ∀ (k0_h65 : k0_cond65 v1455 = 1#1), (k0_t127_loop v1455 v1457).OK := fun v1455 v1457 k0_hw190 k0_h65 => k0_hw190.1 k0_h65
theorem k0_off317_inb : ∀ (v1455 : BitVec 32) (v1457 : BitVec 32) (k0_hw190 : k0_chk190 v1455 v1457) (k0_t127 : Fin (k0_t127_loop v1455 v1457).trips), ∀ (k0_h65 : k0_cond65 v1455 = 1#1), ∀ a, (k0_off317 v1455 v1457 k0_t127) a + S1.size a ≤ S1024.size a := fun v1455 v1457 k0_hw190 k0_t127 k0_h65 => k0_hw190.2.1 k0_t127 k0_h65
theorem k0_t128_ok : ∀ (v1455 : BitVec 32) (v1457 : BitVec 32) (k0_hw190 : k0_chk190 v1455 v1457), ∀ (k0_h65 : k0_cond65 v1455 = 1#1), (k0_t128_loop v1455 v1457).OK := fun v1455 v1457 k0_hw190 k0_h65 => k0_hw190.2.2.1 k0_h65
theorem k0_off319_inb : ∀ (v1455 : BitVec 32) (v1457 : BitVec 32) (k0_hw190 : k0_chk190 v1455 v1457) (k0_t128 : Fin (k0_t128_loop v1455 v1457).trips), ∀ (k0_h65 : k0_cond65 v1455 = 1#1), ∀ a, (k0_off319 v1455 v1457 k0_t128) a + S1.size a ≤ S1024.size a := fun v1455 v1457 k0_hw190 k0_t128 k0_h65 => k0_hw190.2.2.2 k0_t128 k0_h65

def k0_off320 (v1496 : BitVec 32) : Fin 2 → Nat :=
  let v1497 : Index := Scalar.indexCast v1496
  let c0_653 : Index := 0#32
  ![v1497.toNat, 0]

def k0_chk192 (v1455 : BitVec 32) (v1496 : BitVec 32) : Prop :=
  (∀ (k0_h65 : k0_cond65 v1455 = 1#1), ∀ a, (k0_off320 v1496) a + S1x32.size a ≤ S1024x32.size a)
theorem k0_off320_inb : ∀ (v1455 : BitVec 32) (v1496 : BitVec 32) (k0_hw192 : k0_chk192 v1455 v1496), ∀ (k0_h65 : k0_cond65 v1455 = 1#1), ∀ a, (k0_off320 v1496) a + S1x32.size a ≤ S1024x32.size a := fun v1455 v1496 k0_hw192 k0_h65 => k0_hw192 k0_h65

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x32 : Shape := ⟨2, ![1024, 32]⟩
abbrev S1024 : Shape := ⟨1, ![1024]⟩
abbrev S2048x1024x32 : Shape := ⟨3, ![2048, 1024, 32]⟩
abbrev S32x32 : Shape := ⟨2, ![32, 32]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x1024x32 : Shape := ⟨3, ![1024, 1024, 32]⟩
abbrev S1024x1x32 : Shape := ⟨3, ![1024, 1, 32]⟩
abbrev S1024x1024 : Shape := ⟨2, ![1024, 1024]⟩
abbrev S1024x1024x1 : Shape := ⟨3, ![1024, 1024, 1]⟩
abbrev S2048x1024 : Shape := ⟨2, ![2048, 1024]⟩
abbrev S2048x1024x1 : Shape := ⟨3, ![2048, 1024, 1]⟩

abbrev nBuf : Space → Nat
  | .hbm => 98
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S1024, .i32⟩
  | .hbm, ⟨2, _⟩ => ⟨S2048x1024x32, .f32⟩
  | .hbm, ⟨3, _⟩ => ⟨S2048x1024x32, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1x1, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i1⟩
  | .hbm, ⟨24, _⟩ => ⟨S1024, .i1⟩
  | .hbm, ⟨25, _⟩ => ⟨S1024x1024x32, .f32⟩
  | .hbm, ⟨26, _⟩ => ⟨S1024x1024x32, .i1⟩
  | .hbm, ⟨27, _⟩ => ⟨S_, .f32⟩
  | .hbm, ⟨28, _⟩ => ⟨S1024x1024x32, .f32⟩
  | .hbm, ⟨29, _⟩ => ⟨S1024x1024x32, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S1x1, .i32⟩
  | .hbm, ⟨43, _⟩ => ⟨S1024x1, .i32⟩
  | .hbm, ⟨44, _⟩ => ⟨S1024x1, .i1⟩
  | .hbm, ⟨45, _⟩ => ⟨S1024x1, .i1⟩
  | .hbm, ⟨46, _⟩ => ⟨S_, .i1⟩
  | .hbm, ⟨47, _⟩ => ⟨S1024, .i1⟩
  | .hbm, ⟨48, _⟩ => ⟨S1024x1024x32, .f32⟩
  | .hbm, ⟨49, _⟩ => ⟨S1024x1024x32, .i1⟩
  | .hbm, ⟨50, _⟩ => ⟨S_, .f32⟩
  | .hbm, ⟨51, _⟩ => ⟨S1024x1024x32, .f32⟩
  | .hbm, ⟨52, _⟩ => ⟨S1024x1024x32, .f32⟩
  | .hbm, ⟨53, _⟩ => ⟨S1024x1x32, .f32⟩
  | .hbm, ⟨54, _⟩ => ⟨S1024x1024x32, .f32⟩
  | .hbm, ⟨55, _⟩ => ⟨S1024x1024x32, .f32⟩
  | .hbm, ⟨56, _⟩ => ⟨S1024x1024x32, .f32⟩
  | .hbm, ⟨57, _⟩ => ⟨S1024x1024x32, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S_, .f32⟩
  | .hbm, ⟨66, _⟩ => ⟨S1024x1024, .f32⟩
  | .hbm, ⟨67, _⟩ => ⟨S1024x1024, .f32⟩
  | .hbm, ⟨68, _⟩ => ⟨S1024x1024x32, .f32⟩
  | .hbm, ⟨69, _⟩ => ⟨S1024x1024x32, .f32⟩
  | .hbm, ⟨70, _⟩ => ⟨S1024x1024x32, .f32⟩
  | .hbm, ⟨71, _⟩ => ⟨S1024x1024x32, .f32⟩
  | .hbm, ⟨72, _⟩ => ⟨S1024x1024x32, .f32⟩
  | .hbm, ⟨73, _⟩ => ⟨S_, .f32⟩
  | .hbm, ⟨74, _⟩ => ⟨S1024x1024x32, .f32⟩
  | .hbm, ⟨75, _⟩ => ⟨S1024x1024x32, .f32⟩
  | .hbm, ⟨76, _⟩ => ⟨S1024x1024x1, .f32⟩
  | .hbm, ⟨77, _⟩ => ⟨S1024x1024x32, .f32⟩
  | .hbm, ⟨78, _⟩ => ⟨S1024x1024x32, .f32⟩
  | .hbm, ⟨79, _⟩ => ⟨S_, .i32⟩
  | .hbm, ⟨80, _⟩ => ⟨S1024, .i32⟩
  | .hbm, ⟨81, _⟩ => ⟨S1024, .i1⟩
  | .hbm, ⟨82, _⟩ => ⟨S_, .i32⟩
  | .hbm, ⟨83, _⟩ => ⟨S1024, .i32⟩
  | .hbm, ⟨84, _⟩ => ⟨S1024, .i32⟩
  | .hbm, ⟨85, _⟩ => ⟨S1024, .i32⟩
  | .hbm, ⟨86, _⟩ => ⟨S1024x1, .i32⟩
  | .hbm, ⟨87, _⟩ => ⟨S2048x1024x32, .f32⟩
  | .hbm, ⟨88, _⟩ => ⟨S2048x1024x32, .f32⟩
  | .hbm, ⟨89, _⟩ => ⟨S_, .f32⟩
  | .hbm, ⟨90, _⟩ => ⟨S2048x1024, .f32⟩
  | .hbm, ⟨91, _⟩ => ⟨S2048x1024x1, .f32⟩
  | .hbm, ⟨92, _⟩ => ⟨S_, .f32⟩
  | .hbm, ⟨93, _⟩ => ⟨S2048x1024x1, .f32⟩
  | .hbm, ⟨94, _⟩ => ⟨S2048x1024x1, .f32⟩
  | .hbm, ⟨95, _⟩ => ⟨S2048x1024x1, .f32⟩
  | .hbm, ⟨96, _⟩ => ⟨S2048x1024x32, .f32⟩
  | .hbm, ⟨97, _⟩ => ⟨S2048x1024x32, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_cst : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_v11 : Ref sig .tc := ⟨.hbm, 64, rfl⟩
abbrev main_cst_1 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_call2_cst : Ref sig .tc := ⟨.hbm, 73, rfl⟩
abbrev main_call2_v0 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_c : Ref sig .tc := ⟨.hbm, 79, rfl⟩
abbrev main_v23 : Ref sig .tc := ⟨.hbm, 80, rfl⟩
abbrev main_v24 : Ref sig .tc := ⟨.hbm, 81, rfl⟩
abbrev main_c_2 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_3 : Ref sig .tc := ⟨.hbm, 89, rfl⟩
abbrev main_v31 : Ref sig .tc := ⟨.hbm, 90, rfl⟩
abbrev main_v32 : Ref sig .tc := ⟨.hbm, 91, rfl⟩
abbrev main_cst_4 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩

abbrev nD : Nat := 1
abbrev τ : Topo := Topo.v7x

variable {F : FTy → Type} [FloatOps F]
-- ==== Proof.Rows.lean ====
/- The kernel's body as ONE row of a block, taken sixty-four times. The program prints the sixty-four rows of a block
   one after the other; they differ in the row's number only. `row` is that row at any number, over the first row's
   named values, and `rows_eq` says the printed body is the prologue (the first point's product `e @ W` into the
   scratch) and then the rows 0 … 63 in order. -/
module

public import proofs.«01_k».proof.Proof.Gen.KernelIdeal.Skeleton

@[expose] public section

noncomputable section

namespace Cert.Rows

open Cert.KernelIdeal Cert.KernelIdeal.Gen
open Idealize.ShloMosaic Idealize.SL.Sem

variable {F : FTy → Type} [FloatOps F]

/-- A program of the kernel's, over the program's own signature. -/
abbrev KProg (F : FTy → Type) [FloatOps F] : Type → Type _ := Prog (TpuEff nD τ sig (Elt F) Λ₀ .tc)

/-- Where the two tables `starts` and `counts` are read for row `r` of grid point `i`: element `64 * i + r`, as the
    kernel computes it in 32-bit words. -/
def rowOff (i : grid0.Coords) (r : Nat) : Fin 1 → Nat :=
  ![(Scalar.indexCast (Scalar.addi (Scalar.muli (BitVec.ofNat 32 (i 0).val) 64#32) (BitVec.ofNat 32 r)) : Index).toNat]

/-- That element in closed form. -/
theorem rowOff_eq (i : grid0.Coords) (r : Nat) (hr : r < 64) : rowOff i r = ![64 * (i 0).val + r] := by
  have hi : (i 0).val < 32 := (i 0).isLt
  unfold rowOff Scalar.indexCast Scalar.addi Scalar.muli IntOp.addi IntOp.muli
  congr 1
  generalize (i 0).val = q at hi
  simp
  omega

theorem rowOff_inb (i : grid0.Coords) (r : Nat) (hr : r < 64) : ∀ a, rowOff i r a + S1.size a ≤ S2048.size a := by
  have hi : (i 0).val < 32 := (i 0).isLt
  rw [rowOff_eq i r hr]
  intro a; fin_cases a
  show 64 * (i 0).val + r + 1 ≤ 2048
  omega

theorem row_inb (r : Nat) (hr : r < 64) : ∀ a, (![r, 0, 0] : Fin 3 → Nat) a + S1x32x1024.size a ≤ S64x32x1024.size a := by
  intro a; fin_cases a
  · show r + 1 ≤ 64; omega
  · show 0 + 32 ≤ 32; omega
  · show 0 + 1024 ≤ 1024; omega

/-- An `if` whose two branches end in the same continuation `K` is the `if` of the two values, and then `K`. -/
theorem dite_join {α β γ : Type} {c d : Prop} [Decidable c] [Decidable d] {K : α → KProg F β} {M : β → KProg F γ}
    {A : c → KProg F β} {B : ¬c → KProg F β} {T : d → KProg F α} {E : ¬d → KProg F α} {N : α → KProg F γ}
    (hcd : c = d)
    (hB : ∀ h h', B h = E h' >>= K) (hA : ∀ h h', A h = T h' >>= K) (hK : ∀ v, K v >>= M = N v) :
    dite c A B >>= M = dite d T E >>= N := by
  subst hcd
  obtain rfl : (fun v => K v >>= M) = N := funext hK
  by_cases h : c
  · rw [dif_pos h, dif_pos h, hA h h, bind_assoc]
  · rw [dif_neg h, dif_neg h, hB h h, bind_assoc]

/-- Two programs that begin with the same effect are equal when they go on equally. -/
theorem lift_congr {α β : Type} {e e' : TpuEff nD τ sig (Elt F) Λ₀ .tc α} {f g : α → KProg F β} (he : e = e')
    (h : ∀ x, f x = g x) : (Prog.lift e >>= f : KProg F β) = (Prog.lift e' >>= g) := by
  subst he; exact bind_congr h

/-- Two programs that begin with assuming the same condition are equal when they go on equally. -/
theorem assume_congr {β : Type} {p q : Prop} {dp : Decidable p} {dq : Decidable q} {f : PLift p → KProg F β} {g : PLift q → KProg F β}
    (hpq : p = q) (h : ∀ x y, f x = g y) :
    (Prog.lift (TpuEff.assume p dp) >>= f : KProg F β) = (Prog.lift (TpuEff.assume q dq) >>= g) := by
  subst hpq
  obtain rfl : dp = dq := Subsingleton.elim _ _
  exact bind_congr fun x => h x x

/-- Two programs that begin with the same read of a table are equal when they go on equally. -/
theorem smem_congr {s : Shape} {a a' : Memref sig .tc .smem s .i32} {r r' : Rect s} {h1 h1' h2 h2'} {β : Type}
    {f g : Elt F .i32 → KProg F β} (ha : a = a') (hr : r = r')
    (h : ∀ x, f x = g x) : ((smemLoad a r h1 h2 : KProg F (Elt F .i32)) >>= f) = ((smemLoad a' r' h1' h2' : KProg F (Elt F .i32)) >>= g) := by
  subst ha hr; exact bind_congr h

section
variable (i : grid0.Coords) (arg1 : Memref sig .tc .smem S2048 .i32) (harg1 : arg1.IsWhole) (arg2 : Memref sig .tc .smem S2048 .i32) (harg2 : arg2.IsWhole) (arg3 : Memref sig .tc .smem S1024 .i32) (harg3 : arg3.IsWhole) (arg4 : Memref sig .tc .vmem S1024x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S64x32x1024 .f32) (harg8 : arg8.IsWhole) (arg9 : Memref sig .tc .vmem S64x32x1024 .f32) (harg9 : arg9.IsWhole) (arg10 : Memref sig .tc .vmem S64x32x1024 .f32) (harg10 : arg10.IsWhole) (arg11 : Memref sig .tc .vmem S1024x32 .f32) (harg11 : arg11.IsWhole)

/-- The prologue: at the first grid point the product of the encoded sentences and `W` goes to the scratch. -/
def prologue : KProg F PUnit :=
  if Scalar.cmpi .ne (Scalar.extui (Scalar.cmpi .eq (BitVec.ofNat 32 (i 0).val) 0#32) : BitVec 32) 0#32 = 1#1 then do
    let v1475 : Vec F S1024x32 .f32 ← Prog.lift (.load arg4 (Rect.unit (s := S1024x32) ![0, 0] S1024x32.size inb_S1024x32_S1024x32_0_0).toLoadRect (View.loadsAt_vmem h_S1024x32))
    let v1476 : Vec F S32x32 .f32 ← Prog.lift (.load arg7 (Rect.unit (s := S32x32) ![0, 0] S32x32.size inb_S32x32_S32x32_0_0).toLoadRect (View.loadsAt_vmem h_S32x32))
    let _ : Vec F S1024x32 .f32 ← Prog.lift (.load arg11 (Rect.unit (s := S1024x32) ![0, 0] S1024x32.size inb_S1024x32_S1024x32_0_0).toLoadRect (View.loadsAt_vmem h_S1024x32))
    Prog.lift (.store arg11 (Rect.unit (s := S1024x32) ![0, 0] S1024x32.size inb_S1024x32_S1024x32_0_0) (k0_pay2 v1475 v1476) Finset.univ (View.stores_vmem_bits_univ h_S1024x32 rfl) (.inl rfl))
  else pure ⟨⟩

/-- The `scf.if` of a row: when the row's sentence list is not empty, the row of hidden states plus the sum over the
    list; when it is empty the row as it is. -/
def rowCond (r : Nat) (hr : r < 64) (v6 v8 : Elt F .i32) (hw : k0_chk1 v6 v8) (v9 : Vec F S1x32x1024 .f32) : KProg F (FVec F S32x1024 .f32) :=
  if k0_h2 : k0_cond2 v6 = 1#1 then do
    let v1475 : Vec F S1x32x1024 .f32 ← Prog.lift (.load arg9 (Rect.unit (s := S64x32x1024) ![r, 0, 0] S1x32x1024.size (row_inb r hr)).toLoadRect (View.loadsAt_vmem h_S1x32x1024))
    let v1477 : Vec F S32x32 .f32 ← Prog.lift (.load arg5 (Rect.unit (s := S32x32) ![0, 0] S32x32.size inb_S32x32_S32x32_0_0).toLoadRect (View.loadsAt_vmem h_S32x32))
    let v1480 : Vec F S32x32 .f32 ← Prog.lift (.load arg6 (Rect.unit (s := S32x32) ![0, 0] S32x32.size inb_S32x32_S32x32_0_0).toLoadRect (View.loadsAt_vmem h_S32x32))
    let v1492 : FVec F S32x1024 .f32 ← Scf.Loop.for (k0_t1_loop v6 v8) (k0_t1_ok v6 v8 hw k0_h2) (k0_pay7 (F := F)) (k0_t1_body i arg1 harg1 arg2 harg2 arg3 harg3 arg4 harg4 arg5 harg5 arg6 harg6 arg7 harg7 arg8 harg8 arg9 harg9 arg10 harg10 arg11 harg11 v6 v8 hw v9 k0_h2 v1475 v1477 v1480)
    let v1493 : FVec F S32x1024 .f32 ← Scf.Loop.for (k0_t2_loop v6 v8) (k0_t2_ok v6 v8 hw k0_h2) v1492 (k0_t2_body i arg1 harg1 arg2 harg2 arg3 harg3 arg4 harg4 arg5 harg5 arg6 harg6 arg7 harg7 arg8 harg8 arg9 harg9 arg10 harg10 arg11 harg11 v6 v8 hw v9 k0_h2 v1475 v1477 v1480)
    pure (k0_pay10 v9 v1493)
  else do
    pure (k0_pay3 v9)

/-- One row of the block. -/
def row (r : Nat) (hr : r < 64) : KProg F PUnit := do
  let v6 : Elt F .i32 ← smemLoad arg2 (Rect.unit (s := S2048) (rowOff i r) S1.size (rowOff_inb i r hr)) numel1_S1 rfl
  let v8 : Elt F .i32 ← smemLoad arg1 (Rect.unit (s := S2048) (rowOff i r) S1.size (rowOff_inb i r hr)) numel1_S1 rfl
  have k0_hw1 : k0_chk1 v6 v8 := (← Prog.lift (TpuEff.assume (k0_chk1 v6 v8) (k0_chk1.dec v6 v8))).down
  let v9 : Vec F S1x32x1024 .f32 ← Prog.lift (.load arg8 (Rect.unit (s := S64x32x1024) ![r, 0, 0] S1x32x1024.size (row_inb r hr)).toLoadRect (View.loadsAt_vmem h_S1x32x1024))
  let v14 : FVec F S32x1024 .f32 ← rowCond i arg1 harg1 arg2 harg2 arg3 harg3 arg4 harg4 arg5 harg5 arg6 harg6 arg7 harg7 arg8 harg8 arg9 harg9 arg10 harg10 arg11 harg11 r hr v6 v8 k0_hw1 v9
  let _ : Vec F S1x32x1024 .f32 ← Prog.lift (.load arg10 (Rect.unit (s := S64x32x1024) ![r, 0, 0] S1x32x1024.size (row_inb r hr)).toLoadRect (View.loadsAt_vmem h_S1x32x1024))
  Prog.lift (.store arg10 (Rect.unit (s := S64x32x1024) ![r, 0, 0] S1x32x1024.size (row_inb r hr)) (k0_pay11 v14) Finset.univ (View.stores_vmem_bits_univ h_S1x32x1024 rfl) (.inl rfl))

/-- The rows from row `r` to the last, `n` of them. -/
def rowsFrom : (n r : Nat) → n + r = 64 → KProg F PUnit
  | 0, _, _ => pure ⟨⟩
  | n + 1, r, h => do
    row i arg1 harg1 arg2 harg2 arg3 harg3 arg4 harg4 arg5 harg5 arg6 harg6 arg7 harg7 arg8 harg8 arg9 harg9 arg10 harg10 arg11 harg11 r (by omega)
    rowsFrom n (r + 1) (by omega)

theorem rowsFrom_succ (n r : Nat) (h : n + 1 + r = 64) :
    rowsFrom (F := F) i arg1 harg1 arg2 harg2 arg3 harg3 arg4 harg4 arg5 harg5 arg6 harg6 arg7 harg7 arg8 harg8 arg9 harg9 arg10 harg10 arg11 harg11 (n + 1) r h
      = (row i arg1 harg1 arg2 harg2 arg3 harg3 arg4 harg4 arg5 harg5 arg6 harg6 arg7 harg7 arg8 harg8 arg9 harg9 arg10 harg10 arg11 harg11 r (by omega) >>= fun _ =>
          rowsFrom i arg1 harg1 arg2 harg2 arg3 harg3 arg4 harg4 arg5 harg5 arg6 harg6 arg7 harg7 arg8 harg8 arg9 harg9 arg10 harg10 arg11 harg11 n (r + 1) (by omega)) := rfl

/-- To be equal to the rows from row `r` is to be equal to row `r` and then the rows after it. -/
theorem rows_step (n r : Nat) (h : n + 1 + r = 64) {X : KProg F PUnit}
    (hX : X = (row i arg1 harg1 arg2 harg2 arg3 harg3 arg4 harg4 arg5 harg5 arg6 harg6 arg7 harg7 arg8 harg8 arg9 harg9 arg10 harg10 arg11 harg11 r (by omega) >>= fun _ =>
          rowsFrom i arg1 harg1 arg2 harg2 arg3 harg3 arg4 harg4 arg5 harg5 arg6 harg6 arg7 harg7 arg8 harg8 arg9 harg9 arg10 harg10 arg11 harg11 n (r + 1) (by omega))) :
    X = rowsFrom (F := F) i arg1 harg1 arg2 harg2 arg3 harg3 arg4 harg4 arg5 harg5 arg6 harg6 arg7 harg7 arg8 harg8 arg9 harg9 arg10 harg10 arg11 harg11 (n + 1) r h := hX

set_option maxRecDepth 65536 in
set_option maxHeartbeats 4000000 in
/-- The printed body is the prologue and then the sixty-four rows in order. The two programs are walked together: equal
    reads, assumptions, loads and stores are taken off both; an `if` is matched with its continuation; a part of the
    printed body is opened when it comes first. -/
theorem rows_eq : cc0__body (F := F) i arg1 harg1 arg2 harg2 arg3 harg3 arg4 harg4 arg5 harg5 arg6 harg6 arg7 harg7 arg8 harg8 arg9 harg9 arg10 harg10 arg11 harg11
      = (prologue i arg4 arg7 arg11 >>= fun _ =>
          rowsFrom i arg1 harg1 arg2 harg2 arg3 harg3 arg4 harg4 arg5 harg5 arg6 harg6 arg7 harg7 arg8 harg8 arg9 harg9 arg10 harg10 arg11 harg11 64 0 rfl) := by
  rw [cc0__body_eq_skeleton]
  unfold cc0__body_skel
  rw [k0_part40_eq_skeleton]
  unfold k0_part40_skel
  rw [k0_part1_eq_skeleton]
  unfold k0_part1_skel prologue
  simp (config := {zeta := false}) only [bind_assoc, pure_bind]
  extract_lets -underBinder
  refine dite_join rfl (fun _ _ => (pure_bind _ _).symm) (fun _ _ => ?_) (fun _ => ?_)
  · simp (config := {zeta := false}) only [bind_assoc]
  iterate 1060 try first
    | (with_reducible refine rows_step (F := F) i arg1 harg1 arg2 harg2 arg3 harg3 arg4 harg4 arg5 harg5 arg6 harg6 arg7 harg7 arg8 harg8 arg9 harg9 arg10 harg10 arg11 harg11 _ _ _ ?_
       unfold row rowCond)
    | (with_reducible refine assume_congr (F := F) ?_ (fun _ _ => ?_)
       · rfl)
    | (with_reducible refine lift_congr (F := F) ?_ (fun _ => ?_)
       · rfl)
    | (with_reducible apply dite_join (F := F)
       · rfl
       · first | exact fun _ _ => (pure_bind _ _).symm | exact fun _ _ => rfl
       · intro _ _
         simp (config := {zeta := false}) only [bind_assoc, pure_bind] <;> rfl
       intro _)
    | extract_lets -underBinder
    | simp (config := {zeta := false, zetaDelta := true}) only [bind_assoc, pure_bind]
    | (refine smem_congr (F := F) ?_ ?_ (fun _ => ?_)
       · rfl
       · rfl)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
  rfl

end

end Cert.Rows
-- ==== Proof.Steps.lean ====
/- The effects of the kernel's body, one rule each, over memrefs held with known contents (`owns`): a load returns the
   contents at the rectangle's indices, a table read returns the one word named, a store puts its payload at the
   rectangle's indices and leaves the rest. -/
module

public import proofs.«01_k».proof.Proof.Rows
public import Idealize.ShloMosaic.Lib.Pipeline.FrameSuffix
public import Idealize.ShloMosaic.Lib.Pointwise.Index
public import Idealize.ShloMosaic.Lib.LoopRemainder

@[expose] public section

noncomputable section

namespace Cert.Rows

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The variants of the body's own labels: none is recursive. -/
abbrev 𝒱₀ : Variants := Variants.none

/-- The weakest precondition of a program of the body on core `c`. -/
abbrev bwp {α : Type} (c : Dev nD) (p : KProg F α) (Q : α → sProp 𝕄) : sProp 𝕄 :=
  wp frame (wpE (defs₀ (F := F)) 𝒱₀ (c : Thread nD τ) none) Set.univ p Q

section
variable {α : Type} (c : Dev nD) {s : Shape} {e : EltTy}

/-- A load of rectangle `r` returns the contents at the rectangle's indices. -/
theorem own_load {m : Memref sig .tc .vmem s e} {r : Rect s} {hl : m.view.LoadsAt r.toLoadRect} {q : PosShare TreeShare} {x : s.Idx → Elt F e}
    {k : (r.shape.Idx → Elt F e) → KProg F α} {Q : α → sProp 𝕄} :
    (owns (c : Thread nD τ) m q x : sProp 𝕄)
      ⊢ iprop((owns (c : Thread nD τ) m q x -∗ bwp c (k fun z => x (r.emb z)) Q)
        -∗ bwp c (Prog.lift (.load m r.toLoadRect hl) >>= k) Q) := by
  have hk : (Prog.lift (.load m r.toLoadRect hl) >>= k : KProg F α) = .op (.load m r.toLoadRect hl) k := rfl
  rw [hk]
  unfold owns
  iintro ⟨%f, %hf, H⟩ Hk
  iapply (wp_load_rect 𝒱₀ (c : Thread nD τ) none Set.univ (m := m) (r := r) (View.set_slice_subset _ _)) $$ H
  iintro H
  have he : (m.access r).read (Elt F) f = fun z => x (r.emb z) := by rw [← hf]; rfl
  rw [he]
  iapply Hk
  iexists f; isplitr; · ipureintro; exact hf
  iexact H

/-- A read of a table's one word returns the contents at the rectangle's one index. -/
theorem own_word {m : Memref sig .tc .smem s e} {r : Rect s} {h1 : r.shape.numel = 1} {hp : e.packing = 1} {q : PosShare TreeShare} {x : s.Idx → Elt F e}
    {k : Elt F e → KProg F α} {Q : α → sProp 𝕄} :
    (owns (c : Thread nD τ) m q x : sProp 𝕄)
      ⊢ iprop((owns (c : Thread nD τ) m q x -∗ bwp c (k (x (r.point h1))) Q)
        -∗ bwp c (smemLoad m r h1 hp >>= k) Q) := by
  have hk : (smemLoad m r h1 hp >>= k : KProg F α) = smemLoadElt m r (View.loads_smem_one hp h1) (Shape.Idx.first (h1.symm ▸ Nat.one_pos)) k := rfl
  rw [hk]
  unfold owns
  iintro ⟨%f, %hf, H⟩ Hk
  iapply (wp_smemLoadElt 𝒱₀ (c : Thread nD τ) none Set.univ (m := m) (r := r) (View.set_slice_subset _ _)) $$ H
  iintro H
  have he : (m.access r).read (Elt F) f (Shape.Idx.first (h1.symm ▸ Nat.one_pos)) = x (r.point h1) := by rw [← hf]; rfl
  rw [he]
  iapply Hk
  iexists f; isplitr; · ipureintro; exact hf
  iexact H

/-- A store of `w` at rectangle `r`: any contents that are `w` at the rectangle's indices and the old ones elsewhere. -/
theorem own_store {m : Memref sig .tc .vmem s e} {r : Rect s} {w : r.shape.Idx → Elt F e} {hx : (m.access r).Stores Finset.univ}
    {hm : (Finset.univ : Finset r.shape.Idx) = Finset.univ ∨ ∀ a, r.stride a = 1} {x y : s.Idx → Elt F e}
    (hin : ∀ z, y (r.emb z) = w z) (hout : ∀ j, j ∉ r.set → y j = x j)
    {k : PUnit → KProg F α} {Q : α → sProp 𝕄} :
    (owns (c : Thread nD τ) m fullShare x : sProp 𝕄)
      ⊢ iprop((owns (c : Thread nD τ) m fullShare y -∗ bwp c (k ⟨⟩) Q)
        -∗ bwp c (Prog.lift (.store m r w Finset.univ hx hm) >>= k) Q) := by
  have hk : (Prog.lift (.store m r w Finset.univ hx hm) >>= k : KProg F α) = .op (.store m r w Finset.univ hx hm) k := rfl
  rw [hk]
  unfold owns
  iintro ⟨%f, %hf, H⟩ Hk
  iapply (wp_store 𝒱₀ (c : Thread nD τ) none Set.univ (m := m) (r := r) (Mk := Finset.univ) (View.set_slice_subset _ _)) $$ H
  iintro H
  iapply Hk
  iexists _
  isplitr
  rotate_left
  · iexact H
  ipureintro
  funext j
  by_cases hj : j ∈ r.set
  · rw [← Rect.map_emb_univ] at hj
    obtain ⟨z, -, rfl⟩ := Finset.mem_map.mp hj
    rw [View.read_slice_write_emb _ _ _ (Finset.mem_univ _), hin]
  · rw [View.read_slice_write_of_not_mem _ _ _ _ (by rwa [Rect.map_emb_univ]), hf, hout j hj]

/-- A condition that holds may be assumed. -/
theorem own_assume {P : Prop} {d : Decidable P} (h : P) {k : PLift P → KProg F α} {Q : α → sProp 𝕄} :
    bwp c (k ⟨h⟩) Q ⊢ bwp c (Prog.lift (TpuEff.assume P d) >>= k) Q := by
  have hk : (Prog.lift (TpuEff.assume P d) >>= k : KProg F α) = .op (.assume P d) k := rfl
  rw [hk]
  unfold bwp
  rw [wp_assume_of 𝒱₀ (c : Thread nD τ) none Set.univ h]
end

end Cert.Rows
-- ==== Proof.Model.lean ====
/- What one block of the kernel's output is, as a function of the block's inputs and of the three prefetched tables;
   and the bounds on the tables under which the conditions the body assumes of their words hold. -/
module

public import proofs.«01_k».proof.Proof.Steps

@[expose] public section

noncomputable section

namespace Cert.Rows

open Cert.KernelIdeal Cert.KernelIdeal.Gen
open Idealize.ShloMosaic

variable {F : FTy → Type} [FloatOps F]

/-! ### Values -/

/-- Word `j` of a table of 1024 words. -/
def word (x : S1024.Idx → BitVec 32) (j : Nat) : BitVec 32 := x (ix1 ⟨j % 1024, Nat.mod_lt _ (by decide)⟩)

/-- Word `b` of a table of 2048 words. -/
def word2 (x : S2048.Idx → BitVec 32) (b : Nat) : BitVec 32 := x (ix1 ⟨b % 2048, Nat.mod_lt _ (by decide)⟩)

/-- Row `p` of a matrix of 1024 rows. -/
def rowE (x : Vec F S1024x32 .f32) (p : Nat) : Vec F S1x32 .f32 :=
  fun z => x (ix2 ⟨p % 1024, Nat.mod_lt _ (by decide)⟩ (z 1))

/-- Row `r` of a block of 64 rows. -/
def rowB (x : Vec F S64x32x1024 .f32) (r : Nat) : Vec F S1x32x1024 .f32 :=
  fun z => x (ix3 ⟨r % 64, Nat.mod_lt _ (by decide)⟩ (z 1) (z 2))

/-- The sum over the first `n` sentences of a row's list, which begins at place `s0` of `perm`. -/
def accum (pm : S1024.Idx → BitVec 32) (e ew : Vec F S1024x32 .f32) (U V : Vec F S32x32 .f32) (hr kr : Vec F S1x32x1024 .f32) (s0 : Nat) :
    Nat → FVec F S32x1024 .f32
  | 0 => k0_pay7 (F := F)
  | n + 1 => k0_pay8 hr kr U V (accum pm e ew U V hr kr s0 n) (rowE e (word pm (s0 + n)).toNat) (rowE ew (word pm (s0 + n)).toNat)

/-- What a row holds before it is normalised: with an empty list the row itself, otherwise the row and the sum. -/
def rowPre (pm : S1024.Idx → BitVec 32) (e ew : Vec F S1024x32 .f32) (U V : Vec F S32x32 .f32) (hr kr : Vec F S1x32x1024 .f32)
    (cnt s0 : BitVec 32) : FVec F S32x1024 .f32 :=
  if k0_cond2 cnt = 1#1 then k0_pay10 hr (accum pm e ew U V hr kr s0.toNat cnt.toNat) else k0_pay3 hr

/-- The block that grid point `i` computes, row by row. -/
def blockVal (st ct : S2048.Idx → BitVec 32) (pm : S1024.Idx → BitVec 32) (e ew : Vec F S1024x32 .f32) (U V : Vec F S32x32 .f32)
    (h k : Vec F S64x32x1024 .f32) (i : Nat) : Vec F S64x32x1024 .f32 :=
  fun y => k0_pay11 (rowPre pm e ew U V (rowB h (y 0).val) (rowB k (y 0).val) (word2 ct (64 * i + (y 0).val)) (word2 st (64 * i + (y 0).val)))
    (ix3 0 (y 1) (y 2))

/-! ### The words the body computes -/

/-- The bounds on the tables: every row's list lies inside `perm`, and `perm` holds sentence numbers. -/
def TabOK (st ct : S2048.Idx → BitVec 32) (pm : S1024.Idx → BitVec 32) : Prop :=
  (∀ b, (st b).toNat + (ct b).toNat ≤ 1024) ∧ ∀ j, (pm j).toNat < 1024

theorem toInt_small {x : BitVec 32} (h : x.toNat ≤ 1024) : x.toInt = x.toNat := by
  rw [BitVec.toInt_eq_toNat_cond]; split <;> omega

theorem ub1_eq (v6 v8 : BitVec 32) :
    Scalar.addi v8 (Scalar.muli (Scalar.divsi (Scalar.subi (Scalar.addi v8 v6) v8) 1#32) 1#32) = v8 + v6 := by
  rw [Scalar.muli_divsi_one]
  unfold Scalar.addi Scalar.subi IntOp.addi IntOp.subi
  rw [BitVec.add_comm v8 v6, BitVec.add_sub_cancel, BitVec.add_comm]

section
variable {v6 v8 : BitVec 32} (h : v8.toNat + v6.toNat ≤ 1024)
include h

theorem toInt_end : (v8 + v6).toInt = v8.toNat + v6.toNat := by
  have : (v8 + v6).toNat = v8.toNat + v6.toNat := by rw [BitVec.toNat_add]; omega
  rw [toInt_small (by omega), this]; norm_cast

/-- The main loop makes as many trips as the row's list is long. -/
theorem trips1 : (k0_t1_loop v6 v8).trips = v6.toNat := by
  show Scf.trips v8 (Scalar.addi v8 (Scalar.muli (Scalar.divsi (Scalar.subi (Scalar.addi v8 v6) v8) 1#32) 1#32)) 1#32 = _
  rw [ub1_eq]
  unfold Scf.trips
  rw [toInt_end h, toInt_small (x := v8) (by omega)]
  simp

theorem loop1_ok : (k0_t1_loop v6 v8).OK := by
  have ht := trips1 h
  refine ⟨(by decide : (0 : Int) < (1#32 : BitVec 32).toInt), ?_⟩
  show v8.toInt + (k0_t1_loop v6 v8).trips * (1#32 : BitVec 32).toInt < _
  rw [ht, toInt_small (x := v8) (by omega)]
  have : (1#32 : BitVec 32).toInt = 1 := by decide
  rw [this]
  have h32 : (2 : Int) ^ (32 - 1) = 2147483648 := by decide
  rw [h32]
  omega

/-- Trip `t` reads word `v8 + t` of `perm`. -/
theorem off2_eq (t : Fin (k0_t1_loop v6 v8).trips) : k0_off2 v6 v8 t = ![v8.toNat + t.val] := by
  have ht : t.val < v6.toNat := lt_of_lt_of_eq t.isLt (trips1 h)
  show ![(v8 + BitVec.ofNat 32 t.val * 1#32).toNat] = _
  congr 1
  rw [BitVec.mul_one, BitVec.toNat_add, BitVec.toNat_ofNat]
  omega

theorem chk1 : k0_chk1 v6 v8 := by
  refine ⟨fun _ => loop1_ok h, fun t _ a => ?_, fun _ => Scf.rem_ok v8 _, fun t _ => (Scf.rem_no_trip _ _ t).elim⟩
  have ht : t.val < v6.toNat := lt_of_lt_of_eq t.isLt (trips1 h)
  rw [off2_eq h t]
  fin_cases a
  show v8.toNat + t.val + 1 ≤ 1024
  omega
end

theorem off3_eq (p : BitVec 32) : k0_off3 p = ![p.toNat, 0] := rfl

theorem chk2 (v6 : BitVec 32) {p : BitVec 32} (h : p.toNat < 1024) : k0_chk2 v6 p := by
  intro _ a
  rw [off3_eq]
  fin_cases a
  · show p.toNat + 1 ≤ 1024; omega
  · show 0 + 32 ≤ 32; omega

/-! ### The rectangles' indices -/

theorem point_word {off : Fin 1 → Nat} {inb : ∀ a, off a + S1.size a ≤ S1024.size a} (n : Nat) (hoff : off = ![n])
    (x : S1024.Idx → BitVec 32) : x ((Rect.unit (s := S1024) off S1.size inb).point numel1_S1) = word x n := by
  subst hoff
  have hn : n + 1 ≤ 1024 := inb 0
  unfold word
  congr 1
  funext a
  apply Fin.ext
  fin_cases a
  show n + 1 * _ = n % 1024
  rw [Nat.mod_eq_of_lt (by omega)]
  have : ∀ z : Fin 1, z.val = 0 := fun z => by omega
  exact (congrArg (fun u => n + 1 * u) (this _)).trans (by omega)

theorem point_word2 {off : Fin 1 → Nat} {inb : ∀ a, off a + S1.size a ≤ S2048.size a} (n : Nat) (hoff : off = ![n])
    (x : S2048.Idx → BitVec 32) : x ((Rect.unit (s := S2048) off S1.size inb).point numel1_S1) = word2 x n := by
  subst hoff
  have hn : n + 1 ≤ 2048 := inb 0
  unfold word2
  congr 1
  funext a
  apply Fin.ext
  fin_cases a
  show n + 1 * _ = n % 2048
  rw [Nat.mod_eq_of_lt (by omega)]
  have : ∀ z : Fin 1, z.val = 0 := fun z => by omega
  exact (congrArg (fun u => n + 1 * u) (this _)).trans (by omega)

theorem load_rowE {p : BitVec 32} {inb : ∀ a, k0_off3 p a + S1x32.size a ≤ S1024x32.size a} (x : Vec F S1024x32 .f32) :
    (fun z => x ((Rect.unit (s := S1024x32) (k0_off3 p) S1x32.size inb).emb z)) = rowE x p.toNat := by
  have hn : p.toNat + 1 ≤ 1024 := inb 0
  funext z
  unfold rowE
  congr 1
  funext a
  apply Fin.ext
  match a with
  | ⟨0, _⟩ =>
    show p.toNat + 1 * (z 0).val = p.toNat % 1024
    have : (z 0).val < 1 := (z 0).isLt
    omega
  | ⟨1, _⟩ =>
    show 0 + 1 * (z 1).val = (z 1).val
    omega

theorem load_rowB {r : Nat} {inb : ∀ a, (![r, 0, 0] : Fin 3 → Nat) a + S1x32x1024.size a ≤ S64x32x1024.size a} (x : Vec F S64x32x1024 .f32) :
    (fun z => x ((Rect.unit (s := S64x32x1024) ![r, 0, 0] S1x32x1024.size inb).emb z)) = rowB x r := by
  have hn : r + 1 ≤ 64 := inb 0
  funext z
  unfold rowB
  congr 1
  funext a
  apply Fin.ext
  match a with
  | ⟨0, _⟩ =>
    show r + 1 * (z 0).val = r % 64
    have : (z 0).val < 1 := (z 0).isLt
    omega
  | ⟨1, _⟩ =>
    show 0 + 1 * (z 1).val = (z 1).val
    omega
  | ⟨2, _⟩ =>
    show 0 + 1 * (z 2).val = (z 2).val
    omega

/-- A load of a whole array returns it. -/
theorem load_all {s : Shape} {e : EltTy} {off : Fin s.rank → Nat} {inb : ∀ a, off a + s.size a ≤ s.size a} (x : s.Idx → Elt F e) :
    (fun z => x ((Rect.unit (s := s) off s.size inb).emb z)) = x := by
  funext z
  congr 1
  funext a
  apply Fin.ext
  show off a + 1 * (z a).val = (z a).val
  have := inb a
  omega

end Cert.Rows
-- ==== Proof.Body.lean ====
/- The body on one core: from its memrefs held at known contents, with the tables inside their bounds, a row leaves
   its place of the output block at the row's value and everything else as it was; the rows 0 … 63 leave the block's
   value; the prologue leaves the product `e @ W` in the scratch at the first grid point. -/
module

public import proofs.«01_k».proof.Proof.Model

@[expose] public section

noncomputable section

namespace Cert.Rows

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body's memrefs hold at a grid point: the tables `starts`, `counts`, `perm`; the encoded sentences and
    their product with `W`; `Uᵀ`, `Vᵀ`; the blocks of hidden states and of keys. -/
structure Blk (F : FTy → Type) where
  st : S2048.Idx → BitVec 32
  ct : S2048.Idx → BitVec 32
  pm : S1024.Idx → BitVec 32
  e : Vec F S1024x32 .f32
  ew : Vec F S1024x32 .f32
  U : Vec F S32x32 .f32
  V : Vec F S32x32 .f32
  h : Vec F S64x32x1024 .f32
  k : Vec F S64x32x1024 .f32

/-- The output block of these contents at grid point `i`. -/
def Blk.val (d : Blk F) (i : Nat) : Vec F S64x32x1024 .f32 := blockVal d.st d.ct d.pm d.e d.ew d.U d.V d.h d.k i

/-- The block after its first `n` rows: their values there, and what it held before (`x`) on the other rows. -/
def Blk.upto (d : Blk F) (i n : Nat) (x : Vec F S64x32x1024 .f32) : Vec F S64x32x1024 .f32 :=
  fun y => if (y 0).val < n then d.val i y else x y

section
variable (c : Dev nD) (q : PosShare TreeShare) (d : Blk F)
variable (i : grid0.Coords) (arg1 : Memref sig .tc .smem S2048 .i32) (harg1 : arg1.IsWhole) (arg2 : Memref sig .tc .smem S2048 .i32) (harg2 : arg2.IsWhole) (arg3 : Memref sig .tc .smem S1024 .i32) (harg3 : arg3.IsWhole) (arg4 : Memref sig .tc .vmem S1024x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S64x32x1024 .f32) (harg8 : arg8.IsWhole) (arg9 : Memref sig .tc .vmem S64x32x1024 .f32) (harg9 : arg9.IsWhole) (arg10 : Memref sig .tc .vmem S64x32x1024 .f32) (harg10 : arg10.IsWhole) (arg11 : Memref sig .tc .vmem S1024x32 .f32) (harg11 : arg11.IsWhole)

/-- The memrefs that the rows read. -/
def Held : sProp 𝕄 :=
  iprop(owns (c : Thread nD τ) arg1 q d.st ∗ owns (c : Thread nD τ) arg2 q d.ct ∗ owns (c : Thread nD τ) arg3 q d.pm
    ∗ owns (c : Thread nD τ) arg4 fullShare d.e ∗ owns (c : Thread nD τ) arg5 fullShare d.U ∗ owns (c : Thread nD τ) arg6 fullShare d.V
    ∗ owns (c : Thread nD τ) arg8 fullShare d.h ∗ owns (c : Thread nD τ) arg9 fullShare d.k ∗ owns (c : Thread nD τ) arg11 fullShare d.ew)

/-- One trip of a row's loop adds one sentence's term to the carried sum. -/
theorem trip_wp (hT : TabOK d.st d.ct d.pm) {v6 v8 : BitVec 32} (h68 : v8.toNat + v6.toNat ≤ 1024) (hw : k0_chk1 v6 v8)
    (h2 : k0_cond2 v6 = 1#1) (hr kr : Vec F S1x32x1024 .f32) (t : Fin (k0_t1_loop v6 v8).trips) (acc : FVec F S32x1024 .f32) :
    iprop(Held c q d arg1 arg2 arg3 arg4 arg5 arg6 arg8 arg9 arg11 ∗ ⌜acc = accum d.pm d.e d.ew d.U d.V hr kr v8.toNat t.val⌝)
      ⊢ bwp c (k0_t1_body (F := F) i arg1 harg1 arg2 harg2 arg3 harg3 arg4 harg4 arg5 harg5 arg6 harg6 arg7 harg7 arg8 harg8 arg9 harg9 arg10 harg10 arg11 harg11 v6 v8 hw hr h2 kr d.U d.V t acc)
          (fun r => iprop(Held c q d arg1 arg2 arg3 arg4 arg5 arg6 arg8 arg9 arg11 ∗ ⌜r = accum d.pm d.e d.ew d.U d.V hr kr v8.toNat (t.val + 1)⌝)) := by
  unfold k0_t1_body Held
  iintro ⟨⟨H1, H2, H3, H4, H5, H6, H8, H9, H11⟩, %hacc⟩
  iapply (own_word c) $$ H3
  iintro H3
  rw [point_word _ (off2_eq h68 t) d.pm]
  iapply (own_assume c (chk2 v6 (hT.2 _)))
  iapply (own_load c) $$ H4
  iintro H4
  rw [load_rowE]
  iapply (own_load c) $$ H11
  iintro H11
  rw [load_rowE]
  unfold bwp
  rw [wp_pure]; imodintro
  isplitl
  · isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    iexact H11
  ipureintro
  rw [hacc]; rfl

/-- The row's second loop, from the first one's end to the same word, makes no trip. -/
theorem rem_for (v6 v8 : BitVec 32) (hok : (k0_t2_loop v6 v8).OK) (init : FVec F S32x1024 .f32)
    (body : Fin (k0_t2_loop v6 v8).trips → FVec F S32x1024 .f32 → KProg F (FVec F S32x1024 .f32)) :
    Scf.Loop.for (k0_t2_loop v6 v8) hok init body = (pure init : KProg F (FVec F S32x1024 .f32)) :=
  Scf.for_rem_eq v8 (Scalar.subi (Scalar.addi v8 v6) v8) hok init body

/-- The `scf.if` of a row returns the row's value before it is normalised. -/
theorem rowCond_wp (hT : TabOK d.st d.ct d.pm) (r : Nat) (hr64 : r < 64) {v6 v8 : BitVec 32} (h68 : v8.toNat + v6.toNat ≤ 1024) (hw : k0_chk1 v6 v8)
    {β : Type} {kk : FVec F S32x1024 .f32 → KProg F β} {Q : β → sProp 𝕄} :
    Held c q d arg1 arg2 arg3 arg4 arg5 arg6 arg8 arg9 arg11 ⊢ iprop((Held c q d arg1 arg2 arg3 arg4 arg5 arg6 arg8 arg9 arg11 -∗ bwp c (kk (rowPre d.pm d.e d.ew d.U d.V (rowB d.h r) (rowB d.k r) v6 v8)) Q)
      -∗ bwp c (rowCond i arg1 harg1 arg2 harg2 arg3 harg3 arg4 harg4 arg5 harg5 arg6 harg6 arg7 harg7 arg8 harg8 arg9 harg9 arg10 harg10 arg11 harg11 r hr64 v6 v8 hw (rowB d.h r) >>= kk) Q) := by
  by_cases h2 : k0_cond2 v6 = 1#1
  · have hrow : rowPre d.pm d.e d.ew d.U d.V (rowB d.h r) (rowB d.k r) v6 v8
        = k0_pay10 (rowB d.h r) (accum d.pm d.e d.ew d.U d.V (rowB d.h r) (rowB d.k r) v8.toNat v6.toNat) := if_pos h2
    rw [hrow]
    unfold rowCond
    rw [dif_pos h2]
    simp only [bind_assoc, pure_bind]
    iintro Hh Hk
    unfold Held
    icases Hh with ⟨H1, H2, H3, H4, H5, H6, H8, H9, H11⟩
    iapply (own_load c) $$ H9
    iintro H9
    rw [load_rowB]
    iapply (own_load c) $$ H5
    iintro H5
    rw [load_all]
    iapply (own_load c) $$ H6
    iintro H6
    rw [load_all]
    iapply (Scf.wp_for_bind frame (wpE (defs₀ (F := F)) 𝒱₀ (c : Thread nD τ) none) Set.univ _ _ _ _ _ _
      (fun n acc => iprop(Held c q d arg1 arg2 arg3 arg4 arg5 arg6 arg8 arg9 arg11 ∗ ⌜acc = accum d.pm d.e d.ew d.U d.V (rowB d.h r) (rowB d.k r) v8.toNat n⌝))
      (fun t acc => trip_wp c q d i arg1 harg1 arg2 harg2 arg3 harg3 arg4 harg4 arg5 harg5 arg6 harg6 arg7 harg7 arg8 harg8 arg9 harg9 arg10 harg10 arg11 harg11 hT h68 hw h2 (rowB d.h r) (rowB d.k r) t acc)) $$ [H1 H2 H3 H4 H5 H6 H8 H9 H11]
    · unfold Held
      isplitl
      · isplitl [H1]; · iexact H1
        isplitl [H2]; · iexact H2
        isplitl [H3]; · iexact H3
        isplitl [H4]; · iexact H4
        isplitl [H5]; · iexact H5
        isplitl [H6]; · iexact H6
        isplitl [H8]; · iexact H8
        isplitl [H9]; · iexact H9
        iexact H11
      ipureintro; rfl
    iintro %acc ⟨Hh, %hacc⟩
    have ht : Scf.trips (k0_t1_loop v6 v8).lb (k0_t1_loop v6 v8).ub (k0_t1_loop v6 v8).st = v6.toNat := trips1 h68
    rw [ht] at hacc
    rw [rem_for, pure_bind]
    subst hacc
    unfold Held
    iapply Hk
    iexact Hh
  · have hrow : rowPre d.pm d.e d.ew d.U d.V (rowB d.h r) (rowB d.k r) v6 v8 = k0_pay3 (rowB d.h r) := if_neg h2
    rw [hrow]
    unfold rowCond
    rw [dif_neg h2, pure_bind]
    iintro Hh Hk
    iapply Hk
    iexact Hh

/-- A row writes its value to its place of the output block. -/
theorem row_wp (hT : TabOK d.st d.ct d.pm) (r : Nat) (hr64 : r < 64) (x : Vec F S64x32x1024 .f32)
    {β : Type} {kk : PUnit → KProg F β} {Q : β → sProp 𝕄} :
    iprop(Held c q d arg1 arg2 arg3 arg4 arg5 arg6 arg8 arg9 arg11 ∗ owns (c : Thread nD τ) arg10 fullShare (d.upto (i 0).val r x)) ⊢ iprop((Held c q d arg1 arg2 arg3 arg4 arg5 arg6 arg8 arg9 arg11 ∗ owns (c : Thread nD τ) arg10 fullShare (d.upto (i 0).val (r + 1) x) -∗ bwp c (kk ⟨⟩) Q)
      -∗ bwp c (row i arg1 harg1 arg2 harg2 arg3 harg3 arg4 harg4 arg5 harg5 arg6 harg6 arg7 harg7 arg8 harg8 arg9 harg9 arg10 harg10 arg11 harg11 r hr64 >>= kk) Q) := by
  have hi : (i 0).val < 32 := (i 0).isLt
  unfold row
  simp only [bind_assoc]
  iintro ⟨Hh, H10⟩ Hk
  unfold Held
  icases Hh with ⟨H1, H2, H3, H4, H5, H6, H8, H9, H11⟩
  iapply (own_word c) $$ H2
  iintro H2
  rw [point_word2 _ (rowOff_eq i r hr64) d.ct]
  iapply (own_word c) $$ H1
  iintro H1
  rw [point_word2 _ (rowOff_eq i r hr64) d.st]
  have h68 : (word2 d.st (64 * (i 0).val + r)).toNat + (word2 d.ct (64 * (i 0).val + r)).toNat ≤ 1024 := hT.1 _
  iapply (own_assume c (chk1 h68))
  iapply (own_load c) $$ H8
  iintro H8
  rw [load_rowB]
  iapply (rowCond_wp c q d i arg1 harg1 arg2 harg2 arg3 harg3 arg4 harg4 arg5 harg5 arg6 harg6 arg7 harg7 arg8 harg8 arg9 harg9 arg10 harg10 arg11 harg11 hT r hr64 h68 (chk1 h68)) $$ [H1 H2 H3 H4 H5 H6 H8 H9 H11]
  · unfold Held
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    iexact H11
  iintro Hh
  iapply (own_load c) $$ H10
  iintro H10
  iapply (own_store c (y := d.upto (i 0).val (r + 1) x) ?_ ?_) $$ H10
  rotate_left 2
  · iintro H10
    unfold Held
    iapply Hk
    isplitl [Hh]; · iexact Hh
    iexact H10
  · intro z
    have hz0 : z 0 = (0 : Fin 1) := Fin.ext (by have : (z 0).val < 1 := (z 0).isLt; show (z 0).val = 0; omega)
    have h0 : ((Rect.unit (s := S64x32x1024) ![r, 0, 0] S1x32x1024.size (row_inb r hr64)).emb z 0).val = r := by
      show r + 1 * (z 0).val = r
      rw [hz0]; rfl
    have h1 : (Rect.unit (s := S64x32x1024) ![r, 0, 0] S1x32x1024.size (row_inb r hr64)).emb z 1 = z 1 := Fin.ext ((Nat.zero_add _).trans (Nat.one_mul _))
    have h2 : (Rect.unit (s := S64x32x1024) ![r, 0, 0] S1x32x1024.size (row_inb r hr64)).emb z 2 = z 2 := Fin.ext ((Nat.zero_add _).trans (Nat.one_mul _))
    unfold Blk.upto Blk.val blockVal
    rw [if_pos (by rw [h0]; exact Nat.lt_succ_self r), h0]
    refine congrArg _ ?_
    rw [h1, h2, ← hz0]
    exact (eq_ix3 z).symm
  · intro j hj
    have hne : (j 0).val ≠ r := fun he => hj (by
      rw [Rect.mem_set_unit]
      intro a
      match a with
      | ⟨0, _⟩ => exact ⟨by show r ≤ (j 0).val; omega, by show (j 0).val < r + 1; omega⟩
      | ⟨1, _⟩ => exact ⟨Nat.zero_le _, by show (j 1).val < 0 + 32; have : (j 1).val < 32 := (j 1).isLt; omega⟩
      | ⟨2, _⟩ => exact ⟨Nat.zero_le _, by show (j 2).val < 0 + 1024; have : (j 2).val < 1024 := (j 2).isLt; omega⟩)
    unfold Blk.upto
    by_cases hlt : (j 0).val < r
    · rw [if_pos (by omega), if_pos hlt]
    · rw [if_neg (by omega), if_neg hlt]

/-- The rows from row `r` on write the rest of the block. -/
theorem rowsFrom_wp (hT : TabOK d.st d.ct d.pm) (x : Vec F S64x32x1024 .f32) {Q : PUnit → sProp 𝕄} :
    ∀ (n r : Nat) (h : n + r = 64),
    iprop(Held c q d arg1 arg2 arg3 arg4 arg5 arg6 arg8 arg9 arg11 ∗ owns (c : Thread nD τ) arg10 fullShare (d.upto (i 0).val r x)) ⊢ iprop((Held c q d arg1 arg2 arg3 arg4 arg5 arg6 arg8 arg9 arg11 ∗ owns (c : Thread nD τ) arg10 fullShare (d.val (i 0).val) -∗ Q ⟨⟩)
      -∗ bwp c (rowsFrom i arg1 harg1 arg2 harg2 arg3 harg3 arg4 harg4 arg5 harg5 arg6 harg6 arg7 harg7 arg8 harg8 arg9 harg9 arg10 harg10 arg11 harg11 n r h) Q)
  | 0, r, h => by
    obtain rfl : r = 64 := by omega
    have hx : d.upto (i 0).val 64 x = d.val (i 0).val := funext fun y => if_pos (y 0).isLt
    rw [hx]
    show _ ⊢ iprop(_ -∗ bwp c (pure ⟨⟩) Q)
    unfold bwp
    rw [wp_pure]
    iintro H Hk
    imodintro
    iapply Hk
    iexact H
  | n + 1, r, h => by
    rw [rowsFrom_succ]
    iintro H Hk
    iapply (row_wp c q d i arg1 harg1 arg2 harg2 arg3 harg3 arg4 harg4 arg5 harg5 arg6 harg6 arg7 harg7 arg8 harg8 arg9 harg9 arg10 harg10 arg11 harg11 hT r _ x) $$ H
    iintro H
    iapply (rowsFrom_wp hT x n (r + 1) _) $$ H
    iexact Hk

/-- The prologue's condition holds at the first grid point only. -/
theorem first_iff (n : Nat) (hn : n < 32) :
    Scalar.cmpi .ne (Scalar.extui (Scalar.cmpi .eq (BitVec.ofNat 32 n) 0#32) : BitVec 32) 0#32 = 1#1 ↔ n = 0 := by
  revert n; decide

/-- The body at grid point `i`: the output block is left at its value, and the scratch at `e @ W`, which it already
    holds after the first point. -/
theorem body_wp (hT : TabOK d.st d.ct d.pm) (W : Vec F S32x32 .f32) (hew : d.ew = k0_pay2 d.e W) (x : Vec F S64x32x1024 .f32)
    (x11 : Vec F S1024x32 .f32) (h11 : (i 0).val ≠ 0 → x11 = d.ew) {Q : PUnit → sProp 𝕄} :
    iprop(owns (c : Thread nD τ) arg1 q d.st ∗ owns (c : Thread nD τ) arg2 q d.ct ∗ owns (c : Thread nD τ) arg3 q d.pm
        ∗ owns (c : Thread nD τ) arg4 fullShare d.e ∗ owns (c : Thread nD τ) arg5 fullShare d.U ∗ owns (c : Thread nD τ) arg6 fullShare d.V
        ∗ owns (c : Thread nD τ) arg7 fullShare W ∗ owns (c : Thread nD τ) arg8 fullShare d.h ∗ owns (c : Thread nD τ) arg9 fullShare d.k
        ∗ owns (c : Thread nD τ) arg10 fullShare x ∗ owns (c : Thread nD τ) arg11 fullShare x11)
      ⊢ iprop((owns (c : Thread nD τ) arg1 q d.st ∗ owns (c : Thread nD τ) arg2 q d.ct ∗ owns (c : Thread nD τ) arg3 q d.pm
        ∗ owns (c : Thread nD τ) arg4 fullShare d.e ∗ owns (c : Thread nD τ) arg5 fullShare d.U ∗ owns (c : Thread nD τ) arg6 fullShare d.V
        ∗ owns (c : Thread nD τ) arg7 fullShare W ∗ owns (c : Thread nD τ) arg8 fullShare d.h ∗ owns (c : Thread nD τ) arg9 fullShare d.k
        ∗ owns (c : Thread nD τ) arg10 fullShare (d.val (i 0).val) ∗ owns (c : Thread nD τ) arg11 fullShare d.ew -∗ Q ⟨⟩)
      -∗ bwp c (cc0__body i arg1 harg1 arg2 harg2 arg3 harg3 arg4 harg4 arg5 harg5 arg6 harg6 arg7 harg7 arg8 harg8 arg9 harg9 arg10 harg10 arg11 harg11) Q) := by
  have hi : (i 0).val < 32 := (i 0).isLt
  have hx : d.upto (i 0).val 0 x = x := funext fun y => if_neg (Nat.not_lt_zero _)
  have hrows := rowsFrom_wp c q d i arg1 harg1 arg2 harg2 arg3 harg3 arg4 harg4 arg5 harg5 arg6 harg6 arg7 harg7 arg8 harg8 arg9 harg9 arg10 harg10 arg11 harg11 hT x (Q := Q) 64 0 rfl
  rw [hx] at hrows
  unfold Held at hrows
  rw [rows_eq]
  unfold prologue
  by_cases h0 : (i 0).val = 0
  · rw [if_pos ((first_iff _ hi).mpr h0)]
    simp only [bind_assoc]
    iintro ⟨H1, H2, H3, H4, H5, H6, H7, H8, H9, H10, H11⟩ Hk
    iapply (own_load c) $$ H4
    iintro H4
    rw [load_all]
    iapply (own_load c) $$ H7
    iintro H7
    rw [load_all]
    iapply (own_load c) $$ H11
    iintro H11
    iapply (own_store c (y := d.ew) ?_ ?_) $$ H11
    rotate_left 2
    · iintro H11
      iapply hrows $$ [H1 H2 H3 H4 H5 H6 H8 H9 H10 H11]
      · isplitr [H10]
        · isplitl [H1]; · iexact H1
          isplitl [H2]; · iexact H2
          isplitl [H3]; · iexact H3
          isplitl [H4]; · iexact H4
          isplitl [H5]; · iexact H5
          isplitl [H6]; · iexact H6
          isplitl [H8]; · iexact H8
          isplitl [H9]; · iexact H9
          iexact H11
        iexact H10
      iintro ⟨⟨H1, H2, H3, H4, H5, H6, H8, H9, H11⟩, H10⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · intro z
      rw [← hew]
      exact congrFun (load_all d.ew) z
    · intro j hj
      exact (hj (by
        rw [Rect.mem_set_unit]
        intro a
        match a with
        | ⟨0, _⟩ => exact ⟨Nat.zero_le _, by show (j 0).val < 0 + 1024; have : (j 0).val < 1024 := (j 0).isLt; omega⟩
        | ⟨1, _⟩ => exact ⟨Nat.zero_le _, by show (j 1).val < 0 + 32; have : (j 1).val < 32 := (j 1).isLt; omega⟩)).elim
  · rw [if_neg (fun h => h0 ((first_iff _ hi).mp h)), pure_bind, h11 h0]
    iintro ⟨H1, H2, H3, H4, H5, H6, H7, H8, H9, H10, H11⟩ Hk
    iapply hrows $$ [H1 H2 H3 H4 H5 H6 H8 H9 H10 H11]
    · isplitr [H10]
      · isplitl [H1]; · iexact H1
        isplitl [H2]; · iexact H2
        isplitl [H3]; · iexact H3
        isplitl [H4]; · iexact H4
        isplitl [H5]; · iexact H5
        isplitl [H6]; · iexact H6
        isplitl [H8]; · iexact H8
        isplitl [H9]; · iexact H9
        iexact H11
      iexact H10
    iintro ⟨⟨H1, H2, H3, H4, H5, H6, H8, H9, H11⟩, H10⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end

end Cert.Rows
-- ==== Proof.Data.lean ====
/- The pipeline's proof data at contents `V` of the buffers as the region finds them: what each window's staging buffer
   holds after the body at each grid point, and what the body keeps from point to point (the product `e @ W` in its
   scratch and the three tables). The body's obligation at every point follows from `body_wp`. -/
module

public import proofs.«01_k».proof.Proof.Body
public import proofs.«01_k».proof.Proof.Gen.KernelIdeal.Launch
public import Idealize.ShloMosaic.Lib.Pipeline.FrameBody
public import Idealize.ShloMosaic.Lib.Pipeline.Value

@[expose] public section

noncomputable section

namespace Cert.Rows

open Cert.KernelIdeal Cert.KernelIdeal.Gen
open Idealize.ShloMosaic Idealize.ShloMosaic.TcCoe
open Idealize.ShloMosaic.Pipeline (Dat Cfg Window BodyObligationLoose)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (V : Valuation τ sig (Elt F))

/-- The contents of a buffer of the TensorCore. -/
abbrev at_ (b : Ref sig .tc) : b.ty.Contents (Elt F) := V (Proc.devRef .tc b)

/-- The prefetched tables at these contents. -/
def adm : (pcfg0 (F := F)).Adm := ⟨fun k => V (Proc.devRef .tc (pre0.ref k)), trivial⟩

/-- The pipeline at these tables. -/
abbrev cfgV : Cfg sig Λ₀ := cfg0 (adm V)

/-- The blocks of hidden states and of keys that grid point `t` reads. -/
def hblk (t : Fin grid0.N) : Vec F S64x32x1024 .f32 := (((cfgV V).win 4).blk t).view.read (Elt F) (at_ V main_v0)
def kblk (t : Fin grid0.N) : Vec F S64x32x1024 .f32 := (((cfgV V).win 5).blk t).view.read (Elt F) (at_ V main_v1)

/-- What the body's memrefs hold at point `t`. -/
def blkV (t : Fin grid0.N) : Blk F where
  st := at_ V main_v12
  ct := at_ V main_v14
  pm := at_ V main_v2
  e := at_ V main_arg0
  ew := k0_pay2 (at_ V main_arg0) (at_ V main_arg6)
  U := at_ V main_v15
  V := at_ V main_v16
  h := hblk V t
  k := kblk V t

/-- What the body keeps before point `n`: the scratch, holding the product from the second point on; the tables; the
    generator's register. -/
def PhiV (c : Dev nD) (n : Nat) : sProp 𝕄 :=
  iprop((∃ f : Vec F S1024x32 .f32, ⌜n ≠ 0 → f = k0_pay2 (at_ V main_arg0) (at_ V main_arg6)⌝
        ∗ owns (c : Thread nD τ) (Memref.whole cc0_scratch0) fullShare f)
    ∗ (owns (c : Thread nD τ) (Memref.whole main_v12) fullShare.right (at_ V main_v12)
        ∗ owns (c : Thread nD τ) (Memref.whole main_v14) fullShare.right (at_ V main_v14)
        ∗ owns (c : Thread nD τ) (Memref.whole main_v2) fullShare.right (at_ V main_v2))
    ∗ ∃ r, prngReg c r)

def dats : (p : Fin 1) → (c : Dev nD) → Dat τ (Elt F) Unit ℕ (UR sig nD τ) ℕ (Pipeline.pin pcfgs (fun _ => adm V) p) c := fun _ c =>
  { A := fun w => V (Proc.devRef .tc (Pipeline.arrRef spec0 w))
    after := fun w t => match w with
      | ⟨0, _⟩ => at_ V main_arg0
      | ⟨1, _⟩ => at_ V main_v15
      | ⟨2, _⟩ => at_ V main_v16
      | ⟨3, _⟩ => at_ V main_arg6
      | ⟨4, _⟩ => hblk V t
      | ⟨5, _⟩ => kblk V t
      | ⟨6, _⟩ => (blkV V t).val t.val
      | ⟨_ + 7, h⟩ => absurd h (Nat.not_lt.2 (Nat.le_add_left _ _))
    Φ := fun t => PhiV V c t.val
    q := fun _ => fullShare
    owed := fun _ => 0 }

theorem coords_val : ∀ t : Fin grid0.N, (grid0.coords t 0).val = t.val := by decide

/-- The windows 0 to 3 are their whole arrays. -/
theorem whole0 (t : Fin grid0.N) (x : main_arg0.ty.Contents (Elt F)) : (((cfgV V).win 0).blk t).view.read (Elt F) x = x :=
  funext fun y => congrArg x (funext fun a => Fin.ext (Window.rect_emb_val_of_index_zero ((cfgV V).win 0) t a (by fin_cases a <;> rfl) y))
theorem whole1 (t : Fin grid0.N) (x : main_v15.ty.Contents (Elt F)) : (((cfgV V).win 1).blk t).view.read (Elt F) x = x :=
  funext fun y => congrArg x (funext fun a => Fin.ext (Window.rect_emb_val_of_index_zero ((cfgV V).win 1) t a (by fin_cases a <;> rfl) y))
theorem whole2 (t : Fin grid0.N) (x : main_v16.ty.Contents (Elt F)) : (((cfgV V).win 2).blk t).view.read (Elt F) x = x :=
  funext fun y => congrArg x (funext fun a => Fin.ext (Window.rect_emb_val_of_index_zero ((cfgV V).win 2) t a (by fin_cases a <;> rfl) y))
theorem whole3 (t : Fin grid0.N) (x : main_arg6.ty.Contents (Elt F)) : (((cfgV V).win 3).blk t).view.read (Elt F) x = x :=
  funext fun y => congrArg x (funext fun a => Fin.ext (Window.rect_emb_val_of_index_zero ((cfgV V).win 3) t a (by fin_cases a <;> rfl) y))

section
variable (c : Dev nD) (t : Fin grid0.N)

theorem before0 (d : Vec F S1024x32 .f32) : (dats V 0 c).before 0 t d = at_ V main_arg0 :=
  ((dats V 0 c).before_in_eq_fetched 0 rfl (fun _ => rfl) (fun _ _ _ => rfl) (fun t => (whole0 V t _).symm) t d).trans (whole0 V t _)
theorem before1 (d : Vec F S32x32 .f32) : (dats V 0 c).before 1 t d = at_ V main_v15 :=
  ((dats V 0 c).before_in_eq_fetched 1 rfl (fun _ => rfl) (fun _ _ _ => rfl) (fun t => (whole1 V t _).symm) t d).trans (whole1 V t _)
theorem before2 (d : Vec F S32x32 .f32) : (dats V 0 c).before 2 t d = at_ V main_v16 :=
  ((dats V 0 c).before_in_eq_fetched 2 rfl (fun _ => rfl) (fun _ _ _ => rfl) (fun t => (whole2 V t _).symm) t d).trans (whole2 V t _)
theorem before3 (d : Vec F S32x32 .f32) : (dats V 0 c).before 3 t d = at_ V main_arg6 :=
  ((dats V 0 c).before_in_eq_fetched 3 rfl (fun _ => rfl) (fun _ _ _ => rfl) (fun t => (whole3 V t _).symm) t d).trans (whole3 V t _)
theorem before4 (d : Vec F S64x32x1024 .f32) : (dats V 0 c).before 4 t d = hblk V t :=
  (dats V 0 c).before_in_eq_fetched 4 rfl (fun _ => rfl) (fun _ _ _ => rfl) (fun _ => rfl) t d
theorem before5 (d : Vec F S64x32x1024 .f32) : (dats V 0 c).before 5 t d = kblk V t :=
  (dats V 0 c).before_in_eq_fetched 5 rfl (fun _ => rfl) (fun _ _ _ => rfl) (fun _ => rfl) t d

/-- The staging buffers that the body is called with at point `t`. -/
abbrev stg0 : Memref sig .tc .vmem S1024x32 .f32 := spec0_0.stage ((cfgV V).slots t 0)
abbrev stg1 : Memref sig .tc .vmem S32x32 .f32 := spec0_1.stage ((cfgV V).slots t 1)
abbrev stg2 : Memref sig .tc .vmem S32x32 .f32 := spec0_2.stage ((cfgV V).slots t 2)
abbrev stg3 : Memref sig .tc .vmem S32x32 .f32 := spec0_3.stage ((cfgV V).slots t 3)
abbrev stg4 : Memref sig .tc .vmem S64x32x1024 .f32 := spec0_4.stage ((cfgV V).slots t 4)
abbrev stg5 : Memref sig .tc .vmem S64x32x1024 .f32 := spec0_5.stage ((cfgV V).slots t 5)
abbrev stg6 : Memref sig .tc .vmem S64x32x1024 .f32 := spec0_6.stage ((cfgV V).slots t 6)
end

/-- The body keeps its obligation at every point. -/
theorem body_obligation (hT : TabOK (at_ V main_v12) (at_ V main_v14) (at_ V main_v2)) (c : Dev nD) :
    BodyObligationLoose (dats V 0 c) (defs₀ (F := F)) 𝒱₀ () Set.univ := fun t => by
  rw [bigSep_W0, bigSep_W0]
  show iprop(PhiV V c t.val ∗ (dats V 0 c).owesAt () t.castSucc
      ∗ (∃ d, owns (c : Thread nD τ) (stg0 V t) fullShare ((dats V 0 c).before 0 t d))
      ∗ (∃ d, owns (c : Thread nD τ) (stg1 V t) fullShare ((dats V 0 c).before 1 t d))
      ∗ (∃ d, owns (c : Thread nD τ) (stg2 V t) fullShare ((dats V 0 c).before 2 t d))
      ∗ (∃ d, owns (c : Thread nD τ) (stg3 V t) fullShare ((dats V 0 c).before 3 t d))
      ∗ (∃ d, owns (c : Thread nD τ) (stg4 V t) fullShare ((dats V 0 c).before 4 t d))
      ∗ (∃ d, owns (c : Thread nD τ) (stg5 V t) fullShare ((dats V 0 c).before 5 t d))
      ∗ (∃ d, owns (c : Thread nD τ) (stg6 V t) fullShare ((dats V 0 c).before 6 t d)))
    ⊢ bwp c (cc0__body (grid0.coords t) (Memref.whole main_v12) (Memref.isWhole_whole _) (Memref.whole main_v14) (Memref.isWhole_whole _)
        (Memref.whole main_v2) (Memref.isWhole_whole _) (stg0 V t) (hstage0_0 (((cfgV V).slots t 0).cast nbuf0_0)) (stg1 V t) (hstage0_1 (((cfgV V).slots t 1).cast nbuf0_1)) (stg2 V t) (hstage0_2 (((cfgV V).slots t 2).cast nbuf0_2))
        (stg3 V t) (hstage0_3 (((cfgV V).slots t 3).cast nbuf0_3)) (stg4 V t) (hstage0_4 (((cfgV V).slots t 4).cast nbuf0_4)) (stg5 V t) (hstage0_5 (((cfgV V).slots t 5).cast nbuf0_5)) (stg6 V t) (hstage0_6 (((cfgV V).slots t 6).cast nbuf0_6))
        (Memref.whole cc0_scratch0) (Memref.isWhole_whole _))
      (fun _ => iprop(PhiV V c (t.val + 1) ∗ (dats V 0 c).owesAt () t.succ
        ∗ owns (c : Thread nD τ) (stg0 V t) fullShare (at_ V main_arg0)
        ∗ owns (c : Thread nD τ) (stg1 V t) fullShare (at_ V main_v15)
        ∗ owns (c : Thread nD τ) (stg2 V t) fullShare (at_ V main_v16)
        ∗ owns (c : Thread nD τ) (stg3 V t) fullShare (at_ V main_arg6)
        ∗ owns (c : Thread nD τ) (stg4 V t) fullShare (hblk V t)
        ∗ owns (c : Thread nD τ) (stg5 V t) fullShare (kblk V t)
        ∗ owns (c : Thread nD τ) (stg6 V t) fullShare ((blkV V t).val t.val)))
  unfold PhiV
  iintro ⟨⟨⟨%f, %hf, Hs⟩, ⟨T1, T2, T3⟩, Hg⟩, Ho, ⟨%d0, H0⟩, ⟨%d1, H1⟩, ⟨%d2, H2⟩, ⟨%d3, H3⟩, ⟨%d4, H4⟩, ⟨%d5, H5⟩, ⟨%d6, H6⟩⟩
  iapply (body_wp c fullShare.right (blkV V t) (grid0.coords t) (Memref.whole main_v12) (Memref.isWhole_whole _) (Memref.whole main_v14) (Memref.isWhole_whole _)
        (Memref.whole main_v2) (Memref.isWhole_whole _) (stg0 V t) (hstage0_0 (((cfgV V).slots t 0).cast nbuf0_0)) (stg1 V t) (hstage0_1 (((cfgV V).slots t 1).cast nbuf0_1)) (stg2 V t) (hstage0_2 (((cfgV V).slots t 2).cast nbuf0_2))
        (stg3 V t) (hstage0_3 (((cfgV V).slots t 3).cast nbuf0_3)) (stg4 V t) (hstage0_4 (((cfgV V).slots t 4).cast nbuf0_4)) (stg5 V t) (hstage0_5 (((cfgV V).slots t 5).cast nbuf0_5)) (stg6 V t) (hstage0_6 (((cfgV V).slots t 6).cast nbuf0_6))
        (Memref.whole cc0_scratch0) (Memref.isWhole_whole _) hT (at_ V main_arg6) rfl ((dats V 0 c).before 6 t d6) f
        (fun h => hf (by rwa [coords_val] at h))) $$ [T1 T2 T3 H0 H1 H2 H3 H4 H5 H6 Hs]
  · isplitl [T1]; · iexact T1
    isplitl [T2]; · iexact T2
    isplitl [T3]; · iexact T3
    isplitl [H0]
    · iapply (show owns (c : Thread nD τ) (stg0 V t) fullShare ((dats V 0 c).before 0 t d0) ⊢ owns (c : Thread nD τ) (stg0 V t) fullShare (at_ V main_arg0) from
        BIBase.Entails.of_eq (congrArg (owns (c : Thread nD τ) (stg0 V t) fullShare) (before0 V c t d0))) $$ H0
    isplitl [H1]
    · iapply (show owns (c : Thread nD τ) (stg1 V t) fullShare ((dats V 0 c).before 1 t d1) ⊢ owns (c : Thread nD τ) (stg1 V t) fullShare (at_ V main_v15) from
        BIBase.Entails.of_eq (congrArg (owns (c : Thread nD τ) (stg1 V t) fullShare) (before1 V c t d1))) $$ H1
    isplitl [H2]
    · iapply (show owns (c : Thread nD τ) (stg2 V t) fullShare ((dats V 0 c).before 2 t d2) ⊢ owns (c : Thread nD τ) (stg2 V t) fullShare (at_ V main_v16) from
        BIBase.Entails.of_eq (congrArg (owns (c : Thread nD τ) (stg2 V t) fullShare) (before2 V c t d2))) $$ H2
    isplitl [H3]
    · iapply (show owns (c : Thread nD τ) (stg3 V t) fullShare ((dats V 0 c).before 3 t d3) ⊢ owns (c : Thread nD τ) (stg3 V t) fullShare (at_ V main_arg6) from
        BIBase.Entails.of_eq (congrArg (owns (c : Thread nD τ) (stg3 V t) fullShare) (before3 V c t d3))) $$ H3
    isplitl [H4]
    · iapply (show owns (c : Thread nD τ) (stg4 V t) fullShare ((dats V 0 c).before 4 t d4) ⊢ owns (c : Thread nD τ) (stg4 V t) fullShare (hblk V t) from
        BIBase.Entails.of_eq (congrArg (owns (c : Thread nD τ) (stg4 V t) fullShare) (before4 V c t d4))) $$ H4
    isplitl [H5]
    · iapply (show owns (c : Thread nD τ) (stg5 V t) fullShare ((dats V 0 c).before 5 t d5) ⊢ owns (c : Thread nD τ) (stg5 V t) fullShare (kblk V t) from
        BIBase.Entails.of_eq (congrArg (owns (c : Thread nD τ) (stg5 V t) fullShare) (before5 V c t d5))) $$ H5
    isplitl [H6]; · iexact H6
    iexact Hs
  rw [coords_val]
  iintro ⟨T1, T2, T3, H0, H1, H2, H3, H4, H5, H6, Hs⟩
  isplitl [T1 T2 T3 Hs Hg]
  · isplitl [Hs]
    · iexists _
      isplitr
      · ipureintro; exact fun _ => rfl
      · iexact Hs
    isplitl [T1 T2 T3]
    · isplitl [T1]; · iexact T1
      isplitl [T2]; · iexact T2
      iexact T3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end

end Cert.Rows

end
-- ==== Proof.Tables.lean ====
/- The host operations before the kernel: the order in which `perm` lists the sentences, and the two tables that say where
   each entity's sentences lie in it. Every count is a count of sentences, so that the tables are inside their bounds
   whatever the indices are. -/
module

public import proofs.«01_k».proof.Proof.Data
public import Idealize.ShloMosaic.Lib.Routing.OpsSearch
public import Idealize.ShloMosaic.Lib.SortFacts
public import Idealize.ShloMosaic.Lib.Pointwise.IndexBridge
public import Idealize.ShloMosaic.Lib.Claim
public import Idealize.ShloMosaic.Lib.Pipeline.FrameSuffix

@[expose] public section

noncomputable section

namespace Cert.Rows

open Cert.KernelIdeal Cert.KernelIdeal.Gen
open Idealize.ShloMosaic Idealize.ShloMosaic.Routing

/-! ### The order of the sentences -/

/-- The sentence at each place of the sorted list. -/
def order (x : S1024.Idx → BitVec 32) : Fin 1024 → Fin 1024 :=
  sortedFrom fun k k' => IntOp.cmpi .slt (x (ix1 k)) (x (ix1 k')) == 1#1

/-- The indices' argsort. -/
def permOf (x : S1024.Idx → BitVec 32) : S1024.Idx → BitVec 32 :=
  (Host.sort2 S1024 0 comparator_i32_i32_d0 x (iotaInDim S1024 32 0)).2

theorem permOf_apply (x : S1024.Idx → BitVec 32) (k : Fin 1024) : permOf x (ix1 k) = BitVec.ofNat 32 (order x k).val := by
  have hal : ∀ k' : Fin 1024, (ix1 k : S1024.Idx).along (0 : Fin 1) k' = ix1 k' := fun k' =>
    ((Shape.Idx.along_rank1 _ k').trans (ofFin_eq_ix1 k')).trans (ix1_eq_valueIdx k').symm
  unfold permOf Host.sort2
  rw [dif_pos (by decide : 0 < S1024.rank)]
  refine (congrArg (iotaInDim S1024 32 0) (hal _)).trans ?_
  exact congrArg (fun f => BitVec.ofNat 32 (sortedFrom f k).val)
    (funext fun a => funext fun b => congrArg₂ (fun u v => IntOp.cmpi .slt (x u) (x v) == 1#1) (hal a) (hal b))

theorem permOf_lt (x : S1024.Idx → BitVec 32) (j : S1024.Idx) : (permOf x j).toNat < 1024 := by
  obtain ⟨k, rfl⟩ : ∃ k : Fin 1024, j = ix1 k := ⟨j 0, eq_ix1 j⟩
  rw [permOf_apply, BitVec.toNat_ofNat]
  have := (order x k).isLt
  omega

/-! ### The tables -/

/-- How many of the words `s` are below each of 0 … 2048. -/
def belowOf (s : S1024.Idx → BitVec 32) : S2049.Idx → BitVec 32 :=
  Host.reduce IntOp.addi (extui 32 (cmpi .slt
      (broadcastInDim S2049x1024 ![0, 1] bcast_S1x1024_S2049x1024_0_1 (broadcastInDim S1x1024 ![1] bcast_S1024_S1x1024_1 s))
      (broadcastInDim S2049x1024 ![0, 1] bcast_S2049x1_S2049x1024_0_1 (broadcastInDim S2049x1 ![0] bcast_S2049_S2049x1_0 (iotaInDim S2049 32 0))))
    natLt_1_32) (constantI S_ 32 0#32) reducesTo_S2049x1024_S2049_d1 h_S_

def startsOf (s : S1024.Idx → BitVec 32) : S2048.Idx → BitVec 32 := extractStridedSlice S2048 ![0] (belowOf s) slices_S2049_S2048_0
def countsOf (s : S1024.Idx → BitVec 32) : S2048.Idx → BitVec 32 :=
  subi (extractStridedSlice S2048 ![1] (belowOf s) slices_S2049_S2048_1) (extractStridedSlice S2048 ![0] (belowOf s) slices_S2049_S2048_0)

/-- The places of the words below `b`. -/
def below (s : S1024.Idx → BitVec 32) (b : Nat) : Finset (Fin 1024) :=
  Finset.univ.filter fun q => (s (ix1 q)).toInt < (b : Int)

theorem slt_iff (w : BitVec 32) {b : Nat} (hb : b < 2049) : IntOp.cmpi .slt w (BitVec.ofNat 32 b) = 1#1 ↔ w.toInt < (b : Int) := by
  have h : (BitVec.ofNat 32 b).toInt = (b : Int) := by
    rw [BitVec.toInt_eq_toNat_cond, BitVec.toNat_ofNat, Nat.mod_eq_of_lt (by omega)]; split <;> omega
  show BitVec.ofBool (w.slt (BitVec.ofNat 32 b)) = 1#1 ↔ _
  unfold BitVec.slt
  rw [h]
  by_cases hw : w.toInt < (b : Int) <;> simp [hw]

theorem belowOf_toNat (s : S1024.Idx → BitVec 32) (b : Fin 2049) : (belowOf s (ix1 b)).toNat = (below s b.val).card := by
  unfold belowOf
  rw [StableHlo.Predicate.toNat_reduce_count_cols (n := 2049) (m := 1024) (by decide)]
  refine congrArg Finset.card (Finset.filter_congr fun q _ => ?_)
  have e1 := bcCols (n := 2049) (m := 1024) bcast_S1024_S1x1024_1 bcast_S1x1024_S2049x1024_0_1 s b q
  have e2 := bcRows (n := 2049) (m := 1024) bcast_S2049_S2049x1_0 bcast_S2049x1_S2049x1024_0_1 (iotaInDim S2049 32 0) b q
  rw [← ij_eq_ix2] at e1 e2
  rw [← ix1_eq_valueIdx] at e1 e2
  refine Iff.trans (Eq.to_iff (congrArg (· = 1#1) (congrArg₂ (IntOp.cmpi .slt) e1 e2))) ?_
  exact slt_iff _ b.isLt

/-- A slice of the 2049 counts. -/
theorem slice_below (o : Nat) (h : S2049.Slices ![o] S2048) (x : S2049.Idx → BitVec 32) (b : Fin 2048) (hb : o + b.val < 2049) :
    extractStridedSlice S2048 ![o] x h (ix1 b) = x (ix1 ⟨o + b.val, hb⟩) := by
  rw [ix1_eq_valueIdx, ix1_eq_valueIdx]
  exact slice1 (m := 2049) (n := 2048) o x h b hb

theorem startsOf_toNat (s : S1024.Idx → BitVec 32) (b : Fin 2048) : (startsOf s (ix1 b)).toNat = (below s b.val).card := by
  unfold startsOf
  rw [slice_below 0 _ _ b (by omega), belowOf_toNat]
  simp

theorem below_mono (s : S1024.Idx → BitVec 32) {a b : Nat} (h : a ≤ b) : below s a ⊆ below s b := by
  intro q hq
  simp only [below, Finset.mem_filter, Finset.mem_univ, true_and] at hq ⊢
  omega

theorem below_le (s : S1024.Idx → BitVec 32) (b : Nat) : (below s b).card ≤ 1024 :=
  (Finset.card_le_univ _).trans (le_of_eq (Fintype.card_fin _))

theorem countsOf_toNat (s : S1024.Idx → BitVec 32) (b : Fin 2048) :
    (countsOf s (ix1 b)).toNat = (below s (b.val + 1)).card - (below s b.val).card := by
  have h0 := startsOf_toNat s b
  unfold startsOf at h0
  have h1 : (extractStridedSlice S2048 ![1] (belowOf s) slices_S2049_S2048_1 (ix1 b)).toNat = (below s (b.val + 1)).card := by
    rw [slice_below 1 _ _ b (by omega), belowOf_toNat]
    simp [Nat.add_comm]
  have hle := Finset.card_le_card (below_mono s (Nat.le_succ b.val))
  have h2 := below_le s (b.val + 1)
  show (extractStridedSlice S2048 ![1] (belowOf s) slices_S2049_S2048_1 (ix1 b) - extractStridedSlice S2048 ![0] (belowOf s) slices_S2049_S2048_0 (ix1 b)).toNat = _
  rw [BitVec.toNat_sub, h0, h1]
  simp only [Nat.succ_eq_add_one] at hle
  omega

/-- The tables are inside their bounds. -/
theorem tabOK (s x : S1024.Idx → BitVec 32) : TabOK (startsOf s) (countsOf s) (permOf x) := by
  refine ⟨fun j => ?_, permOf_lt x⟩
  obtain ⟨b, rfl⟩ : ∃ b : Fin 2048, j = ix1 b := ⟨j 0, eq_ix1 j⟩
  have hle := Finset.card_le_card (below_mono s (Nat.le_succ b.val))
  have h2 := below_le s (b.val + 1)
  rw [startsOf_toNat, countsOf_toNat]
  simp only [Nat.succ_eq_add_one] at hle
  omega

/-! ### What the host operations leave -/

section
variable {F : FTy → Type} [FloatOps F]

/-- The indices in the sorted order, as the host's take reads them. -/
def takeOf (x p : S1024.Idx → BitVec 32) : S1024.Idx → BitVec 32 :=
  let i := select (cmpi .slt p (broadcastInDim S1024 ![] bcast_S_S1024 (constantI S_ 32 0#32)))
    (addi p (broadcastInDim S1024 ![] bcast_S_S1024 (constantI S_ 32 1024#32))) p
  let j := broadcastInDim S1024x1 ![0] bcast_S1024_S1024x1_0 i
  select (Host.reduce IntOp.andi
      (andi (cmpi .sge j (broadcastInDim S1024x1 ![] bcast_S_S1024x1 (constantI S_ 32 0#32)))
        (cmpi .sle j (broadcastInDim S1024x1 ![0, 1] bcast_S1x1_S1024x1_0_1 (broadcastInDim S1x1 ![1] bcast_S1_S1x1_1 (constantI S1 32 1023#32)))))
      (constantI S_ 1 1#1) reducesTo_S1024x1_S1024_d1 h_S_)
    (Host.gather gather_S1024_S1024x1_S1024_n_0_n_n_0_1_1 x j)
    (broadcastInDim S1024 ![] bcast_S_S1024 (constantI S_ 32 2147483648#32))

variable (W : Valuation τ sig (Elt F))

theorem seg1_v2 : at_ (StableHlo.after hostOps0_1 W) main_v2 = permOf (at_ W main_arg1) := by
  unfold at_; after_results; rfl
theorem seg2_v3 : at_ (StableHlo.after hostOps0_2 W) main_v3 = takeOf (at_ W main_arg1) (at_ W main_v2) := by
  unfold at_; after_results; rfl
theorem seg3_v12 : at_ (StableHlo.after hostOps0_3 W) main_v12 = startsOf (at_ W main_v3) := by
  unfold at_; after_results; rfl
theorem seg3_v14 : at_ (StableHlo.after hostOps0_3 W) main_v14 = countsOf (at_ W main_v3) := by
  unfold at_; after_results; rfl
theorem seg3_v15 : at_ (StableHlo.after hostOps0_3 W) main_v15 = transpose S32x32 [1, 0] (at_ W main_arg4) transposes_S32x32_S32x32_1_0 := by
  unfold at_; after_results
theorem seg3_v16 : at_ (StableHlo.after hostOps0_3 W) main_v16 = transpose S32x32 [1, 0] (at_ W main_arg5) transposes_S32x32_S32x32_1_0 := by
  unfold at_; after_results
theorem seg0_v0 : at_ (StableHlo.after hostOps0 W) main_v0 = transpose S2048x32x1024 [0, 2, 1] (at_ W main_arg2) transposes_S2048x1024x32_S2048x32x1024_0_2_1 := by
  unfold at_; after_results
theorem seg0_v1 : at_ (StableHlo.after hostOps0 W) main_v1 = transpose S2048x32x1024 [0, 2, 1] (at_ W main_arg3) transposes_S2048x1024x32_S2048x32x1024_0_2_1 := by
  unfold at_; after_results

end

end Cert.Rows

end
-- ==== Proof.Run.lean ====
/- The whole program's run, at any interpretation of the floats: the host operations before the kernel, the kernel over
   its grid, the last transpose. It ends with the result at the transposed contents of the kernel's array and the
   arguments unchanged, every semaphore back at zero. -/
module

public import proofs.«01_k».proof.Proof.Tables

@[expose] public section

noncomputable section

namespace Cert.Rows

open Cert.KernelIdeal Cert.KernelIdeal.Gen
open Idealize.ShloMosaic Idealize.ShloMosaic.TcCoe
open Idealize.ShloMosaic.Pipeline (Dat Cfg Window BodyObligationLoose)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The operations before the kernel and the one after it. -/
abbrev before : List (List (HloOp τ sig (Elt F))) := [hostOps0, hostOps0_1, hostOps0_2, hostOps0_3]
abbrev behind : List (List (HloOp τ sig (Elt F))) := [hostOps1]

section
variable (m : (ℓ : Loc nD τ sig) → Buf (Elt F) ℓ)

/-- What the buffers hold at the start, and when the kernel is called. -/
abbrev at0 : Valuation τ sig (Elt F) := fun b => m (0, b)
def entry : Valuation τ sig (Elt F) :=
  StableHlo.after hostOps0_3 (StableHlo.after hostOps0_2 (StableHlo.after hostOps0_1 (StableHlo.after hostOps0 (at0 m))))

theorem entry_eq : StableHlo.after before.flatten (at0 m) = entry m := by
  unfold entry
  simp only [List.flatten_cons, List.flatten_nil, List.append_nil, StableHlo.after_append]

/-! ### What the kernel finds -/

section
variable (W : Valuation τ sig (Elt F))
theorem keep1 : (at_ (StableHlo.after hostOps0 W) main_arg1 = at_ W main_arg1) ∧ (at_ (StableHlo.after hostOps0_1 W) main_arg1 = at_ W main_arg1)
    ∧ at_ (StableHlo.after hostOps0_2 W) main_v2 = at_ W main_v2 ∧ at_ (StableHlo.after hostOps0_3 W) main_v2 = at_ W main_v2 := by
  unfold at_
  refine ⟨?_, ?_, ?_, ?_⟩ <;> after_results
end

theorem entry_v2 : at_ (entry m) main_v2 = permOf (at_ (at0 m) main_arg1) := by
  unfold entry
  rw [(keep1 _).2.2.2, (keep1 _).2.2.1, seg1_v2, (keep1 _).1]
theorem entry_v12 : at_ (entry m) main_v12 = startsOf (takeOf (at_ (at0 m) main_arg1) (permOf (at_ (at0 m) main_arg1))) := by
  unfold entry
  rw [seg3_v12, seg2_v3, (keep1 _).2.1, seg1_v2, (keep1 _).1]
theorem entry_v14 : at_ (entry m) main_v14 = countsOf (takeOf (at_ (at0 m) main_arg1) (permOf (at_ (at0 m) main_arg1))) := by
  unfold entry
  rw [seg3_v14, seg2_v3, (keep1 _).2.1, seg1_v2, (keep1 _).1]

theorem entry_tab : TabOK (at_ (entry m) main_v12) (at_ (entry m) main_v14) (at_ (entry m) main_v2) := by
  rw [entry_v2, entry_v12, entry_v14]
  exact tabOK _ _

theorem args0 : at_ (entry m) main_arg0 = at_ (at0 m) main_arg0 := by unfold at_ entry; after_results
theorem args1 : at_ (entry m) main_arg1 = at_ (at0 m) main_arg1 := by unfold at_ entry; after_results
theorem args2 : at_ (entry m) main_arg2 = at_ (at0 m) main_arg2 := by unfold at_ entry; after_results
theorem args3 : at_ (entry m) main_arg3 = at_ (at0 m) main_arg3 := by unfold at_ entry; after_results
theorem args4 : at_ (entry m) main_arg4 = at_ (at0 m) main_arg4 := by unfold at_ entry; after_results
theorem args5 : at_ (entry m) main_arg5 = at_ (at0 m) main_arg5 := by unfold at_ entry; after_results
theorem args6 : at_ (entry m) main_arg6 = at_ (at0 m) main_arg6 := by unfold at_ entry; after_results

/-! ### The launch -/

/-- The three tables, one by one. -/
theorem held_tables {M : Type} [URA M] (Φ : Fin 3 → sProp M) :
    bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

abbrev tabs (V : Valuation τ sig (Elt F)) : (p : Fin 1) → (pcfgs (F := F) p).Adm := fun _ => adm V

/-- The array the kernel leaves. -/
def kernelOut : Vec F S2048x32x1024 .f32 := (dats (entry m) 0 0).arrAt 6 grid0.N

theorem hin (V : Valuation τ sig (Elt F)) (c : Dev nD) :
    iprop(Pipeline.ΦA (U := UR sig nD τ) (Val := Elt F) spec0 c ∗ Pipeline.ΦT (U := UR sig nD τ) pre0 (adm V).1 c) ⊢ (dats V 0 c).Φ 0 := by
  show _ ⊢ PhiV V c 0
  unfold Pipeline.ΦA Pipeline.ΦT Pipeline.prefHeld PhiV
  rw [scopedRest0_eq, held_tables]
  iintro ⟨⟨⟨%f, Hs⟩, Hg⟩, T1, T2, T3⟩
  isplitl [Hs]
  · iexists f
    isplitr
    · ipureintro; exact fun h => absurd rfl h
    · rw [owns_whole]; iexact Hs
  isplitr [Hg]
  · rw [owns_whole, owns_whole, owns_whole]
    isplitl [T1]; · iexact T1
    isplitl [T2]; · iexact T2
    iexact T3
  · iexact Hg

theorem hout (V : Valuation τ sig (Elt F)) (c : Dev nD) :
    (dats V 0 c).Φ (Fin.last grid0.N) ⊢ Pipeline.ΦA (U := UR sig nD τ) (Val := Elt F) spec0 c := by
  show PhiV V c grid0.N ⊢ _
  unfold Pipeline.ΦA PhiV
  simp only [scopedRest0_eq, owns_whole]
  iintro ⟨⟨%f, -, Hs⟩, -, Hg⟩
  isplitl [Hs]
  · iexists f
    iexact Hs
  · iexact Hg

/-- What the last transpose leaves. -/
abbrev tail (b : Ref sig .tc) : b.ty.Contents (Elt F) :=
  Pipeline.afterTail (pcfgs (F := F)) (tabs (entry m)) (dats (entry m)) 0 (fun _ => entry m) behind 0 b

theorem tail_v18 : tail m main_v18 = transpose S2048x1024x32 [0, 2, 1] (kernelOut m) transposes_S2048x32x1024_S2048x1024x32_0_2_1 := by
  have h := Pipeline.withArrays_arr spec0 (launch0 (F := F)).win.arr_inj (0 : Dev nD) (entry m) (fun w => (dats (entry m) 0 0).arrAt w grid0.N) 6
  unfold tail Pipeline.afterTail
  refine Eq.trans ?_ (congrArg (transpose S2048x1024x32 [0, 2, 1] · transposes_S2048x32x1024_S2048x1024x32_0_2_1) h)
  show StableHlo.after hostOps1 _ _ = _
  after_results

theorem tail_of_ne (b : Ref sig .tc) (hb : ∀ w, Pipeline.arrRef spec0 w ≠ b) (h18 : main_v18 ≠ b) : tail m b = at_ (entry m) b := by
  unfold tail Pipeline.afterTail
  rw [StableHlo.after_of_forall_not_mem, Pipeline.withArrays_of_ne spec0 _ _ _ b hb]
  intro op h hw
  obtain rfl := List.mem_singleton.mp h
  exact h18 (Proc.devRef_injective _ (Finset.mem_singleton.mp hw).symm)

/-- The last transpose touches no table and writes no array of the kernel. -/
theorem last_tables : ∀ k : Fin 3, Proc.devRef (τ := τ) .tc (pre0.ref k)
    ∉ ({Proc.devRef .tc main_v17, Proc.devRef .tc main_v18} : Finset (DevRef τ sig)) := by decide
theorem last_arrays : ∀ w : Fin 7, Proc.devRef (τ := τ) .tc (Pipeline.arrRef spec0 w)
    ∉ ({Proc.devRef .tc main_v18} : Finset (DevRef τ sig)) := by decide

theorem run_main (g : Dev nD → PrngReg) :
    θ_run (defs (F := F)) (onTc (τ := τ) (main (F := F))) ⟨m, fun _ => 0, g⟩ (fun r =>
      (∀ c : Dev nD, r.2.mem ((c.tc : Thread nD τ).loc main_v18)
          = transpose S2048x1024x32 [0, 2, 1] (kernelOut m) transposes_S2048x32x1024_S2048x1024x32_0_2_1
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) := by
  refine Pipeline.θ_run_frameP_around_track (pcfgs (F := F)) (tabs (entry m)) (dats (entry m)) 0 launch0 defs₀ 𝒱₀ m g main
    (body_obligation (entry m) (entry_tab m)) (fun c w => ?_) (fun _ _ => rfl) (fun _ => entry m) behind ?_ ?_ ?_ ?_
    (fun _ _ => rfl) (fun _ _ => rfl) (hin (entry m)) (hout (entry m)) _ ?_
  · exact (dats (entry m) 0 c).share_full (fun _ => rfl) w
  · intro ops ho op h
    obtain rfl := List.mem_singleton.mp ho
    obtain rfl := List.mem_singleton.mp h
    exact Pipeline.sub_tailRefs pre0 spec0 _ (StableHlo.unary_bufs_sub ..) last_tables
  · intro ops ho op h
    obtain rfl := List.mem_singleton.mp ho
    obtain rfl := List.mem_singleton.mp h
    rfl
  · intro ops ho op h
    obtain rfl := List.mem_singleton.mp ho
    obtain rfl := List.mem_singleton.mp h
    exact last_arrays
  · have h := Pipeline.hmainP_around (Ix := Unit) (Name := ℕ) (U := UR sig nD τ) (Lvl := ℕ) (pcfgs (F := F)) 0 defs₀ 𝒱₀ m main before behind
      ⟨hostOps0_sub, hostOps0_1_sub, hostOps0_2_sub, hostOps0_3_sub⟩
      (by refine ⟨?_, ?_, ?_, ?_⟩ <;> simp only [List.Forall] <;> (repeat' apply And.intro) <;> rfl) main_chain
    have e : (fun (c : Dev nD) (b : Ref sig .tc) => StableHlo.after before.flatten (fun b => m (c, b)) (Proc.devRef .tc b))
        = fun (_ : Dev nD) (b : Ref sig .tc) => entry m (Proc.devRef .tc b) := by
      funext c b
      obtain rfl : c = 0 := Subsingleton.elim _ _
      exact congrFun (entry_eq m) _
    exact e ▸ h
  · rintro r ⟨h, hs⟩
    refine ⟨fun c => ?_, hs⟩
    obtain rfl : c = 0 := Subsingleton.elim _ _
    obtain ⟨ha, hr⟩ := h 0
    refine ⟨?_, ?_, ?_, ?_, ?_, ?_, ?_, ?_⟩
    · refine (hr main_v18 (Pipeline.mem_restRefs_of (win := spec0) main_v18 rfl (by decide))).trans (tail_v18 m)
    · exact (ha 0).trans (((dats (entry m) 0 0).arrAt_in 0 rfl _).trans (args0 m))
    · exact (hr main_arg1 (Pipeline.mem_restRefs_of (win := spec0) main_arg1 rfl (by decide))).trans ((tail_of_ne m main_arg1 (by decide) (by decide)).trans (args1 m))
    · exact (hr main_arg2 (Pipeline.mem_restRefs_of (win := spec0) main_arg2 rfl (by decide))).trans ((tail_of_ne m main_arg2 (by decide) (by decide)).trans (args2 m))
    · exact (hr main_arg3 (Pipeline.mem_restRefs_of (win := spec0) main_arg3 rfl (by decide))).trans ((tail_of_ne m main_arg3 (by decide) (by decide)).trans (args3 m))
    · exact (hr main_arg4 (Pipeline.mem_restRefs_of (win := spec0) main_arg4 rfl (by decide))).trans ((tail_of_ne m main_arg4 (by decide) (by decide)).trans (args4 m))
    · exact (hr main_arg5 (Pipeline.mem_restRefs_of (win := spec0) main_arg5 rfl (by decide))).trans ((tail_of_ne m main_arg5 (by decide) (by decide)).trans (args5 m))
    · exact (ha 3).trans (((dats (entry m) 0 0).arrAt_in 3 rfl _).trans (args6 m))

end

end Cert.Rows

end
-- ==== Proof.Same.lean ====
/- The printed kernel and the kernel read over the extended reals are one text, so at any float values they are one
   program; a run of the second is a run of the first. -/
module

public import proofs.«01_k».proof.Defs
public import proofs.«01_k».proof.Proof.Gen.Kernel
public import proofs.«01_k».proof.Proof.Run

@[expose] public section

noncomputable section

namespace Cert.Proof

open Idealize.ShloMosaic Idealize.SL.Sem

-- the body is some 2400 statements long, and both copies are walked to the end
set_option maxHeartbeats 40000000 in
set_option maxRecDepth 100000 in
/-- The two bodies. -/
theorem body_eq : @Cert.Kernel.cc0__body Bits _ Cert.Kernel.Gen.facts = @Cert.KernelIdeal.cc0__body Bits _ Cert.KernelIdeal.Gen.facts := rfl

/-- The two body tables: one label, the body at the grid point and the staging buffers. -/
theorem defs₀_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) =>
    exact congrFun (congrFun (congrFun (congrFun (congrFun (congrFun (congrFun (congrFun (congrFun (congrFun (congrFun (congrFun
      (congrFun (congrFun (congrFun (congrFun (congrFun (congrFun (congrFun (congrFun (congrFun (congrFun (congrFun body_eq
      _) _) _) _) _) _) _) _) _) _) _) _) _) _) _) _) _) _) _) _) _) _) _
  | ⟨n + 1, h⟩, _ => exact absurd h (Nat.not_lt.2 (Nat.le_add_left _ _))

/-- The two tables with the pipelines' labels. -/
theorem defs_eq : Cert.Kernel.defs (F := Bits) = Cert.KernelIdeal.defs (F := Bits) :=
  congrArg (Pipeline.defs (Cert.KernelIdeal.pcfgs (F := Bits))) defs₀_eq

-- every host operation of both copies is compared
set_option maxHeartbeats 4000000 in
/-- The two host programs. -/
theorem main_eq : Cert.Kernel.main (F := Bits) = Cert.KernelIdeal.main (F := Bits) := rfl

/-- What runs with the one program runs with the other. -/
theorem carry {d p} (hd : d = Cert.KernelIdeal.defs (F := Bits)) (hp : p = Cert.KernelIdeal.main (F := Bits)) {s Q}
    (h : θ_run (Cert.KernelIdeal.defs (F := Bits)) (onTc (τ := Cert.KernelIdeal.τ) (Cert.KernelIdeal.main (F := Bits))) s Q) :
    θ_run d (onTc (τ := Cert.KernelIdeal.τ) p) s Q := by
  subst hd hp; exact h

end Cert.Proof

end
-- ==== Proof.Algebra.lean ====
/- The facts about extended reals that the comparison rests on. -/
module

public import Idealize.ShloMosaic.Lib.Pointwise

@[expose] public section

noncomputable section

namespace Cert.Rows

open Idealize.ShloMosaic

/-- A finite factor distributes over a sum with one finite term. -/
theorem mul_add_finite {e h : EReal} (k : EReal) (he : e ≠ ⊤ ∧ e ≠ ⊥) (hh : h ≠ ⊤ ∧ h ≠ ⊥) : e * (h + k) = e * h + e * k := by
  lift e to ℝ using he
  lift h to ℝ using hh
  induction k with
  | coe k => exact_mod_cast mul_add e h k
  | top =>
    rw [EReal.coe_add_top]
    rcases lt_trichotomy e 0 with h0 | h0 | h0
    · rw [EReal.coe_mul_top_of_neg h0, EReal.add_bot]
    · subst h0; simp
    · rw [EReal.coe_mul_top_of_pos h0, ← EReal.coe_mul, EReal.coe_add_top]
  | bot =>
    rw [EReal.add_bot]
    rcases lt_trichotomy e 0 with h0 | h0 | h0
    · rw [EReal.coe_mul_bot_of_neg h0, ← EReal.coe_mul, EReal.coe_add_top]
    · subst h0; simp
    · rw [EReal.coe_mul_bot_of_pos h0, EReal.add_bot]

theorem logistic_nonneg (x : EReal) : 0 ≤ Ideal.logistic x := by
  induction x with
  | coe x => rw [Ideal.logistic_coe]; exact_mod_cast (by positivity)
  | top => rw [Ideal.logistic_top]; exact zero_le_one
  | bot => rw [Ideal.logistic_bot]

theorem square_nonneg (x : EReal) : 0 ≤ x * x := by
  rcases le_total 0 x with h | h
  · exact mul_nonneg h h
  · exact EReal.mul_nonneg_iff.2 (Or.inr ⟨h, h⟩)

/-- A column with an infinite entry is sent to zero by the normalisation. -/
theorem unit_infinite {n : Nat} (y : Fin n → EReal) (ε z : EReal) {c : Fin n} (hc : y c = ⊤ ∨ y c = ⊥) :
    z * Ideal.rsqrt (max (∑ c, y c * y c) ε) = 0 := by
  have hsq : y c * y c = ⊤ := by rcases hc with h | h <;> rw [h] <;> simp
  have hsum : ∑ c, y c * y c = ⊤ := by
    refine top_le_iff.1 (hsq ▸ ?_)
    exact Finset.single_le_sum (f := fun c => y c * y c) (fun c _ => square_nonneg (y c)) (Finset.mem_univ c)
  rw [hsum, max_eq_left le_top, Ideal.rsqrt_top, mul_zero]

/-- Two ways to add something nonnegative to a column agree after the normalisation when they agree on finite
    columns. -/
theorem unit_eq {n : Nat} (h s s' : Fin n → EReal) (ε : EReal) (hs : ∀ c, 0 ≤ s c) (hs' : ∀ c, 0 ≤ s' c)
    (heq : (∀ c, h c ≠ ⊤ ∧ h c ≠ ⊥) → s = s') (d : Fin n) :
    (h d + s d) * Ideal.rsqrt (max (∑ c, (h c + s c) * (h c + s c)) ε)
      = (h d + s' d) * Ideal.rsqrt (max (∑ c, (h c + s' c) * (h c + s' c)) ε) := by
  by_cases hf : ∀ c, h c ≠ ⊤ ∧ h c ≠ ⊥
  · rw [heq hf]
  · obtain ⟨c, hc⟩ := not_forall.1 hf
    have hinf : ∀ s : Fin n → EReal, (∀ c, 0 ≤ s c) → h c + s c = ⊤ ∨ h c + s c = ⊥ := fun s hs => by
      by_cases ht : h c = ⊤
      · left
        rw [ht, EReal.top_add_of_ne_bot]
        exact ne_of_gt (lt_of_lt_of_le EReal.bot_lt_zero (hs c))
      · right
        rw [not_not.1 fun hb => hc ⟨ht, hb⟩, EReal.bot_add]
    rw [unit_infinite (fun c => h c + s c) ε _ (hinf s hs), unit_infinite (fun c => h c + s' c) ε _ (hinf s' hs')]

end Cert.Rows

end
-- ==== Proof.Payloads.lean ====
/- The values the kernel computes for a row, read at an index over the extended reals. -/
module

public import proofs.«01_k».proof.Proof.Model
public import Idealize.ShloMosaic.Lib.Pointwise

@[expose] public section

set_option maxRecDepth 16384

noncomputable section

namespace Cert.Rows

open Cert.KernelIdeal Cert.KernelIdeal.Gen
open Idealize.ShloMosaic

variable (h k : Vec Ideal S1x32x1024 .f32) (U V W : Vec Ideal S32x32 .f32) (acc : FVec Ideal S32x1024 .f32) (er wr : Vec Ideal S1x32 .f32)
  (e : Vec Ideal S1024x32 .f32)

/-- The product of the sentences with `W`. -/
theorem pay2_apply (p : Fin 1024) (d : Fin 32) : k0_pay2 e W (ix2 p d) = ∑ c : Fin 32, e (ix2 p c) * W (ix2 c d) := by
  pointwise [k0_pay2]

theorem pay3_apply (d : Fin 32) (n : Fin 1024) : k0_pay3 h (ix2 d n) = h (ix3 0 d n) := by
  pointwise [k0_pay3]

/-- One sentence's contribution, added to what is there. -/
theorem pay8_apply (d : Fin 32) (n : Fin 1024) :
    k0_pay8 h k U V acc er wr (ix2 d n)
      = acc (ix2 d n) + Ideal.logistic (∑ c : Fin 32, er (ix2 0 c) * (h (ix3 0 c n) + k (ix3 0 c n)))
          * max ((∑ c : Fin 32, U (ix2 d c) * h (ix3 0 c n)) + (∑ c : Fin 32, V (ix2 d c) * k (ix3 0 c n)) + wr (ix2 0 d)) 0 := by
  pointwise [k0_pay8, k0_pay5, k0_pay6, k0_pay3, k0_pay4]

theorem pay7_apply (d : Fin 32) (n : Fin 1024) : k0_pay7 (F := Ideal) (ix2 d n) = 0 := by
  pointwise [k0_pay7]

theorem pay10_apply (d : Fin 32) (n : Fin 1024) : k0_pay10 h acc (ix2 d n) = h (ix3 0 d n) + acc (ix2 d n) := by
  pointwise [k0_pay10, k0_pay3]

/-- A column divided by its length. -/
theorem pay11_apply (d : Fin 32) (n : Fin 1024) :
    k0_pay11 acc (ix3 0 d n)
      = acc (ix2 d n) * Ideal.rsqrt (max (∑ c : Fin 32, acc (ix2 c n) * acc (ix2 c n)) (Ideal.ofBits .f32 0x2B8CBCCC#32)) := by
  pointwise [k0_pay11]

end Cert.Rows

end
-- ==== Proof.Sorting.lean ====
/- The lists of the sorted sentences: the places the two tables give a row are those of the sentences that name the row. -/
module

public import proofs.«01_k».proof.Proof.Tables
public import Idealize.ShloMosaic.Lib.ReduceAll
public import Idealize.ShloMosaic.Lib.Pointwise

@[expose] public section

set_option maxRecDepth 16384

noncomputable section

namespace Cert.Rows

open Cert.KernelIdeal Cert.KernelIdeal.Gen
open Idealize.ShloMosaic

/-! ### The order sorts -/

theorem slt_eq (a b : BitVec 32) : (IntOp.cmpi .slt a b == 1#1) = decide (a.toInt < b.toInt) := by
  show (BitVec.ofBool (a.slt b) == 1#1) = _
  unfold BitVec.slt
  by_cases h : a.toInt < b.toInt <;> simp [h]

theorem order_bijective (x : S1024.Idx → BitVec 32) : Function.Bijective (order x) :=
  ⟨sortedFrom_injective _, sortedFrom_surjective _⟩

theorem order_sorts (x : S1024.Idx → BitVec 32) {i j : Fin 1024} (h : i < j) :
    (x (ix1 (order x i))).toInt ≤ (x (ix1 (order x j))).toInt := by
  have hn := sortedFrom_noInversion (n := 1024) (fun k k' => IntOp.cmpi .slt (x (ix1 k)) (x (ix1 k')) == 1#1)
    (fun k k' => IntOp.cmpi .slt (x (ix1 k)) (x (ix1 k')) == 1#1)
    (fun a b => by simp only [slt_eq, decide_eq_true_eq, decide_eq_false_iff_not]; omega)
    (fun a b => id)
    (fun a b c => by simp only [slt_eq, decide_eq_false_iff_not]; omega) i j h
  have hn' : (IntOp.cmpi .slt (x (ix1 (order x j))) (x (ix1 (order x i))) == 1#1) = false := hn
  rw [slt_eq, decide_eq_false_iff_not] at hn'
  omega

/-! ### The sorted indices -/

theorem takeOf_apply (x p : S1024.Idx → BitVec 32) (j q : Fin 1024) (h : p (ix1 j) = BitVec.ofNat 32 q.val)
    (hp : ∀ j, (p j).toNat < 1024) : takeOf x p (ix1 j) = x (ix1 q) := by
  have hpi : ∀ j, (p j).toInt = (p j).toNat := fun j => toInt_small (le_of_lt (hp j))
  have hw : select (cmpi .slt p (broadcastInDim S1024 ![] bcast_S_S1024 (constantI S_ 32 0#32)))
      (addi p (broadcastInDim S1024 ![] bcast_S_S1024 (constantI S_ 32 1024#32))) p = p := by
    funext j
    show (if IntOp.cmpi .slt (p j) 0#32 = 1#1 then _ else p j) = p j
    rw [if_neg]
    show ¬ BitVec.ofBool ((p j).slt 0#32) = 1#1
    unfold BitVec.slt
    have h0 : (0#32 : BitVec 32).toInt = 0 := by decide
    rw [hpi j, h0, decide_eq_false (by omega)]
    decide
  have hc : ∀ q : Fin 1024, broadcastInDim S1024x1 ![0] bcast_S1024_S1024x1_0 p (ix2 q 0) = p (ix1 q) := fun q => by pointwise
  unfold takeOf
  simp only [hw]
  show (if _ = 1#1 then _ else _) = _
  rw [if_pos]
  · have := Routing.take_ap gather_S1024_S1024x1_S1024_n_0_n_n_0_1_1 rfl rfl rfl rfl x
      (broadcastInDim S1024x1 ![0] bcast_S1024_S1024x1_0 p) j q.isLt (by have := q.isLt; omega)
      ((congrArg _ (ix2_eq_valueIdx j 0).symm).trans ((hc j).trans h))
    rw [← ix1_eq_valueIdx, ← ix1_eq_valueIdx] at this
    exact this
  · refine Host.reduce_andi_one _ _ _ _ _ rfl fun i => ?_
    obtain ⟨q, z, rfl⟩ : ∃ (q : Fin 1024) (z : Fin 1), i = ix2 q z := ⟨i 0, i 1, eq_ix2 i⟩
    obtain rfl : z = 0 := Subsingleton.elim _ _
    have h1 := hpi (ix1 q)
    have h2 := hp (ix1 q)
    have e1 : IntOp.cmpi .sge (broadcastInDim S1024x1 ![0] bcast_S1024_S1024x1_0 p (ix2 q 0)) 0#32 = 1#1 := by
      rw [hc]
      show BitVec.ofBool ((0#32 : BitVec 32).sle (p (ix1 q))) = 1#1
      unfold BitVec.sle
      simp [h1]
    have e2 : IntOp.cmpi .sle (broadcastInDim S1024x1 ![0] bcast_S1024_S1024x1_0 p (ix2 q 0)) 1023#32 = 1#1 := by
      rw [hc]
      show BitVec.ofBool ((p (ix1 q)).sle 1023#32) = 1#1
      unfold BitVec.sle
      have : (1023#32 : BitVec 32).toInt = 1023 := by decide
      rw [this, decide_eq_true (by omega)]
      rfl
    exact congrArg₂ IntOp.andi e1 e2

/-- The sorted indices. -/
def sorted (x : S1024.Idx → BitVec 32) : S1024.Idx → BitVec 32 := takeOf x (permOf x)

theorem sorted_apply (x : S1024.Idx → BitVec 32) (j : Fin 1024) : sorted x (ix1 j) = x (ix1 (order x j)) :=
  takeOf_apply x (permOf x) j (order x j) (permOf_apply x j) (permOf_lt x)

/-! ### The lists -/

/-- Of a sorted table, the words below `b` are the first ones. -/
theorem mem_below (x : S1024.Idx → BitVec 32) (b : Nat) (q : Fin 1024) : (sorted x (ix1 q)).toInt < (b : Int) ↔ q.val < (below (sorted x) b).card := by
  have hmono : ∀ i j : Fin 1024, i ≤ j → (sorted x (ix1 i)).toInt ≤ (sorted x (ix1 j)).toInt := by
    intro i j hij
    rcases eq_or_lt_of_le hij with rfl | h
    · exact le_refl _
    · rw [sorted_apply, sorted_apply]; exact order_sorts x h
  constructor
  · intro h
    have hs : Finset.Iic q ⊆ below (sorted x) b := fun r hr =>
      Finset.mem_filter.2 ⟨Finset.mem_univ _, lt_of_le_of_lt (hmono r q (Finset.mem_Iic.1 hr)) h⟩
    have := Finset.card_le_card hs
    rw [Fin.card_Iic] at this
    omega
  · intro h
    by_contra hn
    have hs : below (sorted x) b ⊆ Finset.Iio q := fun r hr => by
      rw [Finset.mem_Iio]
      by_contra hq
      have h1 := (Finset.mem_filter.1 hr).2
      have h2 := hmono q r (not_lt.1 hq)
      omega
    have := Finset.card_le_card hs
    rw [Fin.card_Iio] at this
    omega

/-- A sum over a row's list is the sum over the sentences that name the row. -/
theorem sum_list {M : Type} [AddCommMonoid M] (x : S1024.Idx → BitVec 32) (b : Fin 2048) (f : Nat → M) :
    ∑ j ∈ Finset.range (countsOf (sorted x) (ix1 b)).toNat, f (word (permOf x) ((startsOf (sorted x) (ix1 b)).toNat + j)).toNat
      = ∑ p ∈ Finset.univ.filter (fun p : Fin 1024 => (x (ix1 p)).toInt = (b.val : Int)), f p.val := by
  rw [countsOf_toNat, startsOf_toNat]
  have hle := Finset.card_le_card (below_mono (sorted x) (Nat.le_succ b.val))
  have h2 := below_le (sorted x) (b.val + 1)
  simp only [Nat.succ_eq_add_one] at hle
  have hm0 := mem_below x b.val
  have hm1 := mem_below x (b.val + 1)
  generalize (below (sorted x) b.val).card = s at hle hm0 ⊢
  generalize (below (sorted x) (b.val + 1)).card = s' at hle h2 hm1 ⊢
  have hw : ∀ q : Fin 1024, (word (permOf x) q.val).toNat = (order x q).val := by
    intro q
    unfold word
    have : (⟨q.val % 1024, Nat.mod_lt _ (by decide)⟩ : Fin 1024) = q := Fin.ext (Nat.mod_eq_of_lt q.isLt)
    rw [this, permOf_apply, BitVec.toNat_ofNat]
    have := (order x q).isLt
    omega
  refine Finset.sum_bij (fun j hj => order x ⟨(s + j) % 1024, Nat.mod_lt _ (by decide)⟩) (fun j hj => ?_) (fun i hi j hj h => ?_)
    (fun p hp => ?_) (fun j hj => ?_)
  · have hj' := Finset.mem_range.1 hj
    have hv : (s + j) % 1024 = s + j := Nat.mod_eq_of_lt (by omega)
    refine Finset.mem_filter.2 ⟨Finset.mem_univ _, ?_⟩
    rw [← sorted_apply x]
    have a := (hm1 ⟨(s + j) % 1024, Nat.mod_lt _ (by decide)⟩).2 (by show (s + j) % 1024 < s'; omega)
    have c := mt (hm0 ⟨(s + j) % 1024, Nat.mod_lt _ (by decide)⟩).1 (by show ¬ (s + j) % 1024 < s; omega)
    push_cast at a
    omega
  · have hi' := Finset.mem_range.1 hi
    have hj' := Finset.mem_range.1 hj
    have := congrArg Fin.val ((order_bijective x).1 h)
    replace this : (s + i) % 1024 = (s + j) % 1024 := this
    omega
  · obtain ⟨q, rfl⟩ := (order_bijective x).2 p
    have hp' := (Finset.mem_filter.1 hp).2
    rw [← sorted_apply x] at hp'
    have a := (hm1 q).1 (by push_cast; omega)
    have c := mt (hm0 q).2 (by omega)
    have hq := q.isLt
    refine ⟨q.val - s, Finset.mem_range.2 (by omega), ?_⟩
    congr 1
    apply Fin.ext
    show (s + (q.val - s)) % 1024 = q.val
    omega
  · have hj' := Finset.mem_range.1 hj
    have hv : (s + j) % 1024 = s + j := Nat.mod_eq_of_lt (by omega)
    have := hw ⟨(s + j) % 1024, Nat.mod_lt _ (by decide)⟩
    rw [← this]
    show _ = f (word (permOf x) ((s + j) % 1024)).toNat
    rw [hv]

end Cert.Rows

end
-- ==== Proof.KernelOut.lean ====
/- What the kernel's array holds at the end, row by row: each row is computed from the same row of its two operands and
   from that row's two table words. -/
module

public import proofs.«01_k».proof.Proof.Run
public import Idealize.ShloMosaic.Lib.Pipeline.ValueKit

@[expose] public section

noncomputable section

namespace Cert.Rows

open Cert.KernelIdeal Cert.KernelIdeal.Gen
open Idealize.ShloMosaic Idealize.ShloMosaic.TcCoe
open Idealize.ShloMosaic.Pipeline (Dat Cfg Window)

variable {F : FTy → Type} [FloatOps F]

theorem map4 : ∀ t : Fin grid0.N, cc0_transform_4 (grid0.coords t) 0 = t.val ∧ cc0_transform_4 (grid0.coords t) 1 = 0 ∧ cc0_transform_4 (grid0.coords t) 2 = 0 := by decide
theorem map5 : ∀ t : Fin grid0.N, cc0_transform_5 (grid0.coords t) 0 = t.val ∧ cc0_transform_5 (grid0.coords t) 1 = 0 ∧ cc0_transform_5 (grid0.coords t) 2 = 0 := by decide
theorem map6 : ∀ t : Fin grid0.N, cc0_transform_6 (grid0.coords t) 0 = t.val ∧ cc0_transform_6 (grid0.coords t) 1 = 0 ∧ cc0_transform_6 (grid0.coords t) 2 = 0 := by decide

/-- Row `b` of an array of 2048 rows. -/
def slab (x : Vec F S2048x32x1024 .f32) (b : Fin 2048) : Vec F S1x32x1024 .f32 := fun z => x (ix3 b (z 1) (z 2))

section
variable (V : Valuation τ sig (Elt F))

/-- What each row of the kernel's array ends at. -/
def rowVal (b : Fin 2048) : FVec F S1x32x1024 .f32 :=
  k0_pay11 (rowPre (at_ V main_v2) (at_ V main_arg0) (k0_pay2 (at_ V main_arg0) (at_ V main_arg6)) (at_ V main_v15) (at_ V main_v16)
    (slab (at_ V main_v0) b) (slab (at_ V main_v1) b) (at_ V main_v14 (ix1 b)) (at_ V main_v12 (ix1 b)))

def rowsVal : Vec F S2048x32x1024 .f32 := fun y => rowVal V (y 0) (ix3 0 (y 1) (y 2))

theorem tlt (t : Fin grid0.N) : t.val < 32 := lt_of_lt_of_eq t.isLt N_0

/-- The row of the array that row `r` of block `t` is. -/
def rowAt (t : Fin grid0.N) (r : Fin 64) : Fin 2048 := ⟨64 * t.val + r.val, by have := tlt t; omega⟩

theorem emb4 (t : Fin grid0.N) (x : main_v0.ty.Contents (Elt F)) (r : Fin 64) (d : Fin 32) (n : Fin 1024) :
    (((cfgV V).win 4).blk t).view.read (Elt F) x (ix3 r d n) = x (ix3 (rowAt t r) d n) := by
  refine congrArg x (funext fun a => Fin.ext ((Window.rect_emb_val ((cfgV V).win 4) t (ix3 r d n) a rfl).trans ?_))
  match a with
  | ⟨0, _⟩ => show cc0_transform_4 (grid0.coords t) 0 * 64 + r.val = 64 * t.val + r.val; rw [(map4 t).1, Nat.mul_comm]
  | ⟨1, _⟩ => show cc0_transform_4 (grid0.coords t) 1 * 32 + d.val = d.val; rw [(map4 t).2.1]; omega
  | ⟨2, _⟩ => show cc0_transform_4 (grid0.coords t) 2 * 1024 + n.val = n.val; rw [(map4 t).2.2]; omega
theorem emb5 (t : Fin grid0.N) (x : main_v1.ty.Contents (Elt F)) (r : Fin 64) (d : Fin 32) (n : Fin 1024) :
    (((cfgV V).win 5).blk t).view.read (Elt F) x (ix3 r d n) = x (ix3 (rowAt t r) d n) := by
  refine congrArg x (funext fun a => Fin.ext ((Window.rect_emb_val ((cfgV V).win 5) t (ix3 r d n) a rfl).trans ?_))
  match a with
  | ⟨0, _⟩ => show cc0_transform_5 (grid0.coords t) 0 * 64 + r.val = 64 * t.val + r.val; rw [(map5 t).1, Nat.mul_comm]
  | ⟨1, _⟩ => show cc0_transform_5 (grid0.coords t) 1 * 32 + d.val = d.val; rw [(map5 t).2.1]; omega
  | ⟨2, _⟩ => show cc0_transform_5 (grid0.coords t) 2 * 1024 + n.val = n.val; rw [(map5 t).2.2]; omega
theorem emb6 (t : Fin grid0.N) (x : main_v17.ty.Contents (Elt F)) (r : Fin 64) (d : Fin 32) (n : Fin 1024) :
    (((cfgV V).win 6).blk t).view.read (Elt F) x (ix3 r d n) = x (ix3 (rowAt t r) d n) := by
  refine congrArg x (funext fun a => Fin.ext ((Window.rect_emb_val ((cfgV V).win 6) t (ix3 r d n) a rfl).trans ?_))
  match a with
  | ⟨0, _⟩ => show cc0_transform_6 (grid0.coords t) 0 * 64 + r.val = 64 * t.val + r.val; rw [(map6 t).1, Nat.mul_comm]
  | ⟨1, _⟩ => show cc0_transform_6 (grid0.coords t) 1 * 32 + d.val = d.val; rw [(map6 t).2.1]; omega
  | ⟨2, _⟩ => show cc0_transform_6 (grid0.coords t) 2 * 1024 + n.val = n.val; rw [(map6 t).2.2]; omega

theorem val_apply (t : Fin grid0.N) (r : Fin 64) (d : Fin 32) (n : Fin 1024) :
    (blkV V t).val t.val (ix3 r d n) = rowVal V (rowAt t r) (ix3 0 d n) := by
  have hr : r.val % 64 = r.val := Nat.mod_eq_of_lt r.isLt
  have hrow : (⟨r.val % 64, Nat.mod_lt _ (by decide)⟩ : Fin 64) = r := Fin.ext hr
  have h4 : rowB (hblk V t) r.val = slab (at_ V main_v0) (rowAt t r) := by
    funext z
    unfold rowB
    rw [hrow]
    exact emb4 V t _ r (z 1) (z 2)
  have h5 : rowB (kblk V t) r.val = slab (at_ V main_v1) (rowAt t r) := by
    funext z
    unfold rowB
    rw [hrow]
    exact emb5 V t _ r (z 1) (z 2)
  have hw : ∀ x : S2048.Idx → BitVec 32, word2 x (64 * t.val + r.val) = x (ix1 (rowAt t r)) := fun x => by
    unfold word2
    exact congrArg (fun k => x (ix1 k)) (Fin.ext (Nat.mod_eq_of_lt (rowAt t r).isLt))
  show k0_pay11 (rowPre _ _ _ _ _ (rowB (hblk V t) r.val) (rowB (kblk V t) r.val) (word2 _ (64 * t.val + r.val)) (word2 _ (64 * t.val + r.val))) (ix3 0 d n) = _
  rw [h4, h5, hw, hw]
  rfl

/-- What block `t` of the output is. -/
theorem val_read (t : Fin grid0.N) :
    ((blkV V t).val t.val : Vec F S64x32x1024 .f32) = (((cfgV V).win 6).blk t).view.read (Elt F) (rowsVal V) := by
  have key : ∀ y : S64x32x1024.Idx, (blkV V t).val t.val y = (((cfgV V).win 6).blk t).view.read (Elt F) (rowsVal V) y := by
    intro y
    obtain ⟨r, d, n, rfl⟩ : ∃ (r : Fin 64) (d : Fin 32) (n : Fin 1024), y = ix3 r d n := ⟨y 0, y 1, y 2, eq_ix3 y⟩
    exact (val_apply V t r d n).trans (emb6 V t (rowsVal V) r d n).symm
  exact funext key

/-- Every block of the output is written back. -/
theorem flush6 (t : Fin grid0.N) : ((cfgV V).win 6).flush t = true := by
  have h : ∀ t : Fin grid0.N, t.val + 1 = grid0.N ∨ ∃ h : t.val + 1 < grid0.N, cc0_transform_6 (grid0.coords ⟨t.val + 1, h⟩) ≠ cc0_transform_6 (grid0.coords t) := by
    intro t
    rcases Nat.lt_or_ge (t.val + 1) grid0.N with h | h
    · refine Or.inr ⟨h, fun he => ?_⟩
      have := congrFun he 0
      rw [(map6 _).1, (map6 _).1] at this
      simp at this
    · exact Or.inl (by have := t.isLt; omega)
  show Window.flushOf grid0 true cc0_transform_6 t = true
  unfold Window.flushOf
  rw [Bool.true_and, Bool.or_eq_true, decide_eq_true_iff, decide_eq_true_iff]
  exact h t

/-- And the blocks cover the array. -/
theorem cover6 (i : S2048x32x1024.Idx) : ∃ t : Fin grid0.N, ((cfgV V).win 6).flush t = true ∧ i ∈ (((cfgV V).win 6).blk t).view.set := by
  obtain ⟨b, d, n, rfl⟩ : ∃ (b : Fin 2048) (d : Fin 32) (n : Fin 1024), i = ix3 b d n := ⟨i 0, i 1, i 2, eq_ix3 i⟩
  have hb : b.val / 64 < grid0.N := by rw [N_0]; omega
  let t : Fin grid0.N := ⟨b.val / 64, hb⟩
  refine ⟨t, flush6 V t, ?_⟩
  have he : (((cfgV V).win 6).blk t).view.emb (ix3 (⟨b.val % 64, Nat.mod_lt _ (by decide)⟩ : Fin 64) d n) = ix3 b d n := by
    refine funext fun a => Fin.ext ((Window.rect_emb_val ((cfgV V).win 6) t (ix3 (⟨b.val % 64, Nat.mod_lt _ (by decide)⟩ : Fin 64) d n) a rfl).trans ?_)
    match a with
    | ⟨0, _⟩ => show cc0_transform_6 (grid0.coords t) 0 * 64 + b.val % 64 = b.val; rw [(map6 t).1]; show b.val / 64 * 64 + b.val % 64 = b.val; omega
    | ⟨1, _⟩ => show cc0_transform_6 (grid0.coords t) 1 * 32 + d.val = d.val; rw [(map6 t).2.1]; omega
    | ⟨2, _⟩ => show cc0_transform_6 (grid0.coords t) 2 * 1024 + n.val = n.val; rw [(map6 t).2.2]; omega
  exact he ▸ (((cfgV V).win 6).blk t).view.emb_mem_set (ix3 (⟨b.val % 64, Nat.mod_lt _ (by decide)⟩ : Fin 64) d n)

theorem arr_eq (c : Dev nD) : ((dats V 0 c).arrAt 6 grid0.N : Vec F S2048x32x1024 .f32) = rowsVal V :=
  (dats V 0 c).arrAt_eq_of_cover 6 (rowsVal V) (fun t _ => val_read V t) (cover6 V)

end

section
variable (m : (ℓ : Loc nD τ sig) → Buf (Elt F) ℓ)

theorem entry_v0 : at_ (entry m) main_v0 = transpose S2048x32x1024 [0, 2, 1] (at_ (at0 m) main_arg2) transposes_S2048x1024x32_S2048x32x1024_0_2_1 := by
  unfold at_ entry; after_results
theorem entry_v1 : at_ (entry m) main_v1 = transpose S2048x32x1024 [0, 2, 1] (at_ (at0 m) main_arg3) transposes_S2048x1024x32_S2048x32x1024_0_2_1 := by
  unfold at_ entry; after_results
theorem entry_v15 : at_ (entry m) main_v15 = transpose S32x32 [1, 0] (at_ (at0 m) main_arg4) transposes_S32x32_S32x32_1_0 := by
  unfold at_ entry; after_results
theorem entry_v16 : at_ (entry m) main_v16 = transpose S32x32 [1, 0] (at_ (at0 m) main_arg5) transposes_S32x32_S32x32_1_0 := by
  unfold at_ entry; after_results

end

end Cert.Rows

end
-- ==== Proof.KernelValue.lean ====
/- The kernel's result read at an index over the extended reals: each row gets the contributions of the sentences that
   name it, and each of its columns is divided by its length. -/
module

public import proofs.«01_k».proof.Proof.Payloads
public import proofs.«01_k».proof.Proof.Sorting
public import proofs.«01_k».proof.Proof.KernelOut

@[expose] public section

set_option maxRecDepth 16384

noncomputable section

namespace Cert.Rows

open Cert.KernelIdeal Cert.KernelIdeal.Gen
open Idealize.ShloMosaic Idealize.ShloMosaic.TcCoe

/-! ### One row -/

section
variable (pm : S1024.Idx → BitVec 32) (e ew : Vec Ideal S1024x32 .f32) (U V : Vec Ideal S32x32 .f32) (hr kr : Vec Ideal S1x32x1024 .f32)

/-- What sentence `p` contributes to a row. -/
def contribution (p : Nat) (d : Fin 32) (n : Fin 1024) : EReal :=
  Ideal.logistic (∑ c : Fin 32, rowE e p (ix2 0 c) * (hr (ix3 0 c n) + kr (ix3 0 c n)))
    * max ((∑ c : Fin 32, U (ix2 d c) * hr (ix3 0 c n)) + (∑ c : Fin 32, V (ix2 d c) * kr (ix3 0 c n)) + rowE ew p (ix2 0 d)) 0

theorem accum_apply (s0 k : Nat) (d : Fin 32) (n : Fin 1024) :
    accum pm e ew U V hr kr s0 k (ix2 d n) = ∑ j ∈ Finset.range k, contribution e ew U V hr kr (word pm (s0 + j)).toNat d n := by
  induction k with
  | zero => exact pay7_apply d n
  | succ k ih =>
    rw [Finset.sum_range_succ, ← ih]
    exact pay8_apply hr kr U V _ _ _ d n

theorem cond2_iff (cnt : BitVec 32) (h : cnt.toNat ≤ 1024) : k0_cond2 cnt = 1#1 ↔ cnt ≠ 0#32 := by
  have hs : Scalar.cmpi .sgt cnt 0#32 = BitVec.ofBool (decide (cnt ≠ 0#32)) := by
    show BitVec.ofBool ((0#32 : BitVec 32).slt cnt) = _
    congr 1
    unfold BitVec.slt
    rw [toInt_small h]
    refine decide_eq_decide.2 ⟨fun h0 he => by rw [he] at h0; simp at h0, fun h0 => ?_⟩
    have : cnt.toNat ≠ 0 := fun h1 => h0 (BitVec.eq_of_toNat_eq (by simpa using h1))
    simp; omega
  unfold k0_cond2
  dsimp only
  rw [hs]
  by_cases hc : cnt = 0#32
  · simp only [hc, ne_eq, not_true_eq_false, decide_false]; decide
  · simp only [hc, ne_eq, not_false_eq_true, decide_true, iff_true]; decide

theorem rowPre_apply (cnt s0 : BitVec 32) (h : cnt.toNat ≤ 1024) (d : Fin 32) (n : Fin 1024) :
    rowPre pm e ew U V hr kr cnt s0 (ix2 d n)
      = hr (ix3 0 d n) + ∑ j ∈ Finset.range cnt.toNat, contribution e ew U V hr kr (word pm (s0.toNat + j)).toNat d n := by
  unfold rowPre
  by_cases hc : cnt = 0#32
  · rw [if_neg (fun h' => (cond2_iff cnt h).1 h' hc), pay3_apply, hc]
    exact (add_zero _).symm
  · rw [if_pos ((cond2_iff cnt h).2 hc), pay10_apply, accum_apply]

end

/-! ### The whole array -/

section
variable (a0 : Vec Ideal S1024x32 .f32) (a1 : IVec S1024 32) (a2 a3 : Vec Ideal S2048x1024x32 .f32) (a4 a5 a6 : Vec Ideal S32x32 .f32)

/-- What sentence `p` contributes to row `b`, over the arguments. -/
def share (b : Fin 2048) (n : Fin 1024) (d : Fin 32) (p : Fin 1024) : EReal :=
  Ideal.logistic (∑ c : Fin 32, a0 (ix2 p c) * (a2 (ix3 b n c) + a3 (ix3 b n c)))
    * max ((∑ c : Fin 32, a4 (ix2 c d) * a2 (ix3 b n c)) + (∑ c : Fin 32, a5 (ix2 c d) * a3 (ix3 b n c)) + ∑ c : Fin 32, a0 (ix2 p c) * a6 (ix2 c d)) 0

/-- All that row `b` is given. -/
def given (b : Fin 2048) (n : Fin 1024) (d : Fin 32) : EReal :=
  ∑ p ∈ Finset.univ.filter (fun p : Fin 1024 => (a1 (ix1 p)).toInt = (b.val : Int)), share a0 a2 a3 a4 a5 a6 b n d p

/-- What a row holds before it is normalised. -/
def fresh (b : Fin 2048) (n : Fin 1024) (d : Fin 32) : EReal := a2 (ix3 b n d) + given a0 a1 a2 a3 a4 a5 a6 b n d

theorem cols_apply (x : Vec Ideal S2048x1024x32 .f32) (b : Fin 2048) (z : Fin 1) (d : Fin 32) (n : Fin 1024) :
    slab (transpose S2048x32x1024 [0, 2, 1] x transposes_S2048x1024x32_S2048x32x1024_0_2_1) b (ix3 z d n) = x (ix3 b n d) := by
  show transpose S2048x32x1024 [0, 2, 1] x transposes_S2048x1024x32_S2048x32x1024_0_2_1 (ix3 b d n) = x (ix3 b n d)
  pointwise

theorem flip_apply (x : Vec Ideal S32x32 .f32) (c d : Fin 32) :
    transpose S32x32 [1, 0] x transposes_S32x32_S32x32_1_0 (ix2 d c) = x (ix2 c d) := by
  pointwise

theorem contribution_eq (b : Fin 2048) (n : Fin 1024) (d : Fin 32) (p : Fin 1024) :
    contribution a0 (k0_pay2 a0 a6) (transpose S32x32 [1, 0] a4 transposes_S32x32_S32x32_1_0) (transpose S32x32 [1, 0] a5 transposes_S32x32_S32x32_1_0)
        (slab (transpose S2048x32x1024 [0, 2, 1] a2 transposes_S2048x1024x32_S2048x32x1024_0_2_1) b)
        (slab (transpose S2048x32x1024 [0, 2, 1] a3 transposes_S2048x1024x32_S2048x32x1024_0_2_1) b) p.val d n
      = share a0 a2 a3 a4 a5 a6 b n d p := by
  have hp : (⟨p.val % 1024, Nat.mod_lt _ (by decide)⟩ : Fin 1024) = p := Fin.ext (Nat.mod_eq_of_lt p.isLt)
  have hE : ∀ (x : Vec Ideal S1024x32 .f32) (c : Fin 32), rowE x p.val (ix2 0 c) = x (ix2 p c) := fun x c =>
    congrArg (fun q => x (ix2 q c)) hp
  unfold contribution share
  rw [hE, pay2_apply]
  refine congrArg₂ (· * ·) (congrArg Ideal.logistic (Finset.sum_congr rfl fun c _ => ?_)) (congrArg (max · 0) (congrArg (· + _) (congrArg₂ (· + ·)
    (Finset.sum_congr rfl fun c _ => ?_) (Finset.sum_congr rfl fun c _ => ?_))))
  · exact congrArg₂ (· * ·) (hE a0 c) (congrArg₂ (· + ·) (cols_apply a2 b 0 c n) (cols_apply a3 b 0 c n))
  · exact congrArg₂ (· * ·) (flip_apply a4 c d) (cols_apply a2 b 0 c n)
  · exact congrArg₂ (· * ·) (flip_apply a5 c d) (cols_apply a3 b 0 c n)

/-- The row whose entries are `fresh`, as the kernel computes it. -/
def rowTerm (b : Fin 2048) : FVec Ideal S32x1024 .f32 :=
  rowPre (permOf a1) a0 (k0_pay2 a0 a6) (transpose S32x32 [1, 0] a4 transposes_S32x32_S32x32_1_0) (transpose S32x32 [1, 0] a5 transposes_S32x32_S32x32_1_0)
    (slab (transpose S2048x32x1024 [0, 2, 1] a2 transposes_S2048x1024x32_S2048x32x1024_0_2_1) b)
    (slab (transpose S2048x32x1024 [0, 2, 1] a3 transposes_S2048x1024x32_S2048x32x1024_0_2_1) b)
    (countsOf (sorted a1) (ix1 b)) (startsOf (sorted a1) (ix1 b))

theorem rowTerm_apply (b : Fin 2048) (n : Fin 1024) (d : Fin 32) : rowTerm a0 a1 a2 a3 a4 a5 a6 b (ix2 d n) = fresh a0 a1 a2 a3 a4 a5 a6 b n d := by
  have hcnt : (countsOf (sorted a1) (ix1 b)).toNat ≤ 1024 := le_trans (Nat.le_add_left _ _) ((tabOK (sorted a1) a1).1 (ix1 b))
  unfold rowTerm fresh given
  rw [rowPre_apply _ _ _ _ _ _ _ _ _ hcnt]
  refine congrArg₂ (· + ·) (cols_apply a2 b 0 d n) ?_
  refine (sum_list a1 b fun p => contribution a0 (k0_pay2 a0 a6) (transpose S32x32 [1, 0] a4 transposes_S32x32_S32x32_1_0)
    (transpose S32x32 [1, 0] a5 transposes_S32x32_S32x32_1_0) (slab (transpose S2048x32x1024 [0, 2, 1] a2 transposes_S2048x1024x32_S2048x32x1024_0_2_1) b)
    (slab (transpose S2048x32x1024 [0, 2, 1] a3 transposes_S2048x1024x32_S2048x32x1024_0_2_1) b) p d n).trans ?_
  exact Finset.sum_congr rfl fun p _ => contribution_eq a0 a2 a3 a4 a5 a6 b n d p

end

section
variable (m : (ℓ : Loc nD τ sig) → Buf (Elt Ideal) ℓ)

theorem kernelOut_eq : kernelOut m = rowsVal (entry m) := arr_eq (entry m) 0

/-- `fresh` of the arguments. -/
def freshOf (b : Fin 2048) (n : Fin 1024) (d : Fin 32) : EReal :=
  fresh (at_ (at0 m) main_arg0) (at_ (at0 m) main_arg1) (at_ (at0 m) main_arg2) (at_ (at0 m) main_arg3) (at_ (at0 m) main_arg4)
    (at_ (at0 m) main_arg5) (at_ (at0 m) main_arg6) b n d

theorem rowVal_eq (b : Fin 2048) : rowVal (entry m) b
    = k0_pay11 (rowTerm (at_ (at0 m) main_arg0) (at_ (at0 m) main_arg1) (at_ (at0 m) main_arg2) (at_ (at0 m) main_arg3) (at_ (at0 m) main_arg4)
        (at_ (at0 m) main_arg5) (at_ (at0 m) main_arg6) b) := by
  unfold rowVal rowTerm sorted
  rw [entry_v14, entry_v12, entry_v2, entry_v0, entry_v1, entry_v15, entry_v16, args0, args6]

/-- The kernel's result. -/
theorem result_apply (b : Fin 2048) (n : Fin 1024) (d : Fin 32) :
    transpose S2048x1024x32 [0, 2, 1] (kernelOut m) transposes_S2048x32x1024_S2048x1024x32_0_2_1 (ix3 b n d)
      = freshOf m b n d * Ideal.rsqrt (max (∑ c : Fin 32, freshOf m b n c * freshOf m b n c) (Ideal.ofBits .f32 0x2B8CBCCC#32)) := by
  have ht : ∀ x : Vec Ideal S2048x32x1024 .f32,
      transpose S2048x1024x32 [0, 2, 1] x transposes_S2048x32x1024_S2048x1024x32_0_2_1 (ix3 b n d) = x (ix3 b d n) := fun x => by
    pointwise
  rw [ht, kernelOut_eq]
  show rowVal (entry m) b (ix3 0 d n) = _
  rw [rowVal_eq, pay11_apply]
  simp only [rowTerm_apply]
  rfl

end

end Cert.Rows

end
-- ==== Proof.RefTerm.lean ====
/- The reference's result as one term over its arguments, and its gathers and its scatter read at an index where every
   sentence index names a row. -/
module

public import proofs.«01_k».proof.Proof.Gen.ReferenceIdeal.Run
public import Idealize.ShloMosaic.Lib.Pointwise
public import Idealize.ShloMosaic.Lib.ReduceAll
public import Idealize.ShloMosaic.Lib.Routing.OpsPair

@[expose] public section

set_option maxRecDepth 16384

noncomputable section

namespace Cert.Rows.Ref

open Cert.ReferenceIdeal Cert.ReferenceIdeal.Gen
open Idealize.ShloMosaic Idealize.ShloMosaic.TcCoe

/-! ### The term -/

/-- The indices with the negative ones counted from the end. -/
def wrapped (x : IVec S1024 32) : IVec S1024 32 :=
  select (cmpi .slt x (broadcastInDim S1024 ![] bcast_S_S1024 (constantI S_ 32 0#32)))
    (addi x (broadcastInDim S1024 ![] bcast_S_S1024 (constantI S_ 32 2048#32))) x

def col (x : IVec S1024 32) : IVec S1024x1 32 := broadcastInDim S1024x1 ![0] bcast_S1024_S1024x1_0 (wrapped x)

/-- Where the index names a row. -/
def inside (x : IVec S1024 32) : IVec S1024 1 :=
  Host.reduce IntOp.andi
    (andi (cmpi .sge (col x) (broadcastInDim S1024x1 ![] bcast_S_S1024x1 (constantI S_ 32 0#32)))
      (cmpi .sle (col x) (broadcastInDim S1024x1 ![0, 1] bcast_S1x1_S1024x1_0_1 (broadcastInDim S1x1 ![1] bcast_S1_S1x1_1 (constantI S1 32 2047#32)))))
    (constantI S_ 1 1#1) reducesTo_S1024x1_S1024_d1 h_S_

/-- The rows the indices name. -/
def rowsOf (x : IVec S1024 32) (t : FVec Ideal S2048x1024x32 .f32) : FVec Ideal S1024x1024x32 .f32 :=
  select (broadcastInDim S1024x1024x32 ![0] bcast_S1024_S1024x1024x32_0 (inside x))
    (Host.gather gather_S2048x1024x32_S1024x1_S1024x1024x32_12_0_n_n_0_1_1102432 t (col x))
    (broadcastInDim S1024x1024x32 ![] bcast_S_S1024x1024x32 (constant S_ .f32 0x7FC00000#32))

/-- Every sentence, once per entity. -/
def tile (e : FVec Ideal S1024x32 .f32) : FVec Ideal S1024x1024x32 .f32 :=
  broadcastInDim S1024x1024x32 ![0, 1, 2] bcast_S1024x1x32_S1024x1024x32_0_1_2 (broadcastInDim S1024x1x32 ![0, 2] bcast_S1024x32_S1024x1x32_0_2 e)

variable (e : FVec Ideal S1024x32 .f32) (hr kr : FVec Ideal S1024x1024x32 .f32) (U V W : FVec Ideal S32x32 .f32)

/-- What each sentence adds to the row it names. -/
def update : FVec Ideal S1024x1024x32 .f32 :=
  mulf (broadcastInDim S1024x1024x32 ![0, 1, 2] bcast_S1024x1024x1_S1024x1024x32_0_1_2 (broadcastInDim S1024x1024x1 ![0, 1] bcast_S1024x1024_S1024x1024x1_0_1
      (Host.divf (broadcastInDim S1024x1024 ![] bcast_S_S1024x1024 (constant S_ .f32 0x3F800000#32))
        (addf (broadcastInDim S1024x1024 ![] bcast_S_S1024x1024 (constant S_ .f32 0x3F800000#32))
          (Host.exp (Host.negf (Host.reduceAdd (addf (mulf (tile e) hr) (mulf (tile e) kr))
            (constant S_ .f32 0x00000000#32) reducesTo_S1024x1024x32_S1024x1024_d2 h_S_)))))))
    (maximumf (addf (addf (Host.dotGeneral dot_S1024x1024x32_S32x32_S1024x1024x32_2_0_01_1_n_n none hr U)
        (Host.dotGeneral dot_S1024x1024x32_S32x32_S1024x1024x32_2_0_01_1_n_n none kr V))
        (Host.dotGeneral dot_S1024x1024x32_S32x32_S1024x1024x32_2_0_01_1_n_n none (tile e) W))
      (broadcastInDim S1024x1024x32 ![] bcast_S_S1024x1024x32 (constant S_ .f32 0x00000000#32)))

/-- The rows divided by their lengths. -/
def unit (n : FVec Ideal S2048x1024x32 .f32) : FVec Ideal S2048x1024x32 .f32 :=
  mulf n (broadcastInDim S2048x1024x32 ![0, 1, 2] bcast_S2048x1024x1_S2048x1024x32_0_1_2
    (Host.rsqrt (maximumf (broadcastInDim S2048x1024x1 ![0, 1] bcast_S2048x1024_S2048x1024x1_0_1
        (Host.reduceAdd (mulf n n) (constant S_ .f32 0x00000000#32) reducesTo_S2048x1024x32_S2048x1024_d2 h_S_))
      (broadcastInDim S2048x1024x1 ![] bcast_S_S2048x1024x1 (constant S_ .f32 0x2B8CBCCC#32)))))

/-- The reference's result. -/
def out (x : IVec S1024 32) (h k : FVec Ideal S2048x1024x32 .f32) : FVec Ideal S2048x1024x32 .f32 :=
  unit (Host.scatterAdd scatter_S2048x1024x32_S1024x1_S1024x1024x32_12_0_0_1 h (col x) (update e (rowsOf x h) (rowsOf x k) U V W))

theorem res_eq (m : (ℓ : Loc nD τ sig) → Buf (Elt Ideal) ℓ) (c : Dev nD) :
    Value.res_main_v37 m c = out (m ((c.tc : Thread nD τ).loc main_arg0)) (m ((c.tc : Thread nD τ).loc main_arg4))
      (m ((c.tc : Thread nD τ).loc main_arg5)) (m ((c.tc : Thread nD τ).loc main_arg6)) (m ((c.tc : Thread nD τ).loc main_arg1))
      (m ((c.tc : Thread nD τ).loc main_arg2)) (m ((c.tc : Thread nD τ).loc main_arg3)) := by
  unfold Value.res_main_v37
  rfl

/-! ### At an index -/

theorem update_apply (p n : Fin 1024) (d : Fin 32) :
    update e hr kr U V W (ix3 p n d)
      = Ideal.logistic (∑ c : Fin 32, (e (ix2 p c) * hr (ix3 p n c) + e (ix2 p c) * kr (ix3 p n c)))
          * max ((∑ c : Fin 32, hr (ix3 p n c) * U (ix2 c d)) + (∑ c : Fin 32, kr (ix3 p n c) * V (ix2 c d)) + ∑ c : Fin 32, e (ix2 p c) * W (ix2 c d)) 0 := by
  pointwise [update, tile, Ideal.logistic]

theorem unit_apply (t : FVec Ideal S2048x1024x32 .f32) (b : Fin 2048) (n : Fin 1024) (d : Fin 32) :
    unit t (ix3 b n d)
      = t (ix3 b n d) * Ideal.rsqrt (max (∑ c : Fin 32, t (ix3 b n c) * t (ix3 b n c)) (Ideal.ofBits .f32 0x2B8CBCCC#32)) := by
  pointwise [unit]

section
variable (x : IVec S1024 32) (hx : ∀ j, 0 ≤ (x j).toInt ∧ (x j).toInt < 2048)
include hx

theorem wrapped_eq : wrapped x = x := by
  funext j
  show (if IntOp.cmpi .slt (x j) 0#32 = 1#1 then _ else x j) = x j
  rw [if_neg]
  have : ¬ (x j).toInt < 0 := not_lt.2 (hx j).1
  show ¬ BitVec.ofBool ((x j).slt 0#32) = 1#1
  unfold BitVec.slt
  simp [this]

theorem col_apply (p : Fin 1024) : col x (ix2 p 0) = x (ix1 p) := by
  unfold col
  rw [wrapped_eq x hx]
  pointwise

theorem inside_eq (p : Fin 1024) : inside x (ix1 p) = 1#1 := by
  unfold inside
  refine Host.reduce_andi_one _ _ _ _ _ rfl fun i => ?_
  obtain ⟨q, z, rfl⟩ : ∃ (q : Fin 1024) (z : Fin 1), i = ix2 q z := ⟨i 0, i 1, eq_ix2 i⟩
  obtain rfl : z = 0 := Subsingleton.elim _ _
  have hc := col_apply x hx q
  have h1 := (hx (ix1 q)).1
  have h2 := (hx (ix1 q)).2
  have e1 : IntOp.cmpi .sge (col x (ix2 q 0)) 0#32 = 1#1 := by
    rw [hc]
    show BitVec.ofBool ((0#32 : BitVec 32).sle (x (ix1 q))) = 1#1
    unfold BitVec.sle
    simp [h1]
  have e2 : IntOp.cmpi .sle (col x (ix2 q 0)) 2047#32 = 1#1 := by
    rw [hc]
    show BitVec.ofBool ((x (ix1 q)).sle 2047#32) = 1#1
    unfold BitVec.sle
    have : (2047#32 : BitVec 32).toInt = 2047 := by decide
    rw [this, decide_eq_true (by omega)]
    rfl
  exact congrArg₂ IntOp.andi e1 e2

/-- The row sentence `p` names. -/
def row (p : Fin 1024) : Fin 2048 := ⟨(x (ix1 p)).toInt.toNat, by have := hx (ix1 p); omega⟩

theorem gather_apply (t : FVec Ideal S2048x1024x32 .f32) (p n : Fin 1024) (d : Fin 32) :
    Host.gather gather_S2048x1024x32_S1024x1_S1024x1024x32_12_0_n_n_0_1_1102432 t (col x) (ix3 p n d) = t (ix3 (row x hx p) n d) := by
  unfold Host.gather
  refine congrArg t (funext fun a => Fin.ext ?_)
  have hs : (gather_S2048x1024x32_S1024x1_S1024x1024x32_12_0_n_n_0_1_1102432).siIdx (ix3 p n d) ⟨0, by decide⟩ = ix2 p 0 := by
    funext b
    match b with
    | ⟨0, _⟩ => rfl
    | ⟨1, _⟩ => rfl
  match a with
  | ⟨0, _⟩ =>
    show min (col x ((gather_S2048x1024x32_S1024x1_S1024x1024x32_12_0_n_n_0_1_1102432).siIdx (ix3 p n d) ⟨0, _⟩)).toInt.toNat 2047 + 0 + 0 = (x (ix1 p)).toInt.toNat
    rw [hs, col_apply x hx]
    have := hx (ix1 p)
    omega
  | ⟨1, _⟩ => show 0 + 0 + n.val = n.val; omega
  | ⟨2, _⟩ => show 0 + 0 + d.val = d.val; omega

theorem rowsOf_apply (t : FVec Ideal S2048x1024x32 .f32) (p n : Fin 1024) (d : Fin 32) :
    rowsOf x t (ix3 p n d) = t (ix3 (row x hx p) n d) := by
  refine Eq.trans ?_ (gather_apply x hx t p n d)
  unfold rowsOf
  show (if _ = 1#1 then _ else _) = _
  rw [if_pos]
  refine Eq.trans ?_ (inside_eq x hx p)
  pointwise

/-- Where an element of the update lands. -/
theorem lands (p n : Fin 1024) (d : Fin 32) (b : Fin 2048) (n' : Fin 1024) (d' : Fin 32) :
    (scatter_S2048x1024x32_S1024x1_S1024x1024x32_12_0_0_1).resultIdx? (ix3 p n d) (col x) = some (ix3 b n' d')
      ↔ row x hx p = b ∧ n = n' ∧ d = d' := by
  have hs : (scatter_S2048x1024x32_S1024x1_S1024x1024x32_12_0_0_1).siIdx (ix3 p n d) ⟨0, by decide⟩ = ix2 p 0 := by
    funext b
    match b with
    | ⟨0, _⟩ => rfl
    | ⟨1, _⟩ => rfl
  have h0 : (scatter_S2048x1024x32_S1024x1_S1024x1024x32_12_0_0_1).start (ix3 p n d) (col x) 0 = (x (ix1 p)).toInt := by
    show (col x ((scatter_S2048x1024x32_S1024x1_S1024x1024x32_12_0_0_1).siIdx (ix3 p n d) ⟨0, _⟩)).toInt = _
    rw [hs, col_apply x hx]
  have hr := hx (ix1 p)
  rw [Routing.resultIdx?_eq_some]
  constructor
  · intro h
    have a0 := h 0
    have a1 := h 1
    have a2 := h 2
    rw [h0] at a0
    replace a0 : (x (ix1 p)).toInt + (0 : Int) = (b.val : Int) := a0
    replace a1 : (0 : Int) + (n.val : Int) = (n'.val : Int) := a1
    replace a2 : (0 : Int) + (d.val : Int) = (d'.val : Int) := a2
    refine ⟨Fin.ext ?_, Fin.ext ?_, Fin.ext ?_⟩
    · show (x (ix1 p)).toInt.toNat = b.val; omega
    · omega
    · omega
  · rintro ⟨rfl, rfl, rfl⟩ a
    match a with
    | ⟨0, _⟩ =>
      refine (congrArg (· + (0 : Int)) h0).trans ?_
      show (x (ix1 p)).toInt + 0 = ((x (ix1 p)).toInt.toNat : Int)
      omega
    | ⟨1, _⟩ => show (0 : Int) + (n.val : Int) = (n.val : Int); omega
    | ⟨2, _⟩ => show (0 : Int) + (d.val : Int) = (d.val : Int); omega

theorem scatter_apply (t : FVec Ideal S2048x1024x32 .f32) (u : FVec Ideal S1024x1024x32 .f32) (b : Fin 2048) (n : Fin 1024) (d : Fin 32) :
    Host.scatterAdd scatter_S2048x1024x32_S1024x1_S1024x1024x32_12_0_0_1 t (col x) u (ix3 b n d)
      = (t (ix3 b n d) + ∑ p ∈ Finset.univ.filter (fun p => row x hx p = b), u (ix3 p n d) : EReal) := by
  show (t (ix3 b n d) + ∑ j ∈ Finset.univ.filter
    (fun j => (scatter_S2048x1024x32_S1024x1_S1024x1024x32_12_0_0_1).resultIdx? j (col x) = some (ix3 b n d)), u j : EReal) = _
  congr 1
  symm
  refine Finset.sum_bij (fun p _ => ix3 p n d) (fun p hp => ?_) (fun p _ q _ h => congrFun h 0) (fun j hj => ?_) (fun _ _ => rfl)
  · exact Finset.mem_filter.2 ⟨Finset.mem_univ _, (lands x hx p n d b n d).2 ⟨(Finset.mem_filter.1 hp).2, rfl, rfl⟩⟩
  · obtain ⟨p, n', d', rfl⟩ : ∃ (p n' : Fin 1024) (d' : Fin 32), j = ix3 p n' d' := ⟨j 0, j 1, j 2, eq_ix3 j⟩
    obtain ⟨h1, rfl, rfl⟩ := (lands x hx p n' d' b n d).1 (Finset.mem_filter.1 hj).2
    exact ⟨p, Finset.mem_filter.2 ⟨Finset.mem_univ _, h1⟩, rfl⟩

end

end Cert.Rows.Ref

end
-- ==== Proof.Compare.lean ====
/- The reference's result read at an index, and the two results compared. -/
module

public import proofs.«01_k».proof.Proof.Gen.Pre_inputs_ok
public import proofs.«01_k».proof.Proof.Algebra
public import proofs.«01_k».proof.Proof.KernelValue
public import proofs.«01_k».proof.Proof.RefTerm

@[expose] public section

set_option maxRecDepth 16384

noncomputable section

namespace Cert.Rows

open Idealize.ShloMosaic Idealize.ShloMosaic.TcCoe
open Cert.KernelIdeal (S1024x32 S1024 S2048x1024x32 S32x32)

variable (a0 : Vec Ideal S1024x32 .f32) (a1 : IVec S1024 32) (a2 a3 : Vec Ideal S2048x1024x32 .f32) (a4 a5 a6 : Vec Ideal S32x32 .f32)

/-! ### The precondition -/

theorem ofBits_inf : Ideal.ofBits .f32 0x7F800000#32 = ⊤ := by
  show Ideal.ieee 8 23 0x7F800000#32 = ⊤
  unfold Ideal.ieee
  rw [if_pos (by decide), if_pos (by decide), if_neg (by decide)]

/-- The precondition: the sentences are finite, and every index names a row. -/
theorem inputs (h : Cert.Pre_inputs_ok.fn (F := Ideal) a0 a1 a2 a3 a4 a5 a6 = fun _ => 1#1) :
    (∀ i, a0 i ≠ ⊤ ∧ a0 i ≠ ⊥) ∧ ∀ j, 0 ≤ (a1 j).toInt ∧ (a1 j).toInt < 2048 := by
  haveI : Subsingleton Cert.Pre_inputs_ok.S_.Idx := ⟨fun x y => funext fun a => a.elim0⟩
  have h0 := congrFun h (fun a => a.elim0)
  unfold Cert.Pre_inputs_ok.fn at h0
  obtain ⟨he, hx⟩ := IntOp.andi_eq_one.1 h0
  constructor
  · intro i
    have hi : Ideal.cmp .olt (max (a0 i) (-(a0 i))) (Ideal.ofBits .f32 0x7F800000#32) = 1#1 :=
      Host.reduce_andi_all _ _ _ _ _ he i
    rw [ofBits_inf] at hi
    have hlt : max (a0 i) (-(a0 i)) < ⊤ := by
      by_contra hn
      have : Ideal.cmp .olt (max (a0 i) (-(a0 i))) ⊤ = 0#1 := congrArg BitVec.ofBool (decide_eq_false hn)
      rw [this] at hi
      exact absurd hi (by decide)
    refine ⟨fun ht => ?_, fun hb => ?_⟩
    · rw [ht] at hlt; simp at hlt
    · rw [hb] at hlt; simp at hlt
  · intro j
    obtain ⟨h1, h2⟩ := IntOp.andi_eq_one.1 (Host.reduce_andi_all _ _ _ _ _ hx j)
    exact ⟨IntOp.cmpi_sge.1 h1, IntOp.cmpi_slt.1 h2⟩

/-! ### The reference -/

/-- What sentence `p` adds to row `b` in the reference. -/
def refShare (b : Fin 2048) (n : Fin 1024) (d : Fin 32) (p : Fin 1024) : EReal :=
  Ideal.logistic (∑ c : Fin 32, (a0 (ix2 p c) * a2 (ix3 b n c) + a0 (ix2 p c) * a3 (ix3 b n c)))
    * max ((∑ c : Fin 32, a2 (ix3 b n c) * a4 (ix2 c d)) + (∑ c : Fin 32, a3 (ix3 b n c) * a5 (ix2 c d)) + ∑ c : Fin 32, a0 (ix2 p c) * a6 (ix2 c d)) 0

def refGiven (b : Fin 2048) (n : Fin 1024) (d : Fin 32) : EReal :=
  ∑ p ∈ Finset.univ.filter (fun p : Fin 1024 => (a1 (ix1 p)).toInt = (b.val : Int)), refShare a0 a2 a3 a4 a5 a6 b n d p

def refFresh (b : Fin 2048) (n : Fin 1024) (d : Fin 32) : EReal := a2 (ix3 b n d) + refGiven a0 a1 a2 a3 a4 a5 a6 b n d

section
variable (hx : ∀ j, 0 ≤ (a1 j).toInt ∧ (a1 j).toInt < 2048)
include hx

theorem ref_scatter (b : Fin 2048) (n : Fin 1024) (d : Fin 32) :
    Host.scatterAdd Cert.ReferenceIdeal.scatter_S2048x1024x32_S1024x1_S1024x1024x32_12_0_0_1 a2 (Ref.col a1)
        (Ref.update a0 (Ref.rowsOf a1 a2) (Ref.rowsOf a1 a3) a4 a5 a6) (ix3 b n d)
      = refFresh a0 a1 a2 a3 a4 a5 a6 b n d := by
  refine (Ref.scatter_apply a1 hx a2 _ b n d).trans ?_
  unfold refFresh refGiven
  refine congrArg (a2 (ix3 b n d) + ·) (Finset.sum_congr (Finset.filter_congr fun p _ => ?_) fun p hp => ?_)
  · have := hx (ix1 p)
    refine Fin.ext_iff.trans ?_
    show (a1 (ix1 p)).toInt.toNat = b.val ↔ _
    omega
  · have hr : Ref.row a1 hx p = b := by
      have := (Finset.mem_filter.1 hp).2
      exact Fin.ext (by show (a1 (ix1 p)).toInt.toNat = b.val; omega)
    rw [Ref.update_apply]
    unfold refShare
    simp only [Ref.rowsOf_apply a1 hx, hr]

theorem ref_apply (b : Fin 2048) (n : Fin 1024) (d : Fin 32) :
    Ref.out a0 a4 a5 a6 a1 a2 a3 (ix3 b n d)
      = refFresh a0 a1 a2 a3 a4 a5 a6 b n d
        * Ideal.rsqrt (max (∑ c : Fin 32, refFresh a0 a1 a2 a3 a4 a5 a6 b n c * refFresh a0 a1 a2 a3 a4 a5 a6 b n c) (Ideal.ofBits .f32 0x2B8CBCCC#32)) := by
  unfold Ref.out
  rw [Ref.unit_apply]
  simp only [ref_scatter a0 a1 a2 a3 a4 a5 a6 hx]

end

/-! ### The comparison -/

theorem share_nonneg (b : Fin 2048) (n : Fin 1024) (d : Fin 32) (p : Fin 1024) : 0 ≤ share a0 a2 a3 a4 a5 a6 b n d p :=
  mul_nonneg (logistic_nonneg _) (le_max_right _ _)
theorem refShare_nonneg (b : Fin 2048) (n : Fin 1024) (d : Fin 32) (p : Fin 1024) : 0 ≤ refShare a0 a2 a3 a4 a5 a6 b n d p :=
  mul_nonneg (logistic_nonneg _) (le_max_right _ _)

/-- On a finite column of the hidden states the two contributions are the same. -/
theorem share_eq (he : ∀ i, a0 i ≠ ⊤ ∧ a0 i ≠ ⊥) (b : Fin 2048) (n : Fin 1024) (hh : ∀ c : Fin 32, a2 (ix3 b n c) ≠ ⊤ ∧ a2 (ix3 b n c) ≠ ⊥)
    (d : Fin 32) (p : Fin 1024) : share a0 a2 a3 a4 a5 a6 b n d p = refShare a0 a2 a3 a4 a5 a6 b n d p := by
  unfold share refShare
  refine congrArg₂ (· * ·) (congrArg Ideal.logistic (Finset.sum_congr rfl fun c _ => mul_add_finite _ (he _) (hh c)))
    (congrArg (max · 0) (congrArg (· + _) (congrArg₂ (· + ·) (Finset.sum_congr rfl fun c _ => mul_comm _ _) (Finset.sum_congr rfl fun c _ => mul_comm _ _))))

theorem unit_fresh (he : ∀ i, a0 i ≠ ⊤ ∧ a0 i ≠ ⊥) (b : Fin 2048) (n : Fin 1024) (d : Fin 32) (ε : EReal) :
    fresh a0 a1 a2 a3 a4 a5 a6 b n d * Ideal.rsqrt (max (∑ c : Fin 32, fresh a0 a1 a2 a3 a4 a5 a6 b n c * fresh a0 a1 a2 a3 a4 a5 a6 b n c) ε)
      = refFresh a0 a1 a2 a3 a4 a5 a6 b n d
        * Ideal.rsqrt (max (∑ c : Fin 32, refFresh a0 a1 a2 a3 a4 a5 a6 b n c * refFresh a0 a1 a2 a3 a4 a5 a6 b n c) ε) :=
  unit_eq (fun c => a2 (ix3 b n c)) (given a0 a1 a2 a3 a4 a5 a6 b n) (refGiven a0 a1 a2 a3 a4 a5 a6 b n) ε
    (fun c => Finset.sum_nonneg fun p _ => share_nonneg a0 a2 a3 a4 a5 a6 b n c p)
    (fun c => Finset.sum_nonneg fun p _ => refShare_nonneg a0 a2 a3 a4 a5 a6 b n c p)
    (fun hh => funext fun c => Finset.sum_congr rfl fun p _ => share_eq a0 a2 a3 a4 a5 a6 he b n hh c p) d

/-- The kernel's result is the reference's. -/
theorem result_eq (m : (ℓ : Loc Cert.KernelIdeal.nD Cert.KernelIdeal.τ Cert.KernelIdeal.sig) → Buf (Elt Ideal) ℓ)
    (h : Cert.Pre_inputs_ok.fn (F := Ideal) (at_ (at0 m) Cert.KernelIdeal.main_arg0) (at_ (at0 m) Cert.KernelIdeal.main_arg1)
      (at_ (at0 m) Cert.KernelIdeal.main_arg2) (at_ (at0 m) Cert.KernelIdeal.main_arg3) (at_ (at0 m) Cert.KernelIdeal.main_arg4)
      (at_ (at0 m) Cert.KernelIdeal.main_arg5) (at_ (at0 m) Cert.KernelIdeal.main_arg6) = fun _ => 1#1) :
    transpose S2048x1024x32 [0, 2, 1] (kernelOut m) Cert.KernelIdeal.Gen.transposes_S2048x32x1024_S2048x1024x32_0_2_1
      = Ref.out (at_ (at0 m) Cert.KernelIdeal.main_arg0) (at_ (at0 m) Cert.KernelIdeal.main_arg4) (at_ (at0 m) Cert.KernelIdeal.main_arg5)
          (at_ (at0 m) Cert.KernelIdeal.main_arg6) (at_ (at0 m) Cert.KernelIdeal.main_arg1) (at_ (at0 m) Cert.KernelIdeal.main_arg2)
          (at_ (at0 m) Cert.KernelIdeal.main_arg3) := by
  obtain ⟨he, hx⟩ := inputs _ _ _ _ _ _ _ h
  funext i
  obtain ⟨b, n, d, rfl⟩ : ∃ (b : Fin 2048) (n : Fin 1024) (d : Fin 32), i = ix3 b n d := ⟨i 0, i 1, i 2, eq_ix3 i⟩
  rw [result_apply]
  refine Eq.trans ?_ (ref_apply _ _ _ _ _ _ _ hx b n d).symm
  exact unit_fresh _ _ _ _ _ _ _ he b n d _

end Cert.Rows

end
-- ==== Proof.lean ====
/- The certificate of the kernel: it runs and leaves its arguments as they were (`Proof.Run`, over any float
   values; `Proof.Same` takes it to the program as printed), and over the extended reals its result is the
   reference's wherever the sentences are finite and every index names a row (`Proof.Compare`). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_inputs_ok
public import proofs.«01_k».proof.Proof.Run
public import proofs.«01_k».proof.Proof.Same
public import proofs.«01_k».proof.Proof.Compare

@[expose] public section

noncomputable section

namespace Cert.Proof

open Idealize.ShloMosaic Idealize.SL.Sem

theorem frame_kernel : Cert.quiescent_Kernel := fun m g _ =>
  carry defs_eq main_eq
    ((θ_run (Cert.KernelIdeal.defs (F := Bits)) _ _).mono (fun _ h => ⟨fun c => (h.1 c).2, h.2⟩) (Cert.Rows.run_main (F := Bits) m g))

theorem frame_kernelIdeal : Cert.quiescent_KernelIdeal := fun m g _ =>
  (θ_run Cert.KernelIdeal.defs _ _).mono (fun _ h => ⟨fun c => (h.1 c).2, h.2⟩) (Cert.Rows.run_main (F := Ideal) m g)

theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

theorem frame_kernelIdeal_pre : Cert.quiescent_KernelIdeal_pre_inputs_ok := fun m g _ => frame_kernelIdeal m g trivial

theorem frame_reference_pre : Cert.quiescent_ReferenceIdeal_pre_inputs_ok := fun m g _ => frame_reference m g trivial

theorem algebraic : Cert.algebraic_KernelIdeal_ReferenceIdeal_pre_inputs_ok := by
  intro m g m' g' hpre hagree
  refine ⟨fun _ => transpose Cert.KernelIdeal.S2048x1024x32 [0, 2, 1] (Cert.Rows.kernelOut m) Cert.KernelIdeal.Gen.transposes_S2048x32x1024_S2048x1024x32_0_2_1,
    (θ_run Cert.KernelIdeal.defs _ _).mono (fun _ h c => h.1 c) (Cert.Rows.run_main (F := Ideal) m g),
    (θ_run Cert.ReferenceIdeal.defs _ _).mono (fun r h c => ⟨?_, (h c).2⟩) (Cert.ReferenceIdeal.Value.run (F := Ideal) m' g')⟩
  obtain rfl : c = 0 := Subsingleton.elim _ _
  obtain ⟨e0, e1, e2, e3, e4, e5, e6⟩ := hagree 0
  refine (h 0).1.trans ((Cert.Rows.Ref.res_eq m' 0).trans ?_)
  rw [e0, e1, e2, e3, e4, e5, e6]
  exact (Cert.Rows.result_eq m (hpre 0)).symm

theorem claim : Cert.Claim :=
  ⟨Cert.Kernel.Gen.facts, Cert.KernelIdeal.Gen.facts, Cert.ReferenceIdeal.Gen.facts, Cert.Pre_inputs_ok.Gen.facts,
    frame_kernel, frame_kernelIdeal, frame_kernelIdeal_pre, frame_reference, frame_reference_pre, trivial, algebraic⟩

end Cert.Proof

end
